-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite_GateIdeal [hPre_gate_finite_GateIdeal : Cert.Pre_gate_finite_GateIdeal.Facts] (m : (ℓ : Loc Cert.GateIdeal.nD Cert.GateIdeal.τ Cert.GateIdeal.sig) → Buf (Elt Ideal) ℓ) : Prop :=
  ∀ c : Dev Cert.GateIdeal.nD,
    (Cert.Pre_gate_finite_GateIdeal.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite_GateReferenceIdeal [hPre_gate_finite_GateReferenceIdeal : Cert.Pre_gate_finite_GateReferenceIdeal.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite_GateReferenceIdeal.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1))) = (fun _ => 1#1)

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertReferenceIdeal (m : (ℓ : Loc Cert.ExpertReferenceIdeal.nD Cert.ExpertReferenceIdeal.τ Cert.ExpertReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateIdeal_pre_gate_finite_GateIdeal [hGateIdeal : Cert.GateIdeal.Facts] [hPre_gate_finite_GateIdeal : Cert.Pre_gate_finite_GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_GateReferenceIdeal_pre_gate_finite_GateReferenceIdeal [hGateReferenceIdeal : Cert.GateReferenceIdeal.Facts] [hPre_gate_finite_GateReferenceIdeal : Cert.Pre_gate_finite_GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ r.2.sem = fun _ => 0)

def quiescent_ExpertReferenceIdeal [hExpertReferenceIdeal : Cert.ExpertReferenceIdeal.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2560, 1024]⟩ ⟨2, ![20480, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2, 2048]⟩ ⟨2, ![4, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v83) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Gate_GateIdeal : Prop :=
  True

def algebraic_GateIdeal_GateReferenceIdeal_pre_gate_finite_GateIdeal [hGateIdeal : Cert.GateIdeal.Facts] [hGateReferenceIdeal : Cert.GateReferenceIdeal.Facts] [hPre_gate_finite_GateIdeal : Cert.Pre_gate_finite_GateIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_gate_finite_GateIdeal m →
    (∀ c : Dev Cert.GateIdeal.nD,
      m ((c.tc : Thread Cert.GateIdeal.nD Cert.GateIdeal.τ).loc Cert.GateIdeal.main_arg0) = Layout.blockN ⟨2, ![1024, 1024]⟩ ⟨2, ![2048, 1024]⟩ (Layout.meshBlock [2, 2, 2] ![[1], []] c) (m' (((0 : Dev Cert.GateReferenceIdeal.nD).tc : Thread Cert.GateReferenceIdeal.nD Cert.GateReferenceIdeal.τ).loc Cert.GateReferenceIdeal.main_arg0))
      ∧ m ((c.tc : Thread Cert.GateIdeal.nD Cert.GateIdeal.τ).loc Cert.GateIdeal.main_arg1) = Layout.blockN ⟨2, ![8, 1024]⟩ ⟨2, ![16, 1024]⟩ (Layout.meshBlock [2, 2, 2] ![[1], []] c) (m' (((0 : Dev Cert.GateReferenceIdeal.nD).tc : Thread Cert.GateReferenceIdeal.nD Cert.GateReferenceIdeal.τ).loc Cert.GateReferenceIdeal.main_arg1))) →
    ∃ (v0 : Buf (Elt Ideal) (((0 : Dev Cert.GateReferenceIdeal.nD).tc : Thread Cert.GateReferenceIdeal.nD Cert.GateReferenceIdeal.τ).loc Cert.GateReferenceIdeal.main_v60)) (v1 : Buf (Elt Ideal) (((0 : Dev Cert.GateReferenceIdeal.nD).tc : Thread Cert.GateReferenceIdeal.nD Cert.GateReferenceIdeal.τ).loc Cert.GateReferenceIdeal.main_v49)) (v2 : Buf (Elt Ideal) (((0 : Dev Cert.GateReferenceIdeal.nD).tc : Thread Cert.GateReferenceIdeal.nD Cert.GateReferenceIdeal.τ).loc Cert.GateReferenceIdeal.main_v58)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0
          ∧ r.2.mem ((c.tc : Thread Cert.GateIdeal.nD Cert.GateIdeal.τ).loc Cert.GateIdeal.main_v1_1) = v1
          ∧ r.2.mem ((c.tc : Thread Cert.GateIdeal.nD Cert.GateIdeal.τ).loc Cert.GateIdeal.main_v1_2) = v2
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r =>
          r.2.mem (((0 : Dev Cert.GateReferenceIdeal.nD).tc : Thread Cert.GateReferenceIdeal.nD Cert.GateReferenceIdeal.τ).loc Cert.GateReferenceIdeal.main_v60) = v0
          ∧ r.2.mem (((0 : Dev Cert.GateReferenceIdeal.nD).tc : Thread Cert.GateReferenceIdeal.nD Cert.GateReferenceIdeal.τ).loc Cert.GateReferenceIdeal.main_v49) = v1
          ∧ r.2.mem (((0 : Dev Cert.GateReferenceIdeal.nD).tc : Thread Cert.GateReferenceIdeal.nD Cert.GateReferenceIdeal.τ).loc Cert.GateReferenceIdeal.main_v58) = v2
          ∧ r.2.mem (((0 : Dev Cert.GateReferenceIdeal.nD).tc : Thread Cert.GateReferenceIdeal.nD Cert.GateReferenceIdeal.τ).loc Cert.GateReferenceIdeal.main_arg0) = m' (((0 : Dev Cert.GateReferenceIdeal.nD).tc : Thread Cert.GateReferenceIdeal.nD Cert.GateReferenceIdeal.τ).loc Cert.GateReferenceIdeal.main_arg0)
          ∧ r.2.mem (((0 : Dev Cert.GateReferenceIdeal.nD).tc : Thread Cert.GateReferenceIdeal.nD Cert.GateReferenceIdeal.τ).loc Cert.GateReferenceIdeal.main_arg1) = m' (((0 : Dev Cert.GateReferenceIdeal.nD).tc : Thread Cert.GateReferenceIdeal.nD Cert.GateReferenceIdeal.τ).loc Cert.GateReferenceIdeal.main_arg1))

def preserves_Expert_ExpertIdeal : Prop :=
  True

def algebraic_ExpertIdeal_ExpertReferenceIdeal [hExpertIdeal : Cert.ExpertIdeal.Facts] [hExpertReferenceIdeal : Cert.ExpertReferenceIdeal.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertReferenceIdeal.nD Cert.ExpertReferenceIdeal.τ Cert.ExpertReferenceIdeal.sig) → Buf (Elt Ideal) ℓ) (g' : Dev Cert.ExpertReferenceIdeal.nD → PrngReg), Pre_ExpertIdeal m →
    (∀ c : Dev Cert.ExpertIdeal.nD,
      m ((c.tc : Thread Cert.ExpertIdeal.nD Cert.ExpertIdeal.τ).loc Cert.ExpertIdeal.main_arg0) = m' (((0 : Dev Cert.ExpertReferenceIdeal.nD).tc : Thread Cert.ExpertReferenceIdeal.nD Cert.ExpertReferenceIdeal.τ).loc Cert.ExpertReferenceIdeal.main_arg0)
      ∧ m ((c.tc : Thread Cert.ExpertIdeal.nD Cert.ExpertIdeal.τ).loc Cert.ExpertIdeal.main_arg1) = Layout.blockN ⟨2, ![2, 2048]⟩ ⟨2, ![4, 2048]⟩ (Layout.meshBlock [2, 2, 2] ![[1], []] c) (m' (((0 : Dev Cert.ExpertReferenceIdeal.nD).tc : Thread Cert.ExpertReferenceIdeal.nD Cert.ExpertReferenceIdeal.τ).loc Cert.ExpertReferenceIdeal.main_arg1))
      ∧ m ((c.tc : Thread Cert.ExpertIdeal.nD Cert.ExpertIdeal.τ).loc Cert.ExpertIdeal.main_arg2) = m' (((0 : Dev Cert.ExpertReferenceIdeal.nD).tc : Thread Cert.ExpertReferenceIdeal.nD Cert.ExpertReferenceIdeal.τ).loc Cert.ExpertReferenceIdeal.main_arg2)
      ∧ m ((c.tc : Thread Cert.ExpertIdeal.nD Cert.ExpertIdeal.τ).loc Cert.ExpertIdeal.main_arg3) = Layout.blockN ⟨3, ![8, 1024, 4096]⟩ ⟨3, ![16, 1024, 4096]⟩ (Layout.meshBlock [2, 2, 2] ![[1], [], []] c) (m' (((0 : Dev Cert.ExpertReferenceIdeal.nD).tc : Thread Cert.ExpertReferenceIdeal.nD Cert.ExpertReferenceIdeal.τ).loc Cert.ExpertReferenceIdeal.main_arg3))
      ∧ m ((c.tc : Thread Cert.ExpertIdeal.nD Cert.ExpertIdeal.τ).loc Cert.ExpertIdeal.main_arg4) = Layout.blockN ⟨3, ![8, 4096, 1024]⟩ ⟨3, ![16, 4096, 1024]⟩ (Layout.meshBlock [2, 2, 2] ![[1], [], []] c) (m' (((0 : Dev Cert.ExpertReferenceIdeal.nD).tc : Thread Cert.ExpertReferenceIdeal.nD Cert.ExpertReferenceIdeal.τ).loc Cert.ExpertReferenceIdeal.main_arg4))) →
    ∃ (v0 : Buf (Elt Ideal) (((0 : Dev Cert.ExpertReferenceIdeal.nD).tc : Thread Cert.ExpertReferenceIdeal.nD Cert.ExpertReferenceIdeal.τ).loc Cert.ExpertReferenceIdeal.main_v55)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v12) = Layout.block ⟨3, ![8, 320, 1024]⟩ ⟨3, ![64, 320, 1024]⟩ 0 8 c v0
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ θ_run (Cert.ExpertReferenceIdeal.defs (F := Ideal)) (onTc (τ := Cert.ExpertReferenceIdeal.τ) (Cert.ExpertReferenceIdeal.main (F := Ideal))) ⟨m', fun _ => 0, g'⟩ (fun r =>
          r.2.mem (((0 : Dev Cert.ExpertReferenceIdeal.nD).tc : Thread Cert.ExpertReferenceIdeal.nD Cert.ExpertReferenceIdeal.τ).loc Cert.ExpertReferenceIdeal.main_v55) = v0
          ∧ r.2.mem (((0 : Dev Cert.ExpertReferenceIdeal.nD).tc : Thread Cert.ExpertReferenceIdeal.nD Cert.ExpertReferenceIdeal.τ).loc Cert.ExpertReferenceIdeal.main_arg0) = m' (((0 : Dev Cert.ExpertReferenceIdeal.nD).tc : Thread Cert.ExpertReferenceIdeal.nD Cert.ExpertReferenceIdeal.τ).loc Cert.ExpertReferenceIdeal.main_arg0)
          ∧ r.2.mem (((0 : Dev Cert.ExpertReferenceIdeal.nD).tc : Thread Cert.ExpertReferenceIdeal.nD Cert.ExpertReferenceIdeal.τ).loc Cert.ExpertReferenceIdeal.main_arg1) = m' (((0 : Dev Cert.ExpertReferenceIdeal.nD).tc : Thread Cert.ExpertReferenceIdeal.nD Cert.ExpertReferenceIdeal.τ).loc Cert.ExpertReferenceIdeal.main_arg1)
          ∧ r.2.mem (((0 : Dev Cert.ExpertReferenceIdeal.nD).tc : Thread Cert.ExpertReferenceIdeal.nD Cert.ExpertReferenceIdeal.τ).loc Cert.ExpertReferenceIdeal.main_arg2) = m' (((0 : Dev Cert.ExpertReferenceIdeal.nD).tc : Thread Cert.ExpertReferenceIdeal.nD Cert.ExpertReferenceIdeal.τ).loc Cert.ExpertReferenceIdeal.main_arg2)
          ∧ r.2.mem (((0 : Dev Cert.ExpertReferenceIdeal.nD).tc : Thread Cert.ExpertReferenceIdeal.nD Cert.ExpertReferenceIdeal.τ).loc Cert.ExpertReferenceIdeal.main_arg3) = m' (((0 : Dev Cert.ExpertReferenceIdeal.nD).tc : Thread Cert.ExpertReferenceIdeal.nD Cert.ExpertReferenceIdeal.τ).loc Cert.ExpertReferenceIdeal.main_arg3)
          ∧ r.2.mem (((0 : Dev Cert.ExpertReferenceIdeal.nD).tc : Thread Cert.ExpertReferenceIdeal.nD Cert.ExpertReferenceIdeal.τ).loc Cert.ExpertReferenceIdeal.main_arg4) = m' (((0 : Dev Cert.ExpertReferenceIdeal.nD).tc : Thread Cert.ExpertReferenceIdeal.nD Cert.ExpertReferenceIdeal.τ).loc Cert.ExpertReferenceIdeal.main_arg4))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hExpert : Cert.Expert.Facts) (hExpertIdeal : Cert.ExpertIdeal.Facts) (hExpertReferenceIdeal : Cert.ExpertReferenceIdeal.Facts) (hPre_gate_finite_GateIdeal : Cert.Pre_gate_finite_GateIdeal.Facts) (hPre_gate_finite_GateReferenceIdeal : Cert.Pre_gate_finite_GateReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gate (hGate := hGate)
    ∧ quiescent_GateIdeal (hGateIdeal := hGateIdeal)
    ∧ quiescent_GateIdeal_pre_gate_finite_GateIdeal (hGateIdeal := hGateIdeal) (hPre_gate_finite_GateIdeal := hPre_gate_finite_GateIdeal)
    ∧ quiescent_GateReferenceIdeal (hGateReferenceIdeal := hGateReferenceIdeal)
    ∧ quiescent_GateReferenceIdeal_pre_gate_finite_GateReferenceIdeal (hGateReferenceIdeal := hGateReferenceIdeal) (hPre_gate_finite_GateReferenceIdeal := hPre_gate_finite_GateReferenceIdeal)
    ∧ quiescent_Expert (hExpert := hExpert)
    ∧ quiescent_ExpertIdeal (hExpertIdeal := hExpertIdeal)
    ∧ quiescent_ExpertReferenceIdeal (hExpertReferenceIdeal := hExpertReferenceIdeal)
    ∧ preserves_Kernel_KernelIdeal
    ∧ algebraic_KernelIdeal_ReferenceIdeal (hKernelIdeal := hKernelIdeal) (hReferenceIdeal := hReferenceIdeal)
    ∧ preserves_Gate_GateIdeal
    ∧ algebraic_GateIdeal_GateReferenceIdeal_pre_gate_finite_GateIdeal (hGateIdeal := hGateIdeal) (hGateReferenceIdeal := hGateReferenceIdeal) (hPre_gate_finite_GateIdeal := hPre_gate_finite_GateIdeal)
    ∧ preserves_Expert_ExpertIdeal
    ∧ algebraic_ExpertIdeal_ExpertReferenceIdeal (hExpertIdeal := hExpertIdeal) (hExpertReferenceIdeal := hExpertReferenceIdeal)
-- ==== Pre_gate_finite_GateIdeal.lean ====
abbrev S1024x1024 : Shape := ⟨2, ![1024, 1024]⟩
abbrev S8x1024 : Shape := ⟨2, ![8, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S1024x1024 .f32) (main_arg1 : FVec F S8x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Pre_gate_finite_GateReferenceIdeal.lean ====
abbrev S2048x1024 : Shape := ⟨2, ![2048, 1024]⟩
abbrev S16x1024 : Shape := ⟨2, ![16, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S2048x1024 .f32) (main_arg1 : FVec F S16x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  main_v8
-- ==== Kernel.lean ====
abbrev S2560x1024 : Shape := ⟨2, ![2560, 1024]⟩
abbrev S2x2048 : Shape := ⟨2, ![2, 2048]⟩
abbrev S1024x1024 : Shape := ⟨2, ![1024, 1024]⟩
abbrev S12 : Shape := ⟨1, ![12]⟩
abbrev S_ : Shape := ⟨0, ![]⟩
abbrev S1x256 : Shape := ⟨2, ![1, 256]⟩
abbrev S256 : Shape := ⟨1, ![256]⟩
abbrev S256x2560 : Shape := ⟨2, ![256, 2560]⟩
abbrev S256x1 : Shape := ⟨2, ![256, 1]⟩
abbrev S256x1024 : Shape := ⟨2, ![256, 1024]⟩
abbrev S1 : Shape := ⟨1, ![1]⟩

abbrev nBuf : Space → Nat
  | .hbm => 3
  | .vmem => 10
  | .smem => 0
  | _ => 0

abbrev bufTy : (tb : Table) → Fin (tcTables nBuf tb) → BufTy
  | .hbm, ⟨0, _⟩ => ⟨S2560x1024, .bf16⟩
  | .hbm, ⟨1, _⟩ => ⟨S2x2048, .i32⟩
  | .hbm, ⟨2, _⟩ => ⟨S1024x1024, .f32⟩
  | .local _ .vmem, ⟨0, _⟩ => ⟨S2560x1024, .bf16⟩
  | .local _ .vmem, ⟨1, _⟩ => ⟨S2x2048, .i32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier1 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_8 : BitVec 32 := 2#32
  let v15 : BitVec 32 := Scalar.muli v9 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_21 : BitVec 32) : Fin 2 → Nat :=
  let c0 : Index := 0#32
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_20 v5
  let c1024_i32 : BitVec 32 := 1024#32
  let v32 : BitVec 32 := Scalar.muli v31 c1024_i32
  let v33 : BitVec 32 := Scalar.addi v32 c0_i32_21
  let v34 : Index := Scalar.indexCast v33
  ![0, v34.toNat]
def k0_off2 (d0 : Dev nD) (c0_i32_21 : BitVec 32) : Fin 2 → Nat :=
  let c1 : Index := 1#32
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_20 v5
  let c1024_i32 : BitVec 32 := 1024#32
  let v32 : BitVec 32 := Scalar.muli v31 c1024_i32
  let v33 : BitVec 32 := Scalar.addi v32 c0_i32_21
  let v37 : Index := Scalar.indexCast v33
  ![1, v37.toNat]
def k0_dev4 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v61 : BitVec 32 := Scalar.muli v2 c4_i32_28
  let v62 : BitVec 32 := Scalar.addi c0_i32_29 v61
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_30 : BitVec 32 := 2#32
  let v63 : BitVec 32 := Scalar.muli v9 c2_i32_30
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v65 : BitVec 32 := Scalar.muli v8 c1_i32_31
  let v66 : BitVec 32 := Scalar.addi v64 v65
  v66.toNat
def k0_dev5 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v103 : BitVec 32 := Scalar.muli v2 c4_i32_46
  let v104 : BitVec 32 := Scalar.addi c0_i32_47 v103
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_48 : BitVec 32 := 2#32
  let v105 : BitVec 32 := Scalar.muli v9 c2_i32_48
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v107 : BitVec 32 := Scalar.muli v8 c1_i32_49
  let v108 : BitVec 32 := Scalar.addi v106 v107
  v108.toNat
def k0_dev6 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v145 : BitVec 32 := Scalar.muli v2 c4_i32_64
  let v146 : BitVec 32 := Scalar.addi c0_i32_65 v145
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_66 : BitVec 32 := 2#32
  let v147 : BitVec 32 := Scalar.muli v9 c2_i32_66
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v149 : BitVec 32 := Scalar.muli v8 c1_i32_67
  let v150 : BitVec 32 := Scalar.addi v148 v149
  v150.toNat
def k0_dev7 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v187 : BitVec 32 := Scalar.muli v2 c4_i32_82
  let v188 : BitVec 32 := Scalar.addi c0_i32_83 v187
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_84 : BitVec 32 := 2#32
  let v189 : BitVec 32 := Scalar.muli v9 c2_i32_84
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v191 : BitVec 32 := Scalar.muli v8 c1_i32_85
  let v192 : BitVec 32 := Scalar.addi v190 v191
  v192.toNat
def k0_off3 (d0 : Dev nD) (c0_i32_91 : BitVec 32) : Fin 2 → Nat :=
  let c0_92 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_90 : BitVec 32 := 1024#32
  let v199 : BitVec 32 := Scalar.muli v5 c1024_i32_90
  let v200 : BitVec 32 := Scalar.addi v199 c0_i32_91
  let v201 : Index := Scalar.indexCast v200
  ![0, v201.toNat]
def k0_off4 (d0 : Dev nD) (c0_i32_91 : BitVec 32) : Fin 2 → Nat :=
  let c1_93 : Index := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_90 : BitVec 32 := 1024#32
  let v199 : BitVec 32 := Scalar.muli v5 c1024_i32_90
  let v200 : BitVec 32 := Scalar.addi v199 c0_i32_91
  let v204 : Index := Scalar.indexCast v200
  ![1, v204.toNat]
def k0_dev8 (d0 : Dev nD) : Nat :=
  let c0_i32_156 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_155 : BitVec 32 := 4#32
  let v337 : BitVec 32 := Scalar.muli v10 c4_i32_155
  let v338 : BitVec 32 := Scalar.addi c0_i32_156 v337
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v339 : BitVec 32 := Scalar.muli v5 c2_i32_157
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v341 : BitVec 32 := Scalar.muli v8 c1_i32_158
  let v342 : BitVec 32 := Scalar.addi v340 v341
  v342.toNat
def k0_dev9 (d0 : Dev nD) : Nat :=
  let c0_i32_192 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_191 : BitVec 32 := 4#32
  let v375 : BitVec 32 := Scalar.muli v10 c4_i32_191
  let v376 : BitVec 32 := Scalar.addi c0_i32_192 v375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v377 : BitVec 32 := Scalar.muli v5 c2_i32_193
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v379 : BitVec 32 := Scalar.muli v8 c1_i32_194
  let v380 : BitVec 32 := Scalar.addi v378 v379
  v380.toNat
def k0_dev10 (d0 : Dev nD) : Nat :=
  let c0_i32_228 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_227 : BitVec 32 := 4#32
  let v413 : BitVec 32 := Scalar.muli v10 c4_i32_227
  let v414 : BitVec 32 := Scalar.addi c0_i32_228 v413
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_229 : BitVec 32 := 2#32
  let v415 : BitVec 32 := Scalar.muli v5 c2_i32_229
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v417 : BitVec 32 := Scalar.muli v8 c1_i32_230
  let v418 : BitVec 32 := Scalar.addi v416 v417
  v418.toNat
def k0_dev11 (d0 : Dev nD) : Nat :=
  let c0_i32_264 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_263 : BitVec 32 := 4#32
  let v451 : BitVec 32 := Scalar.muli v10 c4_i32_263
  let v452 : BitVec 32 := Scalar.addi c0_i32_264 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v453 : BitVec 32 := Scalar.muli v5 c2_i32_265
  let v454 : BitVec 32 := Scalar.addi v452 v453
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v455 : BitVec 32 := Scalar.muli v8 c1_i32_266
  let v456 : BitVec 32 := Scalar.addi v454 v455
  v456.toNat
def k0_dev12 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v489 : BitVec 32 := Scalar.muli v2 c4_i32_299
  let v490 : BitVec 32 := Scalar.addi c0_i32_300 v489
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v491 : BitVec 32 := Scalar.muli v5 c2_i32_301
  let v492 : BitVec 32 := Scalar.addi v490 v491
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_302 : BitVec 32 := 1#32
  let v493 : BitVec 32 := Scalar.muli v11 c1_i32_302
  let v494 : BitVec 32 := Scalar.addi v492 v493
  v494.toNat
def k0_dev13 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v527 : BitVec 32 := Scalar.muli v2 c4_i32_335
  let v528 : BitVec 32 := Scalar.addi c0_i32_336 v527
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v529 : BitVec 32 := Scalar.muli v5 c2_i32_337
  let v530 : BitVec 32 := Scalar.addi v528 v529
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_338 : BitVec 32 := 1#32
  let v531 : BitVec 32 := Scalar.muli v11 c1_i32_338
  let v532 : BitVec 32 := Scalar.addi v530 v531
  v532.toNat
def k0_dev14 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v565 : BitVec 32 := Scalar.muli v2 c4_i32_371
  let v566 : BitVec 32 := Scalar.addi c0_i32_372 v565
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v567 : BitVec 32 := Scalar.muli v5 c2_i32_373
  let v568 : BitVec 32 := Scalar.addi v566 v567
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_374 : BitVec 32 := 1#32
  let v569 : BitVec 32 := Scalar.muli v11 c1_i32_374
  let v570 : BitVec 32 := Scalar.addi v568 v569
  v570.toNat
def k0_dev15 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v603 : BitVec 32 := Scalar.muli v2 c4_i32_407
  let v604 : BitVec 32 := Scalar.addi c0_i32_408 v603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v605 : BitVec 32 := Scalar.muli v5 c2_i32_409
  let v606 : BitVec 32 := Scalar.addi v604 v605
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_410 : BitVec 32 := 1#32
  let v607 : BitVec 32 := Scalar.muli v11 c1_i32_410
  let v608 : BitVec 32 := Scalar.addi v606 v607
  v608.toNat
abbrev stage0_0 : Fin 1 → Memref sig .tc .vmem S2560x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S20480x1024 : Shape := ⟨2, ![20480, 1024]⟩
abbrev S4x2048 : Shape := ⟨2, ![4, 2048]⟩
abbrev S2x2x2x2560x1024 : Shape := ⟨5, ![2, 2, 2, 2560, 1024]⟩
abbrev S2x2x2048 : Shape := ⟨3, ![2, 2, 2048]⟩
abbrev S_ : Shape := ⟨0, ![]⟩
abbrev S2048x1024 : Shape := ⟨2, ![2048, 1024]⟩
abbrev S2x1x2x2560x1024 : Shape := ⟨5, ![2, 1, 2, 2560, 1024]⟩
abbrev S2x2x2560x1024 : Shape := ⟨4, ![2, 2, 2560, 1024]⟩
abbrev S2x2560x1024 : Shape := ⟨3, ![2, 2560, 1024]⟩
abbrev S2560x1024 : Shape := ⟨2, ![2560, 1024]⟩
abbrev S1x1x2048 : Shape := ⟨3, ![1, 1, 2048]⟩
abbrev S2048 : Shape := ⟨1, ![2048]⟩
abbrev S2048x1 : Shape := ⟨2, ![2048, 1]⟩

abbrev nBuf : Space → Nat
  | .hbm => 151
  | .vmem => 0
  | .smem => 0
  | _ => 0

abbrev hbmTy0_0 (i : Nat) : BufTy := match i % 128 with
  | 0 => ⟨S20480x1024, .bf16⟩
  | 1 => ⟨S4x2048, .i32⟩
  | 2 => ⟨S2x2x2x2560x1024, .bf16⟩
  | 3 => ⟨S2x2x2x2560x1024, .f32⟩
  | 4 => ⟨S2x2x2048, .i32⟩
  | 5 => ⟨S_, .f32⟩
  | 6 => ⟨S2048x1024, .f32⟩
  | 7 => ⟨S2x1x2x2560x1024, .f32⟩
  | 8 => ⟨S2x2x2560x1024, .f32⟩
  | 9 => ⟨S_, .f32⟩
  | 10 => ⟨S2x2560x1024, .f32⟩
  | 11 => ⟨S_, .f32⟩
  | 12 => ⟨S2560x1024, .f32⟩
  | 13 => ⟨S1x1x2048, .i32⟩
  | 14 => ⟨S2048, .i32⟩
  | 15 => ⟨S_, .i32⟩
  | 16 => ⟨S_, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S2048x1024, .f32⟩
  | 32 => ⟨S_, .i32⟩
  | 33 => ⟨S2048, .i32⟩
  | 34 => ⟨S2048, .i1⟩
  | 35 => ⟨S_, .i32⟩
  | 36 => ⟨S2048, .i32⟩
  | 37 => ⟨S2048, .i1⟩
  | 38 => ⟨S2048, .i1⟩
  | 39 => ⟨S2048x1, .i1⟩
  | 40 => ⟨S_, .f32⟩
  | 41 => ⟨S_, .f32⟩
  | 42 => ⟨S2048x1024, .i1⟩
  | 43 => ⟨S2048x1024, .f32⟩
  | 44 => ⟨S2048x1024, .f32⟩
  | 45 => ⟨S2048x1024, .f32⟩
  | 46 => ⟨S1x1x2048, .i32⟩
  | 47 => ⟨S2048, .i32⟩
  | 48 => ⟨S_, .i32⟩
  | 49 => ⟨S_, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i1⟩
  | 59 => ⟨S_, .i32⟩
  | 60 => ⟨S2048, .i32⟩
  | 61 => ⟨S2048, .i32⟩
  | 62 => ⟨S2048, .i32⟩
  | 63 => ⟨S2048x1, .i32⟩
  | 64 => ⟨S2048x1024, .f32⟩
  | 65 => ⟨S_, .i32⟩
  | 66 => ⟨S2048, .i32⟩
  | 67 => ⟨S2048, .i1⟩
  | 68 => ⟨S_, .i32⟩
  | 69 => ⟨S2048, .i32⟩
  | 70 => ⟨S2048, .i1⟩
  | 71 => ⟨S2048, .i1⟩
  | 72 => ⟨S2048x1, .i1⟩
  | 73 => ⟨S_, .f32⟩
  | 74 => ⟨S_, .f32⟩
  | 75 => ⟨S2048x1024, .i1⟩
  | 76 => ⟨S2048x1024, .f32⟩
  | 77 => ⟨S2048x1024, .f32⟩
  | 78 => ⟨S2048x1024, .f32⟩
  | 79 => ⟨S2x1x2x2560x1024, .f32⟩
  | 80 => ⟨S2x2x2560x1024, .f32⟩
  | 81 => ⟨S_, .f32⟩
  | 82 => ⟨S2x2560x1024, .f32⟩
  | 83 => ⟨S_, .f32⟩
  | 84 => ⟨S2560x1024, .f32⟩
  | 85 => ⟨S1x1x2048, .i32⟩
  | 86 => ⟨S2048, .i32⟩
  | 87 => ⟨S_, .i32⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i1⟩
  | 98 => ⟨S_, .i32⟩
  | 99 => ⟨S2048, .i32⟩
  | 100 => ⟨S2048, .i32⟩
  | 101 => ⟨S2048, .i32⟩
  | 102 => ⟨S2048x1, .i32⟩
  | 103 => ⟨S2048x1024, .f32⟩
  | 104 => ⟨S_, .i32⟩
  | 105 => ⟨S2048, .i32⟩
  | 106 => ⟨S2048, .i1⟩
  | 107 => ⟨S_, .i32⟩
  | 108 => ⟨S2048, .i32⟩
  | 109 => ⟨S2048, .i1⟩
  | 110 => ⟨S2048, .i1⟩
  | 111 => ⟨S2048x1, .i1⟩
  | 112 => ⟨S_, .f32⟩
  | 113 => ⟨S_, .f32⟩
  | 114 => ⟨S2048x1024, .i1⟩
  | 115 => ⟨S2048x1024, .f32⟩
  | 116 => ⟨S2048x1024, .f32⟩
  | 117 => ⟨S2048x1024, .f32⟩
  | 118 => ⟨S1x1x2048, .i32⟩
  | 119 => ⟨S2048, .i32⟩
  | 120 => ⟨S_, .i32⟩
  | 121 => ⟨S_, .i32⟩
  | 122 => ⟨S_, .i32⟩
  | 123 => ⟨S2048, .i32⟩
  | 124 => ⟨S2048, .i32⟩
  | 125 => ⟨S_, .i32⟩
  | 126 => ⟨S2048, .i32⟩
  | 127 => ⟨S2048, .i32⟩
  | _ => ⟨S20480x1024, .bf16⟩

abbrev hbmTy0_1 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S2048x1, .i32⟩
  | 8 => ⟨S2048x1024, .f32⟩
  | 9 => ⟨S_, .i32⟩
  | 10 => ⟨S2048, .i32⟩
  | 11 => ⟨S2048, .i1⟩
  | 12 => ⟨S_, .i32⟩
  | 13 => ⟨S2048, .i32⟩
  | 14 => ⟨S2048, .i1⟩
  | 15 => ⟨S2048, .i1⟩
  | 16 => ⟨S2048x1, .i1⟩
  | 17 => ⟨S_, .f32⟩
  | 18 => ⟨S_, .f32⟩
  | 19 => ⟨S2048x1024, .i1⟩
  | 20 => ⟨S2048x1024, .f32⟩
  | 21 => ⟨S2048x1024, .f32⟩
  | 22 => ⟨S2048x1024, .f32⟩
  | _ => ⟨S20480x1024, .bf16⟩

abbrev hbmTy (i : Nat) : BufTy := match i / 128 with
  | 0 => hbmTy0_0 i
  | 1 => hbmTy0_1 i
  | _ => ⟨S20480x1024, .bf16⟩

abbrev bufTy : (tb : Table) → Fin (tcTables nBuf tb) → BufTy
  | .hbm, ⟨i, _⟩ => hbmTy i
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_c_9 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v28 : Ref sig .tc := ⟨.hbm, 55, rfl⟩
abbrev main_c_10 : Ref sig .tc := ⟨.hbm, 56, rfl⟩
abbrev main_v29 : Ref sig .tc := ⟨.hbm, 57, rfl⟩
abbrev main_v30 : Ref sig .tc := ⟨.hbm, 58, rfl⟩
abbrev main_c_11 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_12 : Ref sig .tc := ⟨.hbm, 65, rfl⟩
abbrev main_v36 : Ref sig .tc := ⟨.hbm, 66, rfl⟩
abbrev main_v37 : Ref sig .tc := ⟨.hbm, 67, rfl⟩
abbrev main_c_13 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_14 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_15 : Ref sig .tc := ⟨.hbm, 81, rfl⟩
abbrev main_v46 : Ref sig .tc := ⟨.hbm, 82, rfl⟩
abbrev main_cst_16 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_17 : Ref sig .tc := ⟨.hbm, 87, rfl⟩
abbrev main_c_18 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v50 : Ref sig .tc := ⟨.hbm, 94, rfl⟩
abbrev main_c_19 : Ref sig .tc := ⟨.hbm, 95, rfl⟩
abbrev main_v51 : Ref sig .tc := ⟨.hbm, 96, rfl⟩
abbrev main_v52 : Ref sig .tc := ⟨.hbm, 97, rfl⟩
abbrev main_c_20 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_21 : Ref sig .tc := ⟨.hbm, 104, rfl⟩
abbrev main_v58 : Ref sig .tc := ⟨.hbm, 105, rfl⟩
abbrev main_v59 : Ref sig .tc := ⟨.hbm, 106, rfl⟩
abbrev main_c_22 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_24 : Ref sig .tc := ⟨.hbm, 120, rfl⟩
abbrev main_c_25 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v68 : Ref sig .tc := ⟨.hbm, 127, rfl⟩
abbrev main_c_26 : Ref sig .tc := ⟨.hbm, 128, rfl⟩
abbrev main_v69 : Ref sig .tc := ⟨.hbm, 129, rfl⟩
abbrev main_v70 : Ref sig .tc := ⟨.hbm, 130, rfl⟩
abbrev main_c_27 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_c_28 : Ref sig .tc := ⟨.hbm, 137, rfl⟩
abbrev main_v76 : Ref sig .tc := ⟨.hbm, 138, rfl⟩
abbrev main_v77 : Ref sig .tc := ⟨.hbm, 139, rfl⟩
abbrev main_c_29 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_30 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_v82 : Ref sig .tc := ⟨.hbm, 149, rfl⟩
abbrev main_v83 : Ref sig .tc := ⟨.hbm, 150, rfl⟩

abbrev nD : Nat := 1
abbrev τ : Topo := Topo.v7x

variable {F : FTy → Type} [FloatOps F]
-- ==== Gate.lean ====
abbrev S1024x1024 : Shape := ⟨2, ![1024, 1024]⟩
abbrev S8x1024 : Shape := ⟨2, ![8, 1024]⟩
abbrev S2x1024x1024 : Shape := ⟨3, ![2, 1024, 1024]⟩
abbrev S2x2x1024 : Shape := ⟨3, ![2, 2, 1024]⟩
abbrev S2x8x1024 : Shape := ⟨3, ![2, 8, 1024]⟩
abbrev S4 : Shape := ⟨1, ![4]⟩
abbrev S_ : Shape := ⟨0, ![]⟩
abbrev S1x1024x1024 : Shape := ⟨3, ![1, 1024, 1024]⟩
abbrev S1 : Shape := ⟨1, ![1]⟩
abbrev S1x8x1024 : Shape := ⟨3, ![1, 8, 1024]⟩
abbrev S16x1024 : Shape := ⟨2, ![16, 1024]⟩
abbrev S1024x16 : Shape := ⟨2, ![1024, 16]⟩
abbrev S1024 : Shape := ⟨1, ![1024]⟩
abbrev S1024x1 : Shape := ⟨2, ![1024, 1]⟩
abbrev S1x1x1024 : Shape := ⟨3, ![1, 1, 1024]⟩
abbrev S1x2x1024 : Shape := ⟨3, ![1, 2, 1024]⟩
abbrev S2x1024 : Shape := ⟨2, ![2, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8x1024, .f32⟩
  | .hbm, ⟨2, _⟩ => ⟨S2x1024x1024, .bf16⟩
  | .hbm, ⟨3, _⟩ => ⟨S2x2x1024, .i32⟩
  | .hbm, ⟨4, _⟩ => ⟨S2x2x1024, .f32⟩
  | .local _ .vmem, ⟨0, _⟩ => ⟨S1024x1024, .f32⟩
  | .local _ .vmem, ⟨1, _⟩ => ⟨S8x1024, .f32⟩
  | .local _ .vmem, ⟨2, _⟩ => ⟨S2x1024x1024, .bf16⟩
  | .local _ .vmem, ⟨3, _⟩ => ⟨S2x2x1024, .i32⟩
  | .local _ .vmem, ⟨4, _⟩ => ⟨S2x2x1024, .f32⟩
  | .local _ .vmem, ⟨5, _⟩ => ⟨S2x8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v3 : BitVec 32 := Dev.word d0
  let c4_i32 : BitVec 32 := 4#32
  let v4 : BitVec 32 := Scalar.divsi v3 c4_i32
  let c2_i32_1 : BitVec 32 := 2#32
  let v5 : BitVec 32 := Scalar.remsi v4 c2_i32_1
  let c4_i32_7 : BitVec 32 := 4#32
  let v14 : BitVec 32 := Scalar.muli v5 c4_i32_7
  let v15 : BitVec 32 := Scalar.addi c0_i32 v14
  let c1_i32 : BitVec 32 := 1#32
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let v9 : BitVec 32 := Scalar.subi c1_i32 v8
  let c2_i32_8 : BitVec 32 := 2#32
  let v16 : BitVec 32 := Scalar.muli v9 c2_i32_8
  let v17 : BitVec 32 := Scalar.addi v15 v16
  let v10 : BitVec 32 := Dev.word d0
  let c1_i32_5 : BitVec 32 := 1#32
  let v11 : BitVec 32 := Scalar.divsi v10 c1_i32_5
  let c2_i32_4 : BitVec 32 := 2#32
  let v12 : BitVec 32 := Scalar.remsi v11 c2_i32_4
  let c1_i32_9 : BitVec 32 := 1#32
  let v18 : BitVec 32 := Scalar.muli v12 c1_i32_9
  let v19 : BitVec 32 := Scalar.addi v17 v18
  v19.toNat
def k0_off1 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v24 : Index := Scalar.indexCast v2
  let c0_12 : Index := 0#32
  let c0_13 : Index := 0#32
  ![v24.toNat, 0, 0]
def k0_off2 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_20 : BitVec 32 := 0#32
  let c0_i32_21 : BitVec 32 := 0#32
  ![v2.toNat, 0, 0]
def k0_dev2 (d0 : Dev nD) : Nat :=
  let c0_i32_17 : BitVec 32 := 0#32
  let v3 : BitVec 32 := Dev.word d0
  let c4_i32 : BitVec 32 := 4#32
  let v4 : BitVec 32 := Scalar.divsi v3 c4_i32
  let c2_i32_1 : BitVec 32 := 2#32
  let v5 : BitVec 32 := Scalar.remsi v4 c2_i32_1
  let c4_i32_16 : BitVec 32 := 4#32
  let v26 : BitVec 32 := Scalar.muli v5 c4_i32_16
  let v27 : BitVec 32 := Scalar.addi c0_i32_17 v26
  let c1_i32 : BitVec 32 := 1#32
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let v9 : BitVec 32 := Scalar.subi c1_i32 v8
  let c2_i32_18 : BitVec 32 := 2#32
  let v28 : BitVec 32 := Scalar.muli v9 c2_i32_18
  let v29 : BitVec 32 := Scalar.addi v27 v28
  let v10 : BitVec 32 := Dev.word d0
  let c1_i32_5 : BitVec 32 := 1#32
  let v11 : BitVec 32 := Scalar.divsi v10 c1_i32_5
  let c2_i32_4 : BitVec 32 := 2#32
  let v12 : BitVec 32 := Scalar.remsi v11 c2_i32_4
  let c1_i32_19 : BitVec 32 := 1#32
  let v30 : BitVec 32 := Scalar.muli v12 c1_i32_19
  let v31 : BitVec 32 := Scalar.addi v29 v30
  v31.toNat
def k0_off3 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v43 : Index := Scalar.indexCast v2
  let c0_26 : Index := 0#32
  let c0_27 : Index := 0#32
  ![v43.toNat, 0, 0]
def k0_off4 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_34 : BitVec 32 := 0#32
  let c0_i32_35 : BitVec 32 := 0#32
  ![v2.toNat, 0, 0]
def k0_dev3 (d0 : Dev nD) : Nat :=
  let c0_i32_31 : BitVec 32 := 0#32
  let v3 : BitVec 32 := Dev.word d0
  let c4_i32 : BitVec 32 := 4#32
  let v4 : BitVec 32 := Scalar.divsi v3 c4_i32
  let c2_i32_1 : BitVec 32 := 2#32
  let v5 : BitVec 32 := Scalar.remsi v4 c2_i32_1
  let c4_i32_30 : BitVec 32 := 4#32
  let v47 : BitVec 32 := Scalar.muli v5 c4_i32_30
  let v48 : BitVec 32 := Scalar.addi c0_i32_31 v47
  let c1_i32 : BitVec 32 := 1#32
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let v9 : BitVec 32 := Scalar.subi c1_i32 v8
  let c2_i32_32 : BitVec 32 := 2#32
  let v49 : BitVec 32 := Scalar.muli v9 c2_i32_32
  let v50 : BitVec 32 := Scalar.addi v48 v49
  let v10 : BitVec 32 := Dev.word d0
  let c1_i32_5 : BitVec 32 := 1#32
  let v11 : BitVec 32 := Scalar.divsi v10 c1_i32_5
  let c2_i32_4 : BitVec 32 := 2#32
  let v12 : BitVec 32 := Scalar.remsi v11 c2_i32_4
  let c1_i32_33 : BitVec 32 := 1#32
  let v51 : BitVec 32 := Scalar.muli v12 c1_i32_33
  let v52 : BitVec 32 := Scalar.addi v50 v51
  v52.toNat
def k0_off5 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v116 : Index := Scalar.indexCast v2
  let c0_70 : Index := 0#32
  let c0_71 : Index := 0#32
  ![v116.toNat, 0, 0]
def k0_off6 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_81 : BitVec 32 := 0#32
  let c0_i32_82 : BitVec 32 := 0#32
  ![v2.toNat, 0, 0]
def k0_dev4 (d0 : Dev nD) : Nat :=
  let c0_i32_78 : BitVec 32 := 0#32
  let v3 : BitVec 32 := Dev.word d0
  let c4_i32 : BitVec 32 := 4#32
  let v4 : BitVec 32 := Scalar.divsi v3 c4_i32
  let c2_i32_1 : BitVec 32 := 2#32
  let v5 : BitVec 32 := Scalar.remsi v4 c2_i32_1
  let c4_i32_77 : BitVec 32 := 4#32
  let v125 : BitVec 32 := Scalar.muli v5 c4_i32_77
  let v126 : BitVec 32 := Scalar.addi c0_i32_78 v125
  let c1_i32 : BitVec 32 := 1#32
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let v9 : BitVec 32 := Scalar.subi c1_i32 v8
  let c2_i32_79 : BitVec 32 := 2#32
  let v127 : BitVec 32 := Scalar.muli v9 c2_i32_79
  let v128 : BitVec 32 := Scalar.addi v126 v127
  let v10 : BitVec 32 := Dev.word d0
  let c1_i32_5 : BitVec 32 := 1#32
  let v11 : BitVec 32 := Scalar.divsi v10 c1_i32_5
  let c2_i32_4 : BitVec 32 := 2#32
  let v12 : BitVec 32 := Scalar.remsi v11 c2_i32_4
  let c1_i32_80 : BitVec 32 := 1#32
  let v129 : BitVec 32 := Scalar.muli v12 c1_i32_80
  let v130 : BitVec 32 := Scalar.addi v128 v129
  v130.toNat
def k0_dev5 (d0 : Dev nD) : Nat :=
  let c0_i32_87 : BitVec 32 := 0#32
  let v3 : BitVec 32 := Dev.word d0
  let c4_i32 : BitVec 32 := 4#32
  let v4 : BitVec 32 := Scalar.divsi v3 c4_i32
  let c2_i32_1 : BitVec 32 := 2#32
  let v5 : BitVec 32 := Scalar.remsi v4 c2_i32_1
  let c4_i32_86 : BitVec 32 := 4#32
  let v139 : BitVec 32 := Scalar.muli v5 c4_i32_86
  let v140 : BitVec 32 := Scalar.addi c0_i32_87 v139
  let c1_i32 : BitVec 32 := 1#32
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let v9 : BitVec 32 := Scalar.subi c1_i32 v8
  let c2_i32_88 : BitVec 32 := 2#32
  let v141 : BitVec 32 := Scalar.muli v9 c2_i32_88
  let v142 : BitVec 32 := Scalar.addi v140 v141
  let v10 : BitVec 32 := Dev.word d0
  let c1_i32_5 : BitVec 32 := 1#32
  let v11 : BitVec 32 := Scalar.divsi v10 c1_i32_5
  let c2_i32_4 : BitVec 32 := 2#32
  let v12 : BitVec 32 := Scalar.remsi v11 c2_i32_4
  let c1_i32_89 : BitVec 32 := 1#32
  let v143 : BitVec 32 := Scalar.muli v12 c1_i32_89
  let v144 : BitVec 32 := Scalar.addi v142 v143
  v144.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateReferenceIdeal.lean ====
abbrev S2048x1024 : Shape := ⟨2, ![2048, 1024]⟩
abbrev S16x1024 : Shape := ⟨2, ![16, 1024]⟩
abbrev S1024x16 : Shape := ⟨2, ![1024, 16]⟩
abbrev S2048x16 : Shape := ⟨2, ![2048, 16]⟩
abbrev S2048x1x16 : Shape := ⟨3, ![2048, 1, 16]⟩
abbrev S2048x16x1 : Shape := ⟨3, ![2048, 16, 1]⟩
abbrev S16 : Shape := ⟨1, ![16]⟩
abbrev S2048x16x16 : Shape := ⟨3, ![2048, 16, 16]⟩
abbrev S1x16x1 : Shape := ⟨3, ![1, 16, 1]⟩
abbrev S1x1x16 : Shape := ⟨3, ![1, 1, 16]⟩
abbrev S1x16x16 : Shape := ⟨3, ![1, 16, 16]⟩
abbrev S_ : Shape := ⟨0, ![]⟩
abbrev S1x16 : Shape := ⟨2, ![1, 16]⟩
abbrev S2048 : Shape := ⟨1, ![2048]⟩
abbrev S2x1024 : Shape := ⟨2, ![2, 1024]⟩
abbrev S2x1x1024 : Shape := ⟨3, ![2, 1, 1024]⟩
abbrev S2x2x1024 : Shape := ⟨3, ![2, 2, 1024]⟩
abbrev S2x1024x1024 : Shape := ⟨3, ![2, 1024, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S1024x16, .f32⟩
  | .hbm, ⟨3, _⟩ => ⟨S2048x16, .f32⟩
  | .hbm, ⟨4, _⟩ => ⟨S2048x1x16, .f32⟩
  | .hbm, ⟨5, _⟩ => ⟨S2048x16x1, .f32⟩
  | .hbm, ⟨6, _⟩ => ⟨S16, .i32⟩
  | .hbm, ⟨7, _⟩ => ⟨S2048x16x16, .f32⟩
  | .hbm, ⟨8, _⟩ => ⟨S2048x16x16, .f32⟩
  | .hbm, ⟨9, _⟩ => ⟨S2048x16x16, .i1⟩
  | .hbm, ⟨10, _⟩ => ⟨S2048x16x16, .f32⟩
  | .hbm, ⟨11, _⟩ => ⟨S2048x16x16, .f32⟩
  | .hbm, ⟨12, _⟩ => ⟨S2048x16x16, .i1⟩
  | .hbm, ⟨13, _⟩ => ⟨S1x16x1, .i32⟩
  | .hbm, ⟨14, _⟩ => ⟨S1x1x16, .i32⟩
  | .hbm, ⟨15, _⟩ => ⟨S1x16x16, .i32⟩
  | .hbm, ⟨16, _⟩ => ⟨S1x16x16, .i32⟩
  | .hbm, ⟨17, _⟩ => ⟨S1x16x16, .i1⟩
  | .hbm, ⟨18, _⟩ => ⟨S2048x16x16, .i1⟩
  | .hbm, ⟨19, _⟩ => ⟨S2048x16x16, .i1⟩
  | .hbm, ⟨20, _⟩ => ⟨S2048x16x16, .i1⟩
  | .hbm, ⟨21, _⟩ => ⟨S2048x16x16, .i32⟩
  | .hbm, ⟨22, _⟩ => ⟨S_, .i32⟩
  | .hbm, ⟨23, _⟩ => ⟨S2048x16, .i32⟩
  | .hbm, ⟨24, _⟩ => ⟨S_, .i32⟩
  | .hbm, ⟨25, _⟩ => ⟨S2048x16, .i32⟩
  | .hbm, ⟨26, _⟩ => ⟨S2048x16, .i1⟩
  | .hbm, ⟨27, _⟩ => ⟨S1x16, .i32⟩
  | .hbm, ⟨28, _⟩ => ⟨S_, .i32⟩
  | .hbm, ⟨29, _⟩ => ⟨S_, .i32⟩
  | .hbm, ⟨30, _⟩ => ⟨S2048x16, .i32⟩
  | .hbm, ⟨31, _⟩ => ⟨S2048x16, .i32⟩
  | .hbm, ⟨32, _⟩ => ⟨S2048x16, .i32⟩
  | .hbm, ⟨33, _⟩ => ⟨S_, .i32⟩
  | .hbm, ⟨34, _⟩ => ⟨S2048, .i32⟩
  | .hbm, ⟨35, _⟩ => ⟨S_, .i32⟩
  | .hbm, ⟨36, _⟩ => ⟨S2048x16, .i32⟩
  | .hbm, ⟨37, _⟩ => ⟨S2048x16, .i1⟩
  | .hbm, ⟨38, _⟩ => ⟨S1x16, .i32⟩
  | .hbm, ⟨39, _⟩ => ⟨S_, .i32⟩
  | .hbm, ⟨40, _⟩ => ⟨S_, .i32⟩
  | .hbm, ⟨41, _⟩ => ⟨S2048x16, .i32⟩
  | .hbm, ⟨42, _⟩ => ⟨S2048x16, .i32⟩
  | .hbm, ⟨43, _⟩ => ⟨S2048x16, .i32⟩
  | .hbm, ⟨44, _⟩ => ⟨S_, .i32⟩
  | .hbm, ⟨45, _⟩ => ⟨S2048, .i32⟩
  | .hbm, ⟨46, _⟩ => ⟨S_, .i32⟩
  | .hbm, ⟨47, _⟩ => ⟨S2048x16, .i32⟩
  | .hbm, ⟨48, _⟩ => ⟨S2048x16, .i1⟩
  | .hbm, ⟨49, _⟩ => ⟨S_, .f32⟩
  | .hbm, ⟨50, _⟩ => ⟨S_, .f32⟩
  | .hbm, ⟨51, _⟩ => ⟨S2048x16, .f32⟩
  | .hbm, ⟨52, _⟩ => ⟨S2048x16, .f32⟩
  | .hbm, ⟨53, _⟩ => ⟨S_, .f32⟩
  | .hbm, ⟨54, _⟩ => ⟨S2048, .f32⟩
  | .hbm, ⟨55, _⟩ => ⟨S_, .i32⟩
  | .hbm, ⟨56, _⟩ => ⟨S2048x16, .i32⟩
  | .hbm, ⟨57, _⟩ => ⟨S2048x16, .i1⟩
  | .hbm, ⟨58, _⟩ => ⟨S_, .f32⟩
  | .hbm, ⟨59, _⟩ => ⟨S_, .f32⟩
  | .hbm, ⟨60, _⟩ => ⟨S2048x16, .f32⟩
  | .hbm, ⟨61, _⟩ => ⟨S2048x16, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S2048, .f32⟩
  | .hbm, ⟨66, _⟩ => ⟨S2048, .f32⟩
  | .hbm, ⟨67, _⟩ => ⟨S2048, .f32⟩
  | .hbm, ⟨68, _⟩ => ⟨S2048, .f32⟩
  | .hbm, ⟨69, _⟩ => ⟨S2048, .f32⟩
  | .hbm, ⟨70, _⟩ => ⟨S2x1024, .i32⟩
  | .hbm, ⟨71, _⟩ => ⟨S2x1024, .i32⟩
  | .hbm, ⟨72, _⟩ => ⟨S2x1x1024, .i32⟩
  | .hbm, ⟨73, _⟩ => ⟨S2x1x1024, .i32⟩
  | .hbm, ⟨74, _⟩ => ⟨S2x2x1024, .i32⟩
  | .hbm, ⟨75, _⟩ => ⟨S2048, .f32⟩
  | .hbm, ⟨76, _⟩ => ⟨S2048, .f32⟩
  | .hbm, ⟨77, _⟩ => ⟨S2x1024, .f32⟩
  | .hbm, ⟨78, _⟩ => ⟨S2048, .f32⟩
  | .hbm, ⟨79, _⟩ => ⟨S2048, .f32⟩
  | .hbm, ⟨80, _⟩ => ⟨S2x1024, .f32⟩
  | .hbm, ⟨81, _⟩ => ⟨S2x1x1024, .f32⟩
  | .hbm, ⟨82, _⟩ => ⟨S2x1x1024, .f32⟩
  | .hbm, ⟨83, _⟩ => ⟨S2x2x1024, .f32⟩
  | .hbm, ⟨84, _⟩ => ⟨S2048x1024, .bf16⟩
  | .hbm, ⟨85, _⟩ => ⟨S2x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_v20 : Ref sig .tc := ⟨.hbm, 23, rfl⟩
abbrev main_c_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_call3_v0 : Ref sig .tc := ⟨.hbm, 59, rfl⟩
abbrev main_call3_v1 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Expert.lean ====
abbrev S2048x1024 : Shape := ⟨2, ![2048, 1024]⟩
abbrev S2x2048 : Shape := ⟨2, ![2, 2048]⟩
abbrev S8x1024x4096 : Shape := ⟨3, ![8, 1024, 4096]⟩
abbrev S8x4096x1024 : Shape := ⟨3, ![8, 4096, 1024]⟩
abbrev S_ : Shape := ⟨0, ![]⟩
abbrev S1 : Shape := ⟨1, ![1]⟩
abbrev S8x320x1024 : Shape := ⟨3, ![8, 320, 1024]⟩
abbrev S1x1024x512 : Shape := ⟨3, ![1, 1024, 512]⟩
abbrev S1x512x1024 : Shape := ⟨3, ![1, 512, 1024]⟩
abbrev S1x320x1024 : Shape := ⟨3, ![1, 320, 1024]⟩
abbrev S320x1024 : Shape := ⟨2, ![320, 1024]⟩
abbrev S1x320 : Shape := ⟨2, ![1, 320]⟩
abbrev S320x2048 : Shape := ⟨2, ![320, 2048]⟩
abbrev S1x2048 : Shape := ⟨2, ![1, 2048]⟩
abbrev S2048 : Shape := ⟨1, ![2048]⟩
abbrev S320 : Shape := ⟨1, ![320]⟩
abbrev S1024x512 : Shape := ⟨2, ![1024, 512]⟩
abbrev S320x512 : Shape := ⟨2, ![320, 512]⟩
abbrev S512x1024 : Shape := ⟨2, ![512, 1024]⟩
abbrev S320x1 : Shape := ⟨2, ![320, 1]⟩

abbrev nBuf : Space → Nat
  | .hbm => 21
  | .vmem => 12
  | .smem => 1
  | _ => 0

abbrev bufTy : (tb : Table) → Fin (tcTables nBuf tb) → BufTy
  | .hbm, ⟨0, _⟩ => ⟨S2048x1024, .bf16⟩
  | .hbm, ⟨1, _⟩ => ⟨S2x2048, .i32⟩
  | .hbm, ⟨2, _⟩ => ⟨S2x2048, .f32⟩
  | .hbm, ⟨3, _⟩ => ⟨S8x1024x4096, .f32⟩
  | .hbm, ⟨4, _⟩ => ⟨S8x4096x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x320x1024, .bf16⟩
  | .local _ .vmem, ⟨0, _⟩ => ⟨S2048x1024, .bf16⟩
  | .local _ .vmem, ⟨1, _⟩ => ⟨S2x2048, .i32⟩
  | .local _ .vmem, ⟨2, _⟩ => ⟨S2x2048, .f32⟩
  | .local _ .vmem, ⟨3, _⟩ => ⟨S1x1024x512, .f32⟩
  | .local _ .vmem, ⟨4, _⟩ => ⟨S1x1024x512, .f32⟩
  | .local _ .vmem, ⟨5, _⟩ => ⟨S1x512x1024, .f32⟩
  | .local _ .vmem, ⟨6, _⟩ => ⟨S1x512x1024, .f32⟩
  | .local _ .vmem, ⟨7, _⟩ => ⟨S1x320x1024, .bf16⟩
  | .local _ .vmem, ⟨8, _⟩ => ⟨S1x320x1024, .bf16⟩
  | .local _ .vmem, ⟨9, _⟩ => ⟨S320x1024, .bf16⟩
  | .local _ .vmem, ⟨10, _⟩ => ⟨S320x1024, .f32⟩
  | .local _ .vmem, ⟨11, _⟩ => ⟨S1x320, .f32⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v12 : Ref sig .tc := ⟨.hbm, 20, rfl⟩
abbrev main_v11 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 8
abbrev τ : Topo := Topo.v7x

variable {F : FTy → Type} [FloatOps F]

abbrev grid0 : Pipeline.Grid := ⟨2, ![8, 2], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, c0_i32.toNat, v2.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x320x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertReferenceIdeal.lean ====
abbrev S2048x1024 : Shape := ⟨2, ![2048, 1024]⟩
abbrev S4x2048 : Shape := ⟨2, ![4, 2048]⟩
abbrev S2x2048 : Shape := ⟨2, ![2, 2048]⟩
abbrev S16x1024x4096 : Shape := ⟨3, ![16, 1024, 4096]⟩
abbrev S16x4096x1024 : Shape := ⟨3, ![16, 4096, 1024]⟩
abbrev S2x2x2048 : Shape := ⟨3, ![2, 2, 2048]⟩
abbrev S2560 : Shape := ⟨1, ![2560]⟩
abbrev S_ : Shape := ⟨0, ![]⟩
abbrev S2x2560x1024 : Shape := ⟨3, ![2, 2560, 1024]⟩
abbrev S2x2560 : Shape := ⟨2, ![2, 2560]⟩
abbrev S2x1x2048 : Shape := ⟨3, ![2, 1, 2048]⟩
abbrev S2x2048x1 : Shape := ⟨3, ![2, 2048, 1]⟩
abbrev S1x1x2560 : Shape := ⟨3, ![1, 1, 2560]⟩
abbrev S2x2048x2560 : Shape := ⟨3, ![2, 2048, 2560]⟩
abbrev S2x2048x2560x1 : Shape := ⟨4, ![2, 2048, 2560, 1]⟩
abbrev S1x2048x1x1024 : Shape := ⟨4, ![1, 2048, 1, 1024]⟩
abbrev S2x2048x2560x1024 : Shape := ⟨4, ![2, 2048, 2560, 1024]⟩
abbrev S1x2048 : Shape := ⟨2, ![1, 2048]⟩
abbrev S2048 : Shape := ⟨1, ![2048]⟩
abbrev S1x2048x1 : Shape := ⟨3, ![1, 2048, 1]⟩
abbrev S16x320x1024 : Shape := ⟨3, ![16, 320, 1024]⟩
abbrev S16x320x4096 : Shape := ⟨3, ![16, 320, 4096]⟩
abbrev S16x320x4x1024 : Shape := ⟨4, ![16, 320, 4, 1024]⟩
abbrev S16x4x320x1024 : Shape := ⟨4, ![16, 4, 320, 1024]⟩
abbrev S16x4x1024x1024 : Shape := ⟨4, ![16, 4, 1024, 1024]⟩
abbrev S16x1x320x1 : Shape := ⟨4, ![16, 1, 320, 1]⟩
abbrev S2x8x2x2x320x1024 : Shape := ⟨6, ![2, 8, 2, 2, 320, 1024]⟩
abbrev S2x2x2x8x320x1024 : Shape := ⟨6, ![2, 2, 2, 8, 320, 1024]⟩
abbrev S64x320x1024 : Shape := ⟨3, ![64, 320, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048, .i32⟩
  | .hbm, ⟨2, _⟩ => ⟨S2x2048, .f32⟩
  | .hbm, ⟨3, _⟩ => ⟨S16x1024x4096, .f32⟩
  | .hbm, ⟨4, _⟩ => ⟨S16x4096x1024, .f32⟩
  | .hbm, ⟨5, _⟩ => ⟨S2x2x2048, .i32⟩
  | .hbm, ⟨6, _⟩ => ⟨S2560, .i32⟩
  | .hbm, ⟨7, _⟩ => ⟨S2048x1024, .f32⟩
  | .hbm, ⟨8, _⟩ => ⟨S_, .f32⟩
  | .hbm, ⟨9, _⟩ => ⟨S2x2560x1024, .f32⟩
  | .hbm, ⟨10, _⟩ => ⟨S_, .f32⟩
  | .hbm, ⟨11, _⟩ => ⟨S2x2560, .f32⟩
  | .hbm, ⟨12, _⟩ => ⟨S2x1x2048, .i32⟩
  | .hbm, ⟨13, _⟩ => ⟨S2x2048, .i32⟩
  | .hbm, ⟨14, _⟩ => ⟨S2x2048x1, .i32⟩
  | .hbm, ⟨15, _⟩ => ⟨S1x1x2560, .i32⟩
  | .hbm, ⟨16, _⟩ => ⟨S2x2048x2560, .i32⟩
  | .hbm, ⟨17, _⟩ => ⟨S2x2048x2560, .i32⟩
  | .hbm, ⟨18, _⟩ => ⟨S2x2048x2560, .i1⟩
  | .hbm, ⟨19, _⟩ => ⟨S2x2048x2560x1, .i1⟩
  | .hbm, ⟨20, _⟩ => ⟨S1x2048x1x1024, .f32⟩
  | .hbm, ⟨21, _⟩ => ⟨S_, .f32⟩
  | .hbm, ⟨22, _⟩ => ⟨S_, .f32⟩
  | .hbm, ⟨23, _⟩ => ⟨S2x2048x2560x1024, .i1⟩
  | .hbm, ⟨24, _⟩ => ⟨S2x2048x2560x1024, .f32⟩
  | .hbm, ⟨25, _⟩ => ⟨S2x2048x2560x1024, .f32⟩
  | .hbm, ⟨26, _⟩ => ⟨S2x2048x2560x1024, .f32⟩
  | .hbm, ⟨27, _⟩ => ⟨S_, .f32⟩
  | .hbm, ⟨28, _⟩ => ⟨S2x2560x1024, .f32⟩
  | .hbm, ⟨29, _⟩ => ⟨S2x2560x1024, .f32⟩
  | .hbm, ⟨30, _⟩ => ⟨S1x2048, .f32⟩
  | .hbm, ⟨31, _⟩ => ⟨S2048, .f32⟩
  | .hbm, ⟨32, _⟩ => ⟨S1x2048x1, .f32⟩
  | .hbm, ⟨33, _⟩ => ⟨S_, .f32⟩
  | .hbm, ⟨34, _⟩ => ⟨S_, .f32⟩
  | .hbm, ⟨35, _⟩ => ⟨S2x2048x2560, .f32⟩
  | .hbm, ⟨36, _⟩ => ⟨S2x2048x2560, .f32⟩
  | .hbm, ⟨37, _⟩ => ⟨S2x2048x2560, .f32⟩
  | .hbm, ⟨38, _⟩ => ⟨S_, .f32⟩
  | .hbm, ⟨39, _⟩ => ⟨S2x2560, .f32⟩
  | .hbm, ⟨40, _⟩ => ⟨S2x2560, .f32⟩
  | .hbm, ⟨41, _⟩ => ⟨S2x1x2048, .i32⟩
  | .hbm, ⟨42, _⟩ => ⟨S2x2048, .i32⟩
  | .hbm, ⟨43, _⟩ => ⟨S2x2048x1, .i32⟩
  | .hbm, ⟨44, _⟩ => ⟨S1x1x2560, .i32⟩
  | .hbm, ⟨45, _⟩ => ⟨S2x2048x2560, .i32⟩
  | .hbm, ⟨46, _⟩ => ⟨S2x2048x2560, .i32⟩
  | .hbm, ⟨47, _⟩ => ⟨S2x2048x2560, .i1⟩
  | .hbm, ⟨48, _⟩ => ⟨S2x2048x2560x1, .i1⟩
  | .hbm, ⟨49, _⟩ => ⟨S1x2048x1x1024, .f32⟩
  | .hbm, ⟨50, _⟩ => ⟨S_, .f32⟩
  | .hbm, ⟨51, _⟩ => ⟨S_, .f32⟩
  | .hbm, ⟨52, _⟩ => ⟨S2x2048x2560x1024, .i1⟩
  | .hbm, ⟨53, _⟩ => ⟨S2x2048x2560x1024, .f32⟩
  | .hbm, ⟨54, _⟩ => ⟨S2x2048x2560x1024, .f32⟩
  | .hbm, ⟨55, _⟩ => ⟨S2x2048x2560x1024, .f32⟩
  | .hbm, ⟨56, _⟩ => ⟨S_, .f32⟩
  | .hbm, ⟨57, _⟩ => ⟨S2x2560x1024, .f32⟩
  | .hbm, ⟨58, _⟩ => ⟨S2x2560x1024, .f32⟩
  | .hbm, ⟨59, _⟩ => ⟨S1x2048, .f32⟩
  | .hbm, ⟨60, _⟩ => ⟨S2048, .f32⟩
  | .hbm, ⟨61, _⟩ => ⟨S1x2048x1, .f32⟩
  | .hbm, ⟨62, _⟩ => ⟨S_, .f32⟩
  | .hbm, ⟨63, _⟩ => ⟨S_, .f32⟩
  | .hbm, ⟨64, _⟩ => ⟨S2x2048x2560, .f32⟩
  | .hbm, ⟨65, _⟩ => ⟨S2x2048x2560, .f32⟩
  | .hbm, ⟨66, _⟩ => ⟨S2x2048x2560, .f32⟩
  | .hbm, ⟨67, _⟩ => ⟨S_, .f32⟩
  | .hbm, ⟨68, _⟩ => ⟨S2x2560, .f32⟩
  | .hbm, ⟨69, _⟩ => ⟨S2x2560, .f32⟩
  | .hbm, ⟨70, _⟩ => ⟨S16x320x1024, .f32⟩
  | .hbm, ⟨71, _⟩ => ⟨S16x320x4096, .f32⟩
  | .hbm, ⟨72, _⟩ => ⟨S_, .f32⟩
  | .hbm, ⟨73, _⟩ => ⟨S16x320x4096, .f32⟩
  | .hbm, ⟨74, _⟩ => ⟨S16x320x4096, .f32⟩
  | .hbm, ⟨75, _⟩ => ⟨S16x320x4x1024, .f32⟩
  | .hbm, ⟨76, _⟩ => ⟨S16x4x320x1024, .f32⟩
  | .hbm, ⟨77, _⟩ => ⟨S16x4x1024x1024, .f32⟩
  | .hbm, ⟨78, _⟩ => ⟨S16x4x320x1024, .f32⟩
  | .hbm, ⟨79, _⟩ => ⟨S16x1x320x1, .f32⟩
  | .hbm, ⟨80, _⟩ => ⟨S16x4x320x1024, .f32⟩
  | .hbm, ⟨81, _⟩ => ⟨S16x4x320x1024, .f32⟩
  | .hbm, ⟨82, _⟩ => ⟨S2x8x2x2x320x1024, .f32⟩
  | .hbm, ⟨83, _⟩ => ⟨S2x2x2x8x320x1024, .f32⟩
  | .hbm, ⟨84, _⟩ => ⟨S64x320x1024, .f32⟩
  | .hbm, ⟨85, _⟩ => ⟨S64x320x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== Proof.Seg.lean ====
/-
# The reduce-scatter kernel `_combine`: quarters of a buffer, the peers, the cells

Every buffer of the kernel but its two inputs is read, written and copied in four quarters of 256 rows. `seg` is
the ownership of one quarter together with the value it holds, and this module gives its load and its store, and
the passage between a whole buffer and its four quarters. Then the three peers of a device on the mesh, the
semaphores of the twelve exchanges, and the names the later modules use.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy (duties `Unit`) and this protocol's (duties `Fin 3`, the mesh axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Quarters -/

theorem rq_inb (q : Fin 4) : ∀ a, (![256 * q.val, 0] : Fin 2 → Nat) a + S256x1024.size a ≤ S1024x1024.size a := by
  revert q; decide

/-- Rows `256 q … 256 q + 255`. -/
abbrev rq (q : Fin 4) : Rect S1024x1024 := Rect.unit (s := S1024x1024) ![256 * q.val, 0] S256x1024.size (rq_inb q)

/-- Device `c` owns quarter `q` of `M`, and it holds `v`. -/
def seg {e : EltTy} (M : Memref sig .tc .vmem S1024x1024 e) (q : Fin 4) (c : Dev nD) (v : S256x1024.Idx → Elt F e) : sProp 𝕄 :=
  iprop(∃ f : Buf (Elt F) (M.view.loc (c : Thread nD τ)), ⌜(M.access (rq q)).read (Elt F) f = v⌝
    ∗ ((M.access (rq q)).loc (c : Thread nD τ) ↦[(M.access (rq q)).set]{fullShare} f))

/-- Device `c` owns quarter `q` of `M`, whatever it holds. -/
def segAny {e : EltTy} (M : Memref sig .tc .vmem S1024x1024 e) (q : Fin 4) (c : Dev nD) : sProp 𝕄 :=
  iprop(∃ v, seg (F := F) M q c v)

instance seg_storable {e : EltTy} (M : Memref sig .tc .vmem S1024x1024 e) (q : Fin 4) (c : Dev nD) (v : S256x1024.Idx → Elt F e) :
    BI.Storable (upEmb : UEmb _ 𝕄) (seg (F := F) M q c v) := by unfold seg; infer_instance
instance segAny_storable {e : EltTy} (M : Memref sig .tc .vmem S1024x1024 e) (q : Fin 4) (c : Dev nD) :
    BI.Storable (upEmb : UEmb _ 𝕄) (segAny (F := F) M q c) := by unfold segAny; infer_instance

omit [FloatOps F] in
theorem seg_any {e : EltTy} {M : Memref sig .tc .vmem S1024x1024 e} {q : Fin 4} {c : Dev nD} {v : S256x1024.Idx → Elt F e} :
    seg (F := F) M q c v ⊢ segAny M q c := by
  unfold segAny; iintro H; iexists v; iexact H

/-- Loading quarter `q` gives the value it holds. -/
theorem wp_load_seg {e : EltTy} (M : Memref sig .tc .vmem S1024x1024 e) (q : Fin 4) (c : Dev nD) (v : S256x1024.Idx → Elt F e)
    {hl : _} {α : Type} {Q : α → sProp 𝕄}
    {k : (S256x1024.Idx → Elt F e) → Prog (TpuEff nD τ sig (Elt F) Λ₀ .tc) α} :
    seg M q c v ⊢ iprop((seg M q c v -∗ wp frame (wpE (defs₀ (F := F)) 𝒱₀ (c : Thread nD τ) none) Set.univ (k v) Q)
      -∗ wp frame (wpE (defs₀ (F := F)) 𝒱₀ (c : Thread nD τ) none) Set.univ (.op (.load M (rq q).toLoadRect hl) k) Q) := by
  unfold seg
  iintro ⟨%f, %hf, H⟩ Hk
  iapply (wp_load_rect 𝒱₀ (c : Thread nD τ) none Set.univ (m := M) (r := rq q) (Finset.Subset.refl _)) $$ H
  iintro H
  rw [hf]
  iapply Hk
  iexists f
  isplitr; · (ipureintro; exact hf)
  iexact H

/-- Storing to quarter `q` replaces the value it holds. -/
theorem wp_store_seg {e : EltTy} (M : Memref sig .tc .vmem S1024x1024 e) (q : Fin 4) (c : Dev nD) (v w : S256x1024.Idx → Elt F e)
    {hx : _} {hm : _} {α : Type} {Q : α → sProp 𝕄}
    {k : PUnit → Prog (TpuEff nD τ sig (Elt F) Λ₀ .tc) α} :
    seg M q c v ⊢ iprop((seg M q c w -∗ wp frame (wpE (defs₀ (F := F)) 𝒱₀ (c : Thread nD τ) none) Set.univ (k ⟨⟩) Q)
      -∗ wp frame (wpE (defs₀ (F := F)) 𝒱₀ (c : Thread nD τ) none) Set.univ (.op (.store M (rq q) w Finset.univ hx hm) k) Q) := by
  unfold seg
  iintro ⟨%f, %hf, H⟩ Hk
  iapply (wp_store 𝒱₀ (c : Thread nD τ) none Set.univ (m := M) (r := rq q) (Mk := Finset.univ)
    (S := (M.access (rq q)).set) (Finset.Subset.refl _)) $$ H
  iintro H
  iapply Hk
  iexists _
  isplitr
  swap
  · iexact H
  ipureintro
  exact View.read_write_univ _ _

/-! ## A whole buffer and its four quarters -/

theorem rq_cover : (Finset.univ : Finset (Fin 4)).biUnion (fun q => (rq q).set) = Finset.univ := by
  refine Finset.eq_univ_iff_forall.mpr fun i => Finset.mem_biUnion.mpr ?_
  have h0 : (i 0).val < 1024 := (i 0).isLt
  have h1 : (i 1).val < 1024 := (i 1).isLt
  refine ⟨⟨(i 0).val / 256, by omega⟩, Finset.mem_univ _, ?_⟩
  rw [Rect.mem_set_unit]
  intro a
  fin_cases a
  · show 256 * ((i 0).val / 256) ≤ (i 0).val ∧ (i 0).val < 256 * ((i 0).val / 256) + 256
    omega
  · show 0 ≤ (i 1).val ∧ (i 1).val < 0 + 1024
    omega

theorem rq_disj (q q' : Fin 4) (h : q ≠ q') : Disjoint (rq q).set (rq q').set := by
  rw [Finset.disjoint_left]
  intro i hi hi'
  rw [Rect.mem_set_unit] at hi hi'
  have a : 256 * q.val ≤ (i 0).val ∧ (i 0).val < 256 * q.val + 256 := hi 0
  have b : 256 * q'.val ≤ (i 0).val ∧ (i 0).val < 256 * q'.val + 256 := hi' 0
  exact h (Fin.ext (by omega))

theorem acc_set {e : EltTy} (M : Memref sig .tc .vmem S1024x1024 e) (q : Fin 4) :
    (M.access (rq q)).set = (rq q).set.map M.view.emb := View.set_slice _ _

theorem acc_cover {e : EltTy} (M : Memref sig .tc .vmem S1024x1024 e) :
    (Finset.univ : Finset (Fin 4)).biUnion (fun q => (M.access (rq q)).set) = M.view.set := by
  ext x
  rw [Finset.mem_biUnion]
  simp only [acc_set]
  constructor
  · rintro ⟨q, -, h⟩
    obtain ⟨y, -, rfl⟩ := Finset.mem_map.mp h
    exact Finset.mem_map_of_mem _ (Finset.mem_univ _)
  · intro h
    obtain ⟨y, -, rfl⟩ := Finset.mem_map.mp h
    have hy : y ∈ (Finset.univ : Finset (Fin 4)).biUnion (fun q => (rq q).set) := by rw [rq_cover]; exact Finset.mem_univ _
    obtain ⟨q, hq, hy⟩ := Finset.mem_biUnion.mp hy
    exact ⟨q, hq, Finset.mem_map_of_mem _ hy⟩

theorem acc_disj {e : EltTy} (M : Memref sig .tc .vmem S1024x1024 e) (q q' : Fin 4) (h : q ≠ q') :
    Disjoint (M.access (rq q)).set (M.access (rq q')).set := by
  rw [acc_set, acc_set]
  exact (Finset.disjoint_map _).mpr (rq_disj q q' h)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A whole buffer is its four quarters. -/
theorem whole_split {e : EltTy} (M : Memref sig .tc .vmem S1024x1024 e) (c : Dev nD) (f : Buf (Elt F) (M.view.loc (c : Thread nD τ))) :
    (M.view.loc (c : Thread nD τ) ↦[M.view.set]{fullShare} f : sProp 𝕄)
      ⊢ iprop(segAny M 0 c ∗ segAny M 1 c ∗ segAny M 2 c ∗ segAny M 3 c) := by
  rw [← acc_cover M, pointsTo_biUnion Finset.univ _ (fun t _ t' _ h => acc_disj M t t' h), ← bigSep_fin4 (fun q => segAny M q c)]
  refine bigSep_mono fun q _ => ?_
  show (M.view.loc (c : Thread nD τ) ↦[(M.access (rq q)).set]{fullShare} f : sProp 𝕄) ⊢ segAny M q c
  unfold segAny seg
  iintro H
  iexists _
  iexists f
  isplitr; · (ipureintro; rfl)
  iexact H

omit [FloatOps F] in
/-- Four quarters make the whole buffer, read quarter by quarter as they were. -/
theorem whole_join {e : EltTy} (M : Memref sig .tc .vmem S1024x1024 e) (c : Dev nD) (v : Fin 4 → S256x1024.Idx → Elt F e) :
    (iprop(seg M 0 c (v 0) ∗ seg M 1 c (v 1) ∗ seg M 2 c (v 2) ∗ seg M 3 c (v 3)) : sProp 𝕄)
      ⊢ iprop(∃ f : Buf (Elt F) (M.view.loc (c : Thread nD τ)), ⌜∀ q, (M.access (rq q)).read (Elt F) f = v q⌝
          ∗ (M.view.loc (c : Thread nD τ) ↦[M.view.set]{fullShare} f)) := by
  unfold seg
  iintro ⟨⟨%f0, %h0, H0⟩, ⟨%f1, %h1, H1⟩, ⟨%f2, %h2, H2⟩, ⟨%f3, %h3, H3⟩⟩
  let fs : Fin 4 → Buf (Elt F) (M.view.loc (c : Thread nD τ)) := ![f0, f1, f2, f3]
  have hfs : ∀ q, (M.access (rq q)).read (Elt F) (fs q) = v q := fun q => by
    fin_cases q
    exacts [h0, h1, h2, h3]
  ihave HJ := (pointsTo_biUnion_join (ℓ := M.view.loc (c : Thread nD τ)) (q := fullShare) Finset.univ (fun q => (M.access (rq q)).set) fs (fs 0)
    (fun t _ t' _ h => acc_disj M t t' h)) $$ [H0 H1 H2 H3]
  · rw [bigSep_fin4]
    isplitl [H0]; · iexact H0
    isplitl [H1]; · iexact H1
    isplitl [H2]; · iexact H2
    iexact H3
  icases HJ with ⟨%g, %hg, H⟩
  rw [acc_cover M]
  iexists g
  isplitr
  · ipureintro
    intro q
    rw [← hfs q]
    exact View.read_congr (fun i hi => hg q (Finset.mem_univ _) i hi)
  iexact H

end Cert.KernelIdeal.Comb

end
-- ==== Proof.Proto.lean ====
/-
# The reduce-scatter kernel: peers, cells, values and the schedule

Device `c = 4x + 2y + z`. Axis 0 is `y`, axis 1 is `x`, axis 2 is `z`; a device exchanges in that order with the
device that differs from it in the one coordinate. Exchange `i` (of twelve) is quarter `i % 4` of axis `i / 4`.

A device has one barrier cell with three duties, one per axis, each paid by that axis's peer, whose payload is the
landing buffer of that axis on the peer; and for every exchange a send cell and a receive cell with one duty each.
The values that travel are written as closed functions of the devices' inputs (`sentY`, `acc1`, `sentX`, …).
-/
module

public import proofs.«01_k».proof.Proof.Seg

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Peers -/

set_option backward.proofsInPublic true in
def pe (a : Fin 3) (c : Dev nD) : Dev nD := ⟨(c.val ^^^ (![2, 4, 1] : Fin 3 → ℕ) a) % 8, Nat.mod_lt _ (by decide)⟩

theorem pe_pe (a : Fin 3) (c : Dev nD) : pe a (pe a c) = c := by revert a c; decide
def peEquiv (a : Fin 3) : Dev nD ≃ Dev nD := ⟨pe a, pe a, pe_pe a, pe_pe a⟩

theorem dev_y (c : Dev nD) (h) : (⟨(4 * (c.val / 4) + (c.val % 2) + 2) - 2 * ((c.val / 2) % 2), h⟩ : Dev nD) = pe 0 c := by
  revert c; decide
theorem dev_x (c : Dev nD) (h) : (⟨(2 * ((c.val / 2) % 2) + (c.val % 2) + 4) - 4 * (c.val / 4), h⟩ : Dev nD) = pe 1 c := by
  revert c; decide
theorem dev_z (c : Dev nD) (h) : (⟨(4 * (c.val / 4) + 2 * ((c.val / 2) % 2) + 1) - (c.val % 2), h⟩ : Dev nD) = pe 2 c := by
  revert c; decide

theorem dev1_eq (c : Dev nD) : (⟨k0_dev1 c, k0_dev1_lt c⟩ : Dev nD) = pe 0 c := by simp only [k0_dev1_eq]; exact dev_y c _
theorem dev2_eq (c : Dev nD) : (⟨k0_dev2 c, k0_dev2_lt c⟩ : Dev nD) = pe 1 c := by simp only [k0_dev2_eq]; exact dev_x c _
theorem dev3_eq (c : Dev nD) : (⟨k0_dev3 c, k0_dev3_lt c⟩ : Dev nD) = pe 2 c := by simp only [k0_dev3_eq]; exact dev_z c _
theorem dev4_eq (c : Dev nD) : (⟨k0_dev4 c, k0_dev4_lt c⟩ : Dev nD) = pe 0 c := by simp only [k0_dev4_eq]; exact dev_y c _
theorem dev5_eq (c : Dev nD) : (⟨k0_dev5 c, k0_dev5_lt c⟩ : Dev nD) = pe 0 c := by simp only [k0_dev5_eq]; exact dev_y c _
theorem dev6_eq (c : Dev nD) : (⟨k0_dev6 c, k0_dev6_lt c⟩ : Dev nD) = pe 0 c := by simp only [k0_dev6_eq]; exact dev_y c _
theorem dev7_eq (c : Dev nD) : (⟨k0_dev7 c, k0_dev7_lt c⟩ : Dev nD) = pe 0 c := by simp only [k0_dev7_eq]; exact dev_y c _
theorem dev8_eq (c : Dev nD) : (⟨k0_dev8 c, k0_dev8_lt c⟩ : Dev nD) = pe 1 c := by simp only [k0_dev8_eq]; exact dev_x c _
theorem dev9_eq (c : Dev nD) : (⟨k0_dev9 c, k0_dev9_lt c⟩ : Dev nD) = pe 1 c := by simp only [k0_dev9_eq]; exact dev_x c _
theorem dev10_eq (c : Dev nD) : (⟨k0_dev10 c, k0_dev10_lt c⟩ : Dev nD) = pe 1 c := by simp only [k0_dev10_eq]; exact dev_x c _
theorem dev11_eq (c : Dev nD) : (⟨k0_dev11 c, k0_dev11_lt c⟩ : Dev nD) = pe 1 c := by simp only [k0_dev11_eq]; exact dev_x c _
theorem dev12_eq (c : Dev nD) : (⟨k0_dev12 c, k0_dev12_lt c⟩ : Dev nD) = pe 2 c := by simp only [k0_dev12_eq]; exact dev_z c _
theorem dev13_eq (c : Dev nD) : (⟨k0_dev13 c, k0_dev13_lt c⟩ : Dev nD) = pe 2 c := by simp only [k0_dev13_eq]; exact dev_z c _
theorem dev14_eq (c : Dev nD) : (⟨k0_dev14 c, k0_dev14_lt c⟩ : Dev nD) = pe 2 c := by simp only [k0_dev14_eq]; exact dev_z c _
theorem dev15_eq (c : Dev nD) : (⟨k0_dev15 c, k0_dev15_lt c⟩ : Dev nD) = pe 2 c := by simp only [k0_dev15_eq]; exact dev_z c _

/-! ## Buffers and semaphores -/

abbrev yM : Memref sig .tc .vmem S2560x1024 .bf16 := Memref.whole cc0_stg0_0
abbrev tM : Memref sig .tc .vmem S2x2048 .i32 := Memref.whole cc0_stg1_0
abbrev oM : Memref sig .tc .vmem S1024x1024 .f32 := Memref.whole cc0_stg2_0
abbrev aM : Memref sig .tc .vmem S1024x1024 .f32 := Memref.whole cc0_scratch0
/-- The send buffers and the landing buffers by axis. -/
abbrev sM : Fin 3 → Memref sig .tc .vmem S1024x1024 .bf16
  | 0 => Memref.whole cc0_scratch1 | 1 => Memref.whole cc0_scratch2 | 2 => Memref.whole cc0_scratch3
abbrev rM : Fin 3 → Memref sig .tc .vmem S1024x1024 .bf16
  | 0 => Memref.whole cc0_scratch4 | 1 => Memref.whole cc0_scratch5 | 2 => Memref.whole cc0_scratch6

/-- Exchange `i`'s axis and quarter. -/
def ph (i : Fin 12) : Fin 3 := ⟨i.val / 4, by omega⟩
def sg (i : Fin 12) : Fin 4 := ⟨i.val % 4, by omega⟩

theorem s12_inb (i : Fin 12) : ∀ a, (![i.val] : Fin 1 → Nat) a + S1.size a ≤ S12.size a := by revert i; decide

abbrev barS : Sem sig := (SemArray.scalar (sig.barrier 1 rfl) : Sems sig S_).sem
/-- Exchange `i`'s send and receive semaphores. -/
def sS (i : Fin 12) : DmaSem sig := ((cc0_scratch7.slice (Rect.unit (s := S12) ![i.val] S1.size (s12_inb i))).squeeze S_ squeezes_S1_S_).sem
def rS (i : Fin 12) : DmaSem sig := ((cc0_scratch8.slice (Rect.unit (s := S12) ![i.val] S1.size (s12_inb i))).squeeze S_ squeezes_S1_S_).sem

theorem sS_val (i : Fin 12) : (sS i).val = 3 + i.val := by revert i; decide
theorem rS_val (i : Fin 12) : (rS i).val = 15 + i.val := by revert i; decide

abbrev barCell (c : Dev nD) : GSem nD τ sig := ((c : Thread nD τ), .reg barS)
abbrev sendCell (c : Dev nD) (i : Fin 12) : GSem nD τ sig := ((c : Thread nD τ), .dma (sS i))
abbrev recvCell (c : Dev nD) (i : Fin 12) : GSem nD τ sig := ((c : Thread nD τ), .dma (rS i))

/-- Which exchange's cell a semaphore is: `(false, i)` send, `(true, i)` receive. -/
def xOf : SemLoc sig → Option (Bool × Fin 12)
  | .dma q => if h : 3 ≤ q.val ∧ q.val < 15 then some (false, ⟨q.val - 3, by omega⟩)
      else if h : 15 ≤ q.val ∧ q.val < 27 then some (true, ⟨q.val - 15, by omega⟩) else none
  | .reg _ => none

theorem xOf_s (i : Fin 12) : xOf (.dma (sS i)) = some (false, i) := by
  have h := sS_val i
  have hi := i.isLt
  unfold xOf
  simp only [h]
  rw [dif_pos ⟨by omega, by omega⟩]
  exact congrArg some (Prod.ext rfl (Fin.ext (by show 3 + i.val - 3 = i.val; omega)))
theorem xOf_r (i : Fin 12) : xOf (.dma (rS i)) = some (true, i) := by
  have h := rS_val i
  have hi := i.isLt
  unfold xOf
  simp only [h]
  rw [dif_neg (by omega), dif_pos ⟨by omega, by omega⟩]
  exact congrArg some (Prod.ext rfl (Fin.ext (by show 15 + i.val - 15 = i.val; omega)))
theorem xOf_bar (s : Sem sig) : xOf (.reg s) = none := rfl

/-- One quarter's credit. -/
def N : ℕ := ((rM 0).slice (rq 0) (fun _ => rfl)).view.dmaCredit
theorem N_pos : 0 < N := View.dmaCredit_pos _ (by decide)
theorem N_s (a : Fin 3) (q : Fin 4) : ((sM a).slice (rq q) (fun _ => rfl)).view.dmaCredit = N := by fin_cases a <;> rfl
theorem N_r (a : Fin 3) (q : Fin 4) : ((rM a).slice (rq q) (fun _ => rfl)).view.dmaCredit = N := by fin_cases a <;> rfl

/-! ## Values -/

variable (Y : Dev nD → Vec F S2560x1024 .bf16) (T : Dev nD → Vec F S2x2048 .i32)

/-- The two rows of slots of quarter `q` of the other `y` half, and of the device's own. -/
def t1 (c : Dev nD) (q : Fin 4) : Vec F S1x256 .i32 :=
  tM.view.readAt (Elt F) (Rect.unit (s := S2x2048) (k0_off1 c (BitVec.ofNat 32 (256 * q.val))) S1x256.size (k0_off1_inb c q)).toLoadRect (T c)
def t2 (c : Dev nD) (q : Fin 4) : Vec F S1x256 .i32 :=
  tM.view.readAt (Elt F) (Rect.unit (s := S2x2048) (k0_off2 c (BitVec.ofNat 32 (256 * q.val))) S1x256.size (k0_off2_inb c q)).toLoadRect (T c)
def t3 (c : Dev nD) (q : Fin 4) : Vec F S1x256 .i32 :=
  tM.view.readAt (Elt F) (Rect.unit (s := S2x2048) (k0_off3 c (BitVec.ofNat 32 (256 * q.val))) S1x256.size (k0_off3_inb c q)).toLoadRect (T c)
def t4 (c : Dev nD) (q : Fin 4) : Vec F S1x256 .i32 :=
  tM.view.readAt (Elt F) (Rect.unit (s := S2x2048) (k0_off4 c (BitVec.ofNat 32 (256 * q.val))) S1x256.size (k0_off4_inb c q)).toLoadRect (T c)

def sentY (c : Dev nD) (q : Fin 4) : FVec F S256x1024 .bf16 := k0_pay2 (t1 T c q) (t2 T c q) (Y c)
def acc0 (c : Dev nD) (q : Fin 4) : FVec F S256x1024 .f32 := k0_pay6 (t3 T c q) (t4 T c q) (Y c)
def acc1 (c : Dev nD) (q : Fin 4) : FVec F S256x1024 .f32 := k0_pay11 (acc0 Y T c q) (sentY Y T (pe 0 c) q)
def sentX (c : Dev nD) (q : Fin 4) : FVec F S256x1024 .bf16 := k0_pay12 (acc1 Y T c q)
def acc2 (c : Dev nD) (q : Fin 4) : FVec F S256x1024 .f32 := k0_pay19 (acc1 Y T c q) (sentX Y T (pe 1 c) q)
def sentZ (c : Dev nD) (q : Fin 4) : FVec F S256x1024 .bf16 := k0_pay20 (acc2 Y T c q)
def outQ (c : Dev nD) (q : Fin 4) : FVec F S256x1024 .f32 := k0_pay27 (acc2 Y T c q) (sentZ Y T (pe 2 c) q)

/-- What a device sends along an axis, quarter by quarter. -/
def sentA : Fin 3 → Dev nD → Fin 4 → FVec F S256x1024 .bf16
  | 0 => sentY Y T | 1 => sentX Y T | 2 => sentZ Y T
abbrev sent (c : Dev nD) (i : Fin 12) : FVec F S256x1024 .bf16 := sentA Y T (ph i) c (sg i)

/-! ## The schedule -/

def barPay (c : Dev nD) (a : Fin 3) : sProp 𝕄 :=
  iprop(segAny (F := F) (rM a) 0 (pe a c) ∗ segAny (F := F) (rM a) 1 (pe a c) ∗ segAny (F := F) (rM a) 2 (pe a c) ∗ segAny (F := F) (rM a) 3 (pe a c))
def recvPay (c : Dev nD) (i : Fin 12) : sProp 𝕄 := seg (rM (ph i)) (sg i) c (sent Y T (pe (ph i) c) i)
def sendPay (c : Dev nD) (i : Fin 12) : sProp 𝕄 := seg (sM (ph i)) (sg i) c (sent Y T c i)

/-- The duties of round 0 of a semaphore. -/
def dutiesOf (s : SemLoc sig) : Finset (Fin 3) :=
  match xOf s with | some _ => {0} | none => if s = .reg barS then Finset.univ else ∅
def payOf (c : Dev nD) (s : SemLoc sig) (d : Fin 3) : sProp 𝕄 :=
  match xOf s with
  | some (false, i) => sendPay Y T c i
  | some (true, i) => recvPay Y T c i
  | none => if s = .reg barS then barPay c d else iprop(emp)

def rd : Rounds.Schedule (GSem nD τ sig) (Fin 3) 𝕄 where
  duties g r := if r = 0 ∧ g.1.2 = .tc then dutiesOf g.2 else ∅
  unitless _ := False
  amount g _ _ := if g.2 = .reg barS then 1 else N
  payload g _ d := payOf Y T g.1.1 g.2 d
  amount_pos g _ _ _ := by
    by_cases h : g.2 = .reg barS
    · rw [if_pos h]; exact Nat.one_pos
    · rw [if_neg h]; exact N_pos

instance barPay_storable (c : Dev nD) (a : Fin 3) : BI.Storable (upEmb : UEmb _ 𝕄) (barPay (F := F) c a) := by unfold barPay; infer_instance
instance recvPay_storable (c : Dev nD) (i : Fin 12) : BI.Storable (upEmb : UEmb _ 𝕄) (recvPay Y T c i) := by unfold recvPay; infer_instance
instance sendPay_storable (c : Dev nD) (i : Fin 12) : BI.Storable (upEmb : UEmb _ 𝕄) (sendPay Y T c i) := by unfold sendPay; infer_instance
instance rd_payload_storable (g : GSem nD τ sig) (r : ℕ) (d : Fin 3) :
    BI.Storable (upEmb : UEmb _ 𝕄) ((rd Y T).payload g r d) := by
  show BI.Storable upEmb (payOf Y T g.1.1 g.2 d)
  unfold payOf
  split
  · infer_instance
  · infer_instance
  · split <;> infer_instance

section Sched
variable (c : Dev nD) (i : Fin 12)

theorem dutiesOf_bar : dutiesOf (.reg barS) = Finset.univ := by unfold dutiesOf; rw [xOf_bar]; exact if_pos rfl
theorem dutiesOf_s : dutiesOf (.dma (sS i)) = {0} := by unfold dutiesOf; rw [xOf_s]
theorem dutiesOf_r : dutiesOf (.dma (rS i)) = {0} := by unfold dutiesOf; rw [xOf_r]

theorem duties_bar : (rd Y T).duties (barCell c) 0 = Finset.univ := by
  dsimp only [rd]; exact (if_pos ⟨rfl, rfl⟩).trans dutiesOf_bar
theorem duties_send : (rd Y T).duties (sendCell c i) 0 = {0} := by
  dsimp only [rd]; exact (if_pos ⟨rfl, rfl⟩).trans (dutiesOf_s i)
theorem duties_recv : (rd Y T).duties (recvCell c i) 0 = {0} := by
  dsimp only [rd]; exact (if_pos ⟨rfl, rfl⟩).trans (dutiesOf_r i)
theorem duties_later (g : GSem nD τ sig) : ∀ r, 1 ≤ r → (rd Y T).duties g r = ∅ :=
  fun r hr => if_neg fun h => by omega

theorem send_ne_bar : (SemLoc.dma (sS i) : SemLoc sig) ≠ .reg barS := fun h => by cases h
theorem recv_ne_bar : (SemLoc.dma (rS i) : SemLoc sig) ≠ .reg barS := fun h => by cases h

theorem amount_bar (d : Fin 3) : (rd Y T).amount (barCell c) 0 d = 1 := by dsimp only [rd]; exact if_pos rfl
theorem amount_send (d : Fin 3) : (rd Y T).amount (sendCell c i) 0 d = N := by dsimp only [rd]; exact if_neg (send_ne_bar i)
theorem amount_recv (d : Fin 3) : (rd Y T).amount (recvCell c i) 0 d = N := by dsimp only [rd]; exact if_neg (recv_ne_bar i)

theorem expect_bar : (rd Y T).expect (barCell c) 0 = 3 := by
  unfold Schedule.expect Schedule.amountOf
  rw [duties_bar, Finset.sum_congr rfl fun d _ => amount_bar Y T c d, Finset.sum_const, Finset.card_univ, Fintype.card_fin, smul_eq_mul]
theorem expect_send : (rd Y T).expect (sendCell c i) 0 = N := by
  unfold Schedule.expect Schedule.amountOf; rw [duties_send, Finset.sum_singleton, amount_send]
theorem expect_recv : (rd Y T).expect (recvCell c i) 0 = N := by
  unfold Schedule.expect Schedule.amountOf; rw [duties_recv, Finset.sum_singleton, amount_recv]

theorem payload_bar (d : Fin 3) : (rd Y T).payload (barCell c) 0 d = barPay c d := by
  show payOf Y T c (.reg barS) d = _
  unfold payOf; rw [xOf_bar]; exact if_pos rfl
theorem payload_send (d : Fin 3) : (rd Y T).payload (sendCell c i) 0 d = sendPay Y T c i := by
  show payOf Y T c (.dma (sS i)) d = _
  unfold payOf; rw [xOf_s]
theorem payload_recv (d : Fin 3) : (rd Y T).payload (recvCell c i) 0 d = recvPay Y T c i := by
  show payOf Y T c (.dma (rS i)) d = _
  unfold payOf; rw [xOf_r]

theorem rest_bar : bigSep ((rd Y T).duties (barCell c) 0 \ ∅) (fun d => (rd Y T).payload (barCell c) 0 d)
    = iprop(barPay c 0 ∗ barPay c 1 ∗ barPay c 2) := by
  rw [Finset.sdiff_empty, duties_bar, bigSep_fin3, payload_bar, payload_bar, payload_bar]
theorem rest_send : bigSep ((rd Y T).duties (sendCell c i) 0 \ ∅) (fun d => (rd Y T).payload (sendCell c i) 0 d) = sendPay Y T c i := by
  rw [Finset.sdiff_empty, duties_send, bigSep_singleton, payload_send]
theorem rest_recv : bigSep ((rd Y T).duties (recvCell c i) 0 \ ∅) (fun d => (rd Y T).payload (recvCell c i) 0 d) = recvPay Y T c i := by
  rw [Finset.sdiff_empty, duties_recv, bigSep_singleton, payload_recv]

end Sched

/-! ## What a device owes; the levels -/

/-- The exchange of which `k + 1` are still to be sent. -/
def ix (k : ℕ) : Fin 12 := ⟨11 - k, by omega⟩

/-- The receive credits of the last `k` exchanges. -/
def oweS (c : Dev nD) : ℕ → CellTallies nD τ sig Unit
  | 0 => 0
  | k + 1 => oweS c k + tallyAt (recvCell (pe (ph (ix k)) c) (ix k)) () N

def owe2 (c : Dev nD) : CellTallies nD τ sig Unit := oweS c 12 + tallyAt (barCell (pe 2 c)) () 1
def owe1 (c : Dev nD) : CellTallies nD τ sig Unit := owe2 c + tallyAt (barCell (pe 1 c)) () 1
def owe0 (c : Dev nD) : CellTallies nD τ sig Unit := owe1 c + tallyAt (barCell (pe 0 c)) () 1

def L (g : GSem nD τ sig) : Finset Unit := if g.1.2 = .tc then {()} else ∅
/-- Barrier cells at 1, exchange `i`'s receive cells at `2 + i`, everything else at 0. -/
def lv (g : GSem nD τ sig) (_ : Unit) : ℕ :=
  match xOf g.2 with
  | some (true, i) => 2 + i.val
  | some (false, _) => 0
  | none => if g.2 = .reg barS then 1 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (i : Fin 12) (u : Unit) : lv (recvCell c i) u = 2 + i.val := by
  show (match xOf (.dma (rS i)) with | some (true, i) => 2 + i.val | some (false, _) => 0 | none => _) = _
  rw [xOf_r]
theorem lv_send (c : Dev nD) (i : Fin 12) (u : Unit) : lv (sendCell c i) u = 0 := by
  show (match xOf (.dma (sS i)) with | some (true, i) => 2 + i.val | some (false, _) => 0 | none => _) = _
  rw [xOf_s]
theorem lv_bar (c : Dev nD) (u : Unit) : lv (barCell c) u = 1 := by
  show (if (SemLoc.reg barS : SemLoc sig) = .reg barS then 1 else 0) = 1
  exact if_pos rfl

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem oweS_pos {c : Dev nD} {k : ℕ} {g : GSem nD τ sig} {u : Unit} (h : 0 < oweS c k g u) :
    ∃ i : Fin 12, 12 ≤ i.val + k ∧ g = recvCell (pe (ph i) c) i := by
  induction k with
  | zero => exact absurd h (Nat.lt_irrefl 0)
  | succ k ih =>
    have h' : 0 < oweS c k g u + (tallyAt (recvCell (pe (ph (ix k)) c) (ix k)) () N : CellTallies nD τ sig Unit) g u := h
    rcases Nat.eq_zero_or_pos (oweS c k g u) with h0 | h0
    · rw [h0, Nat.zero_add] at h'
      exact ⟨ix k, by show 12 ≤ 11 - k + (k + 1); omega, tally_pos h'⟩
    · obtain ⟨i, hi, hg⟩ := ih h0
      exact ⟨i, by omega, hg⟩

theorem owe0_pos {c : Dev nD} {g : GSem nD τ sig} {u : Unit} (h : 0 < owe0 c g u) :
    (∃ (d : Dev nD) (i : Fin 12), g = recvCell d i) ∨ ∃ d : Dev nD, g = barCell d := by
  have h' : 0 < oweS c 12 g u + (tallyAt (barCell (pe 2 c)) () 1 : CellTallies nD τ sig Unit) g u
      + (tallyAt (barCell (pe 1 c)) () 1 : CellTallies nD τ sig Unit) g u + (tallyAt (barCell (pe 0 c)) () 1 : CellTallies nD τ sig Unit) g u := h
  by_contra hn
  rw [not_or] at hn
  have h1 : oweS c 12 g u = 0 := Nat.eq_zero_of_not_pos fun h => by
    obtain ⟨i, -, hg⟩ := oweS_pos h
    exact hn.1 ⟨_, _, hg⟩
  have hb : ∀ d, (tallyAt (barCell d) () 1 : CellTallies nD τ sig Unit) g u = 0 := fun d => Nat.eq_zero_of_not_pos fun h =>
    hn.2 ⟨_, tally_pos h⟩
  rw [h1, hb, hb, hb] at h'
  exact Nat.lt_irrefl 0 h'

/-- A wait on a semaphore whose level is below those of the exchanges still owed. -/
theorem mayWait_sends (c : Dev nD) (sm : SemLoc sig) (k : ℕ) (h : lv ((c : Thread nD τ), sm) () + k < 14) :
    (levAts L lv : sProp 𝕄) ⊢ MayWait (c : Thread nD τ) sm () (oweS c k) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := oweS_pos hg; rw [L_tc]; exact Finset.mem_singleton_self _)
    (fun p hp => by rw [Finset.mem_singleton.mp hp])
    (fun g u hg => by obtain ⟨i, hi, rfl⟩ := oweS_pos hg; rw [lv_recv]; omega)

/-- A wait on a staging semaphore, owing everything or nothing. -/
theorem mayWait_stage (c : Dev nD) (q : DmaSem sig) (hq : q.val < 3) (O : CellTallies nD τ sig Unit) (hO : O = owe0 c ∨ O = 0) :
    (levAts L lv : sProp 𝕄) ⊢ MayWait (c : Thread nD τ) (.dma q) () O := by
  have hlv : lv ((c : Thread nD τ), .dma q) () = 0 := by
    have hx : xOf (.dma q : SemLoc sig) = none := by
      show (if h : 3 ≤ q.val ∧ q.val < 15 then _ else if h : 15 ≤ q.val ∧ q.val < 27 then _ else none) = _
      rw [dif_neg (by omega), dif_neg (by omega)]
    unfold lv
    show (match xOf (.dma q : SemLoc sig) with | some (true, i) => 2 + i.val | some (false, _) => 0 | none => if (SemLoc.dma q : SemLoc sig) = SemLoc.reg barS then 1 else 0) = _
    rw [hx]; exact if_neg (fun h => by cases h)
  rcases hO with rfl | rfl
  · refine MayOwe.of_cut (L := L) (lev := lv) 0 (fun p hp => by rw [Finset.mem_singleton.mp hp, L_tc]; exact Finset.mem_singleton_self _)
      (fun g u hg => by rcases owe0_pos hg with ⟨d, i, rfl⟩ | ⟨d, rfl⟩ <;> (rw [L_tc]; exact Finset.mem_singleton_self _))
      (fun p hp => by rw [Finset.mem_singleton.mp hp, hlv])
      (fun g u hg => by
        rcases owe0_pos hg with ⟨d, i, rfl⟩ | ⟨d, rfl⟩
        · rw [lv_recv]; omega
        · rw [lv_bar]; omega)
  · rw [MayWait_zero]; iintro -; iempintro

end Cert.KernelIdeal.Comb

end
-- ==== Proof.Steps.lean ====
/-
# The reduce-scatter kernel: one rule per communication step

The invariants and the reached-marks of every cell of the mesh are persistent and kept together (`recs`). Each
exchange's own resources are bundled by its stage: before the send (`E0`), then the two halves a wait consumes
(`ES`, `ER'`). What a device owes is `oweS c k`: the receive credits of its last `k` sends.
-/
module

public import proofs.«01_k».proof.Proof.Proto

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Y : Dev nD → Vec F S2560x1024 .bf16) (T : Dev nD → Vec F S2x2048 .i32)

/-- A device's cells: the barrier, and by exchange the send (`false`) and the receive (`true`). -/
abbrev CK : Type := Option (Bool × Fin 12)
def csem : CK → SemLoc sig
  | none => .reg barS
  | some (false, i) => .dma (sS i)
  | some (true, i) => .dma (rS i)
abbrev kcell (ck : Dev nD × CK) : GSem nD τ sig := ((ck.1 : Thread nD τ), csem ck.2)

def recs (K : Dev nD × CK → ℕ) : sProp 𝕄 :=
  iprop((bigSep Finset.univ fun ck : Dev nD × CK => cellInv ER (rd Y T) (K ck) (kcell ck))
    ∗ (bigSep Finset.univ fun ck : Dev nD × CK => reached ER (kcell ck) 0) ∗ levAts L lv)

instance recs_persistent (K : Dev nD × CK → ℕ) : BI.Persistent (recs Y T K) := by unfold recs; infer_instance

variable (K : Dev nD × CK → ℕ)

theorem inv_at (ck : Dev nD × CK) :
    (bigSep Finset.univ fun ck : Dev nD × CK => (cellInv ER (rd Y T) (K ck) (kcell ck) : sProp 𝕄)) ⊢ cellInv ER (rd Y T) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

theorem recs_inv (ck : Dev nD × CK) : recs Y T K ⊢ cellInv ER (rd Y T) (K ck) (kcell ck) := by
  unfold recs
  iintro ⟨H, -, -⟩
  iapply (inv_at Y T K ck); iexact H
theorem recs_reached (ck : Dev nD × CK) : recs Y T K ⊢ reached ER (kcell ck) 0 := by
  unfold recs
  iintro ⟨-, H, -⟩
  iapply (reached_at (F := F) ck); iexact H
theorem recs_lev : recs Y T K ⊢ levAts L lv := by
  unfold recs
  iintro ⟨-, -, H⟩
  iexact H

/-- What a device owes, whatever it has waited on. -/
def oweX (c : Dev nD) (O : CellTallies nD τ sig Unit) : sProp 𝕄 := iprop(∃ W, owes (c : Thread nD τ) O W)

def E0 (c : Dev nD) (i : Fin 12) : sProp 𝕄 :=
  iprop(atPos ER (sendCell c i) 0 ∅ 0 ∗ atPos ER (recvCell c i) 0 ∅ 0
    ∗ dutyTok ER (sendCell c i) 0 0 ∗ dutyTok ER (recvCell (pe (ph i) c) i) 0 0
    ∗ cred (tallyAt (recvCell c i) () N))
def ES (c : Dev nD) (i : Fin 12) : sProp 𝕄 := iprop(atPos ER (sendCell c i) 0 ∅ 0 ∗ cred (tallyAt (sendCell c i) () N))
def ER' (c : Dev nD) (i : Fin 12) : sProp 𝕄 := iprop(atPos ER (recvCell c i) 0 ∅ 0 ∗ cred (tallyAt (recvCell c i) () N))

/-- The signal to the peer along axis `a`, handing over this device's landing buffer of that axis. -/
theorem step_signal (c n : Dev nD) (a : Fin 3) (hn : n = pe a c) (O' O : CellTallies nD τ sig Unit)
    (hO : O' = O + tallyAt (barCell (pe a c)) () 1)
    {α : Type} {Q : α → sProp 𝕄} {k : PUnit → Prog (TpuEff nD τ sig (Elt F) Λ₀ .tc) α} :
    iprop(recs Y T K ∗ oweX c O' ∗ dutyTok ER (barCell (pe a c)) 0 a
        ∗ segAny (F := F) (rM a) 0 c ∗ segAny (F := F) (rM a) 1 c ∗ segAny (F := F) (rM a) 2 c ∗ segAny (F := F) (rM a) 3 c)
      ⊢ iprop((oweX c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, .tc) barS (1#32).toInt) k) Q) := by
  subst hn
  unfold oweX
  iintro ⟨#Hr, ⟨%W, HO⟩, Ht, H0, H1, H2, H3⟩ Hk
  iapply (Rounds.wp_signal 𝒱₀ ER (rd Y T) (c : Thread nD τ) none (dst := (pe a c : Thread nD τ)) (κ := K (pe a c, none))
      (d := a) (by rw [duties_bar]; exact Finset.mem_univ _) ((amount_bar Y T (pe a c) a).trans (by decide)) () O hO)
    $$ [HO Ht H0 H1 H2 H3]
  · isplitr; · iapply (recs_inv Y T K (pe a c, none)); iexact Hr
    isplitl [HO]; · iexact HO
    isplitl [Ht]; · iexact Ht
    isplitl [H0 H1 H2 H3]
    · rw [payload_bar]; unfold barPay; rw [pe_pe]
      isplitl [H0]; · iexact H0
      isplitl [H1]; · iexact H1
      isplitl [H2]; · iexact H2
      iexact H3
    · iapply (recs_reached Y T K (pe a c, none)); iexact Hr
  iintro HO
  iapply Hk
  iexists W
  iexact HO

/-- The wait for the three peers' signals: their landing buffers come with it. -/
theorem step_barrier (c : Dev nD)
    {α : Type} {Q : α → sProp 𝕄} {k : PUnit → Prog (TpuEff nD τ sig (Elt F) Λ₀ .tc) α} :
    iprop(recs Y T K ∗ oweX c (oweS c 12) ∗ atPos ER (barCell c) 0 ∅ 0 ∗ cred (tallyAt (barCell c) () 3))
      ⊢ iprop(((barPay (F := F) c 0 ∗ barPay (F := F) c 1 ∗ barPay (F := F) c 2 ∗ semVal (barCell c) 0 ∗ oweX c (oweS c 12))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (3#32).toInt) k) Q) := by
  unfold oweX
  iintro ⟨#Hr, ⟨%W, HO⟩, Hat, Hc⟩ Hk
  iapply (Rounds.wp_wait_rest_token 𝒱₀ ER (rd Y T) (c : Thread nD τ) none (κ := K (c, none))
      (wpE_semWait_eq 𝒱₀ (c : Thread nD τ) none Set.univ) (Set.mem_univ _) () (O := oweS c 12) (W := W) (R := 0) (m := 0) (T := ∅)
      (by rw [expect_bar]; decide)) $$ [Hc HO Hat]
  · isplitr; · iapply (recs_inv Y T K (c, none)); iexact Hr
    isplitl [Hc]; · iexact Hc
    isplitl [HO]; · iexact HO
    isplitr; · iapply (mayWait_sends c (.reg barS) 12 (by rw [lv_bar]; decide)); iapply (recs_lev Y T K); iexact Hr
    iexact Hat
  iintro ⟨HO, Hat, -, Hpay⟩
  imod (Rounds.cell_close ER (rd Y T) (Set.mem_univ (K (c, none))) (fun h => h) (R := 0 + 1) (duties_later Y T (barCell c))) $$ [Hat] with Hz
  · isplitr; · iapply (recs_inv Y T K (c, none)); iexact Hr
    iexact Hat
  ihave Hp := (Entails.of_eq (rest_bar Y T c)) $$ Hpay
  icases Hp with ⟨H0, H1, H2⟩
  iapply Hk
  isplitl [H0]; · iexact H0
  isplitl [H1]; · iexact H1
  isplitl [H2]; · iexact H2
  isplitl [Hz]; · iexact Hz
  iexists _
  iexact HO

/-- The copy of exchange `i`. -/
theorem step_send (c n : Dev nD) (i : Fin 12) (hn : n = pe (ph i) c)
    {hs : _} {ht : _}
    {hsc : ((rM (ph i)).slice (rq (sg i)) ht : Memref sig (Dev.tc n : Thread nD τ).2.kind .vmem S256x1024 .bf16).view.ref.isScScratch = false}
    {hsrc : ((sM (ph i)).slice (rq (sg i)) hs).view.WordExact} {hdst : ((rM (ph i)).slice (rq (sg i)) ht).view.WordExact}
    {hsem : DmaTarget.Typed .vmem (.dma (rS i)) (.remote (Dev.tc n : Thread nD τ) ((rM (ph i)).slice (rq (sg i)) ht) (.dma (sS i)) hsc)}
    {α : Type} {Q : α → sProp 𝕄} {k : PUnit → Prog (TpuEff nD τ sig (Elt F) Λ₀ .tc) α} :
    iprop(recs Y T K ∗ sendPay Y T c i ∗ segAny (F := F) (rM (ph i)) (sg i) (pe (ph i) c) ∗ oweX c (oweS c (12 - i.val)) ∗ E0 c i)
      ⊢ iprop(((ES c i ∗ ER' c i ∗ oweX c (oweS c (11 - i.val)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((sM (ph i)).slice (rq (sg i)) hs) (.remote (Dev.tc n : Thread nD τ) ((rM (ph i)).slice (rq (sg i)) ht) (.dma (sS i)) hsc)
              (.dma (rS i)) hsrc hdst hsem) k) Q) := by
  subst hn
  unfold oweX E0 ES ER' sendPay segAny
  unfold seg
  iintro ⟨#Hr, ⟨%fs, %hfs, Hs⟩, ⟨%v, %fd, %hfd, Hd⟩, ⟨%W, HO⟩, HaS, HaR, HtS, HtR, Hc⟩ Hk
  iapply (Rounds.wp_send_pointsTo 𝒱₀ ER (rd Y T) (c : Thread nD τ) none (κ₁ := K (c, some (false, i))) (κ₂ := K (pe (ph i) c, some (true, i)))
    (c' := (Dev.tc (pe (ph i) c) : Thread nD τ)) (src := (sM (ph i)).slice (rq (sg i)) hs) (dst := (rM (ph i)).slice (rq (sg i)) ht)
    (r₁ := 0) (r₂ := 0) (d₁ := 0) (d₂ := 0) (fs := fs) (fd := fd) (q := fullShare) (sS := .dma (sS i)) (sem := .dma (rS i)) (O₀ := oweS c (12 - i.val))
    (by rw [duties_send]; exact Finset.mem_singleton_self _) (by rw [duties_recv]; exact Finset.mem_singleton_self _)
    () () N (N_r (ph i) (sg i)) (amount_send Y T c i 0) (amount_recv Y T (pe (ph i) c) i 0) (oweS c (11 - i.val))
    (by
      have h : 12 - i.val = (11 - i.val) + 1 := by omega
      have hi : ix (11 - i.val) = i := Fin.ext (by show 11 - (11 - i.val) = i.val; omega)
      rw [h]
      show oweS c (11 - i.val) + tallyAt (recvCell (pe (ph (ix (11 - i.val))) c) (ix (11 - i.val))) () N = _
      rw [hi]) (W := W)
    (by
      rw [payload_send]; unfold sendPay seg
      iintro H; iexists fs
      isplitr; · (ipureintro; exact hfs)
      iexact H)
    (by
      rw [payload_recv]; unfold recvPay seg
      iintro H; iexists _
      isplitr
      swap
      · iexact H
      ipureintro
      rw [pe_pe]
      exact (View.read_write_univ _ _).trans hfs)) $$ [Hs Hd HO HtS HtR]
  · isplitr; · iapply (recs_inv Y T K (c, some (false, i))); iexact Hr
    isplitr; · iapply (recs_inv Y T K (pe (ph i) c, some (true, i))); iexact Hr
    isplitl [Hs]; · iexact Hs
    isplitl [Hd]; · iexact Hd
    isplitl [HO]; · iexact HO
    isplitl [HtS]; · iexact HtS
    isplitr; · iapply (recs_reached Y T K (c, some (false, i))); iexact Hr
    isplitl [HtR]; · iexact HtR
    iapply (recs_reached Y T K (pe (ph i) c, some (true, i))); iexact Hr
  iintro ⟨HcS, HO⟩
  iapply Hk
  isplitl [HaS HcS]
  · isplitl [HaS] <;> iassumption
  isplitl [HaR Hc]
  · isplitl [HaR] <;> iassumption
  iexists W
  iexact HO

/-- The wait on exchange `i`'s send semaphore: the quarter sent comes back. -/
theorem step_waitS (c : Dev nD) (i : Fin 12) (m : ℕ) (hm : m ≤ 12)
    {sp sp' : Space} {s s' : Shape} {e e' : EltTy} {src : Memref sig .tc sp' s' e'} {κ' : Kind} {dst : Memref sig κ' sp s e}
    (hN : dst.view.dmaCredit = N) {hsrc : src.view.WordExact} {hdst : dst.view.WordExact}
    {α : Type} {Q : α → sProp 𝕄} {k : PUnit → Prog (TpuEff nD τ sig (Elt F) Λ₀ .tc) α} :
    iprop(recs Y T K ∗ ES c i ∗ oweX c (oweS c m))
      ⊢ iprop(((sendPay Y T c i ∗ semVal (sendCell c i) 0 ∗ oweX c (oweS c m))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sS i) src dst hsrc hdst) k) Q) := by
  unfold oweX ES
  iintro ⟨#Hr, ⟨Hat, Hc⟩, ⟨%W, HO⟩⟩ Hk
  iapply (Rounds.wp_wait_rest_token 𝒱₀ ER (rd Y T) (c : Thread nD τ) none (κ := K (c, some (false, i)))
      (wpE_waitDma2_eq 𝒱₀ (c : Thread nD τ) none Set.univ) (Set.mem_univ _) () (O := oweS c m) (W := W) (R := 0) (m := 0) (T := ∅)
      (by rw [Nat.zero_add, expect_send]; exact hN)) $$ [Hc HO Hat]
  · isplitr; · iapply (recs_inv Y T K (c, some (false, i))); iexact Hr
    isplitl [Hc]; · rw [hN]; iexact Hc
    isplitl [HO]; · iexact HO
    isplitr
    · iapply (mayWait_sends c (.dma (sS i)) m (by have h := lv_send c i (); rw [h]; omega)); iapply (recs_lev Y T K); iexact Hr
    iexact Hat
  iintro ⟨HO, Hat, -, Hpay⟩
  imod (Rounds.cell_close ER (rd Y T) (Set.mem_univ (K (c, some (false, i)))) (fun h => h) (R := 0 + 1) (duties_later Y T (sendCell c i))) $$ [Hat] with Hz
  · isplitr; · iapply (recs_inv Y T K (c, some (false, i))); iexact Hr
    iexact Hat
  ihave Hp := (Entails.of_eq (rest_send Y T c i)) $$ Hpay
  iapply Hk
  isplitl [Hp]; · iexact Hp
  isplitl [Hz]; · iexact Hz
  iexists _
  iexact HO

/-- The wait on exchange `i`'s receive semaphore: the landing quarter, holding what the peer sent. -/
theorem step_waitR (c : Dev nD) (i : Fin 12) (m : ℕ) (hm : i.val + m < 12)
    {sp sp' : Space} {s s' : Shape} {e e' : EltTy} {src : Memref sig .tc sp' s' e'} {κ' : Kind} {dst : Memref sig κ' sp s e}
    (hN : dst.view.dmaCredit = N) {hsrc : src.view.WordExact} {hdst : dst.view.WordExact}
    {α : Type} {Q : α → sProp 𝕄} {k : PUnit → Prog (TpuEff nD τ sig (Elt F) Λ₀ .tc) α} :
    iprop(recs Y T K ∗ ER' c i ∗ oweX c (oweS c m))
      ⊢ iprop(((recvPay Y T c i ∗ semVal (recvCell c i) 0 ∗ oweX c (oweS c m))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (rS i) src dst hsrc hdst) k) Q) := by
  unfold oweX ER'
  iintro ⟨#Hr, ⟨Hat, Hc⟩, ⟨%W, HO⟩⟩ Hk
  iapply (Rounds.wp_wait_rest_token 𝒱₀ ER (rd Y T) (c : Thread nD τ) none (κ := K (c, some (true, i)))
      (wpE_waitDma2_eq 𝒱₀ (c : Thread nD τ) none Set.univ) (Set.mem_univ _) () (O := oweS c m) (W := W) (R := 0) (m := 0) (T := ∅)
      (by rw [Nat.zero_add, expect_recv]; exact hN)) $$ [Hc HO Hat]
  · isplitr; · iapply (recs_inv Y T K (c, some (true, i))); iexact Hr
    isplitl [Hc]; · rw [hN]; iexact Hc
    isplitl [HO]; · iexact HO
    isplitr
    · iapply (mayWait_sends c (.dma (rS i)) m (by have h := lv_recv c i (); rw [h]; omega)); iapply (recs_lev Y T K); iexact Hr
    iexact Hat
  iintro ⟨HO, Hat, -, Hpay⟩
  imod (Rounds.cell_close ER (rd Y T) (Set.mem_univ (K (c, some (true, i)))) (fun h => h) (R := 0 + 1) (duties_later Y T (recvCell c i))) $$ [Hat] with Hz
  · isplitr; · iapply (recs_inv Y T K (c, some (true, i))); iexact Hr
    iexact Hat
  ihave Hp := (Entails.of_eq (rest_recv Y T c i)) $$ Hpay
  iapply Hk
  isplitl [Hp]; · iexact Hp
  isplitl [Hz]; · iexact Hz
  iexists _
  iexact HO

/-! ## The loads of the two inputs -/

def ptY (c : Dev nD) : sProp 𝕄 := ((c : Thread nD τ).loc cc0_stg0_0) ↦{fullShare} Y c
def ptT (c : Dev nD) : sProp 𝕄 := ((c : Thread nD τ).loc cc0_stg1_0) ↦{fullShare} T c

theorem hz : (![0, 0] : Fin 2 → Nat) = fun _ => 0 := funext fun a => by fin_cases a <;> rfl

theorem step_loadY (c : Dev nD) {hl : _}
    {α : Type} {Q : α → sProp 𝕄} {k : Vec F S2560x1024 .bf16 → Prog (TpuEff nD τ sig (Elt F) Λ₀ .tc) α} :
    ptY Y c ⊢ iprop((ptY Y c -∗ wp frame (wpE (defs₀ (F := F)) 𝒱₀ (c : Thread nD τ) none) Set.univ (k (Y c)) Q)
        -∗ wp frame (wpE (defs₀ (F := F)) 𝒱₀ (c : Thread nD τ) none) Set.univ
          (.op (.load yM (Rect.unit (s := S2560x1024) ![0, 0] S2560x1024.size inb_S2560x1024_S2560x1024_0_0).toLoadRect hl) k) Q) := by
  unfold ptY
  iintro H Hk
  iapply (wp_load 𝒱₀ (c : Thread nD τ) none Set.univ (m := yM) (Finset.subset_univ _)) $$ H
  iintro H
  rw [show yM.view.readAt (Elt F) (Rect.unit (s := S2560x1024) ![0, 0] S2560x1024.size inb_S2560x1024_S2560x1024_0_0).toLoadRect (Y c) = Y c from
    Memref.readAt_unit_zero (Elt F) cc0_stg0_0 hz _ _]
  iapply Hk
  iexact H

theorem step_load1 (c : Dev nD) (q : Fin 4) {hl : _}
    {α : Type} {Q : α → sProp 𝕄} {k : Vec F S1x256 .i32 → Prog (TpuEff nD τ sig (Elt F) Λ₀ .tc) α} :
    ptT T c ⊢ iprop((ptT T c -∗ wp frame (wpE (defs₀ (F := F)) 𝒱₀ (c : Thread nD τ) none) Set.univ (k (t1 T c q)) Q)
        -∗ wp frame (wpE (defs₀ (F := F)) 𝒱₀ (c : Thread nD τ) none) Set.univ
          (.op (.load tM (Rect.unit (s := S2x2048) (k0_off1 c (BitVec.ofNat 32 (256 * q.val))) S1x256.size (k0_off1_inb c q)).toLoadRect hl) k) Q) := by
  unfold ptT
  iintro H Hk
  iapply (wp_load 𝒱₀ (c : Thread nD τ) none Set.univ (m := tM) (Finset.subset_univ _)) $$ H
  iintro H
  iapply Hk
  iexact H

theorem step_load2 (c : Dev nD) (q : Fin 4) {hl : _}
    {α : Type} {Q : α → sProp 𝕄} {k : Vec F S1x256 .i32 → Prog (TpuEff nD τ sig (Elt F) Λ₀ .tc) α} :
    ptT T c ⊢ iprop((ptT T c -∗ wp frame (wpE (defs₀ (F := F)) 𝒱₀ (c : Thread nD τ) none) Set.univ (k (t2 T c q)) Q)
        -∗ wp frame (wpE (defs₀ (F := F)) 𝒱₀ (c : Thread nD τ) none) Set.univ
          (.op (.load tM (Rect.unit (s := S2x2048) (k0_off2 c (BitVec.ofNat 32 (256 * q.val))) S1x256.size (k0_off2_inb c q)).toLoadRect hl) k) Q) := by
  unfold ptT
  iintro H Hk
  iapply (wp_load 𝒱₀ (c : Thread nD τ) none Set.univ (m := tM) (Finset.subset_univ _)) $$ H
  iintro H
  iapply Hk
  iexact H

theorem step_load3 (c : Dev nD) (q : Fin 4) {hl : _}
    {α : Type} {Q : α → sProp 𝕄} {k : Vec F S1x256 .i32 → Prog (TpuEff nD τ sig (Elt F) Λ₀ .tc) α} :
    ptT T c ⊢ iprop((ptT T c -∗ wp frame (wpE (defs₀ (F := F)) 𝒱₀ (c : Thread nD τ) none) Set.univ (k (t3 T c q)) Q)
        -∗ wp frame (wpE (defs₀ (F := F)) 𝒱₀ (c : Thread nD τ) none) Set.univ
          (.op (.load tM (Rect.unit (s := S2x2048) (k0_off3 c (BitVec.ofNat 32 (256 * q.val))) S1x256.size (k0_off3_inb c q)).toLoadRect hl) k) Q) := by
  unfold ptT
  iintro H Hk
  iapply (wp_load 𝒱₀ (c : Thread nD τ) none Set.univ (m := tM) (Finset.subset_univ _)) $$ H
  iintro H
  iapply Hk
  iexact H

theorem step_load4 (c : Dev nD) (q : Fin 4) {hl : _}
    {α : Type} {Q : α → sProp 𝕄} {k : Vec F S1x256 .i32 → Prog (TpuEff nD τ sig (Elt F) Λ₀ .tc) α} :
    ptT T c ⊢ iprop((ptT T c -∗ wp frame (wpE (defs₀ (F := F)) 𝒱₀ (c : Thread nD τ) none) Set.univ (k (t4 T c q)) Q)
        -∗ wp frame (wpE (defs₀ (F := F)) 𝒱₀ (c : Thread nD τ) none) Set.univ
          (.op (.load tM (Rect.unit (s := S2x2048) (k0_off4 c (BitVec.ofNat 32 (256 * q.val))) S1x256.size (k0_off4_inb c q)).toLoadRect hl) k) Q) := by
  unfold ptT
  iintro H Hk
  iapply (wp_load 𝒱₀ (c : Thread nD τ) none Set.univ (m := tM) (Finset.subset_univ _)) $$ H
  iintro H
  iapply Hk
  iexact H

end Cert.KernelIdeal.Comb

end
-- ==== Proof.PartsA.lean ====
/-
# The reduce-scatter kernel: the rules of its printed parts (first half)

One rule per printed part of the body: what the part needs, what it leaves.
-/
module

public import proofs.«01_k».proof.Proof.Steps

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Y : Dev nD → Vec F S2560x1024 .bf16) (T : Dev nD → Vec F S2x2048 .i32) (K : Dev nD × CK → ℕ)

omit [FloatOps F] in
theorem segAny_elim {e : EltTy} {M : Memref sig .tc .vmem S1024x1024 e} {q : Fin 4} {c : Dev nD} :
    segAny (F := F) M q c ⊢ iprop(∃ v, seg (F := F) M q c v) := by unfold segAny; exact BI.Entails.refl _

/-! ## The quarters' payloads are the first quarter's -/

theorem pay3_eq : @k0_pay3 F _ = k0_pay2 := rfl
theorem pay4_eq : @k0_pay4 F _ = k0_pay2 := rfl
theorem pay5_eq : @k0_pay5 F _ = k0_pay2 := rfl
theorem pay7_eq : @k0_pay7 F _ = k0_pay6 := rfl
theorem pay10_eq : @k0_pay10 F _ = k0_pay6 := rfl
theorem pay13_eq : @k0_pay13 F _ = k0_pay11 := rfl
theorem pay15_eq : @k0_pay15 F _ = k0_pay11 := rfl
theorem pay17_eq : @k0_pay17 F _ = k0_pay11 := rfl
theorem pay14_eq : @k0_pay14 F _ = k0_pay12 := rfl
theorem pay16_eq : @k0_pay16 F _ = k0_pay12 := rfl
theorem pay18_eq : @k0_pay18 F _ = k0_pay12 := rfl
theorem pay21_eq : @k0_pay21 F _ = k0_pay19 := rfl
theorem pay23_eq : @k0_pay23 F _ = k0_pay19 := rfl
theorem pay25_eq : @k0_pay25 F _ = k0_pay19 := rfl
theorem pay22_eq : @k0_pay22 F _ = k0_pay20 := rfl
theorem pay24_eq : @k0_pay24 F _ = k0_pay20 := rfl
theorem pay26_eq : @k0_pay26 F _ = k0_pay20 := rfl
theorem pay28_eq : @k0_pay28 F _ = k0_pay27 := rfl
theorem pay29_eq : @k0_pay29 F _ = k0_pay27 := rfl
theorem pay1_eq : @k0_pay1 F _ = k0_pay27 := rfl
theorem pay9_eq (a b : Vec F S1x256 .i32) (y : Vec F S2560x1024 .bf16) : k0_pay9 (k0_pay8 a b) y = k0_pay6 a b y := rfl

theorem sendP0 (c : Dev nD) : sendPay Y T c 0 = seg (sM 0) 0 c (sentY Y T c 0) := rfl
theorem recvP0 (c : Dev nD) : recvPay Y T c 0 = seg (rM 0) 0 c (sentY Y T (pe 0 c) 0) := rfl
theorem sendP1 (c : Dev nD) : sendPay Y T c 1 = seg (sM 0) 1 c (sentY Y T c 1) := rfl
theorem recvP1 (c : Dev nD) : recvPay Y T c 1 = seg (rM 0) 1 c (sentY Y T (pe 0 c) 1) := rfl
theorem sendP2 (c : Dev nD) : sendPay Y T c 2 = seg (sM 0) 2 c (sentY Y T c 2) := rfl
theorem recvP2 (c : Dev nD) : recvPay Y T c 2 = seg (rM 0) 2 c (sentY Y T (pe 0 c) 2) := rfl
theorem sendP3 (c : Dev nD) : sendPay Y T c 3 = seg (sM 0) 3 c (sentY Y T c 3) := rfl
theorem recvP3 (c : Dev nD) : recvPay Y T c 3 = seg (rM 0) 3 c (sentY Y T (pe 0 c) 3) := rfl
theorem sendP4 (c : Dev nD) : sendPay Y T c 4 = seg (sM 1) 0 c (sentX Y T c 0) := rfl
theorem recvP4 (c : Dev nD) : recvPay Y T c 4 = seg (rM 1) 0 c (sentX Y T (pe 1 c) 0) := rfl
theorem sendP5 (c : Dev nD) : sendPay Y T c 5 = seg (sM 1) 1 c (sentX Y T c 1) := rfl
theorem recvP5 (c : Dev nD) : recvPay Y T c 5 = seg (rM 1) 1 c (sentX Y T (pe 1 c) 1) := rfl
theorem sendP6 (c : Dev nD) : sendPay Y T c 6 = seg (sM 1) 2 c (sentX Y T c 2) := rfl
theorem recvP6 (c : Dev nD) : recvPay Y T c 6 = seg (rM 1) 2 c (sentX Y T (pe 1 c) 2) := rfl
theorem sendP7 (c : Dev nD) : sendPay Y T c 7 = seg (sM 1) 3 c (sentX Y T c 3) := rfl
theorem recvP7 (c : Dev nD) : recvPay Y T c 7 = seg (rM 1) 3 c (sentX Y T (pe 1 c) 3) := rfl
theorem sendP8 (c : Dev nD) : sendPay Y T c 8 = seg (sM 2) 0 c (sentZ Y T c 0) := rfl
theorem recvP8 (c : Dev nD) : recvPay Y T c 8 = seg (rM 2) 0 c (sentZ Y T (pe 2 c) 0) := rfl
theorem sendP9 (c : Dev nD) : sendPay Y T c 9 = seg (sM 2) 1 c (sentZ Y T c 1) := rfl
theorem recvP9 (c : Dev nD) : recvPay Y T c 9 = seg (rM 2) 1 c (sentZ Y T (pe 2 c) 1) := rfl
theorem sendP10 (c : Dev nD) : sendPay Y T c 10 = seg (sM 2) 2 c (sentZ Y T c 2) := rfl
theorem recvP10 (c : Dev nD) : recvPay Y T c 10 = seg (rM 2) 2 c (sentZ Y T (pe 2 c) 2) := rfl
theorem sendP11 (c : Dev nD) : sendPay Y T c 11 = seg (sM 2) 3 c (sentZ Y T c 3) := rfl
theorem recvP11 (c : Dev nD) : recvPay Y T c 11 = seg (rM 2) 3 c (sentZ Y T (pe 2 c) 3) := rfl

theorem part1_wp (c : Dev nD) (Kt : (Σ' (d0 : Dev nD) (v2 : BitVec 32) (v5 : BitVec 32) (v8 : BitVec 32) (v9 : BitVec 32) (v10 : BitVec 32) (v11 : BitVec 32), Sems sig S_) → sProp 𝕄) :
    iprop((recs Y T K ∗ oweX c (owe0 c) ∗ dutyTok ER (barCell (pe 0 c)) 0 (0 : Fin 3) ∗ dutyTok ER (barCell (pe 1 c)) 0 (1 : Fin 3) ∗ dutyTok ER (barCell (pe 2 c)) 0 (2 : Fin 3) ∗ segAny (F := F) (rM 0) 0 c ∗ segAny (F := F) (rM 0) 1 c ∗ segAny (F := F) (rM 0) 2 c ∗ segAny (F := F) (rM 0) 3 c ∗ segAny (F := F) (rM 1) 0 c ∗ segAny (F := F) (rM 1) 1 c ∗ segAny (F := F) (rM 1) 2 c ∗ segAny (F := F) (rM 1) 3 c ∗ segAny (F := F) (rM 2) 0 c ∗ segAny (F := F) (rM 2) 1 c ∗ segAny (F := F) (rM 2) 2 c ∗ segAny (F := F) (rM 2) 3 c)
      ∗ (∀ w2 w5 w8 w9 w10 w11, (oweX c (oweS c 12)) -∗ Kt ⟨c, w2, w5, w8, w9, w10, w11, (SemArray.scalar (sig.barrier 1 rfl) : Sems sig S_)⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 ) Kt := by
  simp only [k0_part1_eq_skeleton]; unfold k0_part1_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Howe, Ht0, Ht1, Ht2, Hown0, Hown1, Hown2, Hown3, Hown4, Hown5, Hown6, Hown7, Hown8, Hown9, Hown10, Hown11⟩, Hk⟩
  iapply (step_signal Y T K c _ 0 (dev1_eq c) (owe0 c) (owe1 c) rfl) $$ [Howe Ht0 Hown0 Hown1 Hown2 Hown3]
  · isplitr; · iexact Hr
    isplitl [Howe]; · iexact Howe
    isplitl [Ht0]; · iexact Ht0
    isplitl [Hown0]; · iexact Hown0
    isplitl [Hown1]; · iexact Hown1
    isplitl [Hown2]; · iexact Hown2
    iexact Hown3
  iintro Howe
  iapply (step_signal Y T K c _ 1 (dev2_eq c) (owe1 c) (owe2 c) rfl) $$ [Howe Ht1 Hown4 Hown5 Hown6 Hown7]
  · isplitr; · iexact Hr
    isplitl [Howe]; · iexact Howe
    isplitl [Ht1]; · iexact Ht1
    isplitl [Hown4]; · iexact Hown4
    isplitl [Hown5]; · iexact Hown5
    isplitl [Hown6]; · iexact Hown6
    iexact Hown7
  iintro Howe
  iapply (step_signal Y T K c _ 2 (dev3_eq c) (owe2 c) (oweS c 12) rfl) $$ [Howe Ht2 Hown8 Hown9 Hown10 Hown11]
  · isplitr; · iexact Hr
    isplitl [Howe]; · iexact Howe
    isplitl [Ht2]; · iexact Ht2
    isplitl [Hown8]; · iexact Hown8
    isplitl [Hown9]; · iexact Hown9
    isplitl [Hown10]; · iexact Hown10
    iexact Hown11
  iintro Howe
  rw [wp_ret]; imodintro
  iapply Hk
  iexact Howe

theorem part2_wp (c : Dev nD) (v2 v5 v8 v9 : BitVec 32) (Kt : PUnit → sProp 𝕄) :
    iprop((recs Y T K ∗ oweX c (oweS c 12) ∗ atPos ER (barCell c) 0 ∅ 0 ∗ cred (tallyAt (barCell c) () 3) ∗ ptT T c ∗ ptY Y c ∗ segAny (F := F) (sM 0) 0 c)
      ∗ ((oweX c (oweS c 12) ∗ segAny (F := F) (rM 0) 0 (pe 0 c) ∗ segAny (F := F) (rM 0) 1 (pe 0 c) ∗ segAny (F := F) (rM 0) 2 (pe 0 c) ∗ segAny (F := F) (rM 0) 3 (pe 0 c) ∗ segAny (F := F) (rM 1) 0 (pe 1 c) ∗ segAny (F := F) (rM 1) 1 (pe 1 c) ∗ segAny (F := F) (rM 1) 2 (pe 1 c) ∗ segAny (F := F) (rM 1) 3 (pe 1 c) ∗ segAny (F := F) (rM 2) 0 (pe 2 c) ∗ segAny (F := F) (rM 2) 1 (pe 2 c) ∗ segAny (F := F) (rM 2) 2 (pe 2 c) ∗ segAny (F := F) (rM 2) 3 (pe 2 c) ∗ semVal (barCell c) 0 ∗ ptT T c ∗ ptY Y c ∗ seg (sM 0) 0 c (sentY Y T c 0)) -∗ Kt ⟨⟩))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v5 v8 v9 (SemArray.scalar (sig.barrier 1 rfl) : Sems sig S_)) Kt := by
  simp only [k0_part2_eq_skeleton]; unfold k0_part2_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Howe, HatB, HcB, HT, HY, Hsnd0⟩, Hk⟩
  iapply (step_barrier Y T K c) $$ [Howe HatB HcB]
  · isplitr; · iexact Hr
    isplitl [Howe]; · iexact Howe
    isplitl [HatB]; · iexact HatB
    iexact HcB
  iintro ⟨Hb0, Hb1, Hb2, HzB, Howe⟩
  unfold barPay
  icases Hb0 with ⟨Hdst0, Hdst1, Hdst2, Hdst3⟩
  icases Hb1 with ⟨Hdst4, Hdst5, Hdst6, Hdst7⟩
  icases Hb2 with ⟨Hdst8, Hdst9, Hdst10, Hdst11⟩
  iapply (step_load1 T c 0) $$ HT; iintro HT
  iapply (step_load2 T c 0) $$ HT; iintro HT
  iapply (step_loadY Y c) $$ HY; iintro HY
  ihave Hsnd0 := (segAny_elim (F := F)) $$ Hsnd0; icases Hsnd0 with ⟨%vsnd0, Hsnd0⟩
  iapply (wp_load_seg (sM 0) 0 c vsnd0) $$ Hsnd0; iintro Hsnd0
  iapply (wp_store_seg (sM 0) 0 c vsnd0 (sentY Y T c 0)) $$ Hsnd0; iintro Hsnd0
  rw [wp_ret]; imodintro
  iapply Hk
  isplitl [Howe]; · iexact Howe
  isplitl [Hdst0]; · iexact Hdst0
  isplitl [Hdst1]; · iexact Hdst1
  isplitl [Hdst2]; · iexact Hdst2
  isplitl [Hdst3]; · iexact Hdst3
  isplitl [Hdst4]; · iexact Hdst4
  isplitl [Hdst5]; · iexact Hdst5
  isplitl [Hdst6]; · iexact Hdst6
  isplitl [Hdst7]; · iexact Hdst7
  isplitl [Hdst8]; · iexact Hdst8
  isplitl [Hdst9]; · iexact Hdst9
  isplitl [Hdst10]; · iexact Hdst10
  isplitl [Hdst11]; · iexact Hdst11
  isplitl [HzB]; · iexact HzB
  isplitl [HT]; · iexact HT
  isplitl [HY]; · iexact HY
  iexact Hsnd0

theorem part3_wp (c : Dev nD) (v2 v5 v8 v9 : BitVec 32) (Kt : PUnit → sProp 𝕄) :
    iprop((recs Y T K ∗ seg (sM 0) 0 c (sentY Y T c 0) ∗ segAny (F := F) (rM 0) 0 (pe 0 c) ∗ oweX c (oweS c 12) ∗ E0 (F := F) c 0 ∗ ptT T c ∗ ptY Y c ∗ segAny (F := F) (sM 0) 1 c)
      ∗ ((oweX c (oweS c 11) ∗ ES (F := F) c 0 ∗ ER' (F := F) c 0 ∗ ptT T c ∗ ptY Y c ∗ seg (sM 0) 1 c (sentY Y T c 1)) -∗ Kt ⟨⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v5 v8 v9) Kt := by
  simp only [k0_part3_eq_skeleton]; unfold k0_part3_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd0, Hdst0, Howe, HE0, HT, HY, Hsnd1⟩, Hk⟩
  ihave Hsnd0 := (Entails.of_eq (sendP0 Y T c).symm) $$ Hsnd0
  iapply (step_send Y T K c _ 0 (dev4_eq c)) $$ [Hsnd0 Hdst0 Howe HE0]
  · isplitr; · iexact Hr
    isplitl [Hsnd0]; · iexact Hsnd0
    isplitl [Hdst0]; · iexact Hdst0
    isplitl [Howe]; · iexact Howe
    iexact HE0
  iintro ⟨HES0, HER0, Howe⟩
  iapply (step_load1 T c 1) $$ HT; iintro HT
  iapply (step_load2 T c 1) $$ HT; iintro HT
  iapply (step_loadY Y c) $$ HY; iintro HY
  ihave Hsnd1 := (segAny_elim (F := F)) $$ Hsnd1; icases Hsnd1 with ⟨%vsnd1, Hsnd1⟩
  iapply (wp_load_seg (sM 0) 1 c vsnd1) $$ Hsnd1; iintro Hsnd1
  iapply (wp_store_seg (sM 0) 1 c vsnd1 (sentY Y T c 1)) $$ Hsnd1; iintro Hsnd1
  rw [wp_ret]; imodintro
  iapply Hk
  isplitl [Howe]; · iexact Howe
  isplitl [HES0]; · iexact HES0
  isplitl [HER0]; · iexact HER0
  isplitl [HT]; · iexact HT
  isplitl [HY]; · iexact HY
  iexact Hsnd1

theorem part4_wp (c : Dev nD) (v2 v5 v9 : BitVec 32) (Kt : BitVec 32 → sProp 𝕄) :
    iprop((recs Y T K ∗ seg (sM 0) 1 c (sentY Y T c 1) ∗ segAny (F := F) (rM 0) 1 (pe 0 c) ∗ oweX c (oweS c 11) ∗ E0 (F := F) c 1 ∗ ptT T c ∗ ptY Y c ∗ segAny (F := F) (sM 0) 2 c)
      ∗ (∀ w, (oweX c (oweS c 10) ∗ ES (F := F) c 1 ∗ ER' (F := F) c 1 ∗ ptT T c ∗ ptY Y c ∗ seg (sM 0) 2 c (sentY Y T c 2)) -∗ Kt w))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v5 v9) Kt := by
  simp only [k0_part4_eq_skeleton]; unfold k0_part4_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd1, Hdst1, Howe, HE1, HT, HY, Hsnd2⟩, Hk⟩
  ihave Hsnd1 := (Entails.of_eq (sendP1 Y T c).symm) $$ Hsnd1
  iapply (step_send Y T K c _ 1 (dev5_eq c)) $$ [Hsnd1 Hdst1 Howe HE1]
  · isplitr; · iexact Hr
    isplitl [Hsnd1]; · iexact Hsnd1
    isplitl [Hdst1]; · iexact Hdst1
    isplitl [Howe]; · iexact Howe
    iexact HE1
  iintro ⟨HES1, HER1, Howe⟩
  iapply (step_load1 T c 2) $$ HT; iintro HT
  iapply (step_load2 T c 2) $$ HT; iintro HT
  iapply (step_loadY Y c) $$ HY; iintro HY
  ihave Hsnd2 := (segAny_elim (F := F)) $$ Hsnd2; icases Hsnd2 with ⟨%vsnd2, Hsnd2⟩
  iapply (wp_load_seg (sM 0) 2 c vsnd2) $$ Hsnd2; iintro Hsnd2
  iapply (wp_store_seg (sM 0) 2 c vsnd2 (sentY Y T c 2)) $$ Hsnd2; iintro Hsnd2
  rw [wp_ret]; imodintro
  iapply Hk
  isplitl [Howe]; · iexact Howe
  isplitl [HES1]; · iexact HES1
  isplitl [HER1]; · iexact HER1
  isplitl [HT]; · iexact HT
  isplitl [HY]; · iexact HY
  iexact Hsnd2

theorem part5_wp (c : Dev nD) (v2 v5 v8 v148 : BitVec 32) (Kt : (Σ' (v187 : BitVec 32), BitVec 32) → sProp 𝕄) :
    iprop((recs Y T K ∗ seg (sM 0) 2 c (sentY Y T c 2) ∗ segAny (F := F) (rM 0) 2 (pe 0 c) ∗ oweX c (oweS c 10) ∗ E0 (F := F) c 2 ∗ ptT T c ∗ ptY Y c ∗ segAny (F := F) (sM 0) 3 c)
      ∗ (∀ w w', (oweX c (oweS c 9) ∗ ES (F := F) c 2 ∗ ER' (F := F) c 2 ∗ ptT T c ∗ ptY Y c ∗ seg (sM 0) 3 c (sentY Y T c 3)) -∗ Kt ⟨w, w'⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v5 v8 v148) Kt := by
  simp only [k0_part5_eq_skeleton]; unfold k0_part5_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd2, Hdst2, Howe, HE2, HT, HY, Hsnd3⟩, Hk⟩
  ihave Hsnd2 := (Entails.of_eq (sendP2 Y T c).symm) $$ Hsnd2
  iapply (step_send Y T K c _ 2 (dev6_eq c)) $$ [Hsnd2 Hdst2 Howe HE2]
  · isplitr; · iexact Hr
    isplitl [Hsnd2]; · iexact Hsnd2
    isplitl [Hdst2]; · iexact Hdst2
    isplitl [Howe]; · iexact Howe
    iexact HE2
  iintro ⟨HES2, HER2, Howe⟩
  iapply (step_load1 T c 3) $$ HT; iintro HT
  iapply (step_load2 T c 3) $$ HT; iintro HT
  iapply (step_loadY Y c) $$ HY; iintro HY
  ihave Hsnd3 := (segAny_elim (F := F)) $$ Hsnd3; icases Hsnd3 with ⟨%vsnd3, Hsnd3⟩
  iapply (wp_load_seg (sM 0) 3 c vsnd3) $$ Hsnd3; iintro Hsnd3
  iapply (wp_store_seg (sM 0) 3 c vsnd3 (sentY Y T c 3)) $$ Hsnd3; iintro Hsnd3
  rw [wp_ret]; imodintro
  iapply Hk
  isplitl [Howe]; · iexact Howe
  isplitl [HES2]; · iexact HES2
  isplitl [HER2]; · iexact HER2
  isplitl [HT]; · iexact HT
  isplitl [HY]; · iexact HY
  iexact Hsnd3

theorem part6_wp (c : Dev nD) (v5 v8 v9 v187 c0_i32_83 : BitVec 32) (Kt : BitVec 32 → sProp 𝕄) :
    iprop((recs Y T K ∗ seg (sM 0) 3 c (sentY Y T c 3) ∗ segAny (F := F) (rM 0) 3 (pe 0 c) ∗ oweX c (oweS c 9) ∗ E0 (F := F) c 3 ∗ ptT T c ∗ ptY Y c ∗ segAny (F := F) aM 0 c)
      ∗ (∀ w, (oweX c (oweS c 8) ∗ ES (F := F) c 3 ∗ ER' (F := F) c 3 ∗ ptT T c ∗ ptY Y c ∗ seg aM 0 c (acc0 Y T c 0)) -∗ Kt w))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v8 v9 v187 c0_i32_83) Kt := by
  simp only [k0_part6_eq_skeleton]; unfold k0_part6_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd3, Hdst3, Howe, HE3, HT, HY, Hacc0⟩, Hk⟩
  ihave Hsnd3 := (Entails.of_eq (sendP3 Y T c).symm) $$ Hsnd3
  iapply (step_send Y T K c _ 3 (dev7_eq c)) $$ [Hsnd3 Hdst3 Howe HE3]
  · isplitr; · iexact Hr
    isplitl [Hsnd3]; · iexact Hsnd3
    isplitl [Hdst3]; · iexact Hdst3
    isplitl [Howe]; · iexact Howe
    iexact HE3
  iintro ⟨HES3, HER3, Howe⟩
  iapply (step_load3 T c 0) $$ HT; iintro HT
  iapply (step_load4 T c 0) $$ HT; iintro HT
  iapply (step_loadY Y c) $$ HY; iintro HY
  ihave Hacc0 := (segAny_elim (F := F)) $$ Hacc0; icases Hacc0 with ⟨%vacc0, Hacc0⟩
  iapply (wp_load_seg aM 0 c vacc0) $$ Hacc0; iintro Hacc0
  iapply (wp_store_seg aM 0 c vacc0 (acc0 Y T c 0)) $$ Hacc0; iintro Hacc0
  rw [wp_ret]; imodintro
  iapply Hk
  isplitl [Howe]; · iexact Howe
  isplitl [HES3]; · iexact HES3
  isplitl [HER3]; · iexact HER3
  isplitl [HT]; · iexact HT
  isplitl [HY]; · iexact HY
  iexact Hacc0

theorem part7_wp (c : Dev nD) (v5 v228 : BitVec 32) (Kt : (FVec F S256x2560 .bf16) → sProp 𝕄) :
    iprop((recs Y T K ∗ ptT T c ∗ ptY Y c ∗ segAny (F := F) aM 1 c)
      ∗ ((ptT T c ∗ ptY Y c ∗ seg aM 1 c (acc0 Y T c 1)) -∗ Kt (k0_pay8 (t3 T c 2) (t4 T c 2))))
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v228) Kt := by
  simp only [k0_part7_eq_skeleton]; unfold k0_part7_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HT, HY, Hacc1⟩, Hk⟩
  iapply (step_load3 T c 1) $$ HT; iintro HT
  iapply (step_load4 T c 1) $$ HT; iintro HT
  iapply (step_loadY Y c) $$ HY; iintro HY
  ihave Hacc1 := (segAny_elim (F := F)) $$ Hacc1; icases Hacc1 with ⟨%vacc1, Hacc1⟩
  iapply (wp_load_seg aM 1 c vacc1) $$ Hacc1; iintro Hacc1
  iapply (wp_store_seg aM 1 c vacc1 (acc0 Y T c 1)) $$ Hacc1; iintro Hacc1
  iapply (step_load3 T c 2) $$ HT; iintro HT
  iapply (step_load4 T c 2) $$ HT; iintro HT
  rw [wp_ret]; imodintro
  iapply Hk
  isplitl [HT]; · iexact HT
  isplitl [HY]; · iexact HY
  iexact Hacc1

theorem part8_wp (c : Dev nD) (v5 : BitVec 32) (Kt : PUnit → sProp 𝕄) :
    iprop((recs Y T K ∗ ptY Y c ∗ segAny (F := F) aM 2 c ∗ ptT T c ∗ segAny (F := F) aM 3 c)
      ∗ ((ptY Y c ∗ seg aM 2 c (acc0 Y T c 2) ∗ ptT T c ∗ seg aM 3 c (acc0 Y T c 3)) -∗ Kt ⟨⟩))
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 (k0_pay8 (t3 T c 2) (t4 T c 2))) Kt := by
  simp only [k0_part8_eq_skeleton]; unfold k0_part8_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HY, Hacc2, HT, Hacc3⟩, Hk⟩
  iapply (step_loadY Y c) $$ HY; iintro HY
  ihave Hacc2 := (segAny_elim (F := F)) $$ Hacc2; icases Hacc2 with ⟨%vacc2, Hacc2⟩
  iapply (wp_load_seg aM 2 c vacc2) $$ Hacc2; iintro Hacc2
  iapply (wp_store_seg aM 2 c vacc2 (acc0 Y T c 2)) $$ Hacc2; iintro Hacc2
  iapply (step_load3 T c 3) $$ HT; iintro HT
  iapply (step_load4 T c 3) $$ HT; iintro HT
  iapply (step_loadY Y c) $$ HY; iintro HY
  ihave Hacc3 := (segAny_elim (F := F)) $$ Hacc3; icases Hacc3 with ⟨%vacc3, Hacc3⟩
  iapply (wp_load_seg aM 3 c vacc3) $$ Hacc3; iintro Hacc3
  iapply (wp_store_seg aM 3 c vacc3 (acc0 Y T c 3)) $$ Hacc3; iintro Hacc3
  rw [wp_ret]; imodintro
  iapply Hk
  isplitl [HY]; · iexact HY
  isplitl [Hacc2]; · iexact Hacc2
  isplitl [HT]; · iexact HT
  iexact Hacc3

theorem part9_wp (c : Dev nD) (v2 v5 v8 v9 v10 : BitVec 32) (Kt : PUnit → sProp 𝕄) :
    iprop((recs Y T K ∗ ES (F := F) c 0 ∗ oweX c (oweS c 8) ∗ ER' (F := F) c 0 ∗ seg aM 0 c (acc0 Y T c 0) ∗ segAny (F := F) (sM 1) 0 c)
      ∗ ((oweX c (oweS c 8) ∗ seg (sM 0) 0 c (sentY Y T c 0) ∗ semVal (sendCell c 0) 0 ∗ seg (rM 0) 0 c (sentY Y T (pe 0 c) 0) ∗ semVal (recvCell c 0) 0 ∗ seg aM 0 c (acc1 Y T c 0) ∗ seg (sM 1) 0 c (sentX Y T c 0)) -∗ Kt ⟨⟩))
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v8 v9 v10) Kt := by
  simp only [k0_part9_eq_skeleton]; unfold k0_part9_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HES0, Howe, HER0, Hacc0, Hsnd4⟩, Hk⟩
  iapply (step_waitS Y T K c 0 8 (by decide) (N_s 0 0)) $$ [HES0 Howe]
  · isplitr; · iexact Hr
    isplitl [HES0]; · iexact HES0
    iexact Howe
  iintro ⟨Hsnd0, HzS0, Howe⟩
  ihave Hsnd0 := (Entails.of_eq (sendP0 Y T c)) $$ Hsnd0
  iapply (step_waitR Y T K c 0 8 (by decide) (N_r 0 0)) $$ [HER0 Howe]
  · isplitr; · iexact Hr
    isplitl [HER0]; · iexact HER0
    iexact Howe
  iintro ⟨Hrcv0, HzR0, Howe⟩
  ihave Hrcv0 := (Entails.of_eq (recvP0 Y T c)) $$ Hrcv0
  iapply (wp_load_seg aM 0 c (acc0 Y T c 0)) $$ Hacc0; iintro Hacc0
  iapply (wp_load_seg (rM 0) 0 c (sentY Y T (pe 0 c) 0)) $$ Hrcv0; iintro Hrcv0
  iapply (wp_load_seg aM 0 c (acc0 Y T c 0)) $$ Hacc0; iintro Hacc0
  iapply (wp_store_seg aM 0 c (acc0 Y T c 0) (acc1 Y T c 0)) $$ Hacc0; iintro Hacc0
  iapply (wp_load_seg aM 0 c (acc1 Y T c 0)) $$ Hacc0; iintro Hacc0
  ihave Hsnd4 := (segAny_elim (F := F)) $$ Hsnd4; icases Hsnd4 with ⟨%vsnd4, Hsnd4⟩
  iapply (wp_load_seg (sM 1) 0 c vsnd4) $$ Hsnd4; iintro Hsnd4
  iapply (wp_store_seg (sM 1) 0 c vsnd4 (sentX Y T c 0)) $$ Hsnd4; iintro Hsnd4
  rw [wp_ret]; imodintro
  iapply Hk
  isplitl [Howe]; · iexact Howe
  isplitl [Hsnd0]; · iexact Hsnd0
  isplitl [HzS0]; · iexact HzS0
  isplitl [Hrcv0]; · iexact Hrcv0
  isplitl [HzR0]; · iexact HzR0
  isplitl [Hacc0]; · iexact Hacc0
  iexact Hsnd4

theorem part10_wp (c : Dev nD) (v2 v8 v9 : BitVec 32) (Kt : (Vec F S256x1024 .f32) → sProp 𝕄) :
    iprop((recs Y T K ∗ seg (sM 1) 0 c (sentX Y T c 0) ∗ segAny (F := F) (rM 1) 0 (pe 1 c) ∗ oweX c (oweS c 8) ∗ E0 (F := F) c 4 ∗ ES (F := F) c 1 ∗ ER' (F := F) c 1 ∗ seg aM 1 c (acc0 Y T c 1))
      ∗ ((oweX c (oweS c 7) ∗ ES (F := F) c 4 ∗ ER' (F := F) c 4 ∗ seg (sM 0) 1 c (sentY Y T c 1) ∗ semVal (sendCell c 1) 0 ∗ seg (rM 0) 1 c (sentY Y T (pe 0 c) 1) ∗ semVal (recvCell c 1) 0 ∗ seg aM 1 c (acc1 Y T c 1)) -∗ Kt (acc1 Y T c 1)))
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v8 v9) Kt := by
  simp only [k0_part10_eq_skeleton]; unfold k0_part10_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd4, Hdst4, Howe, HE4, HES1, HER1, Hacc1⟩, Hk⟩
  ihave Hsnd4 := (Entails.of_eq (sendP4 Y T c).symm) $$ Hsnd4
  iapply (step_send Y T K c _ 4 (dev8_eq c)) $$ [Hsnd4 Hdst4 Howe HE4]
  · isplitr; · iexact Hr
    isplitl [Hsnd4]; · iexact Hsnd4
    isplitl [Hdst4]; · iexact Hdst4
    isplitl [Howe]; · iexact Howe
    iexact HE4
  iintro ⟨HES4, HER4, Howe⟩
  iapply (step_waitS Y T K c 1 7 (by decide) (N_s 0 1)) $$ [HES1 Howe]
  · isplitr; · iexact Hr
    isplitl [HES1]; · iexact HES1
    iexact Howe
  iintro ⟨Hsnd1, HzS1, Howe⟩
  ihave Hsnd1 := (Entails.of_eq (sendP1 Y T c)) $$ Hsnd1
  iapply (step_waitR Y T K c 1 7 (by decide) (N_r 0 1)) $$ [HER1 Howe]
  · isplitr; · iexact Hr
    isplitl [HER1]; · iexact HER1
    iexact Howe
  iintro ⟨Hrcv1, HzR1, Howe⟩
  ihave Hrcv1 := (Entails.of_eq (recvP1 Y T c)) $$ Hrcv1
  iapply (wp_load_seg aM 1 c (acc0 Y T c 1)) $$ Hacc1; iintro Hacc1
  iapply (wp_load_seg (rM 0) 1 c (sentY Y T (pe 0 c) 1)) $$ Hrcv1; iintro Hrcv1
  iapply (wp_load_seg aM 1 c (acc0 Y T c 1)) $$ Hacc1; iintro Hacc1
  iapply (wp_store_seg aM 1 c (acc0 Y T c 1) (acc1 Y T c 1)) $$ Hacc1; iintro Hacc1
  iapply (wp_load_seg aM 1 c (acc1 Y T c 1)) $$ Hacc1; iintro Hacc1
  rw [wp_ret]; imodintro
  iapply Hk
  isplitl [Howe]; · iexact Howe
  isplitl [HES4]; · iexact HES4
  isplitl [HER4]; · iexact HER4
  isplitl [Hsnd1]; · iexact Hsnd1
  isplitl [HzS1]; · iexact HzS1
  isplitl [Hrcv1]; · iexact Hrcv1
  isplitl [HzR1]; · iexact HzR1
  iexact Hacc1

theorem part11_wp (c : Dev nD) (v2 v5 v8 v9 v10 : BitVec 32) (Kt : PUnit → sProp 𝕄) :
    iprop((recs Y T K ∗ segAny (F := F) (sM 1) 1 c ∗ segAny (F := F) (rM 1) 1 (pe 1 c) ∗ oweX c (oweS c 7) ∗ E0 (F := F) c 5 ∗ ES (F := F) c 2)
      ∗ ((oweX c (oweS c 6) ∗ ES (F := F) c 5 ∗ ER' (F := F) c 5 ∗ seg (sM 0) 2 c (sentY Y T c 2) ∗ semVal (sendCell c 2) 0) -∗ Kt ⟨⟩))
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v5 v8 v9 v10 (acc1 Y T c 1)) Kt := by
  simp only [k0_part11_eq_skeleton]; unfold k0_part11_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd5, Hdst5, Howe, HE5, HES2⟩, Hk⟩
  ihave Hsnd5 := (segAny_elim (F := F)) $$ Hsnd5; icases Hsnd5 with ⟨%vsnd5, Hsnd5⟩
  iapply (wp_load_seg (sM 1) 1 c vsnd5) $$ Hsnd5; iintro Hsnd5
  iapply (wp_store_seg (sM 1) 1 c vsnd5 (sentX Y T c 1)) $$ Hsnd5; iintro Hsnd5
  ihave Hsnd5 := (Entails.of_eq (sendP5 Y T c).symm) $$ Hsnd5
  iapply (step_send Y T K c _ 5 (dev9_eq c)) $$ [Hsnd5 Hdst5 Howe HE5]
  · isplitr; · iexact Hr
    isplitl [Hsnd5]; · iexact Hsnd5
    isplitl [Hdst5]; · iexact Hdst5
    isplitl [Howe]; · iexact Howe
    iexact HE5
  iintro ⟨HES5, HER5, Howe⟩
  iapply (step_waitS Y T K c 2 6 (by decide) (N_s 0 2)) $$ [HES2 Howe]
  · isplitr; · iexact Hr
    isplitl [HES2]; · iexact HES2
    iexact Howe
  iintro ⟨Hsnd2, HzS2, Howe⟩
  ihave Hsnd2 := (Entails.of_eq (sendP2 Y T c)) $$ Hsnd2
  rw [wp_ret]; imodintro
  iapply Hk
  isplitl [Howe]; · iexact Howe
  isplitl [HES5]; · iexact HES5
  isplitl [HER5]; · iexact HER5
  isplitl [Hsnd2]; · iexact Hsnd2
  iexact HzS2

end Cert.KernelIdeal.Comb

end
-- ==== Proof.PartsB.lean ====
/-
# The reduce-scatter kernel: the rules of its printed parts (second half)

One rule per printed part of the body: what the part needs, what it leaves.
-/
module

public import proofs.«01_k».proof.Proof.PartsA

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Y : Dev nD → Vec F S2560x1024 .bf16) (T : Dev nD → Vec F S2x2048 .i32) (K : Dev nD × CK → ℕ)

theorem part12_wp (c : Dev nD) (v5 v8 v10 : BitVec 32) (Kt : PUnit → sProp 𝕄) :
    iprop((recs Y T K ∗ ER' (F := F) c 2 ∗ oweX c (oweS c 6) ∗ seg aM 2 c (acc0 Y T c 2) ∗ segAny (F := F) (sM 1) 2 c ∗ segAny (F := F) (rM 1) 2 (pe 1 c) ∗ E0 (F := F) c 6)
      ∗ ((oweX c (oweS c 5) ∗ seg (rM 0) 2 c (sentY Y T (pe 0 c) 2) ∗ semVal (recvCell c 2) 0 ∗ seg aM 2 c (acc1 Y T c 2) ∗ ES (F := F) c 6 ∗ ER' (F := F) c 6) -∗ Kt ⟨⟩))
      ⊢ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v8 v10) Kt := by
  simp only [k0_part12_eq_skeleton]; unfold k0_part12_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HER2, Howe, Hacc2, Hsnd6, Hdst6, HE6⟩, Hk⟩
  iapply (step_waitR Y T K c 2 6 (by decide) (N_r 0 2)) $$ [HER2 Howe]
  · isplitr; · iexact Hr
    isplitl [HER2]; · iexact HER2
    iexact Howe
  iintro ⟨Hrcv2, HzR2, Howe⟩
  ihave Hrcv2 := (Entails.of_eq (recvP2 Y T c)) $$ Hrcv2
  iapply (wp_load_seg aM 2 c (acc0 Y T c 2)) $$ Hacc2; iintro Hacc2
  iapply (wp_load_seg (rM 0) 2 c (sentY Y T (pe 0 c) 2)) $$ Hrcv2; iintro Hrcv2
  iapply (wp_load_seg aM 2 c (acc0 Y T c 2)) $$ Hacc2; iintro Hacc2
  iapply (wp_store_seg aM 2 c (acc0 Y T c 2) (acc1 Y T c 2)) $$ Hacc2; iintro Hacc2
  iapply (wp_load_seg aM 2 c (acc1 Y T c 2)) $$ Hacc2; iintro Hacc2
  ihave Hsnd6 := (segAny_elim (F := F)) $$ Hsnd6; icases Hsnd6 with ⟨%vsnd6, Hsnd6⟩
  iapply (wp_load_seg (sM 1) 2 c vsnd6) $$ Hsnd6; iintro Hsnd6
  iapply (wp_store_seg (sM 1) 2 c vsnd6 (sentX Y T c 2)) $$ Hsnd6; iintro Hsnd6
  ihave Hsnd6 := (Entails.of_eq (sendP6 Y T c).symm) $$ Hsnd6
  iapply (step_send Y T K c _ 6 (dev10_eq c)) $$ [Hsnd6 Hdst6 Howe HE6]
  · isplitr; · iexact Hr
    isplitl [Hsnd6]; · iexact Hsnd6
    isplitl [Hdst6]; · iexact Hdst6
    isplitl [Howe]; · iexact Howe
    iexact HE6
  iintro ⟨HES6, HER6, Howe⟩
  rw [wp_ret]; imodintro
  iapply Hk
  isplitl [Howe]; · iexact Howe
  isplitl [Hrcv2]; · iexact Hrcv2
  isplitl [HzR2]; · iexact HzR2
  isplitl [Hacc2]; · iexact Hacc2
  isplitl [HES6]; · iexact HES6
  iexact HER6

theorem part13_wp (c : Dev nD) (v2 v5 v8 v9 v10 : BitVec 32) (Kt : PUnit → sProp 𝕄) :
    iprop((recs Y T K ∗ ES (F := F) c 3 ∗ oweX c (oweS c 5) ∗ ER' (F := F) c 3 ∗ seg aM 3 c (acc0 Y T c 3) ∗ segAny (F := F) (sM 1) 3 c)
      ∗ ((oweX c (oweS c 5) ∗ seg (sM 0) 3 c (sentY Y T c 3) ∗ semVal (sendCell c 3) 0 ∗ seg (rM 0) 3 c (sentY Y T (pe 0 c) 3) ∗ semVal (recvCell c 3) 0 ∗ seg aM 3 c (acc1 Y T c 3) ∗ seg (sM 1) 3 c (sentX Y T c 3)) -∗ Kt ⟨⟩))
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v8 v9 v10) Kt := by
  simp only [k0_part13_eq_skeleton]; unfold k0_part13_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HES3, Howe, HER3, Hacc3, Hsnd7⟩, Hk⟩
  iapply (step_waitS Y T K c 3 5 (by decide) (N_s 0 3)) $$ [HES3 Howe]
  · isplitr; · iexact Hr
    isplitl [HES3]; · iexact HES3
    iexact Howe
  iintro ⟨Hsnd3, HzS3, Howe⟩
  ihave Hsnd3 := (Entails.of_eq (sendP3 Y T c)) $$ Hsnd3
  iapply (step_waitR Y T K c 3 5 (by decide) (N_r 0 3)) $$ [HER3 Howe]
  · isplitr; · iexact Hr
    isplitl [HER3]; · iexact HER3
    iexact Howe
  iintro ⟨Hrcv3, HzR3, Howe⟩
  ihave Hrcv3 := (Entails.of_eq (recvP3 Y T c)) $$ Hrcv3
  iapply (wp_load_seg aM 3 c (acc0 Y T c 3)) $$ Hacc3; iintro Hacc3
  iapply (wp_load_seg (rM 0) 3 c (sentY Y T (pe 0 c) 3)) $$ Hrcv3; iintro Hrcv3
  iapply (wp_load_seg aM 3 c (acc0 Y T c 3)) $$ Hacc3; iintro Hacc3
  iapply (wp_store_seg aM 3 c (acc0 Y T c 3) (acc1 Y T c 3)) $$ Hacc3; iintro Hacc3
  iapply (wp_load_seg aM 3 c (acc1 Y T c 3)) $$ Hacc3; iintro Hacc3
  ihave Hsnd7 := (segAny_elim (F := F)) $$ Hsnd7; icases Hsnd7 with ⟨%vsnd7, Hsnd7⟩
  iapply (wp_load_seg (sM 1) 3 c vsnd7) $$ Hsnd7; iintro Hsnd7
  iapply (wp_store_seg (sM 1) 3 c vsnd7 (sentX Y T c 3)) $$ Hsnd7; iintro Hsnd7
  rw [wp_ret]; imodintro
  iapply Hk
  isplitl [Howe]; · iexact Howe
  isplitl [Hsnd3]; · iexact Hsnd3
  isplitl [HzS3]; · iexact HzS3
  isplitl [Hrcv3]; · iexact Hrcv3
  isplitl [HzR3]; · iexact HzR3
  isplitl [Hacc3]; · iexact Hacc3
  iexact Hsnd7

theorem part14_wp (c : Dev nD) (v5 v8 v10 : BitVec 32) (Kt : (Vec F S256x1024 .f32) → sProp 𝕄) :
    iprop((recs Y T K ∗ seg (sM 1) 3 c (sentX Y T c 3) ∗ segAny (F := F) (rM 1) 3 (pe 1 c) ∗ oweX c (oweS c 5) ∗ E0 (F := F) c 7 ∗ ES (F := F) c 4 ∗ ER' (F := F) c 4 ∗ seg aM 0 c (acc1 Y T c 0))
      ∗ ((oweX c (oweS c 4) ∗ ES (F := F) c 7 ∗ ER' (F := F) c 7 ∗ seg (sM 1) 0 c (sentX Y T c 0) ∗ semVal (sendCell c 4) 0 ∗ seg (rM 1) 0 c (sentX Y T (pe 1 c) 0) ∗ semVal (recvCell c 4) 0 ∗ seg aM 0 c (acc2 Y T c 0)) -∗ Kt (acc2 Y T c 0)))
      ⊢ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v8 v10) Kt := by
  simp only [k0_part14_eq_skeleton]; unfold k0_part14_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd7, Hdst7, Howe, HE7, HES4, HER4, Hacc0⟩, Hk⟩
  ihave Hsnd7 := (Entails.of_eq (sendP7 Y T c).symm) $$ Hsnd7
  iapply (step_send Y T K c _ 7 (dev11_eq c)) $$ [Hsnd7 Hdst7 Howe HE7]
  · isplitr; · iexact Hr
    isplitl [Hsnd7]; · iexact Hsnd7
    isplitl [Hdst7]; · iexact Hdst7
    isplitl [Howe]; · iexact Howe
    iexact HE7
  iintro ⟨HES7, HER7, Howe⟩
  iapply (step_waitS Y T K c 4 4 (by decide) (N_s 1 0)) $$ [HES4 Howe]
  · isplitr; · iexact Hr
    isplitl [HES4]; · iexact HES4
    iexact Howe
  iintro ⟨Hsnd4, HzS4, Howe⟩
  ihave Hsnd4 := (Entails.of_eq (sendP4 Y T c)) $$ Hsnd4
  iapply (step_waitR Y T K c 4 4 (by decide) (N_r 1 0)) $$ [HER4 Howe]
  · isplitr; · iexact Hr
    isplitl [HER4]; · iexact HER4
    iexact Howe
  iintro ⟨Hrcv4, HzR4, Howe⟩
  ihave Hrcv4 := (Entails.of_eq (recvP4 Y T c)) $$ Hrcv4
  iapply (wp_load_seg aM 0 c (acc1 Y T c 0)) $$ Hacc0; iintro Hacc0
  iapply (wp_load_seg (rM 1) 0 c (sentX Y T (pe 1 c) 0)) $$ Hrcv4; iintro Hrcv4
  iapply (wp_load_seg aM 0 c (acc1 Y T c 0)) $$ Hacc0; iintro Hacc0
  iapply (wp_store_seg aM 0 c (acc1 Y T c 0) (acc2 Y T c 0)) $$ Hacc0; iintro Hacc0
  iapply (wp_load_seg aM 0 c (acc2 Y T c 0)) $$ Hacc0; iintro Hacc0
  rw [wp_ret]; imodintro
  iapply Hk
  isplitl [Howe]; · iexact Howe
  isplitl [HES7]; · iexact HES7
  isplitl [HER7]; · iexact HER7
  isplitl [Hsnd4]; · iexact Hsnd4
  isplitl [HzS4]; · iexact HzS4
  isplitl [Hrcv4]; · iexact Hrcv4
  isplitl [HzR4]; · iexact HzR4
  iexact Hacc0

theorem part15_wp (c : Dev nD) (v2 v5 v8 v10 v11 : BitVec 32) (Kt : PUnit → sProp 𝕄) :
    iprop((recs Y T K ∗ segAny (F := F) (sM 2) 0 c ∗ segAny (F := F) (rM 2) 0 (pe 2 c) ∗ oweX c (oweS c 4) ∗ E0 (F := F) c 8 ∗ ES (F := F) c 5)
      ∗ ((oweX c (oweS c 3) ∗ ES (F := F) c 8 ∗ ER' (F := F) c 8 ∗ seg (sM 1) 1 c (sentX Y T c 1) ∗ semVal (sendCell c 5) 0) -∗ Kt ⟨⟩))
      ⊢ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v5 v8 v10 v11 (acc2 Y T c 0)) Kt := by
  simp only [k0_part15_eq_skeleton]; unfold k0_part15_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd8, Hdst8, Howe, HE8, HES5⟩, Hk⟩
  ihave Hsnd8 := (segAny_elim (F := F)) $$ Hsnd8; icases Hsnd8 with ⟨%vsnd8, Hsnd8⟩
  iapply (wp_load_seg (sM 2) 0 c vsnd8) $$ Hsnd8; iintro Hsnd8
  iapply (wp_store_seg (sM 2) 0 c vsnd8 (sentZ Y T c 0)) $$ Hsnd8; iintro Hsnd8
  ihave Hsnd8 := (Entails.of_eq (sendP8 Y T c).symm) $$ Hsnd8
  iapply (step_send Y T K c _ 8 (dev12_eq c)) $$ [Hsnd8 Hdst8 Howe HE8]
  · isplitr; · iexact Hr
    isplitl [Hsnd8]; · iexact Hsnd8
    isplitl [Hdst8]; · iexact Hdst8
    isplitl [Howe]; · iexact Howe
    iexact HE8
  iintro ⟨HES8, HER8, Howe⟩
  iapply (step_waitS Y T K c 5 3 (by decide) (N_s 1 1)) $$ [HES5 Howe]
  · isplitr; · iexact Hr
    isplitl [HES5]; · iexact HES5
    iexact Howe
  iintro ⟨Hsnd5, HzS5, Howe⟩
  ihave Hsnd5 := (Entails.of_eq (sendP5 Y T c)) $$ Hsnd5
  rw [wp_ret]; imodintro
  iapply Hk
  isplitl [Howe]; · iexact Howe
  isplitl [HES8]; · iexact HES8
  isplitl [HER8]; · iexact HER8
  isplitl [Hsnd5]; · iexact Hsnd5
  iexact HzS5

theorem part16_wp (c : Dev nD) (v2 v5 v11 : BitVec 32) (Kt : PUnit → sProp 𝕄) :
    iprop((recs Y T K ∗ ER' (F := F) c 5 ∗ oweX c (oweS c 3) ∗ seg aM 1 c (acc1 Y T c 1) ∗ segAny (F := F) (sM 2) 1 c ∗ segAny (F := F) (rM 2) 1 (pe 2 c) ∗ E0 (F := F) c 9)
      ∗ ((oweX c (oweS c 2) ∗ seg (rM 1) 1 c (sentX Y T (pe 1 c) 1) ∗ semVal (recvCell c 5) 0 ∗ seg aM 1 c (acc2 Y T c 1) ∗ ES (F := F) c 9 ∗ ER' (F := F) c 9) -∗ Kt ⟨⟩))
      ⊢ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v5 v11) Kt := by
  simp only [k0_part16_eq_skeleton]; unfold k0_part16_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HER5, Howe, Hacc1, Hsnd9, Hdst9, HE9⟩, Hk⟩
  iapply (step_waitR Y T K c 5 3 (by decide) (N_r 1 1)) $$ [HER5 Howe]
  · isplitr; · iexact Hr
    isplitl [HER5]; · iexact HER5
    iexact Howe
  iintro ⟨Hrcv5, HzR5, Howe⟩
  ihave Hrcv5 := (Entails.of_eq (recvP5 Y T c)) $$ Hrcv5
  iapply (wp_load_seg aM 1 c (acc1 Y T c 1)) $$ Hacc1; iintro Hacc1
  iapply (wp_load_seg (rM 1) 1 c (sentX Y T (pe 1 c) 1)) $$ Hrcv5; iintro Hrcv5
  iapply (wp_load_seg aM 1 c (acc1 Y T c 1)) $$ Hacc1; iintro Hacc1
  iapply (wp_store_seg aM 1 c (acc1 Y T c 1) (acc2 Y T c 1)) $$ Hacc1; iintro Hacc1
  iapply (wp_load_seg aM 1 c (acc2 Y T c 1)) $$ Hacc1; iintro Hacc1
  ihave Hsnd9 := (segAny_elim (F := F)) $$ Hsnd9; icases Hsnd9 with ⟨%vsnd9, Hsnd9⟩
  iapply (wp_load_seg (sM 2) 1 c vsnd9) $$ Hsnd9; iintro Hsnd9
  iapply (wp_store_seg (sM 2) 1 c vsnd9 (sentZ Y T c 1)) $$ Hsnd9; iintro Hsnd9
  ihave Hsnd9 := (Entails.of_eq (sendP9 Y T c).symm) $$ Hsnd9
  iapply (step_send Y T K c _ 9 (dev13_eq c)) $$ [Hsnd9 Hdst9 Howe HE9]
  · isplitr; · iexact Hr
    isplitl [Hsnd9]; · iexact Hsnd9
    isplitl [Hdst9]; · iexact Hdst9
    isplitl [Howe]; · iexact Howe
    iexact HE9
  iintro ⟨HES9, HER9, Howe⟩
  rw [wp_ret]; imodintro
  iapply Hk
  isplitl [Howe]; · iexact Howe
  isplitl [Hrcv5]; · iexact Hrcv5
  isplitl [HzR5]; · iexact HzR5
  isplitl [Hacc1]; · iexact Hacc1
  isplitl [HES9]; · iexact HES9
  iexact HER9

theorem part17_wp (c : Dev nD) (v2 v5 v8 v10 v11 : BitVec 32) (Kt : PUnit → sProp 𝕄) :
    iprop((recs Y T K ∗ ES (F := F) c 6 ∗ oweX c (oweS c 2) ∗ ER' (F := F) c 6 ∗ seg aM 2 c (acc1 Y T c 2) ∗ segAny (F := F) (sM 2) 2 c)
      ∗ ((oweX c (oweS c 2) ∗ seg (sM 1) 2 c (sentX Y T c 2) ∗ semVal (sendCell c 6) 0 ∗ seg (rM 1) 2 c (sentX Y T (pe 1 c) 2) ∗ semVal (recvCell c 6) 0 ∗ seg aM 2 c (acc2 Y T c 2) ∗ seg (sM 2) 2 c (sentZ Y T c 2)) -∗ Kt ⟨⟩))
      ⊢ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v8 v10 v11) Kt := by
  simp only [k0_part17_eq_skeleton]; unfold k0_part17_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HES6, Howe, HER6, Hacc2, Hsnd10⟩, Hk⟩
  iapply (step_waitS Y T K c 6 2 (by decide) (N_s 1 2)) $$ [HES6 Howe]
  · isplitr; · iexact Hr
    isplitl [HES6]; · iexact HES6
    iexact Howe
  iintro ⟨Hsnd6, HzS6, Howe⟩
  ihave Hsnd6 := (Entails.of_eq (sendP6 Y T c)) $$ Hsnd6
  iapply (step_waitR Y T K c 6 2 (by decide) (N_r 1 2)) $$ [HER6 Howe]
  · isplitr; · iexact Hr
    isplitl [HER6]; · iexact HER6
    iexact Howe
  iintro ⟨Hrcv6, HzR6, Howe⟩
  ihave Hrcv6 := (Entails.of_eq (recvP6 Y T c)) $$ Hrcv6
  iapply (wp_load_seg aM 2 c (acc1 Y T c 2)) $$ Hacc2; iintro Hacc2
  iapply (wp_load_seg (rM 1) 2 c (sentX Y T (pe 1 c) 2)) $$ Hrcv6; iintro Hrcv6
  iapply (wp_load_seg aM 2 c (acc1 Y T c 2)) $$ Hacc2; iintro Hacc2
  iapply (wp_store_seg aM 2 c (acc1 Y T c 2) (acc2 Y T c 2)) $$ Hacc2; iintro Hacc2
  iapply (wp_load_seg aM 2 c (acc2 Y T c 2)) $$ Hacc2; iintro Hacc2
  ihave Hsnd10 := (segAny_elim (F := F)) $$ Hsnd10; icases Hsnd10 with ⟨%vsnd10, Hsnd10⟩
  iapply (wp_load_seg (sM 2) 2 c vsnd10) $$ Hsnd10; iintro Hsnd10
  iapply (wp_store_seg (sM 2) 2 c vsnd10 (sentZ Y T c 2)) $$ Hsnd10; iintro Hsnd10
  rw [wp_ret]; imodintro
  iapply Hk
  isplitl [Howe]; · iexact Howe
  isplitl [Hsnd6]; · iexact Hsnd6
  isplitl [HzS6]; · iexact HzS6
  isplitl [Hrcv6]; · iexact Hrcv6
  isplitl [HzR6]; · iexact HzR6
  isplitl [Hacc2]; · iexact Hacc2
  iexact Hsnd10

theorem part18_wp (c : Dev nD) (v5 v8 v10 : BitVec 32) (Kt : (Vec F S256x1024 .f32) → sProp 𝕄) :
    iprop((recs Y T K ∗ seg (sM 2) 2 c (sentZ Y T c 2) ∗ segAny (F := F) (rM 2) 2 (pe 2 c) ∗ oweX c (oweS c 2) ∗ E0 (F := F) c 10 ∗ ES (F := F) c 7 ∗ ER' (F := F) c 7 ∗ seg aM 3 c (acc1 Y T c 3))
      ∗ ((oweX c (oweS c 1) ∗ ES (F := F) c 10 ∗ ER' (F := F) c 10 ∗ seg (sM 1) 3 c (sentX Y T c 3) ∗ semVal (sendCell c 7) 0 ∗ seg (rM 1) 3 c (sentX Y T (pe 1 c) 3) ∗ semVal (recvCell c 7) 0 ∗ seg aM 3 c (acc2 Y T c 3)) -∗ Kt (acc2 Y T c 3)))
      ⊢ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v5 v8 v10) Kt := by
  simp only [k0_part18_eq_skeleton]; unfold k0_part18_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd10, Hdst10, Howe, HE10, HES7, HER7, Hacc3⟩, Hk⟩
  ihave Hsnd10 := (Entails.of_eq (sendP10 Y T c).symm) $$ Hsnd10
  iapply (step_send Y T K c _ 10 (dev14_eq c)) $$ [Hsnd10 Hdst10 Howe HE10]
  · isplitr; · iexact Hr
    isplitl [Hsnd10]; · iexact Hsnd10
    isplitl [Hdst10]; · iexact Hdst10
    isplitl [Howe]; · iexact Howe
    iexact HE10
  iintro ⟨HES10, HER10, Howe⟩
  iapply (step_waitS Y T K c 7 1 (by decide) (N_s 1 3)) $$ [HES7 Howe]
  · isplitr; · iexact Hr
    isplitl [HES7]; · iexact HES7
    iexact Howe
  iintro ⟨Hsnd7, HzS7, Howe⟩
  ihave Hsnd7 := (Entails.of_eq (sendP7 Y T c)) $$ Hsnd7
  iapply (step_waitR Y T K c 7 1 (by decide) (N_r 1 3)) $$ [HER7 Howe]
  · isplitr; · iexact Hr
    isplitl [HER7]; · iexact HER7
    iexact Howe
  iintro ⟨Hrcv7, HzR7, Howe⟩
  ihave Hrcv7 := (Entails.of_eq (recvP7 Y T c)) $$ Hrcv7
  iapply (wp_load_seg aM 3 c (acc1 Y T c 3)) $$ Hacc3; iintro Hacc3
  iapply (wp_load_seg (rM 1) 3 c (sentX Y T (pe 1 c) 3)) $$ Hrcv7; iintro Hrcv7
  iapply (wp_load_seg aM 3 c (acc1 Y T c 3)) $$ Hacc3; iintro Hacc3
  iapply (wp_store_seg aM 3 c (acc1 Y T c 3) (acc2 Y T c 3)) $$ Hacc3; iintro Hacc3
  iapply (wp_load_seg aM 3 c (acc2 Y T c 3)) $$ Hacc3; iintro Hacc3
  rw [wp_ret]; imodintro
  iapply Hk
  isplitl [Howe]; · iexact Howe
  isplitl [HES10]; · iexact HES10
  isplitl [HER10]; · iexact HER10
  isplitl [Hsnd7]; · iexact Hsnd7
  isplitl [HzS7]; · iexact HzS7
  isplitl [Hrcv7]; · iexact Hrcv7
  isplitl [HzR7]; · iexact HzR7
  iexact Hacc3

theorem part19_wp (c : Dev nD) (v2 v5 v11 : BitVec 32) (Kt : PUnit → sProp 𝕄) :
    iprop((recs Y T K ∗ segAny (F := F) (sM 2) 3 c ∗ segAny (F := F) (rM 2) 3 (pe 2 c) ∗ oweX c (oweS c 1) ∗ E0 (F := F) c 11 ∗ ES (F := F) c 8)
      ∗ ((oweX c (oweS c 0) ∗ ES (F := F) c 11 ∗ ER' (F := F) c 11 ∗ seg (sM 2) 0 c (sentZ Y T c 0) ∗ semVal (sendCell c 8) 0) -∗ Kt ⟨⟩))
      ⊢ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 c v2 v5 v11 (acc2 Y T c 3)) Kt := by
  simp only [k0_part19_eq_skeleton]; unfold k0_part19_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, Hsnd11, Hdst11, Howe, HE11, HES8⟩, Hk⟩
  ihave Hsnd11 := (segAny_elim (F := F)) $$ Hsnd11; icases Hsnd11 with ⟨%vsnd11, Hsnd11⟩
  iapply (wp_load_seg (sM 2) 3 c vsnd11) $$ Hsnd11; iintro Hsnd11
  iapply (wp_store_seg (sM 2) 3 c vsnd11 (sentZ Y T c 3)) $$ Hsnd11; iintro Hsnd11
  ihave Hsnd11 := (Entails.of_eq (sendP11 Y T c).symm) $$ Hsnd11
  iapply (step_send Y T K c _ 11 (dev15_eq c)) $$ [Hsnd11 Hdst11 Howe HE11]
  · isplitr; · iexact Hr
    isplitl [Hsnd11]; · iexact Hsnd11
    isplitl [Hdst11]; · iexact Hdst11
    isplitl [Howe]; · iexact Howe
    iexact HE11
  iintro ⟨HES11, HER11, Howe⟩
  iapply (step_waitS Y T K c 8 0 (by decide) (N_s 2 0)) $$ [HES8 Howe]
  · isplitr; · iexact Hr
    isplitl [HES8]; · iexact HES8
    iexact Howe
  iintro ⟨Hsnd8, HzS8, Howe⟩
  ihave Hsnd8 := (Entails.of_eq (sendP8 Y T c)) $$ Hsnd8
  rw [wp_ret]; imodintro
  iapply Hk
  isplitl [Howe]; · iexact Howe
  isplitl [HES11]; · iexact HES11
  isplitl [HER11]; · iexact HER11
  isplitl [Hsnd8]; · iexact Hsnd8
  iexact HzS8

theorem part20_wp (c : Dev nD) (v2 v5 v11 : BitVec 32) (Kt : PUnit → sProp 𝕄) :
    iprop((recs Y T K ∗ ER' (F := F) c 8 ∗ oweX c (oweS c 0) ∗ seg aM 0 c (acc2 Y T c 0) ∗ segAny (F := F) oM 0 c ∗ ES (F := F) c 9 ∗ ER' (F := F) c 9 ∗ seg aM 1 c (acc2 Y T c 1) ∗ segAny (F := F) oM 1 c)
      ∗ ((oweX c (oweS c 0) ∗ seg (rM 2) 0 c (sentZ Y T (pe 2 c) 0) ∗ semVal (recvCell c 8) 0 ∗ seg aM 0 c (acc2 Y T c 0) ∗ seg oM 0 c (outQ Y T c 0) ∗ seg (sM 2) 1 c (sentZ Y T c 1) ∗ semVal (sendCell c 9) 0 ∗ seg (rM 2) 1 c (sentZ Y T (pe 2 c) 1) ∗ semVal (recvCell c 9) 0 ∗ seg aM 1 c (acc2 Y T c 1) ∗ seg oM 1 c (outQ Y T c 1)) -∗ Kt ⟨⟩))
      ⊢ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v11) Kt := by
  simp only [k0_part20_eq_skeleton]; unfold k0_part20_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HER8, Howe, Hacc0, Hout0, HES9, HER9, Hacc1, Hout1⟩, Hk⟩
  iapply (step_waitR Y T K c 8 0 (by decide) (N_r 2 0)) $$ [HER8 Howe]
  · isplitr; · iexact Hr
    isplitl [HER8]; · iexact HER8
    iexact Howe
  iintro ⟨Hrcv8, HzR8, Howe⟩
  ihave Hrcv8 := (Entails.of_eq (recvP8 Y T c)) $$ Hrcv8
  iapply (wp_load_seg aM 0 c (acc2 Y T c 0)) $$ Hacc0; iintro Hacc0
  iapply (wp_load_seg (rM 2) 0 c (sentZ Y T (pe 2 c) 0)) $$ Hrcv8; iintro Hrcv8
  ihave Hout0 := (segAny_elim (F := F)) $$ Hout0; icases Hout0 with ⟨%vout0, Hout0⟩
  iapply (wp_load_seg oM 0 c vout0) $$ Hout0; iintro Hout0
  iapply (wp_store_seg oM 0 c vout0 (outQ Y T c 0)) $$ Hout0; iintro Hout0
  iapply (step_waitS Y T K c 9 0 (by decide) (N_s 2 1)) $$ [HES9 Howe]
  · isplitr; · iexact Hr
    isplitl [HES9]; · iexact HES9
    iexact Howe
  iintro ⟨Hsnd9, HzS9, Howe⟩
  ihave Hsnd9 := (Entails.of_eq (sendP9 Y T c)) $$ Hsnd9
  iapply (step_waitR Y T K c 9 0 (by decide) (N_r 2 1)) $$ [HER9 Howe]
  · isplitr; · iexact Hr
    isplitl [HER9]; · iexact HER9
    iexact Howe
  iintro ⟨Hrcv9, HzR9, Howe⟩
  ihave Hrcv9 := (Entails.of_eq (recvP9 Y T c)) $$ Hrcv9
  iapply (wp_load_seg aM 1 c (acc2 Y T c 1)) $$ Hacc1; iintro Hacc1
  iapply (wp_load_seg (rM 2) 1 c (sentZ Y T (pe 2 c) 1)) $$ Hrcv9; iintro Hrcv9
  ihave Hout1 := (segAny_elim (F := F)) $$ Hout1; icases Hout1 with ⟨%vout1, Hout1⟩
  iapply (wp_load_seg oM 1 c vout1) $$ Hout1; iintro Hout1
  iapply (wp_store_seg oM 1 c vout1 (outQ Y T c 1)) $$ Hout1; iintro Hout1
  rw [wp_ret]; imodintro
  iapply Hk
  isplitl [Howe]; · iexact Howe
  isplitl [Hrcv8]; · iexact Hrcv8
  isplitl [HzR8]; · iexact HzR8
  isplitl [Hacc0]; · iexact Hacc0
  isplitl [Hout0]; · iexact Hout0
  isplitl [Hsnd9]; · iexact Hsnd9
  isplitl [HzS9]; · iexact HzS9
  isplitl [Hrcv9]; · iexact Hrcv9
  isplitl [HzR9]; · iexact HzR9
  isplitl [Hacc1]; · iexact Hacc1
  iexact Hout1

theorem part21_wp (c : Dev nD) (v2 v5 v11 : BitVec 32) (Kt : BitVec 32 → sProp 𝕄) :
    iprop((recs Y T K ∗ ES (F := F) c 10 ∗ oweX c (oweS c 0) ∗ ER' (F := F) c 10 ∗ seg aM 2 c (acc2 Y T c 2) ∗ segAny (F := F) oM 2 c ∗ ES (F := F) c 11)
      ∗ (∀ w, (oweX c (oweS c 0) ∗ seg (sM 2) 2 c (sentZ Y T c 2) ∗ semVal (sendCell c 10) 0 ∗ seg (rM 2) 2 c (sentZ Y T (pe 2 c) 2) ∗ semVal (recvCell c 10) 0 ∗ seg aM 2 c (acc2 Y T c 2) ∗ seg oM 2 c (outQ Y T c 2) ∗ seg (sM 2) 3 c (sentZ Y T c 3) ∗ semVal (sendCell c 11) 0) -∗ Kt w))
      ⊢ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v2 v5 v11) Kt := by
  simp only [k0_part21_eq_skeleton]; unfold k0_part21_skel
  simp only [semSignalWord, semWaitWord, Prog.lift, Prog.bind_op, Prog.bind_ret, Prog.pure_eq_ret, wp_deviceId, pay3_eq, pay4_eq, pay5_eq, pay7_eq, pay10_eq, pay9_eq, pay13_eq, pay15_eq, pay17_eq, pay14_eq, pay16_eq, pay18_eq, pay21_eq, pay23_eq, pay25_eq, pay22_eq, pay24_eq, pay26_eq, pay28_eq, pay29_eq, pay1_eq]
  iintro ⟨⟨#Hr, HES10, Howe, HER10, Hacc2, Hout2, HES11⟩, Hk⟩
  iapply (step_waitS Y T K c 10 0 (by decide) (N_s 2 2)) $$ [HES10 Howe]
  · isplitr; · iexact Hr
    isplitl [HES10]; · iexact HES10
    iexact Howe
  iintro ⟨Hsnd10, HzS10, Howe⟩
  ihave Hsnd10 := (Entails.of_eq (sendP10 Y T c)) $$ Hsnd10
  iapply (step_waitR Y T K c 10 0 (by decide) (N_r 2 2)) $$ [HER10 Howe]
  · isplitr; · iexact Hr
    isplitl [HER10]; · iexact HER10
    iexact Howe
  iintro ⟨Hrcv10, HzR10, Howe⟩
  ihave Hrcv10 := (Entails.of_eq (recvP10 Y T c)) $$ Hrcv10
  iapply (wp_load_seg aM 2 c (acc2 Y T c 2)) $$ Hacc2; iintro Hacc2
  iapply (wp_load_seg (rM 2) 2 c (sentZ Y T (pe 2 c) 2)) $$ Hrcv10; iintro Hrcv10
  ihave Hout2 := (segAny_elim (F := F)) $$ Hout2; icases Hout2 with ⟨%vout2, Hout2⟩
  iapply (wp_load_seg oM 2 c vout2) $$ Hout2; iintro Hout2
  iapply (wp_store_seg oM 2 c vout2 (outQ Y T c 2)) $$ Hout2; iintro Hout2
  iapply (step_waitS Y T K c 11 0 (by decide) (N_s 2 3)) $$ [HES11 Howe]
  · isplitr; · iexact Hr
    isplitl [HES11]; · iexact HES11
    iexact Howe
  iintro ⟨Hsnd11, HzS11, Howe⟩
  ihave Hsnd11 := (Entails.of_eq (sendP11 Y T c)) $$ Hsnd11
  rw [wp_ret]; imodintro
  iapply Hk
  isplitl [Howe]; · iexact Howe
  isplitl [Hsnd10]; · iexact Hsnd10
  isplitl [HzS10]; · iexact HzS10
  isplitl [Hrcv10]; · iexact Hrcv10
  isplitl [HzR10]; · iexact HzR10
  isplitl [Hacc2]; · iexact Hacc2
  isplitl [Hout2]; · iexact Hout2
  isplitl [Hsnd11]; · iexact Hsnd11
  iexact HzS11

end Cert.KernelIdeal.Comb

end
-- ==== Proof.Body.lean ====
/-
# The reduce-scatter kernel: the body

The parts' rules one after the other.
-/
module

public import proofs.«01_k».proof.Proof.PartsB

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole scratch buffer, its content unknown. -/
def scr {e : EltTy} (M : Memref sig .tc .vmem S1024x1024 e) (c : Dev nD) : sProp 𝕄 :=
  iprop(∃ f, (M.view.loc (c : Thread nD τ) ↦[M.view.set]{fullShare} f))

variable (Y : Dev nD → Vec F S2560x1024 .bf16) (T : Dev nD → Vec F S2x2048 .i32) (K : Dev nD × CK → ℕ)

/-- What the body starts from. -/
def bodyIn (c : Dev nD) : sProp 𝕄 :=
  iprop(recs Y T K ∗ scr (F := F) aM c ∗ scr (F := F) (sM 0) c ∗ scr (F := F) (sM 1) c ∗ scr (F := F) (sM 2) c ∗ scr (F := F) (rM 0) c ∗ scr (F := F) (rM 1) c ∗ scr (F := F) (rM 2) c ∗ scr (F := F) oM c ∗ ptY Y c ∗ ptT T c ∗ oweX c (owe0 c)
    ∗ dutyTok ER (barCell (pe 0 c)) 0 (0 : Fin 3) ∗ dutyTok ER (barCell (pe 1 c)) 0 (1 : Fin 3) ∗ dutyTok ER (barCell (pe 2 c)) 0 (2 : Fin 3)
    ∗ atPos ER (barCell c) 0 ∅ 0 ∗ cred (tallyAt (barCell c) () 3)
    ∗ E0 (F := F) c 0 ∗ E0 (F := F) c 1 ∗ E0 (F := F) c 2 ∗ E0 (F := F) c 3 ∗ E0 (F := F) c 4 ∗ E0 (F := F) c 5 ∗ E0 (F := F) c 6 ∗ E0 (F := F) c 7 ∗ E0 (F := F) c 8 ∗ E0 (F := F) c 9 ∗ E0 (F := F) c 10 ∗ E0 (F := F) c 11)
/-- What it ends with. -/
def bodyOut (c : Dev nD) : sProp 𝕄 :=
  iprop(scr (F := F) aM c ∗ scr (F := F) (sM 0) c ∗ scr (F := F) (sM 1) c ∗ scr (F := F) (sM 2) c ∗ scr (F := F) (rM 0) c ∗ scr (F := F) (rM 1) c ∗ scr (F := F) (rM 2) c
    ∗ (∃ f, ⌜∀ q, (oM.access (rq q)).read (Elt F) f = outQ Y T c q⌝ ∗ (oM.view.loc (c : Thread nD τ) ↦[oM.view.set]{fullShare} f))
    ∗ ptY Y c ∗ ptT T c ∗ oweX c (oweS c 0) ∗ semVal (barCell c) 0
    ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0
    ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0)

set_option maxRecDepth 4000 in
set_option maxHeartbeats 4000000 in
theorem sound_body (c : Dev nD) (Kt : PUnit → sProp 𝕄) :
    bodyIn Y T K c ⊢ iprop((bodyOut Y T c -∗ Kt ⟨⟩) -∗ wp frame (wpE (defs₀ (F := F)) 𝒱₀ (c : Thread nD τ) none) Set.univ
      (cc0__combine_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) Kt) := by
  rw [cc0__combine_body_eq_skeleton]
  unfold bodyIn bodyOut
  unfold cc0__combine_body_skel
  unfold scr
  iintro ⟨#Hr, ⟨%f0, S0⟩, ⟨%f1, S1⟩, ⟨%f2, S2⟩, ⟨%f3, S3⟩, ⟨%f4, S4⟩, ⟨%f5, S5⟩, ⟨%f6, S6⟩, ⟨%f7, S7⟩, HY, HT, Howe, Ht0, Ht1, Ht2, HatB, HcB, HE0, HE1, HE2, HE3, HE4, HE5, HE6, HE7, HE8, HE9, HE10, HE11⟩ Hk
  ihave S0 := (whole_split aM c f0) $$ S0; icases S0 with ⟨Hacc0, Hacc1, Hacc2, Hacc3⟩
  ihave S1 := (whole_split (sM 0) c f1) $$ S1; icases S1 with ⟨Hsnd0, Hsnd1, Hsnd2, Hsnd3⟩
  ihave S2 := (whole_split (sM 1) c f2) $$ S2; icases S2 with ⟨Hsnd4, Hsnd5, Hsnd6, Hsnd7⟩
  ihave S3 := (whole_split (sM 2) c f3) $$ S3; icases S3 with ⟨Hsnd8, Hsnd9, Hsnd10, Hsnd11⟩
  ihave S4 := (whole_split (rM 0) c f4) $$ S4; icases S4 with ⟨Hown0, Hown1, Hown2, Hown3⟩
  ihave S5 := (whole_split (rM 1) c f5) $$ S5; icases S5 with ⟨Hown4, Hown5, Hown6, Hown7⟩
  ihave S6 := (whole_split (rM 2) c f6) $$ S6; icases S6 with ⟨Hown8, Hown9, Hown10, Hown11⟩
  ihave S7 := (whole_split oM c f7) $$ S7; icases S7 with ⟨Hout0, Hout1, Hout2, Hout3⟩
  rw [wp_bind]
  iapply (part1_wp Y T K c)
  isplitl [Howe Ht0 Ht1 Ht2 Hown0 Hown1 Hown2 Hown3 Hown4 Hown5 Hown6 Hown7 Hown8 Hown9 Hown10 Hown11]
  · isplitr; · iexact Hr
    isplitl [Howe]; · iexact Howe
    isplitl [Ht0]; · iexact Ht0
    isplitl [Ht1]; · iexact Ht1
    isplitl [Ht2]; · iexact Ht2
    isplitl [Hown0]; · iexact Hown0
    isplitl [Hown1]; · iexact Hown1
    isplitl [Hown2]; · iexact Hown2
    isplitl [Hown3]; · iexact Hown3
    isplitl [Hown4]; · iexact Hown4
    isplitl [Hown5]; · iexact Hown5
    isplitl [Hown6]; · iexact Hown6
    isplitl [Hown7]; · iexact Hown7
    isplitl [Hown8]; · iexact Hown8
    isplitl [Hown9]; · iexact Hown9
    isplitl [Hown10]; · iexact Hown10
    iexact Hown11
  iintro %w2 %w5 %w8 %w9 %w10 %w11 Howe
  dsimp only
  rw [wp_bind]
  iapply (part2_wp Y T K c)
  isplitl [Howe HatB HcB HT HY Hsnd0]
  · isplitr; · iexact Hr
    isplitl [Howe]; · iexact Howe
    isplitl [HatB]; · iexact HatB
    isplitl [HcB]; · iexact HcB
    isplitl [HT]; · iexact HT
    isplitl [HY]; · iexact HY
    iexact Hsnd0
  iintro ⟨Howe, Hdst0, Hdst1, Hdst2, Hdst3, Hdst4, Hdst5, Hdst6, Hdst7, Hdst8, Hdst9, Hdst10, Hdst11, HzB, HT, HY, Hsnd0⟩
  rw [wp_bind]
  iapply (part3_wp Y T K c)
  isplitl [Hsnd0 Hdst0 Howe HE0 HT HY Hsnd1]
  · isplitr; · iexact Hr
    isplitl [Hsnd0]; · iexact Hsnd0
    isplitl [Hdst0]; · iexact Hdst0
    isplitl [Howe]; · iexact Howe
    isplitl [HE0]; · iexact HE0
    isplitl [HT]; · iexact HT
    isplitl [HY]; · iexact HY
    iexact Hsnd1
  iintro ⟨Howe, HES0, HER0, HT, HY, Hsnd1⟩
  rw [wp_bind]
  iapply (part4_wp Y T K c)
  isplitl [Hsnd1 Hdst1 Howe HE1 HT HY Hsnd2]
  · isplitr; · iexact Hr
    isplitl [Hsnd1]; · iexact Hsnd1
    isplitl [Hdst1]; · iexact Hdst1
    isplitl [Howe]; · iexact Howe
    isplitl [HE1]; · iexact HE1
    isplitl [HT]; · iexact HT
    isplitl [HY]; · iexact HY
    iexact Hsnd2
  iintro %w148 ⟨Howe, HES1, HER1, HT, HY, Hsnd2⟩
  rw [wp_bind]
  iapply (part5_wp Y T K c)
  isplitl [Hsnd2 Hdst2 Howe HE2 HT HY Hsnd3]
  · isplitr; · iexact Hr
    isplitl [Hsnd2]; · iexact Hsnd2
    isplitl [Hdst2]; · iexact Hdst2
    isplitl [Howe]; · iexact Howe
    isplitl [HE2]; · iexact HE2
    isplitl [HT]; · iexact HT
    isplitl [HY]; · iexact HY
    iexact Hsnd3
  iintro %w187 %w187b ⟨Howe, HES2, HER2, HT, HY, Hsnd3⟩
  dsimp only
  rw [wp_bind]
  iapply (part6_wp Y T K c)
  isplitl [Hsnd3 Hdst3 Howe HE3 HT HY Hacc0]
  · isplitr; · iexact Hr
    isplitl [Hsnd3]; · iexact Hsnd3
    isplitl [Hdst3]; · iexact Hdst3
    isplitl [Howe]; · iexact Howe
    isplitl [HE3]; · iexact HE3
    isplitl [HT]; · iexact HT
    isplitl [HY]; · iexact HY
    iexact Hacc0
  iintro %w228 ⟨Howe, HES3, HER3, HT, HY, Hacc0⟩
  rw [wp_bind]
  iapply (part7_wp Y T K c)
  isplitl [HT HY Hacc1]
  · isplitr; · iexact Hr
    isplitl [HT]; · iexact HT
    isplitl [HY]; · iexact HY
    iexact Hacc1
  iintro ⟨HT, HY, Hacc1⟩
  rw [wp_bind]
  iapply (part8_wp Y T K c)
  isplitl [HY Hacc2 HT Hacc3]
  · isplitr; · iexact Hr
    isplitl [HY]; · iexact HY
    isplitl [Hacc2]; · iexact Hacc2
    isplitl [HT]; · iexact HT
    iexact Hacc3
  iintro ⟨HY, Hacc2, HT, Hacc3⟩
  rw [wp_bind]
  iapply (part9_wp Y T K c)
  isplitl [HES0 Howe HER0 Hacc0 Hsnd4]
  · isplitr; · iexact Hr
    isplitl [HES0]; · iexact HES0
    isplitl [Howe]; · iexact Howe
    isplitl [HER0]; · iexact HER0
    isplitl [Hacc0]; · iexact Hacc0
    iexact Hsnd4
  iintro ⟨Howe, Hsnd0, HzS0, Hrcv0, HzR0, Hacc0, Hsnd4⟩
  rw [wp_bind]
  iapply (part10_wp Y T K c)
  isplitl [Hsnd4 Hdst4 Howe HE4 HES1 HER1 Hacc1]
  · isplitr; · iexact Hr
    isplitl [Hsnd4]; · iexact Hsnd4
    isplitl [Hdst4]; · iexact Hdst4
    isplitl [Howe]; · iexact Howe
    isplitl [HE4]; · iexact HE4
    isplitl [HES1]; · iexact HES1
    isplitl [HER1]; · iexact HER1
    iexact Hacc1
  iintro ⟨Howe, HES4, HER4, Hsnd1, HzS1, Hrcv1, HzR1, Hacc1⟩
  rw [wp_bind]
  iapply (part11_wp Y T K c)
  isplitl [Hsnd5 Hdst5 Howe HE5 HES2]
  · isplitr; · iexact Hr
    isplitl [Hsnd5]; · iexact Hsnd5
    isplitl [Hdst5]; · iexact Hdst5
    isplitl [Howe]; · iexact Howe
    isplitl [HE5]; · iexact HE5
    iexact HES2
  iintro ⟨Howe, HES5, HER5, Hsnd2, HzS2⟩
  rw [wp_bind]
  iapply (part12_wp Y T K c)
  isplitl [HER2 Howe Hacc2 Hsnd6 Hdst6 HE6]
  · isplitr; · iexact Hr
    isplitl [HER2]; · iexact HER2
    isplitl [Howe]; · iexact Howe
    isplitl [Hacc2]; · iexact Hacc2
    isplitl [Hsnd6]; · iexact Hsnd6
    isplitl [Hdst6]; · iexact Hdst6
    iexact HE6
  iintro ⟨Howe, Hrcv2, HzR2, Hacc2, HES6, HER6⟩
  rw [wp_bind]
  iapply (part13_wp Y T K c)
  isplitl [HES3 Howe HER3 Hacc3 Hsnd7]
  · isplitr; · iexact Hr
    isplitl [HES3]; · iexact HES3
    isplitl [Howe]; · iexact Howe
    isplitl [HER3]; · iexact HER3
    isplitl [Hacc3]; · iexact Hacc3
    iexact Hsnd7
  iintro ⟨Howe, Hsnd3, HzS3, Hrcv3, HzR3, Hacc3, Hsnd7⟩
  rw [wp_bind]
  iapply (part14_wp Y T K c)
  isplitl [Hsnd7 Hdst7 Howe HE7 HES4 HER4 Hacc0]
  · isplitr; · iexact Hr
    isplitl [Hsnd7]; · iexact Hsnd7
    isplitl [Hdst7]; · iexact Hdst7
    isplitl [Howe]; · iexact Howe
    isplitl [HE7]; · iexact HE7
    isplitl [HES4]; · iexact HES4
    isplitl [HER4]; · iexact HER4
    iexact Hacc0
  iintro ⟨Howe, HES7, HER7, Hsnd4, HzS4, Hrcv4, HzR4, Hacc0⟩
  rw [wp_bind]
  iapply (part15_wp Y T K c)
  isplitl [Hsnd8 Hdst8 Howe HE8 HES5]
  · isplitr; · iexact Hr
    isplitl [Hsnd8]; · iexact Hsnd8
    isplitl [Hdst8]; · iexact Hdst8
    isplitl [Howe]; · iexact Howe
    isplitl [HE8]; · iexact HE8
    iexact HES5
  iintro ⟨Howe, HES8, HER8, Hsnd5, HzS5⟩
  rw [wp_bind]
  iapply (part16_wp Y T K c)
  isplitl [HER5 Howe Hacc1 Hsnd9 Hdst9 HE9]
  · isplitr; · iexact Hr
    isplitl [HER5]; · iexact HER5
    isplitl [Howe]; · iexact Howe
    isplitl [Hacc1]; · iexact Hacc1
    isplitl [Hsnd9]; · iexact Hsnd9
    isplitl [Hdst9]; · iexact Hdst9
    iexact HE9
  iintro ⟨Howe, Hrcv5, HzR5, Hacc1, HES9, HER9⟩
  rw [wp_bind]
  iapply (part17_wp Y T K c)
  isplitl [HES6 Howe HER6 Hacc2 Hsnd10]
  · isplitr; · iexact Hr
    isplitl [HES6]; · iexact HES6
    isplitl [Howe]; · iexact Howe
    isplitl [HER6]; · iexact HER6
    isplitl [Hacc2]; · iexact Hacc2
    iexact Hsnd10
  iintro ⟨Howe, Hsnd6, HzS6, Hrcv6, HzR6, Hacc2, Hsnd10⟩
  rw [wp_bind]
  iapply (part18_wp Y T K c)
  isplitl [Hsnd10 Hdst10 Howe HE10 HES7 HER7 Hacc3]
  · isplitr; · iexact Hr
    isplitl [Hsnd10]; · iexact Hsnd10
    isplitl [Hdst10]; · iexact Hdst10
    isplitl [Howe]; · iexact Howe
    isplitl [HE10]; · iexact HE10
    isplitl [HES7]; · iexact HES7
    isplitl [HER7]; · iexact HER7
    iexact Hacc3
  iintro ⟨Howe, HES10, HER10, Hsnd7, HzS7, Hrcv7, HzR7, Hacc3⟩
  rw [wp_bind]
  iapply (part19_wp Y T K c)
  isplitl [Hsnd11 Hdst11 Howe HE11 HES8]
  · isplitr; · iexact Hr
    isplitl [Hsnd11]; · iexact Hsnd11
    isplitl [Hdst11]; · iexact Hdst11
    isplitl [Howe]; · iexact Howe
    isplitl [HE11]; · iexact HE11
    iexact HES8
  iintro ⟨Howe, HES11, HER11, Hsnd8, HzS8⟩
  rw [wp_bind]
  iapply (part20_wp Y T K c)
  isplitl [HER8 Howe Hacc0 Hout0 HES9 HER9 Hacc1 Hout1]
  · isplitr; · iexact Hr
    isplitl [HER8]; · iexact HER8
    isplitl [Howe]; · iexact Howe
    isplitl [Hacc0]; · iexact Hacc0
    isplitl [Hout0]; · iexact Hout0
    isplitl [HES9]; · iexact HES9
    isplitl [HER9]; · iexact HER9
    isplitl [Hacc1]; · iexact Hacc1
    iexact Hout1
  iintro ⟨Howe, Hrcv8, HzR8, Hacc0, Hout0, Hsnd9, HzS9, Hrcv9, HzR9, Hacc1, Hout1⟩
  rw [wp_bind]
  iapply (part21_wp Y T K c)
  isplitl [HES10 Howe HER10 Hacc2 Hout2 HES11]
  · isplitr; · iexact Hr
    isplitl [HES10]; · iexact HES10
    isplitl [Howe]; · iexact Howe
    isplitl [HER10]; · iexact HER10
    isplitl [Hacc2]; · iexact Hacc2
    isplitl [Hout2]; · iexact Hout2
    iexact HES11
  iintro %w4 ⟨Howe, Hsnd10, HzS10, Hrcv10, HzR10, Hacc2, Hout2, Hsnd11, HzS11⟩
  simp only [semSignalWord, semWaitWord, Prog.lift, Prog.bind_op, Prog.bind_ret, Prog.pure_eq_ret, pay1_eq]
  iapply (step_waitR Y T K c 11 0 (by decide) (N_r 2 3)) $$ [HER11 Howe]
  · isplitr; · iexact Hr
    isplitl [HER11]; · iexact HER11
    iexact Howe
  iintro ⟨Hrcv11, HzR11, Howe⟩
  ihave Hrcv11 := (Entails.of_eq (recvP11 Y T c)) $$ Hrcv11
  iapply (wp_load_seg aM 3 c (acc2 Y T c 3)) $$ Hacc3; iintro Hacc3
  iapply (wp_load_seg (rM 2) 3 c (sentZ Y T (pe 2 c) 3)) $$ Hrcv11; iintro Hrcv11
  ihave Hout3 := (segAny_elim (F := F)) $$ Hout3; icases Hout3 with ⟨%vout3, Hout3⟩
  iapply (wp_load_seg oM 3 c vout3) $$ Hout3; iintro Hout3
  iapply (wp_store_seg oM 3 c vout3 (outQ Y T c 3)) $$ Hout3; iintro Hout3
  rw [wp_ret]; imodintro; iapply Hk
  ihave J0 := (whole_join aM c (acc2 Y T c)) $$ [Hacc0 Hacc1 Hacc2 Hacc3]
  · isplitl [Hacc0]; · iexact Hacc0
    isplitl [Hacc1]; · iexact Hacc1
    isplitl [Hacc2]; · iexact Hacc2
    iexact Hacc3
  icases J0 with ⟨%g0, %hg0, J0⟩
  ihave J1 := (whole_join (sM 0) c (sentY Y T c)) $$ [Hsnd0 Hsnd1 Hsnd2 Hsnd3]
  · isplitl [Hsnd0]; · iexact Hsnd0
    isplitl [Hsnd1]; · iexact Hsnd1
    isplitl [Hsnd2]; · iexact Hsnd2
    iexact Hsnd3
  icases J1 with ⟨%g1, %hg1, J1⟩
  ihave J2 := (whole_join (sM 1) c (sentX Y T c)) $$ [Hsnd4 Hsnd5 Hsnd6 Hsnd7]
  · isplitl [Hsnd4]; · iexact Hsnd4
    isplitl [Hsnd5]; · iexact Hsnd5
    isplitl [Hsnd6]; · iexact Hsnd6
    iexact Hsnd7
  icases J2 with ⟨%g2, %hg2, J2⟩
  ihave J3 := (whole_join (sM 2) c (sentZ Y T c)) $$ [Hsnd8 Hsnd9 Hsnd10 Hsnd11]
  · isplitl [Hsnd8]; · iexact Hsnd8
    isplitl [Hsnd9]; · iexact Hsnd9
    isplitl [Hsnd10]; · iexact Hsnd10
    iexact Hsnd11
  icases J3 with ⟨%g3, %hg3, J3⟩
  ihave J4 := (whole_join (rM 0) c (sentY Y T (pe 0 c))) $$ [Hrcv0 Hrcv1 Hrcv2 Hrcv3]
  · isplitl [Hrcv0]; · iexact Hrcv0
    isplitl [Hrcv1]; · iexact Hrcv1
    isplitl [Hrcv2]; · iexact Hrcv2
    iexact Hrcv3
  icases J4 with ⟨%g4, %hg4, J4⟩
  ihave J5 := (whole_join (rM 1) c (sentX Y T (pe 1 c))) $$ [Hrcv4 Hrcv5 Hrcv6 Hrcv7]
  · isplitl [Hrcv4]; · iexact Hrcv4
    isplitl [Hrcv5]; · iexact Hrcv5
    isplitl [Hrcv6]; · iexact Hrcv6
    iexact Hrcv7
  icases J5 with ⟨%g5, %hg5, J5⟩
  ihave J6 := (whole_join (rM 2) c (sentZ Y T (pe 2 c))) $$ [Hrcv8 Hrcv9 Hrcv10 Hrcv11]
  · isplitl [Hrcv8]; · iexact Hrcv8
    isplitl [Hrcv9]; · iexact Hrcv9
    isplitl [Hrcv10]; · iexact Hrcv10
    iexact Hrcv11
  icases J6 with ⟨%g6, %hg6, J6⟩
  ihave J7 := (whole_join oM c (outQ Y T c)) $$ [Hout0 Hout1 Hout2 Hout3]
  · isplitl [Hout0]; · iexact Hout0
    isplitl [Hout1]; · iexact Hout1
    isplitl [Hout2]; · iexact Hout2
    iexact Hout3
  icases J7 with ⟨%g7, %hg7, J7⟩
  isplitl [J0]; · iexists g0; iexact J0
  isplitl [J1]; · iexists g1; iexact J1
  isplitl [J2]; · iexists g2; iexact J2
  isplitl [J3]; · iexists g3; iexact J3
  isplitl [J4]; · iexists g4; iexact J4
  isplitl [J5]; · iexists g5; iexact J5
  isplitl [J6]; · iexists g6; iexact J6
  isplitl [J7]
  · iexists g7
    isplitr; · (ipureintro; exact hg7)
    iexact J7
  isplitl [HY]; · iexact HY
  isplitl [HT]; · iexact HT
  isplitl [Howe]; · iexact Howe
  isplitl [HzB]; · iexact HzB
  isplitl [HzS0]; · iexact HzS0
  isplitl [HzS1]; · iexact HzS1
  isplitl [HzS2]; · iexact HzS2
  isplitl [HzS3]; · iexact HzS3
  isplitl [HzS4]; · iexact HzS4
  isplitl [HzS5]; · iexact HzS5
  isplitl [HzS6]; · iexact HzS6
  isplitl [HzS7]; · iexact HzS7
  isplitl [HzS8]; · iexact HzS8
  isplitl [HzS9]; · iexact HzS9
  isplitl [HzS10]; · iexact HzS10
  isplitl [HzS11]; · iexact HzS11
  isplitl [HzR0]; · iexact HzR0
  isplitl [HzR1]; · iexact HzR1
  isplitl [HzR2]; · iexact HzR2
  isplitl [HzR3]; · iexact HzR3
  isplitl [HzR4]; · iexact HzR4
  isplitl [HzR5]; · iexact HzR5
  isplitl [HzR6]; · iexact HzR6
  isplitl [HzR7]; · iexact HzR7
  isplitl [HzR8]; · iexact HzR8
  isplitl [HzR9]; · iexact HzR9
  isplitl [HzR10]; · iexact HzR10
  iexact HzR11

end Cert.KernelIdeal.Comb

end
-- ==== Proof.Data.lean ====
/-
# The reduce-scatter kernel: its proof data

What the one point of the pipeline starts from and leaves, as the library takes it.
-/
module

public import proofs.«01_k».proof.Proof.Body
public import Idealize.ShloMosaic.Lib.Pipeline.CollectiveSegs

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's rows of expert output, and its table of slots. -/
def Yv (c : Dev nD) : Vec F S2560x1024 .bf16 := (win0_0.blk (0 : Fin 1)).view.read (Elt F) (m ((c : Thread nD τ).loc main_arg0))
def Tv (c : Dev nD) : Vec F S2x2048 .i32 := (win0_1.blk (0 : Fin 1)).view.read (Elt F) (m ((c : Thread nD τ).loc main_arg1))

/-- The result's quarters, one below the other. -/
def outAt (Y : Dev nD → Vec F S2560x1024 .bf16) (T : Dev nD → Vec F S2x2048 .i32) (c : Dev nD) : Vec F S1024x1024 .f32 := fun i =>
  have h0 : (i 0).val < 1024 := (i 0).isLt
  outQ Y T c ⟨(i 0).val / 256, by omega⟩ (fun a => match a with
    | ⟨0, _⟩ => ⟨(i 0).val % 256, Nat.mod_lt _ (by decide)⟩
    | ⟨1, _⟩ => ⟨(i 1).val, (i 1).isLt⟩)

theorem out_eq (Y : Dev nD → Vec F S2560x1024 .bf16) (T : Dev nD → Vec F S2x2048 .i32) (c : Dev nD)
    (f : Buf (Elt F) (oM.view.loc (c : Thread nD τ))) (h : ∀ q, (oM.access (rq q)).read (Elt F) f = outQ Y T c q) :
    f = outAt Y T c := by
  funext i
  have h0 : (i 0).val < 1024 := (i 0).isLt
  have e := congrFun (h ⟨(i 0).val / 256, by omega⟩) (fun a => match a with
    | ⟨0, _⟩ => ⟨(i 0).val % 256, Nat.mod_lt _ (by decide)⟩
    | ⟨1, _⟩ => ⟨(i 1).val, (i 1).isLt⟩)
  refine Eq.trans ?_ e
  refine congrArg f (funext fun a => Fin.ext ?_)
  fin_cases a
  · show (i 0).val = 256 * ((i 0).val / 256) + 1 * ((i 0).val % 256); omega
  · show (i 1).val = 0 + 1 * (i 1).val; omega

/-! ## The kernel's own semaphores and cells -/

abbrev osem : Bool × Fin 12 → SemLoc sig := fun x => match x with | (false, i) => .dma (sS i) | (true, i) => .dma (rS i)

theorem ownSemFacts : Pipeline.OwnSemFacts cfg0.spec osem := by decide

/-- The cells of a device by kind. -/
def ckEquiv : Unit ⊕ (Fin 12 ⊕ Fin 12) ≃ CK where
  toFun x := match x with | .inl _ => none | .inr (.inl i) => some (false, i) | .inr (.inr i) => some (true, i)
  invFun x := match x with | none => .inl () | some (false, i) => .inr (.inl i) | some (true, i) => .inr (.inr i)
  left_inv x := by rcases x with _ | _ | _ <;> rfl
  right_inv x := by rcases x with _ | ⟨_ | _, _⟩ <;> rfl

omit [FloatOps F] in
theorem bigSep_CK (Φ : CK → sProp 𝕄) : bigSep Finset.univ Φ
    = iprop(Φ none ∗ (bigSep Finset.univ fun i : Fin 12 => Φ (some (false, i))) ∗ (bigSep Finset.univ fun i : Fin 12 => Φ (some (true, i)))) := by
  rw [bigSep_univ_equiv ckEquiv, bigSep_univ_sum, bigSep_univ_sum, Finset.univ_unique, bigSep_singleton]
  rfl

omit [FloatOps F] in
theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The proof data -/

section Data
variable (Y : Dev nD → Vec F S2560x1024 .bf16) (T : Dev nD → Vec F S2x2048 .i32)

def E0s (c : Dev nD) : sProp 𝕄 := bigSep Finset.univ fun i : Fin 12 => E0 (F := F) c i

/-- The exchanges' share of what device `c` starts from. -/
def start (c : Dev nD) : sProp 𝕄 :=
  iprop((∃ K, recs Y T K)
    ∗ (dutyTok ER (barCell (pe 0 c)) 0 (0 : Fin 3) ∗ dutyTok ER (barCell (pe 1 c)) 0 (1 : Fin 3) ∗ dutyTok ER (barCell (pe 2 c)) 0 (2 : Fin 3))
    ∗ (atPos ER (barCell c) 0 ∅ 0 ∗ cred (tallyAt (barCell c) () 3)) ∗ E0s c)

def scrs (c : Dev nD) : sProp 𝕄 :=
  iprop(scr (F := F) aM c ∗ scr (F := F) (sM 0) c ∗ scr (F := F) (sM 1) c ∗ scr (F := F) (sM 2) c
    ∗ scr (F := F) (rM 0) c ∗ scr (F := F) (rM 1) c ∗ scr (F := F) (rM 2) c)
def zeros (c : Dev nD) : sProp 𝕄 :=
  iprop((bigSep Finset.univ fun i : Fin 12 => semVal (sendCell c i) 0) ∗ (bigSep Finset.univ fun i : Fin 12 => semVal (recvCell c i) 0))

def Φ₀ (c : Dev nD) : sProp 𝕄 := iprop(start Y T c ∗ scrs (F := F) c)
def Φ₁ (c : Dev nD) : sProp 𝕄 := iprop(scrs (F := F) c ∗ zeros (F := F) c ∗ semVal (barCell c) 0)

end Data

def dats (_ : Fin 1) (c : Dev nD) : Dat τ (Elt F) Unit ℕ UU ℕ cfg0 c where
  A w := m ((cfg0.win w).arr.view.loc (c : Thread nD τ))
  after w _ := match w with
    | ⟨0, _⟩ => Yv m c
    | ⟨1, _⟩ => Tv m c
    | ⟨2, _⟩ => outAt (Yv m) (Tv m) c
  Φ t := match t with
    | ⟨0, _⟩ => Φ₀ (Yv m) (Tv m) c
    | ⟨_ + 1, _⟩ => Φ₁ c
  q _ := fullShare
  owed t := match t with
    | ⟨0, _⟩ => owe0 c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer as the pipeline hands it over. -/
abbrev stg (c : Dev nD) (b : Ref sig .tc) (X : b.ty.Contents (Elt F)) : sProp 𝕄 :=
  owns (Ix := Unit) (Name := ℕ) (U := UU) (Lvl := ℕ) (c : Thread nD τ) (Memref.whole b) fullShare X

omit [FloatOps F] in
theorem scr_eq (b : Ref sig .tc) (c : Dev nD) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

set_option maxRecDepth 4000 in
def bodyPre' (c : Dev nD) : sProp 𝕄 :=
  iprop(Φ₀ (Yv m) (Tv m) c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (Yv m c) ∗ stg c cc0_stg1_0 (Tv m c) ∗ stg c cc0_stg2_0 (outAt (Yv m) (Tv m) c))

theorem before_0 (c : Dev nD) (d) : (dats m 0 c).before (0 : Fin 3) t0_0 d = Yv m c := by
  unfold Dat.before; rw [if_pos (fetch0_0 t0_0)]; rfl
theorem before_1 (c : Dev nD) (d) : (dats m 0 c).before (1 : Fin 3) t0_0 d = Tv m c := by
  unfold Dat.before; rw [if_pos (fetch0_1 t0_0)]; rfl

end Cert.KernelIdeal.Comb

end
-- ==== Proof.Run.lean ====
/-
# The reduce-scatter kernel: its run

The body's rule (`sound_body`) as the obligation of the pipeline's one point, the resources of the exchanges dealt
at launch (every cell's invariant allocated for all devices at once, each duty token handed to the device that pays
it), and the run of the program: every device ends with its result array at `finalA`, its arguments unchanged and
every semaphore at zero.
-/
module

public import proofs.«01_k».proof.Proof.Data
public import Idealize.ShloMosaic.Lib.Pipeline.CollectiveSegs

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000 in
/-- The body at the pipeline's point. -/
theorem sound_point (c : Dev nD) : bodyPre' m c ⊢ wp frame (wpE (defs₀ (F := F)) 𝒱₀ (c : Thread nD τ) none) Set.univ
    (cc0__combine_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) (fun _ => bodyPost m c) := by
  unfold bodyPre' Φ₀ start scrs E0s
  rw [bigSep_fin12]
  simp only [before_0, before_1, owns_whole_eq]
  iintro ⟨⟨⟨⟨%K, #Hr⟩, Ht, Hb, He⟩, Hscr⟩, Ho, ⟨%d0, %g0, %hg0, HY⟩, ⟨%d1, %g1, %hg1, HT⟩, ⟨%d2, %g2, %hg2, HO⟩⟩
  subst hg0 hg1
  unfold Dat.owesAt Pipeline.owesWithin
  icases Ho with ⟨%W, %hW, Hw⟩
  icases Ht with ⟨Ht0, Ht1, Ht2⟩
  icases Hb with ⟨Hb0, Hb1⟩
  icases Hscr with ⟨S0, S1, S2, S3, S4, S5, S6⟩
  iapply (sound_body (Yv m) (Tv m) K c fun _ => bodyPost m c) $$ [Ht0 Ht1 Ht2 Hb0 Hb1 He S0 S1 S2 S3 S4 S5 S6 Hw HY HT HO]
  · unfold bodyIn
    isplitr; · iexact Hr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [HO]; · unfold scr; iexists g2; iapply (Entails.of_eq (scr_eq cc0_stg2_0 c g2).symm); iexact HO
    isplitl [HY]; · unfold ptY; iexact HY
    isplitl [HT]; · unfold ptT; iexact HT
    isplitl [Hw]; · unfold oweX; iexists W; iexact Hw
    isplitl [Ht0]; · iexact Ht0
    isplitl [Ht1]; · iexact Ht1
    isplitl [Ht2]; · iexact Ht2
    isplitl [Hb0]; · iexact Hb0
    isplitl [Hb1]; · iexact Hb1
    iexact He
  iintro H
  unfold bodyOut bodyPost Φ₁ scrs zeros Dat.owesAt Pipeline.owesWithin
  simp only [owns_whole_eq]
  rw [bigSep_fin12, bigSep_fin12]
  icases H with ⟨S0, S1, S2, S3, S4, S5, S6, ⟨%f, %hf, HO⟩, HY, HT, Hw, HzB, A0, A1, A2, A3, A4, A5, A6, A7, A8, A9, A10, A11, HR⟩
  unfold oweX
  icases Hw with ⟨%W', Hw⟩
  isplitl [S0 S1 S2 S3 S4 S5 S6 HzB A0 A1 A2 A3 A4 A5 A6 A7 A8 A9 A10 A11 HR]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [A0 A1 A2 A3 A4 A5 A6 A7 A8 A9 A10 A11 HR]
    · isplitl [A0 A1 A2 A3 A4 A5 A6 A7 A8 A9 A10 A11]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        iexact A11
      iexact HR
    iexact HzB
  isplitl [Hw]
  · iexists W'
    isplitr; · ipureintro; exact fun _ _ => Or.inl trivial
    iexact Hw
  isplitl [HY]; · iexists _; isplitr; · (ipureintro; rfl)
                  unfold ptY; iexact HY
  isplitl [HT]; · iexists _; isplitr; · (ipureintro; rfl)
                  unfold ptT; iexact HT
  iexists f; isplitr; · (ipureintro; exact out_eq _ _ c f hf)
  ihave H := (Entails.of_eq (scr_eq cc0_stg2_0 c f)) $$ HO
  iexact H

set_option maxRecDepth 20000 in
set_option maxHeartbeats 2000000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  exact sound_point m c

/-! ## The launch -/

theorem share_eq (c : Dev nD) (w : Fin cfg0.W) : (dats m 0 c).share w = fullShare := by unfold Dat.share; split <;> rfl

theorem csem_injective : Function.Injective csem := by
  intro k k' h
  rcases k with _ | ⟨_ | _, i⟩ <;> rcases k' with _ | ⟨_ | _, i'⟩
  · rfl
  · cases h
  · cases h
  · cases h
  · have := congrArg xOf h; simp only [csem, xOf_s] at this; rw [← this]
  · have := congrArg xOf h; simp only [csem, xOf_s, xOf_r] at this; cases this
  · cases h
  · have := congrArg xOf h; simp only [csem, xOf_s, xOf_r] at this; cases this
  · have := congrArg xOf h; simp only [csem, xOf_r] at this; rw [← this]

theorem kcell_injective : Function.Injective (kcell : Dev nD × CK → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def exCells : Finset (GSem nD τ sig) := Finset.univ.map ⟨kcell, kcell_injective⟩

/-- A device's own cells' duty tokens: its barrier's three, and every exchange cell's one. -/
abbrev TK : Type := Fin 3 ⊕ (Fin 12 ⊕ Fin 12)
def tokOf (cj : Dev nD × TK) : GSem nD τ sig × ℕ × Fin 3 := match cj.2 with
  | .inl a => (barCell cj.1, 0, a) | .inr (.inl i) => (sendCell cj.1 i, 0, 0) | .inr (.inr i) => (recvCell cj.1 i, 0, 0)
theorem tokOf_injective : Function.Injective tokOf := by
  rintro ⟨c, j⟩ ⟨c', j'⟩ h
  have hc : c = c' := by
    have := congrArg (fun x : GSem nD τ sig × ℕ × Fin 3 => x.1.1.1) h
    rcases j with _ | _ | _ <;> rcases j' with _ | _ | _ <;> exact this
  subst hc
  have hx := congrArg (fun x : GSem nD τ sig × ℕ × Fin 3 => xOf x.1.2) h
  have hd := congrArg (fun x : GSem nD τ sig × ℕ × Fin 3 => x.2.2) h
  rcases j with a | i | i <;> rcases j' with a' | i' | i' <;> simp only [tokOf, xOf_s, xOf_r, xOf_bar] at hx hd
  · rw [hd]
  · cases hx
  · cases hx
  · cases hx
  · cases hx; rfl
  · cases hx
  · cases hx
  · cases hx
  · cases hx; rfl
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun a : Fin 3 => dutyTok ER (barCell c) 0 a)
    ∗ (bigSep Finset.univ fun i : Fin 12 => dutyTok ER (sendCell c i) 0 (0 : Fin 3)) ∗ (bigSep Finset.univ fun i : Fin 12 => dutyTok ER (recvCell c i) 0 (0 : Fin 3)))
/-- The duty tokens device `c` pays with. -/
def payToks (c : Dev nD) : sProp 𝕄 :=
  iprop((bigSep Finset.univ fun a : Fin 3 => dutyTok ER (barCell (pe a c)) 0 a)
    ∗ (bigSep Finset.univ fun i : Fin 12 => dutyTok ER (sendCell c i) 0 (0 : Fin 3)) ∗ (bigSep Finset.univ fun i : Fin 12 => dutyTok ER (recvCell (pe (ph i) c) i) 0 (0 : Fin 3)))

section Deal
variable (Y : Dev nD → Vec F S2560x1024 .bf16) (T : Dev nD → Vec F S2x2048 .i32)

/-- What the launch deals device `c`, and what the global step makes of it. -/
def G (c : Dev nD) : sProp 𝕄 :=
  iprop((bigSep Finset.univ fun k : CK => roundState ER (rd Y T) (kcell (c, k)) 0)
    ∗ (bigSep Finset.univ fun k : CK => iprop(atPos ER (kcell (c, k)) 0 ∅ 0 ∗ reached ER (kcell (c, k)) 0)) ∗ toks (F := F) c)

def recs0 (K : Dev nD × CK → ℕ) : sProp 𝕄 :=
  iprop((bigSep Finset.univ fun ck : Dev nD × CK => cellInv ER (rd Y T) (K ck) (kcell ck))
    ∗ (bigSep Finset.univ fun ck : Dev nD × CK => reached ER (kcell ck) 0))
instance recs0_persistent (K : Dev nD × CK → ℕ) : BI.Persistent (recs0 Y T K) := by unfold recs0; infer_instance
def linear (c : Dev nD) : sProp 𝕄 := iprop((bigSep Finset.univ fun k : CK => atPos ER (kcell (c, k)) 0 ∅ 0) ∗ payToks (F := F) c)
def G' (c : Dev nD) : sProp 𝕄 := iprop((∃ K, recs0 Y T K) ∗ linear (F := F) c)

theorem fund_ex : BI.own (ER (initOf exCells exToks)) ⊢ (|==> bigSep Finset.univ (G Y T) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (rd Y T) exCells exToks) $$ HX with ⟨Hst, Hr, Hat, Htok⟩
  imodintro
  ihave Hst' := (Entails.of_eq (hX fun g => roundState ER (rd Y T) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros
  rw [bigSep_univ_prod, bigSep_univ_eq_bigSepL [false, true] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  unfold zeros
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G Y T c)
      ⊢ |={Set.univ}=> iprop((bigSep Finset.univ fun k => iprop(∃ κ : ℕ, cellInv ER (rd Y T) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd Y T) (kcell (c, k)) 0)
      ⊢ (|={Set.univ}=> bigSep Finset.univ fun k => iprop(∃ κ : ℕ, cellInv ER (rd Y T) κ (kcell (c, k))) : sProp 𝕄) from by
        rw [← bigSep_sep']
        exact (bigSep_mono fun k _ => (Rounds.body_intro ER (rd Y T) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Each token to the device that pays it. -/
theorem toks_around : (bigSep Finset.univ fun c : Dev nD => (toks c : sProp 𝕄)) ⊢ bigSep Finset.univ fun c : Dev nD => payToks c := by
  have hB : (bigSep Finset.univ fun c : Dev nD => bigSep Finset.univ fun a : Fin 3 => (dutyTok ER (barCell c) 0 a : sProp 𝕄))
      = bigSep Finset.univ fun c : Dev nD => bigSep Finset.univ fun a : Fin 3 => (dutyTok ER (barCell (pe a c)) 0 a : sProp 𝕄) := by
    rw [bigSep_univ_comm, bigSep_univ_comm (fun (c : Dev nD) (a : Fin 3) => (dutyTok ER (barCell (pe a c)) 0 a : sProp 𝕄))]
    exact bigSep_congr fun a _ => bigSep_univ_equiv (peEquiv a) (fun c : Dev nD => (dutyTok ER (barCell c) 0 a : sProp 𝕄))
  have hR : (bigSep Finset.univ fun c : Dev nD => bigSep Finset.univ fun i : Fin 12 => (dutyTok ER (recvCell c i) 0 (0 : Fin 3) : sProp 𝕄))
      = bigSep Finset.univ fun c : Dev nD => bigSep Finset.univ fun i : Fin 12 => (dutyTok ER (recvCell (pe (ph i) c) i) 0 (0 : Fin 3) : sProp 𝕄) := by
    rw [bigSep_univ_comm, bigSep_univ_comm (fun (c : Dev nD) (i : Fin 12) => (dutyTok ER (recvCell (pe (ph i) c) i) 0 (0 : Fin 3) : sProp 𝕄))]
    exact bigSep_congr fun i _ => bigSep_univ_equiv (peEquiv (ph i)) (fun c : Dev nD => (dutyTok ER (recvCell c i) 0 (0 : Fin 3) : sProp 𝕄))
  unfold toks payToks
  rw [bigSep_sep', bigSep_sep', bigSep_sep', bigSep_sep', hB, hR]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(recs0 Y T K ∗ linear c) ⊢ G' Y T c := by
  unfold G'
  iintro ⟨H, Hl⟩
  isplitl [H]; · iexists K; iexact H
  iexact Hl

theorem regroup :
    (bigSep Finset.univ fun c : Dev nD => iprop((bigSep Finset.univ fun k => iprop(∃ κ : ℕ, cellInv ER (rd Y T) κ (kcell (c, k))))
          ∗ (bigSep Finset.univ fun k => iprop(atPos ER (kcell (c, k)) 0 ∅ 0 ∗ reached ER (kcell (c, k)) 0)) ∗ toks c) : sProp 𝕄)
      ⊢ bigSep Finset.univ (G' Y T) := by
  rw [bigSep_sep', bigSep_sep', ← bigSep_univ_prod (fun ck : Dev nD × CK => iprop(∃ κ : ℕ, cellInv ER (rd Y T) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd Y T) κ (kcell ck) : sProp 𝕄))) $$ HI
  icases HK with ⟨%K, #HI⟩
  ihave Htk := (toks_around (F := F)) $$ Htok
  iapply (bigSep_with_persistent (R := recs0 Y T K) fun c _ => ghost_intro Y T K c)
  isplitr
  · unfold recs0; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G Y T c) : sProp 𝕄)
    ⊢ |={Set.univ}=> bigSep Finset.univ (G' Y T) :=
  ((bigSep_mono fun c _ => core_alloc Y T c).trans (bigSep_fupd _ _)).trans (BI.fupd_mono (regroup Y T))

end Deal

/-! ### The launch credit -/

/-- The devices' tallies on one kind of cell, each at its peer's, add up to one. -/
theorem sum_tally (f : Dev nD → GSem nD τ sig) (hf : Function.Injective f) (a : Fin 3) (c : Dev nD) (n : ℕ) :
    (∑ d : Dev nD, (tallyAt (f (pe a d)) () n : CellTallies nD τ sig Unit) (f c) ()) = n := by
  rw [Finset.sum_eq_single (pe a c)]
  · rw [pe_pe, tallyAt_apply, if_pos ⟨rfl, rfl⟩]
  · intro d _ hd
    rw [tallyAt_apply, if_neg]
    rintro ⟨h, -⟩
    exact hd (by rw [hf h, pe_pe])
  · intro h; exact absurd (Finset.mem_univ _) h

theorem sum_tally_ne (f : Dev nD → GSem nD τ sig) (g : GSem nD τ sig) (hg : ∀ d, f d ≠ g) (n : ℕ) :
    (∑ d : Dev nD, (tallyAt (f d) () n : CellTallies nD τ sig Unit) g ()) = 0 :=
  Finset.sum_eq_zero fun d _ => by rw [tallyAt_apply, if_neg (fun h => hg d h.1.symm)]

theorem bar_inj : Function.Injective (fun c : Dev nD => barCell c) := fun a b h =>
  Fin.ext (congrArg (fun g : GSem nD τ sig => g.1.1.val) h)
theorem recv_inj (i : Fin 12) : Function.Injective (fun c : Dev nD => recvCell c i) := fun a b h =>
  Fin.ext (congrArg (fun g : GSem nD τ sig => g.1.1.val) h)
theorem recv_ne_bar' (c d : Dev nD) (i : Fin 12) : recvCell c i ≠ barCell d := fun h => recv_ne_bar i (congrArg Prod.snd h)
theorem recv_ne_recv (c d : Dev nD) {i j : Fin 12} (h : i ≠ j) : recvCell c i ≠ recvCell d j := fun e => by
  have := congrArg (fun g : GSem nD τ sig => xOf g.2) e
  simp only [xOf_r] at this
  exact h (by cases this; rfl)

theorem sumS_bar (c : Dev nD) (k : ℕ) : (∑ d : Dev nD, oweS d k (barCell c) ()) = 0 :=
  Finset.sum_eq_zero fun d _ => Nat.eq_zero_of_not_pos fun h => by
    obtain ⟨i, -, hg⟩ := oweS_pos h
    exact recv_ne_bar' _ _ _ hg.symm

theorem sumS_recv (c : Dev nD) (i : Fin 12) : ∀ k : ℕ, k ≤ 12 → (∑ d : Dev nD, oweS d k (recvCell c i) ()) = if 12 ≤ i.val + k then N else 0
  | 0, _ => by
    rw [if_neg (by have := i.isLt; omega)]
    exact Finset.sum_eq_zero fun d _ => rfl
  | k + 1, hk => by
    have h : (∑ d : Dev nD, oweS d (k + 1) (recvCell c i) ())
        = (∑ d : Dev nD, oweS d k (recvCell c i) ()) + ∑ d : Dev nD, (tallyAt (recvCell (pe (ph (ix k)) d) (ix k)) () N : CellTallies nD τ sig Unit) (recvCell c i) () := by
      rw [← Finset.sum_add_distrib]; rfl
    rw [h, sumS_recv c i k (by omega)]
    by_cases e : ix k = i
    · rw [e, sum_tally (fun d => recvCell d i) (recv_inj i)]
      have : i.val = 11 - k := by rw [← e]; rfl
      rw [if_neg (by omega), if_pos (by omega), Nat.zero_add]
    · rw [sum_tally_ne (fun d => recvCell (pe (ph (ix k)) d) (ix k)) _ (fun d => recv_ne_recv _ _ e), Nat.add_zero]
      have hi := i.isLt
      have : i.val ≠ 11 - k := fun h => e (Fin.ext h.symm)
      by_cases hh : 12 ≤ i.val + k
      · rw [if_pos hh, if_pos (by omega)]
      · rw [if_neg hh, if_neg (by omega)]

theorem sum0 (g : GSem nD τ sig) : (∑ d : Dev nD, owe0 d g ()) = (∑ d : Dev nD, oweS d 12 g ())
    + (∑ d : Dev nD, (tallyAt (barCell (pe 2 d)) () 1 : CellTallies nD τ sig Unit) g ())
    + (∑ d : Dev nD, (tallyAt (barCell (pe 1 d)) () 1 : CellTallies nD τ sig Unit) g ())
    + (∑ d : Dev nD, (tallyAt (barCell (pe 0 d)) () 1 : CellTallies nD τ sig Unit) g ()) := by
  rw [← Finset.sum_add_distrib, ← Finset.sum_add_distrib, ← Finset.sum_add_distrib]; rfl

theorem launch_bar (c : Dev nD) :
    tallyOn (barCell c) (launchCredit (Pipeline.owing owe0) 0 (barCell c)) = (tallyAt (barCell c) () 3 : CellTallies nD τ sig Unit) := by
  unfold tallyAt; refine congrArg _ (Finsupp.ext fun u => ?_); cases u
  rw [Pipeline.launchCredit_owing, Finsupp.single_eq_same, sum0, sumS_bar, sum_tally _ bar_inj, sum_tally _ bar_inj, sum_tally _ bar_inj]

theorem launch_recv (c : Dev nD) (i : Fin 12) :
    tallyOn (recvCell c i) (launchCredit (Pipeline.owing owe0) 0 (recvCell c i)) = (tallyAt (recvCell c i) () N : CellTallies nD τ sig Unit) := by
  unfold tallyAt; refine congrArg _ (Finsupp.ext fun u => ?_); cases u
  have hb (a : Fin 3) : (∑ d : Dev nD, (tallyAt (barCell (pe a d)) () 1 : CellTallies nD τ sig Unit) (recvCell c i) ()) = 0 :=
    sum_tally_ne _ _ (fun d h => recv_ne_bar' _ _ _ h.symm) 1
  rw [Pipeline.launchCredit_owing, Finsupp.single_eq_same, sum0, hb, hb, hb, sumS_recv c i 12 (Nat.le_refl _), if_pos (by omega), Nat.add_zero]

omit [FloatOps F] in
theorem creds (c : Dev nD) :
    (Pipeline.launchCred owe0 c : sProp 𝕄) ⊢ iprop(cred (tallyAt (barCell c) () 3) ∗ bigSep Finset.univ fun i : Fin 12 => cred (tallyAt (recvCell c i) () N)) := by
  have hinj : Function.Injective (fun i : Fin 12 => (SemLoc.dma (rS i) : SemLoc sig)) := fun i j h => by
    have := congrArg xOf h
    simp only [xOf_r] at this
    cases this; rfl
  have hsub : Finset.univ.map ⟨fun i : Fin 12 => (SemLoc.dma (rS i) : SemLoc sig), hinj⟩ ⊆ Finset.univ.erase (SemLoc.reg barS) := fun x hx => by
    obtain ⟨i, -, rfl⟩ := Finset.mem_map.mp hx
    exact Finset.mem_erase.mpr ⟨recv_ne_bar i, Finset.mem_univ _⟩
  unfold Pipeline.launchCred
  rw [bigSep_univ_at _ (SemLoc.reg barS), launch_bar]
  refine sep_mono_right ?_
  refine BI.Entails.trans (bigSep_subset hsub) ?_
  rw [bigSep_map]
  exact bigSep_mono fun i _ => show (_ : sProp 𝕄) ⊢ _ from Entails.of_eq (congrArg cred (launch_recv c i))

/-! ### The theorem's side conditions -/

theorem start_intro (Y : Dev nD → Vec F S2560x1024 .bf16) (T : Dev nD → Vec F S2x2048 .i32) (c : Dev nD) :
    iprop(levAts L lv ∗ Pipeline.launchCred owe0 c ∗ G' Y T c) ⊢ (start Y T c : sProp 𝕄) := by
  unfold start G' linear payToks E0s E0
  rw [bigSep_CK, bigSep_fin3]
  simp only [bigSep_sep']
  iintro ⟨Hlev, Hcr, ⟨%K, HR⟩, ⟨HaB, HaS, HaR⟩, Ht, HtS, HtR⟩
  ihave Hc := (creds (F := F) c) $$ Hcr
  icases Hc with ⟨H1, HN⟩
  isplitl [HR Hlev]
  · iexists K
    unfold recs0 recs
    icases HR with ⟨HR1, HR2⟩
    isplitl [HR1]; · iexact HR1
    isplitl [HR2]; · iexact HR2
    iexact Hlev
  isplitl [Ht]; · iexact Ht
  isplitl [HaB H1]
  · isplitl [HaB]; · iexact HaB
    iexact H1
  isplitl [HaS]; · iexact HaS
  isplitl [HaR]; · iexact HaR
  isplitl [HtS]; · iexact HtS
  isplitl [HtR]; · iexact HtR
  iexact HN

theorem start_intro' (c : Dev nD) :
    iprop(Pipeline.unscopedRestP Pipeline.Prefetch.none cfg0.spec c (fun b => m ((c : Thread nD τ).loc b)) ∗ levAts L lv
        ∗ Pipeline.launchCred owe0 c ∗ prngReg c (ρ c) ∗ G' (Yv m) (Tv m) c)
      ⊢ |={Set.univ}=> iprop(start (Yv m) (Tv m) c ∗ emp) := by
  iintro ⟨-, Hlev, Hcr, -, HG⟩
  imodintro
  isplitl
  · iapply (start_intro (Yv m) (Tv m) c)
    isplitl [Hlev]; · iexact Hlev
    isplitl [Hcr]; · iexact Hcr
    iexact HG
  · iempintro

omit [FloatOps F] in
theorem scr0_eq (c : Dev nD) : (scr (F := F) aM c : sProp 𝕄)
    = iprop(∃ f : Buf (Elt F) ((c : Thread nD τ).loc cc0_scratch0), ((c : Thread nD τ).loc cc0_scratch0) ↦{fullShare} f) := by
  unfold scr; simp only [Memref.view_whole, View.set_whole]
omit [FloatOps F] in
theorem scr1_eq (c : Dev nD) : (scr (F := F) (sM 0) c : sProp 𝕄)
    = iprop(∃ f : Buf (Elt F) ((c : Thread nD τ).loc cc0_scratch1), ((c : Thread nD τ).loc cc0_scratch1) ↦{fullShare} f) := by
  unfold scr; simp only [Memref.view_whole, View.set_whole]
omit [FloatOps F] in
theorem scr2_eq (c : Dev nD) : (scr (F := F) (sM 1) c : sProp 𝕄)
    = iprop(∃ f : Buf (Elt F) ((c : Thread nD τ).loc cc0_scratch2), ((c : Thread nD τ).loc cc0_scratch2) ↦{fullShare} f) := by
  unfold scr; simp only [Memref.view_whole, View.set_whole]
omit [FloatOps F] in
theorem scr3_eq (c : Dev nD) : (scr (F := F) (sM 2) c : sProp 𝕄)
    = iprop(∃ f : Buf (Elt F) ((c : Thread nD τ).loc cc0_scratch3), ((c : Thread nD τ).loc cc0_scratch3) ↦{fullShare} f) := by
  unfold scr; simp only [Memref.view_whole, View.set_whole]
omit [FloatOps F] in
theorem scr4_eq (c : Dev nD) : (scr (F := F) (rM 0) c : sProp 𝕄)
    = iprop(∃ f : Buf (Elt F) ((c : Thread nD τ).loc cc0_scratch4), ((c : Thread nD τ).loc cc0_scratch4) ↦{fullShare} f) := by
  unfold scr; simp only [Memref.view_whole, View.set_whole]
omit [FloatOps F] in
theorem scr5_eq (c : Dev nD) : (scr (F := F) (rM 1) c : sProp 𝕄)
    = iprop(∃ f : Buf (Elt F) ((c : Thread nD τ).loc cc0_scratch5), ((c : Thread nD τ).loc cc0_scratch5) ↦{fullShare} f) := by
  unfold scr; simp only [Memref.view_whole, View.set_whole]
omit [FloatOps F] in
theorem scr6_eq (c : Dev nD) : (scr (F := F) (rM 2) c : sProp 𝕄)
    = iprop(∃ f : Buf (Elt F) ((c : Thread nD τ).loc cc0_scratch6), ((c : Thread nD τ).loc cc0_scratch6) ↦{fullShare} f) := by
  unfold scr; simp only [Memref.view_whole, View.set_whole]
omit [FloatOps F] in
theorem scrs_eq (c : Dev nD) : (Pipeline.scopedRest (Ix := Unit) (Name := ℕ) (U := UU) (Lvl := ℕ) (Val := Elt F) spec0 c : sProp 𝕄) = scrs c := by
  rw [scopedRest0_eq]
  unfold scrs
  rw [scr0_eq, scr1_eq, scr2_eq, scr3_eq, scr4_eq, scr5_eq, scr6_eq]

theorem phi_zero (c : Dev nD) : (dats m 0 c).Φ 0 = Φ₀ (Yv m) (Tv m) c := rfl
theorem phi_last (c : Dev nD) : (dats m 0 c).Φ (Fin.last cfg0.N) = Φ₁ c := rfl

theorem phi0_intro (c : Dev nD) :
    iprop(start (Yv m) (Tv m) c ∗ Pipeline.prefHeld Pipeline.Prefetch.none c (fun _ => fullShare.right) (fun k => k.elim0) ∗ Pipeline.scopedRest cfg0.spec c)
      ⊢ (dats m 0 c).Φ 0 := by
  rw [phi_zero]
  unfold Φ₀
  iintro ⟨Hs, -, Hr⟩
  isplitl [Hs]; · iexact Hs
  ihave H := (Entails.of_eq (scrs_eq c)) $$ Hr
  iexact H

theorem phi1_exit (c : Dev nD) :
    (dats m 0 c).Φ (Fin.last cfg0.N) ⊢ iprop(unscopedSems0 c ∗ Pipeline.ownSems0 osem c ∗ Pipeline.scopedRest cfg0.spec c) := by
  rw [phi_last, ownSems0_eq, unscopedSems0_eq]
  unfold Φ₁
  iintro ⟨Hr, Hz, HzB⟩
  isplitl [HzB]; · iexact HzB
  isplitl [Hz]; · iexact Hz
  ihave H := (Entails.of_eq (scrs_eq c).symm) $$ Hr
  iexact H

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with zero counters: every weakly fair execution ends, with each device's
    result array at the computed contents, its arguments unchanged and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owe0) (howed₀ := fun _ => rfl) (howedN := fun _ => rfl)
    (L := L) (lv := lv) (hL := L_of_ne) (hwaits := waits m)
    (G := G (Yv m) (Tv m)) (G' := G' (Yv m) (Tv m)) (u₀ := u₀)
    (hu₀ := by
      unfold u₀
      iintro Hu
      ihave H := (ownU_pair _ _) $$ Hu
      icases H with ⟨HP, HX⟩
      imod (fund_ex (Yv m) (Tv m)) $$ HX with HG
      imodintro
      isplitl [HP] <;> iassumption)
    (hglob := glob (Yv m) (Tv m))
    (hA := fun _ _ => rfl) (hpf := fun _ k => k.elim0)
    (X := start (Yv m) (Tv m)) (Y := fun c => unscopedSems0 c) (Z := fun _ => iprop(emp))
    (hX := start_intro' m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Comb

end
-- ==== Proof.Val.lean ====
module

public import proofs.«01_k».proof.Proof.Data
public import Idealize.ShloMosaic.Lib.Pointwise
public import Idealize.ShloMosaic.Lib.ValueIdx
public import Idealize.ShloMosaic.PureOps.Ideal.Laws

@[expose] public section

noncomputable section

namespace Cert.KernelIdeal.Comb

open Cert.KernelIdeal Cert.KernelIdeal.Gen Idealize.ShloMosaic Idealize.ShloMosaic.TcCoe Idealize.SL.Sem

/-- Row `t` of a table, zero where `t` names no row. -/
def gat (t : BitVec 32) (f : Fin 2560 → EReal) : EReal := if h : t.toNat < 2560 then f ⟨t.toNat, h⟩ else 0

theorem sitofp_cmp (a b : BitVec 32) :
    (FloatOps.sitofp (F := Ideal) .f32 (BitVec.setWidth 32 (IntOp.cmpi CmpIPredicate.eq a b)) : EReal) = if a = b then 1 else 0 := by
  show (((BitVec.setWidth 32 (IntOp.cmpi CmpIPredicate.eq a b)).toInt : ℝ) : EReal) = _
  by_cases h : a = b
  · subst h
    simp [IntOp.cmpi]
  · have : (a == b) = false := by simpa using h
    simp [IntOp.cmpi, h, this]

theorem hit_sum (t : BitVec 32) (f : Fin 2560 → EReal) :
    ∑ s : Fin 2560, (if t = BitVec.ofNat 32 s.val then (1 : EReal) else 0) * f s = gat t f := by
  unfold gat
  split
  · rename_i h
    rw [Finset.sum_eq_single ⟨t.toNat, h⟩]
    · rw [if_pos (by simp), one_mul]
    · intro s _ hs
      rw [if_neg, zero_mul]
      intro e
      apply hs
      apply Fin.ext
      have := congrArg BitVec.toNat e
      rw [BitVec.toNat_ofNat, Nat.mod_eq_of_lt (by have := s.isLt; omega)] at this
      exact this.symm
    · simp
  · rename_i h
    refine Finset.sum_eq_zero fun s _ => ?_
    rw [if_neg, zero_mul]
    intro e
    apply h
    have := congrArg BitVec.toNat e
    rw [BitVec.toNat_ofNat, Nat.mod_eq_of_lt (by have := s.isLt; omega)] at this
    rw [this]; exact s.isLt

theorem hits_sum (t u : BitVec 32) (f : Fin 2560 → EReal) :
    ∑ s : Fin 2560, ((if t = BitVec.ofNat 32 s.val then (1 : EReal) else 0) + (if u = BitVec.ofNat 32 s.val then (1 : EReal) else 0)) * f s
      = gat t f + gat u f := by
  rw [← hit_sum, ← hit_sum, ← Finset.sum_add_distrib]
  refine Finset.sum_congr rfl fun s _ => EReal.right_distrib_of_nonneg ?_ ?_
  · split <;> simp
  · split <;> simp

theorem pay6_apply (a b : Vec Ideal S1x256 .i32) (y : Vec Ideal S2560x1024 .bf16) (r : Fin 256) (d : Fin 1024) :
    k0_pay6 a b y (ix2 r d) = gat (a (ix2 0 r)) (fun s => y (ix2 s d)) + gat (b (ix2 0 r)) (fun s => y (ix2 s d)) := by
  rw [← hits_sum]
  pointwise [k0_pay6]
  simp only [sitofp_cmp]

theorem pay2_apply (a b : Vec Ideal S1x256 .i32) (y : Vec Ideal S2560x1024 .bf16) (r : Fin 256) (d : Fin 1024) :
    k0_pay2 a b y (ix2 r d) = gat (a (ix2 0 r)) (fun s => y (ix2 s d)) + gat (b (ix2 0 r)) (fun s => y (ix2 s d)) := by
  rw [← hits_sum]
  pointwise [k0_pay2]
  simp only [sitofp_cmp]

theorem pay11_apply (a : Vec Ideal S256x1024 .f32) (b : Vec Ideal S256x1024 .bf16) (r : Fin 256) (d : Fin 1024) :
    (k0_pay11 a b (ix2 r d) : EReal) = a (ix2 r d) + b (ix2 r d) := by pointwise [k0_pay11]
theorem pay19_apply (a : Vec Ideal S256x1024 .f32) (b : Vec Ideal S256x1024 .bf16) (r : Fin 256) (d : Fin 1024) :
    (k0_pay19 a b (ix2 r d) : EReal) = a (ix2 r d) + b (ix2 r d) := by pointwise [k0_pay19]
theorem pay27_apply (a : Vec Ideal S256x1024 .f32) (b : Vec Ideal S256x1024 .bf16) (r : Fin 256) (d : Fin 1024) :
    (k0_pay27 a b (ix2 r d) : EReal) = a (ix2 r d) + b (ix2 r d) := by pointwise [k0_pay27]
theorem pay12_apply (a : Vec Ideal S256x1024 .f32) (r : Fin 256) (d : Fin 1024) :
    (k0_pay12 a (ix2 r d) : EReal) = a (ix2 r d) := by pointwise [k0_pay12]
theorem pay20_apply (a : Vec Ideal S256x1024 .f32) (r : Fin 256) (d : Fin 1024) :
    (k0_pay20 a (ix2 r d) : EReal) = a (ix2 r d) := by pointwise [k0_pay20]

variable (Y : Dev nD → Vec Ideal S2560x1024 .bf16) (T : Dev nD → Vec Ideal S2x2048 .i32)

/-- The `y` coordinate of a device. -/
def yc (c : Dev nD) : ℕ := c.val / 2 % 2

theorem yc_lt (c : Dev nD) : yc c < 2 := Nat.mod_lt _ (by decide)

theorem row_lt (c : Dev nD) (q : Fin 4) (r : Fin 256) : 1024 * yc c + 256 * q.val + r.val < 2048 := by
  have := yc_lt c; omega

/-- What device `e` holds of token row `n` of the table, both choices. -/
def part (e : Dev nD) (n : Fin 2048) (d : Fin 1024) : EReal :=
  gat (T e (ix2 0 n)) (fun s => Y e (ix2 s d)) + gat (T e (ix2 1 n)) (fun s => Y e (ix2 s d))

theorem off1_eq : ∀ (c : Dev nD) (q : Fin 4), k0_off1 c (BitVec.ofNat 32 (256 * q.val)) = ![0, 1024 * yc (pe 0 c) + 256 * q.val] := by decide +kernel
theorem off2_eq : ∀ (c : Dev nD) (q : Fin 4), k0_off2 c (BitVec.ofNat 32 (256 * q.val)) = ![1, 1024 * yc (pe 0 c) + 256 * q.val] := by decide +kernel
theorem off3_eq : ∀ (c : Dev nD) (q : Fin 4), k0_off3 c (BitVec.ofNat 32 (256 * q.val)) = ![0, 1024 * yc c + 256 * q.val] := by decide +kernel
theorem off4_eq : ∀ (c : Dev nD) (q : Fin 4), k0_off4 c (BitVec.ofNat 32 (256 * q.val)) = ![1, 1024 * yc c + 256 * q.val] := by decide +kernel

theorem t1_apply (c : Dev nD) (q : Fin 4) (r : Fin 256) : t1 T c q (ix2 0 r) = T c (ix2 0 ⟨_, row_lt (pe 0 c) q r⟩) := by
  unfold t1
  show T c _ = _
  refine congrArg (T c) (funext fun a => Fin.ext ?_)
  match a with
  | ⟨0, _⟩ => show (k0_off1 c (BitVec.ofNat 32 (256 * q.val))) 0 + 1 * 0 = 0; rw [off1_eq]; rfl
  | ⟨1, _⟩ => show (k0_off1 c (BitVec.ofNat 32 (256 * q.val))) 1 + 1 * r.val = _; rw [off1_eq, Nat.one_mul]; rfl
theorem t2_apply (c : Dev nD) (q : Fin 4) (r : Fin 256) : t2 T c q (ix2 0 r) = T c (ix2 1 ⟨_, row_lt (pe 0 c) q r⟩) := by
  unfold t2
  show T c _ = _
  refine congrArg (T c) (funext fun a => Fin.ext ?_)
  match a with
  | ⟨0, _⟩ => show (k0_off2 c (BitVec.ofNat 32 (256 * q.val))) 0 + 1 * 0 = 1; rw [off2_eq]; rfl
  | ⟨1, _⟩ => show (k0_off2 c (BitVec.ofNat 32 (256 * q.val))) 1 + 1 * r.val = _; rw [off2_eq, Nat.one_mul]; rfl
theorem t3_apply (c : Dev nD) (q : Fin 4) (r : Fin 256) : t3 T c q (ix2 0 r) = T c (ix2 0 ⟨_, row_lt c q r⟩) := by
  unfold t3
  show T c _ = _
  refine congrArg (T c) (funext fun a => Fin.ext ?_)
  match a with
  | ⟨0, _⟩ => show (k0_off3 c (BitVec.ofNat 32 (256 * q.val))) 0 + 1 * 0 = 0; rw [off3_eq]; rfl
  | ⟨1, _⟩ => show (k0_off3 c (BitVec.ofNat 32 (256 * q.val))) 1 + 1 * r.val = _; rw [off3_eq, Nat.one_mul]; rfl
theorem t4_apply (c : Dev nD) (q : Fin 4) (r : Fin 256) : t4 T c q (ix2 0 r) = T c (ix2 1 ⟨_, row_lt c q r⟩) := by
  unfold t4
  show T c _ = _
  refine congrArg (T c) (funext fun a => Fin.ext ?_)
  match a with
  | ⟨0, _⟩ => show (k0_off4 c (BitVec.ofNat 32 (256 * q.val))) 0 + 1 * 0 = 1; rw [off4_eq]; rfl
  | ⟨1, _⟩ => show (k0_off4 c (BitVec.ofNat 32 (256 * q.val))) 1 + 1 * r.val = _; rw [off4_eq, Nat.one_mul]; rfl

theorem pe_pe0 (c : Dev nD) : pe 0 (pe 0 c) = c := pe_pe 0 c
theorem yc_pe1 : ∀ c : Dev nD, yc (pe 1 c) = yc c := by decide
theorem yc_pe2 : ∀ c : Dev nD, yc (pe 2 c) = yc c := by decide

theorem acc1_apply (c : Dev nD) (q : Fin 4) (r : Fin 256) (d : Fin 1024) :
    (acc1 Y T c q (ix2 r d) : EReal) = part Y T c ⟨_, row_lt c q r⟩ d + part Y T (pe 0 c) ⟨_, row_lt c q r⟩ d := by
  unfold acc1 acc0 sentY
  rw [pay11_apply, pay6_apply, pay2_apply, t1_apply, t2_apply, t3_apply, t4_apply]
  unfold part
  simp only [pe_pe0]

theorem acc2_apply (c : Dev nD) (q : Fin 4) (r : Fin 256) (d : Fin 1024) :
    (acc2 Y T c q (ix2 r d) : EReal) = (part Y T c ⟨_, row_lt c q r⟩ d + part Y T (pe 0 c) ⟨_, row_lt c q r⟩ d)
      + (part Y T (pe 1 c) ⟨_, row_lt c q r⟩ d + part Y T (pe 0 (pe 1 c)) ⟨_, row_lt c q r⟩ d) := by
  unfold acc2 sentX
  rw [pay19_apply, pay12_apply, acc1_apply, acc1_apply]
  simp only [yc_pe1]

theorem outQ_apply (c : Dev nD) (q : Fin 4) (r : Fin 256) (d : Fin 1024) :
    (outQ Y T c q (ix2 r d) : EReal) = ∑ e : Dev nD, part Y T e ⟨_, row_lt c q r⟩ d := by
  unfold outQ sentZ
  rw [pay27_apply, pay20_apply, acc2_apply, acc2_apply]
  simp only [yc_pe2]
  generalize (⟨_, row_lt c q r⟩ : Fin 2048) = n
  have key : ∀ (f : Dev nD → EReal) (c : Dev nD),
      f c + f (pe 0 c) + (f (pe 1 c) + f (pe 0 (pe 1 c))) + (f (pe 2 c) + f (pe 0 (pe 2 c)) + (f (pe 1 (pe 2 c)) + f (pe 0 (pe 1 (pe 2 c)))))
        = ∑ e : Dev nD, f e := by
    intro f c
    have h : ∀ c : Dev nD, ([c, pe 0 c, pe 1 c, pe 0 (pe 1 c), pe 2 c, pe 0 (pe 2 c), pe 1 (pe 2 c), pe 0 (pe 1 (pe 2 c))] : List (Dev nD)).Nodup
      ∧ ([c, pe 0 c, pe 1 c, pe 0 (pe 1 c), pe 2 c, pe 0 (pe 2 c), pe 1 (pe 2 c), pe 0 (pe 1 (pe 2 c))] : List (Dev nD)).toFinset = Finset.univ := by decide
    rw [← (h c).2, List.sum_toFinset _ (h c).1]
    simp only [List.map_cons, List.map_nil, List.sum_cons, List.sum_nil]
    abel
  exact key (fun e => part Y T e n d) c

theorem out_lt (c : Dev nD) (n : Fin 1024) : 1024 * yc c + n.val < 2048 := by have := yc_lt c; omega

/-- What a device ends with: of each of its tokens, the rows that the devices of the mesh hold, summed. -/
theorem outAt_apply (c : Dev nD) (n : Fin 1024) (d : Fin 1024) :
    (outAt Y T c (ix2 n d) : EReal) = ∑ e : Dev nD, part Y T e ⟨1024 * yc c + n.val, out_lt c n⟩ d := by
  unfold outAt
  refine (outQ_apply Y T c ⟨n.val / 256, by omega⟩ ⟨n.val % 256, by omega⟩ d).trans ?_
  refine Finset.sum_congr rfl fun e _ => ?_
  congr 1
  apply Fin.ext
  show 1024 * yc c + 256 * (n.val / 256) + n.val % 256 = 1024 * yc c + n.val
  omega

end Cert.KernelIdeal.Comb
-- ==== Proof.RefVal.lean ====
module

public import proofs.«01_k».proof.Proof.Val
public import proofs.«01_k».proof.Proof.Gen.ReferenceIdeal.Run
public import Idealize.ShloMosaic.Lib.Routing.Ops

@[expose] public section

noncomputable section

namespace Cert.ReferenceIdeal.RefVal

open Cert.ReferenceIdeal Cert.ReferenceIdeal.Gen Idealize.ShloMosaic Idealize.ShloMosaic.TcCoe Idealize.SL.Sem
open Cert.KernelIdeal.Comb (gat)

/-- The rows that a slot vector names of a table, zero for a slot that is no row. -/
def gsel (x : FVec Ideal S2560x1024 .f32) (t : IVec S2048 32) : FVec Ideal S2048x1024 .f32 :=
  select (broadcastInDim S2048x1024 ![0, 1] bcast_S2048x1_S2048x1024_0_1 (broadcastInDim S2048x1 ![0] bcast_S2048_S2048x1_0 (andi (cmpi .sge t (broadcastInDim S2048 ![] bcast_S_S2048 (constantI S_ 32 0#32))) (cmpi .slt t (broadcastInDim S2048 ![] bcast_S_S2048 (constantI S_ 32 2560#32))))))
    (Host.gather gather_S2560x1024_S2048x1_S2048x1024_1_0_n_n_0_1_11024 x
      (broadcastInDim S2048x1 ![0] bcast_S2048_S2048x1_0 (select (cmpi .slt (minsi (broadcastInDim S2048 ![] bcast_S_S2048 (id (constantI S_ 32 2559#32))) (maxsi (broadcastInDim S2048 ![] bcast_S_S2048 (id (constantI S_ 32 0#32))) t)) (broadcastInDim S2048 ![] bcast_S_S2048 (constantI S_ 32 0#32))) (addi (minsi (broadcastInDim S2048 ![] bcast_S_S2048 (id (constantI S_ 32 2559#32))) (maxsi (broadcastInDim S2048 ![] bcast_S_S2048 (id (constantI S_ 32 0#32))) t)) (broadcastInDim S2048 ![] bcast_S_S2048 (constantI S_ 32 2560#32))) (minsi (broadcastInDim S2048 ![] bcast_S_S2048 (id (constantI S_ 32 2559#32))) (maxsi (broadcastInDim S2048 ![] bcast_S_S2048 (id (constantI S_ 32 0#32))) t)))))
    (broadcastInDim S2048x1024 ![] bcast_S_S2048x1024 (id (constant S_ .f32 0x00000000#32)))

/-- The table of half `b`, summed over the four devices of the half. -/
def tab0 (a : FVec Ideal S20480x1024 .bf16) : FVec Ideal S2560x1024 .f32 :=
  Host.reduceAdd (Host.reduceAdd (shapeCast _ (extractStridedSlice S2x1x2x2560x1024 ![0, 0, 0, 0, 0] (extf .f32 (shapeCast _ a shapeCasts_S20480x1024_S2x2x2x2560x1024) bitsLt_bf16_f32) slices_S2x2x2x2560x1024_S2x1x2x2560x1024_0_0_0_0_0) shapeCasts_S2x1x2x2560x1024_S2x2x2560x1024) (constant S_ .f32 0x00000000#32) reducesTo_S2x2x2560x1024_S2x2560x1024_d0 h_S_) (constant S_ .f32 0x00000000#32) reducesTo_S2x2560x1024_S2560x1024_d0 h_S_
def tab1 (a : FVec Ideal S20480x1024 .bf16) : FVec Ideal S2560x1024 .f32 :=
  Host.reduceAdd (Host.reduceAdd (shapeCast _ (extractStridedSlice S2x1x2x2560x1024 ![0, 1, 0, 0, 0] (extf .f32 (shapeCast _ a shapeCasts_S20480x1024_S2x2x2x2560x1024) bitsLt_bf16_f32) slices_S2x2x2x2560x1024_S2x1x2x2560x1024_0_1_0_0_0) shapeCasts_S2x1x2x2560x1024_S2x2x2560x1024) (constant S_ .f32 0x00000000#32) reducesTo_S2x2x2560x1024_S2x2560x1024_d0 h_S_) (constant S_ .f32 0x00000000#32) reducesTo_S2x2560x1024_S2560x1024_d0 h_S_

def tok00 (s : IVec S4x2048 32) : IVec S2048 32 := shapeCast _ (extractStridedSlice S1x1x2048 ![0, 0, 0] (shapeCast _ s shapeCasts_S4x2048_S2x2x2048) slices_S2x2x2048_S1x1x2048_0_0_0) shapeCasts_S1x1x2048_S2048
def tok01 (s : IVec S4x2048 32) : IVec S2048 32 := shapeCast _ (extractStridedSlice S1x1x2048 ![0, 1, 0] (shapeCast _ s shapeCasts_S4x2048_S2x2x2048) slices_S2x2x2048_S1x1x2048_0_1_0) shapeCasts_S1x1x2048_S2048
def tok10 (s : IVec S4x2048 32) : IVec S2048 32 := shapeCast _ (extractStridedSlice S1x1x2048 ![1, 0, 0] (shapeCast _ s shapeCasts_S4x2048_S2x2x2048) slices_S2x2x2048_S1x1x2048_1_0_0) shapeCasts_S1x1x2048_S2048
def tok11 (s : IVec S4x2048 32) : IVec S2048 32 := shapeCast _ (extractStridedSlice S1x1x2048 ![1, 1, 0] (shapeCast _ s shapeCasts_S4x2048_S2x2x2048) slices_S2x2x2048_S1x1x2048_1_1_0) shapeCasts_S1x1x2048_S2048

theorem res_eq (m : (ℓ : Loc nD τ sig) → Buf (Elt Ideal) ℓ) (c : Dev nD) : Value.res_main_v83 m c =
    addf (addf (addf (addf (broadcastInDim S2048x1024 ![] bcast_S_S2048x1024 (constant S_ .f32 0x00000000#32))
      (gsel (tab0 (m ((c.tc : Thread nD τ).loc main_arg0))) (tok00 (m ((c.tc : Thread nD τ).loc main_arg1)))))
      (gsel (tab0 (m ((c.tc : Thread nD τ).loc main_arg0))) (tok01 (m ((c.tc : Thread nD τ).loc main_arg1)))))
      (gsel (tab1 (m ((c.tc : Thread nD τ).loc main_arg0))) (tok10 (m ((c.tc : Thread nD τ).loc main_arg1)))))
      (gsel (tab1 (m ((c.tc : Thread nD τ).loc main_arg0))) (tok11 (m ((c.tc : Thread nD τ).loc main_arg1)))) := by
  unfold Value.res_main_v83 gsel tab0 tab1 tok00 tok01 tok10 tok11
  rfl

/-- Row `s` of device `e`'s block of the whole table. -/
def yrow (a : FVec Ideal S20480x1024 .bf16) (e : Fin 8) (s : Fin 2560) (d : Fin 1024) : EReal :=
  a (ix2 ⟨2560 * e.val + s.val, by omega⟩ d)

theorem at_row (a : FVec Ideal S20480x1024 .bf16) (d : Fin 1024) {k k' : ℕ} (h : k < 20480) (h' : k' < 20480) (e : k = k') :
    a (ix2 ⟨k, h⟩ d) = a (ix2 ⟨k', h'⟩ d) := by subst e; rfl

theorem slice0_apply (a : FVec Ideal S20480x1024 .bf16) (x z : Fin 2) (s : Fin 2560) (d : Fin 1024) :
    (shapeCast S2x2x2560x1024 (extractStridedSlice S2x1x2x2560x1024 ![0, 0, 0, 0, 0] (extf (F := Ideal) .f32 (shapeCast S2x2x2x2560x1024 a shapeCasts_S20480x1024_S2x2x2x2560x1024) bitsLt_bf16_f32) slices_S2x2x2x2560x1024_S2x1x2x2560x1024_0_0_0_0_0) shapeCasts_S2x1x2x2560x1024_S2x2x2560x1024) (ix4 x z s d)
    = (a (ix2 ⟨x.val * 10240 + z.val * 2560 + s.val, by omega⟩ d) : EReal) := by
  refine (shapeCast_apply _ _ (ix4 x z s d) (ix5 x (0 : Fin 1) z s d) ?_).trans ?_
  · rw [Shape.rowMajor_val_five, Shape.rowMajor_val_four]
    show (((x.val * 1 + 0) * 2 + z.val) * 2560 + s.val) * 1024 + d.val = ((x.val * 2 + z.val) * 2560 + s.val) * 1024 + d.val
    omega
  · show (shapeCast S2x2x2x2560x1024 a shapeCasts_S20480x1024_S2x2x2x2560x1024 _ : EReal) = _
    refine shapeCast_apply _ _ _ _ ?_
    rw [Shape.rowMajor_val_five, Shape.rowMajor_val_two]
    show (x.val * 10240 + z.val * 2560 + s.val) * 1024 + d.val = ((((0 + x.val) * 2 + (0 + 0)) * 2 + (0 + z.val)) * 2560 + (0 + s.val)) * 1024 + (0 + d.val)
    omega

theorem tab0_apply (a : FVec Ideal S20480x1024 .bf16) (s : Fin 2560) (d : Fin 1024) :
    (tab0 a (ix2 s d) : EReal) = yrow a 0 s d + yrow a 4 s d + (yrow a 1 s d + yrow a 5 s d) := by
  unfold tab0
  generalize hX : shapeCast S2x2x2560x1024 (extractStridedSlice S2x1x2x2560x1024 ![0, 0, 0, 0, 0] (extf (F := Ideal) .f32 (shapeCast S2x2x2x2560x1024 a shapeCasts_S20480x1024_S2x2x2x2560x1024) bitsLt_bf16_f32) slices_S2x2x2x2560x1024_S2x1x2x2560x1024_0_0_0_0_0) shapeCasts_S2x1x2x2560x1024_S2x2x2560x1024 = X
  pointwise
  rw [Fin.sum_univ_two, Fin.sum_univ_two, Fin.sum_univ_two, ← hX]
  unfold yrow
  refine congrArg₂ (· + ·) (congrArg₂ (· + ·) ((slice0_apply a 0 0 s d).trans (at_row a d _ _ ?_)) ((slice0_apply a 1 0 s d).trans (at_row a d _ _ ?_)))
    (congrArg₂ (· + ·) ((slice0_apply a 0 1 s d).trans (at_row a d _ _ ?_)) ((slice0_apply a 1 1 s d).trans (at_row a d _ _ ?_)))
  · show 0 * 10240 + 0 * 2560 + s.val = 2560 * 0 + s.val; omega
  · show 1 * 10240 + 0 * 2560 + s.val = 2560 * 4 + s.val; omega
  · show 0 * 10240 + 1 * 2560 + s.val = 2560 * 1 + s.val; omega
  · show 1 * 10240 + 1 * 2560 + s.val = 2560 * 5 + s.val; omega
theorem tab1_apply (a : FVec Ideal S20480x1024 .bf16) (s : Fin 2560) (d : Fin 1024) :
    (tab1 a (ix2 s d) : EReal) = yrow a 2 s d + yrow a 6 s d + (yrow a 3 s d + yrow a 7 s d) := by
  unfold tab1
  pointwise
  rw [Fin.sum_univ_two, Fin.sum_univ_two, Fin.sum_univ_two]
  unfold yrow
  refine congrArg₂ (· + ·) (congrArg₂ (· + ·) (at_row a d _ _ ?_) (at_row a d _ _ ?_)) (congrArg₂ (· + ·) (at_row a d _ _ ?_) (at_row a d _ _ ?_))
  · show 0 * 10240 + 5120 + 0 * 2560 + s.val = 2560 * 2 + s.val; omega
  · show 1 * 10240 + 5120 + 0 * 2560 + s.val = 2560 * 6 + s.val; omega
  · show 0 * 10240 + 5120 + 1 * 2560 + s.val = 2560 * 3 + s.val; omega
  · show 1 * 10240 + 5120 + 1 * 2560 + s.val = 2560 * 7 + s.val; omega
theorem tok00_apply (a : IVec S4x2048 32) (n : Fin 2048) : tok00 a (ix1 n) = a (ix2 0 n) := by
  pointwise [tok00]
theorem tok01_apply (a : IVec S4x2048 32) (n : Fin 2048) : tok01 a (ix1 n) = a (ix2 1 n) := by
  pointwise [tok01]
theorem tok10_apply (a : IVec S4x2048 32) (n : Fin 2048) : tok10 a (ix1 n) = a (ix2 2 n) := by
  pointwise [tok10]
theorem tok11_apply (a : IVec S4x2048 32) (n : Fin 2048) : tok11 a (ix1 n) = a (ix2 3 n) := by
  pointwise [tok11]

/-- A slot word clamped into the table's rows and wrapped, read where it is a row. -/
theorem clip_row (t : BitVec 32) (h : t.toNat < 2560) :
    Scalar.select (IntOp.cmpi CmpIPredicate.slt (IntOp.minsi 2559#32 (IntOp.maxsi 0#32 t)) 0#32)
      (IntOp.addi (IntOp.minsi 2559#32 (IntOp.maxsi 0#32 t)) 2560#32) (IntOp.minsi 2559#32 (IntOp.maxsi 0#32 t)) = t := by
  have ht : t.toInt = t.toNat := BitVec.toInt_eq_toNat_of_lt (by omega)
  have e9 : (2559#32).toInt = 2559 := by decide
  have e0 : (0#32).toInt = 0 := by decide
  have h1 : IntOp.maxsi 0#32 t = t := by
    unfold IntOp.maxsi
    rw [if_neg]
    · rw [BitVec.slt_eq_decide, e0, ht, decide_eq_true_eq]; omega
  have h2 : IntOp.minsi 2559#32 t = t := by
    unfold IntOp.minsi
    split
    · rename_i hs
      rw [BitVec.slt_eq_decide, e9, ht, decide_eq_true_eq] at hs; omega
    · rfl
  rw [h1, h2]
  have h3 : IntOp.cmpi CmpIPredicate.slt t 0#32 = 0#1 := by
    show BitVec.ofBool (t.slt 0#32) = 0#1
    rw [BitVec.slt_eq_decide, e0, ht, decide_eq_false (by omega)]; rfl
  rw [h3]
  exact ValueIdx.select_zero _ _

/-- The mask of a slot that is a row. -/
theorem mask_row (t : BitVec 32) :
    IntOp.andi (IntOp.cmpi CmpIPredicate.sge t 0#32) (IntOp.cmpi CmpIPredicate.slt t 2560#32) = if t.toNat < 2560 then 1#1 else 0#1 := by
  have e0 : (0#32).toInt = 0 := by decide
  have e9 : (2560#32).toInt = 2560 := by decide
  have hc := BitVec.toInt_eq_toNat_cond t
  have hl := t.isLt
  show BitVec.ofBool ((0#32).sle t) &&& BitVec.ofBool (t.slt 2560#32) = _
  rw [BitVec.slt_eq_decide, BitVec.sle_eq_decide, e0, e9]
  by_cases h : t.toNat < 2560
  · rw [if_pos h, decide_eq_true (by omega), decide_eq_true (by omega)]; rfl
  · rw [if_neg h]
    by_cases h' : 0 ≤ t.toInt
    · rw [decide_eq_true h', decide_eq_false (by omega)]; rfl
    · rw [decide_eq_false h', decide_eq_true (by omega)]; rfl

theorem gsel_apply (x : FVec Ideal S2560x1024 .f32) (t : IVec S2048 32) (n : Fin 2048) (d : Fin 1024) :
    (gsel x t (ix2 n d) : EReal) = gat (t (ix1 n)) (fun s => x (ix2 s d)) := by
  unfold gsel
  pointwise
  rw [mask_row]
  unfold gat
  by_cases h : (t (ix1 n)).toNat < 2560
  · rw [if_pos h, dif_pos h]
    refine (ValueIdx.select_one _ _).trans ?_
    refine Routing.gather_row _ rfl rfl rfl rfl rfl _ _ n d ⟨_, h⟩ ?_ (by decide)
    refine Eq.trans ?_ ((clip_row (t (ix1 n)) h).trans ?_)
    · pointwise
      rfl
    · simp
  · rw [if_neg h, dif_neg h]
    refine (ValueIdx.select_zero _ _).trans ?_
    exact Ideal.ofBits_zero_f32

end Cert.ReferenceIdeal.RefVal
-- ==== Proof.Alg.lean ====
module

public import proofs.«01_k».proof.Proof.Run
public import proofs.«01_k».proof.Proof.RefVal
public import Idealize.ShloMosaic.Lib.Pipeline.Value

@[expose] public section

noncomputable section

namespace Cert.KernelIdeal.Comb

open Cert.KernelIdeal Cert.KernelIdeal.Gen Idealize.ShloMosaic Idealize.ShloMosaic.TcCoe Idealize.SL.Sem

section
variable {F : FTy → Type} [FloatOps F]
variable (m : (ℓ : Loc nD τ sig) → Buf (Elt F) ℓ)

theorem Yv_eq (c : Dev nD) : Yv m c = m ((c : Thread nD τ).loc main_arg0) := by
  unfold Yv
  funext i
  show m ((c : Thread nD τ).loc main_arg0) _ = _
  refine congrArg (m ((c : Thread nD τ).loc main_arg0)) (funext fun a => Fin.ext ?_)
  match a with
  | ⟨0, _⟩ => show 0 * 2560 + 1 * (i 0).val = (i 0).val; omega
  | ⟨1, _⟩ => show 0 * 1024 + 1 * (i 1).val = (i 1).val; omega
theorem Tv_eq (c : Dev nD) : Tv m c = m ((c : Thread nD τ).loc main_arg1) := by
  unfold Tv
  funext i
  show m ((c : Thread nD τ).loc main_arg1) _ = _
  refine congrArg (m ((c : Thread nD τ).loc main_arg1)) (funext fun a => Fin.ext ?_)
  match a with
  | ⟨0, _⟩ => show 0 * 2 + 1 * (i 0).val = (i 0).val; omega
  | ⟨1, _⟩ => show 0 * 2048 + 1 * (i 1).val = (i 1).val; omega

theorem emb2 (t : Fin cfg0.N) (i : S1024x1024.Idx) : ((cfg0.win 2).blk t).view.emb i = i := by
  refine funext fun a => Fin.ext ?_
  match a with
  | ⟨0, _⟩ => show 0 * 1024 + 1 * (i 0).val = (i 0).val; omega
  | ⟨1, _⟩ => show 0 * 1024 + 1 * (i 1).val = (i 1).val; omega

theorem finalA_in0 (c : Dev nD) : finalA m c 0 = m ((c : Thread nD τ).loc main_arg0) := (dats m 0 c).arrAt_in (0 : Fin 3) rfl _
theorem finalA_in1 (c : Dev nD) : finalA m c 1 = m ((c : Thread nD τ).loc main_arg1) := (dats m 0 c).arrAt_in (1 : Fin 3) rfl _
theorem finalA_out (c : Dev nD) : finalA m c 2 = outAt (Yv m) (Tv m) c := by
  refine (dats m 0 c).arrAt_eq_of_cover (2 : Fin 3) (outAt (Yv m) (Tv m) c) (fun t _ => ?_) (fun i => ?_)
  · funext i
    show outAt (Yv m) (Tv m) c i = outAt (Yv m) (Tv m) c (((cfg0.win 2).blk t).view.emb i)
    rw [emb2]
  · refine ⟨⟨0, by decide⟩, rfl, ?_⟩
    have h := ((cfg0.win 2).blk ⟨0, by decide⟩).view.emb_mem_set i
    rw [emb2] at h
    exact h

end

end Cert.KernelIdeal.Comb

namespace Cert.ReferenceIdeal.RefVal

open Cert.ReferenceIdeal Cert.ReferenceIdeal.Gen Idealize.ShloMosaic Idealize.ShloMosaic.TcCoe Idealize.SL.Sem
open Cert.KernelIdeal.Comb (gat part)

theorem gat_add (t : BitVec 32) (f g : Fin 2560 → EReal) : gat t (fun s => f s + g s) = gat t f + gat t g := by
  unfold gat; split
  · rfl
  · exact (add_zero _).symm

/-- The reference's result: of each token, the rows that the eight blocks hold, summed. -/
theorem res_apply (m : (ℓ : Loc nD τ sig) → Buf (Elt Ideal) ℓ) (c : Dev nD)
    (Y : Dev Cert.KernelIdeal.nD → Vec Ideal S2560x1024 .bf16) (T : Dev Cert.KernelIdeal.nD → Vec Ideal ⟨2, ![2, 2048]⟩ .i32)
    (hY : ∀ e s d, (Y e (ix2 s d) : EReal) = yrow (m ((c.tc : Thread nD τ).loc main_arg0)) e s d)
    (hT : ∀ (e : Dev Cert.KernelIdeal.nD) (k : Fin 2) n, T e (ix2 k n) = m ((c.tc : Thread nD τ).loc main_arg1) (ix2 ⟨2 * (e.val / 2 % 2) + k.val, by omega⟩ n))
    (n : Fin 2048) (d : Fin 1024) :
    (Value.res_out0 m c (ix2 n d) : EReal) = ∑ e : Dev Cert.KernelIdeal.nD, part Y T e n d := by
  have hp : ∀ e : Dev Cert.KernelIdeal.nD, part Y T e n d =
      gat (m ((c.tc : Thread nD τ).loc main_arg1) (ix2 ⟨2 * (e.val / 2 % 2) + 0, by omega⟩ n)) (fun s => yrow (m ((c.tc : Thread nD τ).loc main_arg0)) e s d)
      + gat (m ((c.tc : Thread nD τ).loc main_arg1) (ix2 ⟨2 * (e.val / 2 % 2) + 1, by omega⟩ n)) (fun s => yrow (m ((c.tc : Thread nD τ).loc main_arg0)) e s d) := by
    intro e
    unfold part
    rw [hT, hT]
    simp only [hY]
    rfl
  simp only [hp]
  rw [show Value.res_out0 m c = _ from res_eq m c]
  show Ideal.ofBits FTy.f32 0#32 + gsel _ _ (ix2 n d) + gsel _ _ (ix2 n d) + gsel _ _ (ix2 n d) + gsel _ _ (ix2 n d) = _
  rw [gsel_apply, gsel_apply, gsel_apply, gsel_apply, tok00_apply, tok01_apply, tok10_apply, tok11_apply, Ideal.ofBits_zero_f32, zero_add]
  simp only [tab0_apply, tab1_apply, gat_add]
  generalize m ((c.tc : Thread nD τ).loc main_arg0) = a
  generalize m ((c.tc : Thread nD τ).loc main_arg1) = t
  refine Eq.trans ?_ (Fin.sum_univ_eight _).symm
  show _ = (gat (t (ix2 0 n)) (fun s => yrow a 0 s d) + gat (t (ix2 1 n)) (fun s => yrow a 0 s d)) + (gat (t (ix2 0 n)) (fun s => yrow a 1 s d) + gat (t (ix2 1 n)) (fun s => yrow a 1 s d)) + (gat (t (ix2 2 n)) (fun s => yrow a 2 s d) + gat (t (ix2 3 n)) (fun s => yrow a 2 s d)) + (gat (t (ix2 2 n)) (fun s => yrow a 3 s d) + gat (t (ix2 3 n)) (fun s => yrow a 3 s d)) + (gat (t (ix2 0 n)) (fun s => yrow a 4 s d) + gat (t (ix2 1 n)) (fun s => yrow a 4 s d)) + (gat (t (ix2 0 n)) (fun s => yrow a 5 s d) + gat (t (ix2 1 n)) (fun s => yrow a 5 s d)) + (gat (t (ix2 2 n)) (fun s => yrow a 6 s d) + gat (t (ix2 3 n)) (fun s => yrow a 6 s d)) + (gat (t (ix2 2 n)) (fun s => yrow a 7 s d) + gat (t (ix2 3 n)) (fun s => yrow a 7 s d))
  abel

end Cert.ReferenceIdeal.RefVal
-- ==== Proof.GSeg.lean ====
/-
One row of a two-row buffer of the gate kernel as owned by one device, and how a whole buffer splits into
its two rows and is put together again.
-/
module

public import proofs.«01_k».proof.Proof.Gen.GateIdeal.Launch
public import Idealize.ShloMosaic.Lib.Rounds

@[expose] public section

set_option maxHeartbeats 1000000
set_option maxRecDepth 2000

noncomputable section

namespace Cert.GateIdeal.Gx

open Cert.GateIdeal Cert.GateIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and this protocol's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## A part of a buffer -/

section Part
variable {s : Shape} {e : EltTy} (M : Memref sig .tc .vmem s e) (r : Rect s) (c : Dev nD)

/-- Device `c` owns the part `r` of `M`, and it holds `v`. -/
def seg (v : r.shape.Idx → Elt F e) : sProp 𝕄 :=
  iprop(∃ f : Buf (Elt F) (M.view.loc (c : Thread nD τ)), ⌜(M.access r).read (Elt F) f = v⌝
    ∗ ((M.access r).loc (c : Thread nD τ) ↦[(M.access r).set]{fullShare} f))

/-- Device `c` owns the part `r` of `M`, whatever it holds. -/
def segAny : sProp 𝕄 := iprop(∃ v, seg (F := F) M r c v)

instance seg_storable (v : r.shape.Idx → Elt F e) : BI.Storable (upEmb : UEmb _ 𝕄) (seg (F := F) M r c v) := by
  unfold seg; infer_instance
instance segAny_storable : BI.Storable (upEmb : UEmb _ 𝕄) (segAny (F := F) M r c) := by unfold segAny; infer_instance

omit [FloatOps F] in
theorem seg_any {v : r.shape.Idx → Elt F e} : seg (F := F) M r c v ⊢ segAny M r c := by
  unfold segAny; iintro H; iexists v; iexact H

omit [FloatOps F] in
theorem segAny_elim : segAny (F := F) M r c ⊢ iprop(∃ v, seg (F := F) M r c v) := by unfold segAny; exact BI.Entails.refl _

/-- Loading the part gives the value it holds. -/
theorem wp_load_seg (v : r.shape.Idx → Elt F e) {hl : _} {α : Type} {Q : α → sProp 𝕄}
    {k : (r.shape.Idx → Elt F e) → Prog (TpuEff nD τ sig (Elt F) Λ₀ .tc) α} :
    seg M r c v ⊢ iprop((seg M r c v -∗ wp frame (wpE (defs₀ (F := F)) 𝒱₀ (c : Thread nD τ) none) Set.univ (k v) Q)
      -∗ wp frame (wpE (defs₀ (F := F)) 𝒱₀ (c : Thread nD τ) none) Set.univ (.op (.load M r.toLoadRect hl) k) Q) := by
  unfold seg
  iintro ⟨%f, %hf, H⟩ Hk
  iapply (wp_load_rect 𝒱₀ (c : Thread nD τ) none Set.univ (m := M) (r := r) (Finset.Subset.refl _)) $$ H
  iintro H
  rw [hf]
  iapply Hk
  iexists f
  isplitr; · (ipureintro; exact hf)
  iexact H

/-- Storing to the part replaces the value it holds. -/
theorem wp_store_seg (v w : r.shape.Idx → Elt F e) {hx : _} {hm : _} {α : Type} {Q : α → sProp 𝕄}
    {k : PUnit → Prog (TpuEff nD τ sig (Elt F) Λ₀ .tc) α} :
    seg M r c v ⊢ iprop((seg M r c w -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  unfold seg
  iintro ⟨%f, %hf, H⟩ Hk
  iapply (wp_store 𝒱₀ (c : Thread nD τ) none Set.univ (m := M) (r := r) (Mk := Finset.univ)
    (S := (M.access r).set) (Finset.Subset.refl _)) $$ H
  iintro H
  iapply Hk
  iexists _
  isplitr
  swap
  · iexact H
  ipureintro
  exact View.read_write_univ _ _

end Part

omit [FloatOps F] in
/-- A part by its offsets. -/
theorem seg_off {s : Shape} {e : EltTy} (M : Memref sig .tc .vmem s e) {o o' sz : Fin s.rank → ℕ} (h : o = o')
    (i1 : ∀ a, o a + sz a ≤ s.size a) (i2 : ∀ a, o' a + sz a ≤ s.size a) (c : Dev nD) (v : (⟨s.rank, sz⟩ : Shape).Idx → Elt F e) :
    seg (F := F) M (Rect.unit (s := s) o sz i1) c v = seg (F := F) M (Rect.unit (s := s) o' sz i2) c v := by
  subst h; rfl
omit [FloatOps F] in
theorem segAny_off {s : Shape} {e : EltTy} (M : Memref sig .tc .vmem s e) {o o' sz : Fin s.rank → ℕ} (h : o = o')
    (i1 : ∀ a, o a + sz a ≤ s.size a) (i2 : ∀ a, o' a + sz a ≤ s.size a) (c : Dev nD) :
    segAny (F := F) M (Rect.unit (s := s) o sz i1) c = segAny (F := F) M (Rect.unit (s := s) o' sz i2) c := by
  subst h; rfl

/-- What a reshaped view reads, the view reads. -/
theorem read_of_reshape {sp : Space} {s s' : Shape} {e : EltTy} {v w : View sig .tc sp s e} (h : s'.numel = s.numel)
    {f : v.ty.Contents (Elt F)} {g : w.ty.Contents (Elt F)}
    (hr : (v.reshape s' h).read (Elt F) f = (w.reshape s' h).read (Elt F) g) : v.read (Elt F) f = w.read (Elt F) g := by
  funext y
  have e := congrFun hr ((Shape.reshapeEquiv h).symm y)
  have e1 : (v.reshape s' h).read (Elt F) f ((Shape.reshapeEquiv h).symm y) = v.read (Elt F) f ((Shape.reshapeEquiv h) ((Shape.reshapeEquiv h).symm y)) := rfl
  have e2 : (w.reshape s' h).read (Elt F) g ((Shape.reshapeEquiv h).symm y) = w.read (Elt F) g ((Shape.reshapeEquiv h) ((Shape.reshapeEquiv h).symm y)) := rfl
  rw [e1, e2, Equiv.apply_symm_apply] at e
  exact e

/-! ## A two-row buffer -/

abbrev S2 (A B : ℕ) : Shape := ⟨3, ![2, A, B]⟩
abbrev Sr (A B : ℕ) : Shape := ⟨3, ![1, A, B]⟩

theorem row_inb (A B : ℕ) (y : Fin 2) : ∀ a, (![y.val, 0, 0] : Fin 3 → Nat) a + (Sr A B).size a ≤ (S2 A B).size a := by
  have hy := y.isLt
  intro a
  match a with
  | ⟨0, _⟩ => show y.val + 1 ≤ 2; omega
  | ⟨1, _⟩ => show 0 + A ≤ A; omega
  | ⟨2, _⟩ => show 0 + B ≤ B; omega

/-- Row `y`. -/
abbrev row (A B : ℕ) (y : Fin 2) : Rect (S2 A B) := Rect.unit (s := S2 A B) ![y.val, 0, 0] (Sr A B).size (row_inb A B y)

theorem row_cover (A B : ℕ) : (Finset.univ : Finset (Fin 2)).biUnion (fun y => (row A B y).set) = Finset.univ := by
  refine Finset.eq_univ_iff_forall.mpr fun i => Finset.mem_biUnion.mpr ?_
  have h0 : (i 0).val < 2 := (i 0).isLt
  have h1 : (i 1).val < A := (i 1).isLt
  have h2 : (i 2).val < B := (i 2).isLt
  refine ⟨⟨(i 0).val, h0⟩, Finset.mem_univ _, ?_⟩
  rw [Rect.mem_set_unit]
  intro a
  match a with
  | ⟨0, _⟩ => show (i 0).val ≤ (i 0).val ∧ (i 0).val < (i 0).val + 1; omega
  | ⟨1, _⟩ => show 0 ≤ (i 1).val ∧ (i 1).val < 0 + A; omega
  | ⟨2, _⟩ => show 0 ≤ (i 2).val ∧ (i 2).val < 0 + B; omega

theorem row_disj (A B : ℕ) (y y' : Fin 2) (h : y ≠ y') : Disjoint (row A B y).set (row A B y').set := by
  rw [Finset.disjoint_left]
  intro i hi hi'
  rw [Rect.mem_set_unit] at hi hi'
  have a : y.val ≤ (i 0).val ∧ (i 0).val < y.val + 1 := hi 0
  have b : y'.val ≤ (i 0).val ∧ (i 0).val < y'.val + 1 := hi' 0
  exact h (Fin.ext (by omega))

section Row
variable {A B : ℕ} {e : EltTy} (M : Memref sig .tc .vmem (S2 A B) e)

theorem acc_set (y : Fin 2) : (M.access (row A B y)).set = (row A B y).set.map M.view.emb := View.set_slice _ _

theorem acc_cover : (Finset.univ : Finset (Fin 2)).biUnion (fun y => (M.access (row A B y)).set) = M.view.set := by
  ext x
  rw [Finset.mem_biUnion]
  simp only [acc_set]
  constructor
  · rintro ⟨q, -, h⟩
    obtain ⟨y, -, rfl⟩ := Finset.mem_map.mp h
    exact Finset.mem_map_of_mem _ (Finset.mem_univ _)
  · intro h
    obtain ⟨y, -, rfl⟩ := Finset.mem_map.mp h
    have hy : y ∈ (Finset.univ : Finset (Fin 2)).biUnion (fun q => (row A B q).set) := by rw [row_cover]; exact Finset.mem_univ _
    obtain ⟨q, hq, hy⟩ := Finset.mem_biUnion.mp hy
    exact ⟨q, hq, Finset.mem_map_of_mem _ hy⟩

theorem acc_disj (y y' : Fin 2) (h : y ≠ y') : Disjoint (M.access (row A B y)).set (M.access (row A B y')).set := by
  rw [acc_set, acc_set]
  exact (Finset.disjoint_map _).mpr (row_disj A B y y' h)

omit [FloatOps F] in
theorem bigSep_fin2 (Φ : Fin 2 → sProp 𝕄) : bigSep Finset.univ Φ = iprop(Φ 0 ∗ Φ 1) :=
  bigSep_univ_eq_bigSepL [0, 1] (by decide) (by decide) Φ

omit [FloatOps F] in
theorem two_rows (Φ : Fin 2 → sProp 𝕄) {y y' : Fin 2} (h : y ≠ y') : iprop(Φ 0 ∗ Φ 1) ⊢ iprop(Φ y ∗ Φ y') := by
  have hy : (y = 0 ∧ y' = 1) ∨ (y = 1 ∧ y' = 0) := by revert y y'; decide
  rcases hy with ⟨rfl, rfl⟩ | ⟨rfl, rfl⟩
  · exact BI.Entails.refl _
  · iintro ⟨H0, H1⟩
    isplitl [H1]; · iexact H1
    iexact H0
omit [FloatOps F] in
theorem rows_two (Φ : Fin 2 → sProp 𝕄) {y y' : Fin 2} (h : y ≠ y') : iprop(Φ y ∗ Φ y') ⊢ iprop(Φ 0 ∗ Φ 1) := by
  have hy : (y = 0 ∧ y' = 1) ∨ (y = 1 ∧ y' = 0) := by revert y y'; decide
  rcases hy with ⟨rfl, rfl⟩ | ⟨rfl, rfl⟩
  · exact BI.Entails.refl _
  · iintro ⟨H0, H1⟩
    isplitl [H1]; · iexact H1
    iexact H0

omit [FloatOps F] in
/-- A whole buffer is its two rows. -/
theorem whole_split (c : Dev nD) (f : Buf (Elt F) (M.view.loc (c : Thread nD τ))) {y y' : Fin 2} (h : y ≠ y') :
    (M.view.loc (c : Thread nD τ) ↦[M.view.set]{fullShare} f : sProp 𝕄) ⊢ iprop(segAny M (row A B y) c ∗ segAny M (row A B y') c) := by
  refine BI.Entails.trans ?_ (two_rows (fun y => segAny M (row A B y) c) h)
  rw [← acc_cover M, pointsTo_biUnion Finset.univ _ (fun t _ t' _ h => acc_disj M t t' h), ← bigSep_fin2 (fun q => segAny M (row A B q) c)]
  refine bigSep_mono fun q _ => ?_
  show (M.view.loc (c : Thread nD τ) ↦[(M.access (row A B q)).set]{fullShare} f : sProp 𝕄) ⊢ segAny M (row A B q) c
  unfold segAny seg
  iintro H
  iexists _
  iexists f
  isplitr; · (ipureintro; rfl)
  iexact H

omit [FloatOps F] in
/-- Two rows make the whole buffer, read row by row as they were. -/
theorem whole_join (c : Dev nD) (v : Fin 2 → (Sr A B).Idx → Elt F e) {y y' : Fin 2} (h : y ≠ y') :
    (iprop(seg M (row A B y) c (v y) ∗ seg M (row A B y') c (v y')) : sProp 𝕄)
      ⊢ iprop(∃ f : Buf (Elt F) (M.view.loc (c : Thread nD τ)), ⌜∀ q, (M.access (row A B q)).read (Elt F) f = v q⌝
          ∗ (M.view.loc (c : Thread nD τ) ↦[M.view.set]{fullShare} f)) := by
  iintro H
  ihave H := (rows_two (fun y => seg M (row A B y) c (v y)) h) $$ H
  unfold seg
  icases H with ⟨⟨%f0, %h0, H0⟩, ⟨%f1, %h1, H1⟩⟩
  let fs : Fin 2 → Buf (Elt F) (M.view.loc (c : Thread nD τ)) := ![f0, f1]
  have hfs : ∀ q, (M.access (row A B q)).read (Elt F) (fs q) = v q := fun q => by
    fin_cases q
    exacts [h0, h1]
  ihave HJ := (pointsTo_biUnion_join (ℓ := M.view.loc (c : Thread nD τ)) (q := fullShare) Finset.univ (fun q => (M.access (row A B q)).set) fs (fs 0)
    (fun t _ t' _ h => acc_disj M t t' h)) $$ [H0 H1]
  · rw [bigSep_fin2]
    isplitl [H0]; · iexact H0
    iexact H1
  icases HJ with ⟨%g, %hg, H⟩
  rw [acc_cover M]
  iexists g
  isplitr
  · ipureintro
    intro q
    rw [← hfs q]
    exact View.read_congr (fun i hi => hg q (Finset.mem_univ _) i hi)
  iexact H

end Row

end Cert.GateIdeal.Gx

end
-- ==== Proof.GProto.lean ====
/-
The gate kernel: the peer of a device, its cells, the values that travel and the schedule.

Device `c = 4x + 2y + z` exchanges with the device that differs from it in `y`. Each of the four two-row buffers
(activations, router, choices, weights) is filled by the device's own row, `yc c`, and by the row its peer copies
into it. Exchange `i` (of four) is the copy of the own row of buffer `i` to the same row of the peer's buffer.

A device has one barrier cell with one duty, paid by the peer, whose payload is the four rows of the peer that
this device is to write; and for every exchange a send cell and a receive cell with one duty each.
-/
module

public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.GSeg
public import Idealize.ShloMosaic.Lib.Pipeline.Launch
public import Idealize.ShloMosaic.Lib.Pipeline.Kit
public import Idealize.ShloMosaic.Lib.Tactic

@[expose] public section

set_option maxHeartbeats 1000000
set_option maxRecDepth 2000

noncomputable section

namespace Cert.GateIdeal.Gx

open Cert.GateIdeal Cert.GateIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peer and the row -/

set_option backward.proofsInPublic true in
def pe (c : Dev nD) : Dev nD := ⟨(c.val ^^^ 2) % 8, Nat.mod_lt _ (by decide)⟩
/-- A device's `y`. -/
def yc (c : Dev nD) : Fin 2 := ⟨(c.val / 2) % 2, Nat.mod_lt _ (by decide)⟩

theorem pe_pe (c : Dev nD) : pe (pe c) = c := by revert c; decide
def peEquiv : Dev nD ≃ Dev nD := ⟨pe, pe, pe_pe, pe_pe⟩
theorem yc_ne (c : Dev nD) : yc c ≠ yc (pe c) := by revert c; decide

theorem dev_y (c : Dev nD) (h) : (⟨(4 * (c.val / 4) + (c.val % 2) + 2) - 2 * ((c.val / 2) % 2), h⟩ : Dev nD) = pe c := by
  revert c; decide

theorem dev1_eq (c : Dev nD) : (⟨k0_dev1 c, k0_dev1_lt c⟩ : Dev nD) = pe c := by simp only [k0_dev1_eq]; exact dev_y c _
theorem dev2_eq (c : Dev nD) : (⟨k0_dev2 c, k0_dev2_lt c⟩ : Dev nD) = pe c := by simp only [k0_dev2_eq]; exact dev_y c _
theorem dev3_eq (c : Dev nD) : (⟨k0_dev3 c, k0_dev3_lt c⟩ : Dev nD) = pe c := by simp only [k0_dev3_eq]; exact dev_y c _
theorem dev4_eq (c : Dev nD) : (⟨k0_dev4 c, k0_dev4_lt c⟩ : Dev nD) = pe c := by simp only [k0_dev4_eq]; exact dev_y c _
theorem dev5_eq (c : Dev nD) : (⟨k0_dev5 c, k0_dev5_lt c⟩ : Dev nD) = pe c := by simp only [k0_dev5_eq]; exact dev_y c _

/-! ## Buffers and semaphores -/

abbrev xM : Memref sig .tc .vmem S2x1024x1024 .bf16 := Memref.whole cc0_stg2_0
abbrev iM : Memref sig .tc .vmem S2x2x1024 .i32 := Memref.whole cc0_stg3_0
abbrev wM : Memref sig .tc .vmem S2x2x1024 .f32 := Memref.whole cc0_stg4_0
abbrev rM : Memref sig .tc .vmem S2x8x1024 .f32 := Memref.whole cc0_scratch0

/-- A row of each buffer. -/
abbrev rwX (y : Fin 2) : Rect S2x1024x1024 := row 1024 1024 y
abbrev rwR (y : Fin 2) : Rect S2x8x1024 := row 8 1024 y
abbrev rwI (y : Fin 2) : Rect S2x2x1024 := row 2 1024 y

theorem s4_inb (i : Fin 4) : ∀ a, (![i.val] : Fin 1 → Nat) a + S1.size a ≤ S4.size a := by revert i; decide

abbrev barS : Sem sig := (SemArray.scalar (sig.barrier 0 rfl) : Sems sig S_).sem
/-- Exchange `i`'s send and receive semaphores. -/
def sS (i : Fin 4) : DmaSem sig := ((cc0_scratch1.slice (Rect.unit (s := S4) ![i.val] S1.size (s4_inb i))).squeeze S_ squeezes_S1_S_).sem
def rS (i : Fin 4) : DmaSem sig := ((cc0_scratch2.slice (Rect.unit (s := S4) ![i.val] S1.size (s4_inb i))).squeeze S_ squeezes_S1_S_).sem

theorem sS_val (i : Fin 4) : (sS i).val = 5 + i.val := by revert i; decide
theorem rS_val (i : Fin 4) : (rS i).val = 9 + i.val := by revert i; decide

abbrev barCell (c : Dev nD) : GSem nD τ sig := ((c : Thread nD τ), .reg barS)
abbrev sendCell (c : Dev nD) (i : Fin 4) : GSem nD τ sig := ((c : Thread nD τ), .dma (sS i))
abbrev recvCell (c : Dev nD) (i : Fin 4) : GSem nD τ sig := ((c : Thread nD τ), .dma (rS i))

/-- Which exchange's cell a semaphore is: `(false, i)` send, `(true, i)` receive. -/
def xOf : SemLoc sig → Option (Bool × Fin 4)
  | .dma q => if h : 5 ≤ q.val ∧ q.val < 9 then some (false, ⟨q.val - 5, by omega⟩)
      else if h : 9 ≤ q.val ∧ q.val < 13 then some (true, ⟨q.val - 9, by omega⟩) else none
  | .reg _ => none

theorem xOf_s (i : Fin 4) : xOf (.dma (sS i)) = some (false, i) := by
  have h := sS_val i
  have hi := i.isLt
  unfold xOf
  simp only [h]
  rw [dif_pos ⟨by omega, by omega⟩]
  exact congrArg some (Prod.ext rfl (Fin.ext (by show 5 + i.val - 5 = i.val; omega)))
theorem xOf_r (i : Fin 4) : xOf (.dma (rS i)) = some (true, i) := by
  have h := rS_val i
  have hi := i.isLt
  unfold xOf
  simp only [h]
  rw [dif_neg (by omega), dif_pos ⟨by omega, by omega⟩]
  exact congrArg some (Prod.ext rfl (Fin.ext (by show 9 + i.val - 9 = i.val; omega)))
theorem xOf_bar (s : Sem sig) : xOf (.reg s) = none := rfl

/-- The credit of one row of each buffer. -/
def N : Fin 4 → ℕ
  | 0 => ((xM.slice (rwX 0) (fun _ => rfl)).squeeze S1024x1024 squeezes_S1x1024x1024_S1024x1024).view.dmaCredit
  | 1 => ((rM.slice (rwR 0) (fun _ => rfl)).squeeze S8x1024 squeezes_S1x8x1024_S8x1024).view.dmaCredit
  | 2 => ((iM.slice (rwI 0) (fun _ => rfl)).squeeze S2x1024 squeezes_S1x2x1024_S2x1024).view.dmaCredit
  | 3 => ((wM.slice (rwI 0) (fun _ => rfl)).squeeze S2x1024 squeezes_S1x2x1024_S2x1024).view.dmaCredit
theorem N_pos (i : Fin 4) : 0 < N i := by
  fin_cases i <;> exact View.dmaCredit_pos _ (by decide)

/-! ## Values -/

variable (A : Dev nD → Vec F S1024x1024 .f32) (B : Dev nD → Vec F S8x1024 .f32)

/-- The rows a device writes: its activations and its experts of the router. -/
def xR (c : Dev nD) : Vec F S1x1024x1024 .bf16 := k0_pay1 (A c)
def rR (c : Dev nD) : Vec F S1x8x1024 .f32 := k0_pay2 (B c)
/-- The router by row, once both are there. -/
def rAt (c : Dev nD) (y : Fin 2) : Vec F S1x8x1024 .f32 := if y = yc c then rR B c else rR B (pe c)
/-- The rows of choices and weights. -/
def iR (c : Dev nD) : Vec F S1x2x1024 .i32 :=
  k0_pay9 (k0_pay3 (rAt B c 0) (rAt B c 1) (A c)) (iota .tc S1024x16 32 [1] iota_S1024x16_d1_w32)
    (k0_pay5 (rAt B c 0) (rAt B c 1) (A c)) (k0_pay6 (rAt B c 0) (rAt B c 1) (A c))
def wR (c : Dev nD) : Vec F S1x2x1024 .f32 :=
  k0_pay10 (k0_pay3 (rAt B c 0) (rAt B c 1) (A c)) (k0_pay4 (rAt B c 0) (rAt B c 1) (A c)) (k0_pay6 (rAt B c 0) (rAt B c 1) (A c))

/-! ## The schedule -/

/-- The rows of the peer that device `c` is to write. -/
def barPay (c : Dev nD) : sProp 𝕄 :=
  iprop(segAny (F := F) xM (rwX (yc c)) (pe c) ∗ segAny (F := F) rM (rwR (yc c)) (pe c)
    ∗ segAny (F := F) iM (rwI (yc c)) (pe c) ∗ segAny (F := F) wM (rwI (yc c)) (pe c))
/-- Row `y` of buffer `i` on device `d`, as device `c` fills it. -/
def rowPay (c d : Dev nD) : Fin 4 → sProp 𝕄
  | 0 => seg xM (rwX (yc c)) d (xR A c)
  | 1 => seg rM (rwR (yc c)) d (rR B c)
  | 2 => seg iM (rwI (yc c)) d (iR A B c)
  | 3 => seg wM (rwI (yc c)) d (wR A B c)
def recvPay (c : Dev nD) (i : Fin 4) : sProp 𝕄 := rowPay A B (pe c) c i
def sendPay (c : Dev nD) (i : Fin 4) : sProp 𝕄 := rowPay A B c c i

/-- The duties of round 0 of a semaphore. -/
def dutiesOf (s : SemLoc sig) : Finset (Fin 3) :=
  match xOf s with | some _ => {0} | none => if s = .reg barS then {0} else ∅
def payOf (c : Dev nD) (s : SemLoc sig) (d : Fin 3) : sProp 𝕄 :=
  match xOf s with
  | some (false, i) => sendPay A B c i
  | some (true, i) => recvPay A B c i
  | none => if s = .reg barS then barPay c else iprop(emp)

def rd : Rounds.Schedule (GSem nD τ sig) (Fin 3) 𝕄 where
  duties g r := if r = 0 ∧ g.1.2 = .tc then dutiesOf g.2 else ∅
  unitless _ := False
  amount g _ _ := match xOf g.2 with | some (_, i) => N i | none => 1
  payload g _ d := payOf A B g.1.1 g.2 d
  amount_pos g _ _ _ := by
    show 0 < (match xOf g.2 with | some (_, i) => N i | none => 1)
    split
    · exact N_pos _
    · exact Nat.one_pos

instance rowPay_storable (c d : Dev nD) (i : Fin 4) : BI.Storable (upEmb : UEmb _ 𝕄) (rowPay A B c d i) := by
  fin_cases i <;> (unfold rowPay; infer_instance)
instance barPay_storable (c : Dev nD) : BI.Storable (upEmb : UEmb _ 𝕄) (barPay (F := F) c) := by unfold barPay; infer_instance
instance recvPay_storable (c : Dev nD) (i : Fin 4) : BI.Storable (upEmb : UEmb _ 𝕄) (recvPay A B c i) := by unfold recvPay; infer_instance
instance sendPay_storable (c : Dev nD) (i : Fin 4) : BI.Storable (upEmb : UEmb _ 𝕄) (sendPay A B c i) := by unfold sendPay; infer_instance
instance rd_payload_storable (g : GSem nD τ sig) (r : ℕ) (d : Fin 3) :
    BI.Storable (upEmb : UEmb _ 𝕄) ((rd A B).payload g r d) := by
  show BI.Storable upEmb (payOf A B g.1.1 g.2 d)
  unfold payOf
  split
  · infer_instance
  · infer_instance
  · split <;> infer_instance

section Sched
variable (c : Dev nD) (i : Fin 4)

theorem dutiesOf_bar : dutiesOf (.reg barS) = {0} := by unfold dutiesOf; rw [xOf_bar]; exact if_pos rfl
theorem dutiesOf_s : dutiesOf (.dma (sS i)) = {0} := by unfold dutiesOf; rw [xOf_s]
theorem dutiesOf_r : dutiesOf (.dma (rS i)) = {0} := by unfold dutiesOf; rw [xOf_r]

theorem duties_bar : (rd A B).duties (barCell c) 0 = {0} := by
  dsimp only [rd]; exact (if_pos ⟨rfl, rfl⟩).trans dutiesOf_bar
theorem duties_send : (rd A B).duties (sendCell c i) 0 = {0} := by
  dsimp only [rd]; exact (if_pos ⟨rfl, rfl⟩).trans (dutiesOf_s i)
theorem duties_recv : (rd A B).duties (recvCell c i) 0 = {0} := by
  dsimp only [rd]; exact (if_pos ⟨rfl, rfl⟩).trans (dutiesOf_r i)
theorem duties_later (g : GSem nD τ sig) : ∀ r, 1 ≤ r → (rd A B).duties g r = ∅ :=
  fun r hr => if_neg fun h => by omega

theorem send_ne_bar : (SemLoc.dma (sS i) : SemLoc sig) ≠ .reg barS := fun h => by cases h
theorem recv_ne_bar : (SemLoc.dma (rS i) : SemLoc sig) ≠ .reg barS := fun h => by cases h

theorem amount_bar (d : Fin 3) : (rd A B).amount (barCell c) 0 d = 1 := rfl
theorem amount_send (d : Fin 3) : (rd A B).amount (sendCell c i) 0 d = N i := by
  show (match xOf (.dma (sS i)) with | some (_, i) => N i | none => 1) = _; rw [xOf_s]
theorem amount_recv (d : Fin 3) : (rd A B).amount (recvCell c i) 0 d = N i := by
  show (match xOf (.dma (rS i)) with | some (_, i) => N i | none => 1) = _; rw [xOf_r]

theorem expect_bar : (rd A B).expect (barCell c) 0 = 1 := by
  unfold Schedule.expect Schedule.amountOf; rw [duties_bar, Finset.sum_singleton, amount_bar]
theorem expect_send : (rd A B).expect (sendCell c i) 0 = N i := by
  unfold Schedule.expect Schedule.amountOf; rw [duties_send, Finset.sum_singleton, amount_send]
theorem expect_recv : (rd A B).expect (recvCell c i) 0 = N i := by
  unfold Schedule.expect Schedule.amountOf; rw [duties_recv, Finset.sum_singleton, amount_recv]

theorem payload_bar (d : Fin 3) : (rd A B).payload (barCell c) 0 d = barPay c := by
  show payOf A B c (.reg barS) d = _
  unfold payOf; rw [xOf_bar]; exact if_pos rfl
theorem payload_send (d : Fin 3) : (rd A B).payload (sendCell c i) 0 d = sendPay A B c i := by
  show payOf A B c (.dma (sS i)) d = _
  unfold payOf; rw [xOf_s]
theorem payload_recv (d : Fin 3) : (rd A B).payload (recvCell c i) 0 d = recvPay A B c i := by
  show payOf A B c (.dma (rS i)) d = _
  unfold payOf; rw [xOf_r]

theorem rest_bar : bigSep ((rd A B).duties (barCell c) 0 \ ∅) (fun d => (rd A B).payload (barCell c) 0 d)
    = barPay c := by
  rw [Finset.sdiff_empty, duties_bar, bigSep_singleton, payload_bar]
theorem rest_send : bigSep ((rd A B).duties (sendCell c i) 0 \ ∅) (fun d => (rd A B).payload (sendCell c i) 0 d) = sendPay A B c i := by
  rw [Finset.sdiff_empty, duties_send, bigSep_singleton, payload_send]
theorem rest_recv : bigSep ((rd A B).duties (recvCell c i) 0 \ ∅) (fun d => (rd A B).payload (recvCell c i) 0 d) = recvPay A B c i := by
  rw [Finset.sdiff_empty, duties_recv, bigSep_singleton, payload_recv]

end Sched

/-! ## What a device owes; the levels -/

/-- The exchange of which `k + 1` are still to be sent. -/
def ix (k : ℕ) : Fin 4 := ⟨3 - k, by omega⟩

/-- The receive credits of the last `k` exchanges. -/
def oweS (c : Dev nD) : ℕ → CellTallies nD τ sig Unit
  | 0 => 0
  | k + 1 => oweS c k + tallyAt (recvCell (pe c) (ix k)) () (N (ix k))

def owe0 (c : Dev nD) : CellTallies nD τ sig Unit := oweS c 4 + tallyAt (barCell (pe c)) () 1

def L (g : GSem nD τ sig) : Finset Unit := if g.1.2 = .tc then {()} else ∅
/-- Barrier cells at 1, exchange `i`'s receive cells at `2 + i`, everything else at 0. -/
def lv (g : GSem nD τ sig) (_ : Unit) : ℕ :=
  match xOf g.2 with
  | some (true, i) => 2 + i.val
  | some (false, _) => 0
  | none => if g.2 = .reg barS then 1 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (i : Fin 4) (u : Unit) : lv (recvCell c i) u = 2 + i.val := by
  show (match xOf (.dma (rS i)) with | some (true, i) => 2 + i.val | some (false, _) => 0 | none => _) = _
  rw [xOf_r]
theorem lv_send (c : Dev nD) (i : Fin 4) (u : Unit) : lv (sendCell c i) u = 0 := by
  show (match xOf (.dma (sS i)) with | some (true, i) => 2 + i.val | some (false, _) => 0 | none => _) = _
  rw [xOf_s]
theorem lv_bar (c : Dev nD) (u : Unit) : lv (barCell c) u = 1 := by
  show (if (SemLoc.reg barS : SemLoc sig) = .reg barS then 1 else 0) = 1
  exact if_pos rfl

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem oweS_pos {c : Dev nD} {k : ℕ} {g : GSem nD τ sig} {u : Unit} (h : 0 < oweS c k g u) :
    ∃ i : Fin 4, 4 ≤ i.val + k ∧ g = recvCell (pe c) i := by
  induction k with
  | zero => exact absurd h (Nat.lt_irrefl 0)
  | succ k ih =>
    have h' : 0 < oweS c k g u + (tallyAt (recvCell (pe c) (ix k)) () (N (ix k)) : CellTallies nD τ sig Unit) g u := h
    rcases Nat.eq_zero_or_pos (oweS c k g u) with h0 | h0
    · rw [h0, Nat.zero_add] at h'
      exact ⟨ix k, by show 4 ≤ 3 - k + (k + 1); omega, tally_pos h'⟩
    · obtain ⟨i, hi, hg⟩ := ih h0
      exact ⟨i, by omega, hg⟩

theorem owe0_pos {c : Dev nD} {g : GSem nD τ sig} {u : Unit} (h : 0 < owe0 c g u) :
    (∃ (d : Dev nD) (i : Fin 4), g = recvCell d i) ∨ ∃ d : Dev nD, g = barCell d := by
  have h' : 0 < oweS c 4 g u + (tallyAt (barCell (pe c)) () 1 : CellTallies nD τ sig Unit) g u := h
  by_contra hn
  rw [not_or] at hn
  have h1 : oweS c 4 g u = 0 := Nat.eq_zero_of_not_pos fun h => by
    obtain ⟨i, -, hg⟩ := oweS_pos h
    exact hn.1 ⟨_, _, hg⟩
  have hb : ∀ d, (tallyAt (barCell d) () 1 : CellTallies nD τ sig Unit) g u = 0 := fun d => Nat.eq_zero_of_not_pos fun h =>
    hn.2 ⟨_, tally_pos h⟩
  rw [h1, hb] at h'
  exact Nat.lt_irrefl 0 h'

/-- A wait on a semaphore whose level is below those of the exchanges still owed. -/
theorem mayWait_sends (c : Dev nD) (sm : SemLoc sig) (k : ℕ) (h : lv ((c : Thread nD τ), sm) () + k < 6) :
    (levAts L lv : sProp 𝕄) ⊢ MayWait (c : Thread nD τ) sm () (oweS c k) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := oweS_pos hg; rw [L_tc]; exact Finset.mem_singleton_self _)
    (fun p hp => by rw [Finset.mem_singleton.mp hp])
    (fun g u hg => by obtain ⟨i, hi, rfl⟩ := oweS_pos hg; rw [lv_recv]; omega)

/-- A wait on a staging semaphore, owing everything or nothing. -/
theorem mayWait_stage (c : Dev nD) (q : DmaSem sig) (hq : q.val < 5) (O : CellTallies nD τ sig Unit) (hO : O = owe0 c ∨ O = 0) :
    (levAts L lv : sProp 𝕄) ⊢ MayWait (c : Thread nD τ) (.dma q) () O := by
  have hlv : lv ((c : Thread nD τ), .dma q) () = 0 := by
    have hx : xOf (.dma q : SemLoc sig) = none := by
      show (if h : 5 ≤ q.val ∧ q.val < 9 then _ else if h : 9 ≤ q.val ∧ q.val < 13 then _ else none) = _
      rw [dif_neg (by omega), dif_neg (by omega)]
    unfold lv
    show (match xOf (.dma q : SemLoc sig) with | some (true, i) => 2 + i.val | some (false, _) => 0 | none => if (SemLoc.dma q : SemLoc sig) = SemLoc.reg barS then 1 else 0) = _
    rw [hx]; exact if_neg (fun h => by cases h)
  rcases hO with rfl | rfl
  · refine MayOwe.of_cut (L := L) (lev := lv) 0 (fun p hp => by rw [Finset.mem_singleton.mp hp, L_tc]; exact Finset.mem_singleton_self _)
      (fun g u hg => by rcases owe0_pos hg with ⟨d, i, rfl⟩ | ⟨d, rfl⟩ <;> (rw [L_tc]; exact Finset.mem_singleton_self _))
      (fun p hp => by rw [Finset.mem_singleton.mp hp, hlv])
      (fun g u hg => by
        rcases owe0_pos hg with ⟨d, i, rfl⟩ | ⟨d, rfl⟩
        · rw [lv_recv]; omega
        · rw [lv_bar]; omega)
  · rw [MayWait_zero]; iintro -; iempintro

end Cert.GateIdeal.Gx

end
-- ==== Proof.GSteps.lean ====
/-
The gate kernel: one rule per communication step.

The invariants and the reached-marks of every cell of the mesh are persistent and kept together (`recs`). Each
exchange's own resources are bundled by its stage: before the send (`E0`), then the two halves a wait consumes
(`ES`, `ER'`). What a device owes is `oweS c k`: the receive credits of its last `k` sends.
-/
module

public import proofs.«01_k».proof.Proof.GProto

@[expose] public section

noncomputable section

namespace Cert.GateIdeal.Gx

open Cert.GateIdeal Cert.GateIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1024x1024 .f32) (B : Dev nD → Vec F S8x1024 .f32)

/-- A device's cells: the barrier, and by exchange the send (`false`) and the receive (`true`). -/
abbrev CK : Type := Option (Bool × Fin 4)
def csem : CK → SemLoc sig
  | none => .reg barS
  | some (false, i) => .dma (sS i)
  | some (true, i) => .dma (rS i)
abbrev kcell (ck : Dev nD × CK) : GSem nD τ sig := ((ck.1 : Thread nD τ), csem ck.2)

def recs (K : Dev nD × CK → ℕ) : sProp 𝕄 :=
  iprop((bigSep Finset.univ fun ck : Dev nD × CK => cellInv ER (rd A B) (K ck) (kcell ck))
    ∗ (bigSep Finset.univ fun ck : Dev nD × CK => reached ER (kcell ck) 0) ∗ levAts L lv)

instance recs_persistent (K : Dev nD × CK → ℕ) : BI.Persistent (recs A B K) := by unfold recs; infer_instance

variable (K : Dev nD × CK → ℕ)

theorem inv_at (ck : Dev nD × CK) :
    (bigSep Finset.univ fun ck : Dev nD × CK => (cellInv ER (rd A B) (K ck) (kcell ck) : sProp 𝕄)) ⊢ cellInv ER (rd A B) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

theorem recs_inv (ck : Dev nD × CK) : recs A B K ⊢ cellInv ER (rd A B) (K ck) (kcell ck) := by
  unfold recs
  iintro ⟨H, -, -⟩
  iapply (inv_at A B K ck); iexact H
theorem recs_reached (ck : Dev nD × CK) : recs A B K ⊢ reached ER (kcell ck) 0 := by
  unfold recs
  iintro ⟨-, H, -⟩
  iapply (reached_at (F := F) ck); iexact H
theorem recs_lev : recs A B K ⊢ levAts L lv := by
  unfold recs
  iintro ⟨-, -, H⟩
  iexact H

/-- What a device owes, whatever it has waited on. -/
def oweX (c : Dev nD) (O : CellTallies nD τ sig Unit) : sProp 𝕄 := iprop(∃ W, owes (c : Thread nD τ) O W)

def E0 (c : Dev nD) (i : Fin 4) : sProp 𝕄 :=
  iprop(atPos ER (sendCell c i) 0 ∅ 0 ∗ atPos ER (recvCell c i) 0 ∅ 0
    ∗ dutyTok ER (sendCell c i) 0 0 ∗ dutyTok ER (recvCell (pe c) i) 0 0
    ∗ cred (tallyAt (recvCell c i) () (N i)))
def ES (c : Dev nD) (i : Fin 4) : sProp 𝕄 := iprop(atPos ER (sendCell c i) 0 ∅ 0 ∗ cred (tallyAt (sendCell c i) () (N i)))
def ER' (c : Dev nD) (i : Fin 4) : sProp 𝕄 := iprop(atPos ER (recvCell c i) 0 ∅ 0 ∗ cred (tallyAt (recvCell c i) () (N i)))

/-- The signal to the peer, handing over this device's rows that the peer writes. -/
theorem step_signal (c n : Dev nD) (hn : n = pe c)
    {α : Type} {Q : α → sProp 𝕄} {k : PUnit → Prog (TpuEff nD τ sig (Elt F) Λ₀ .tc) α} :
    iprop(recs A B K ∗ oweX c (owe0 c) ∗ dutyTok ER (barCell (pe c)) 0 (0 : Fin 3)
        ∗ segAny (F := F) xM (rwX (yc (pe c))) c ∗ segAny (F := F) rM (rwR (yc (pe c))) c
        ∗ segAny (F := F) iM (rwI (yc (pe c))) c ∗ segAny (F := F) wM (rwI (yc (pe c))) c)
      ⊢ iprop((oweX c (oweS c 4) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, .tc) barS (1#32).toInt) k) Q) := by
  subst hn
  unfold oweX
  iintro ⟨#Hr, ⟨%W, HO⟩, Ht, H0, H1, H2, H3⟩ Hk
  iapply (Rounds.wp_signal 𝒱₀ ER (rd A B) (c : Thread nD τ) none (dst := (pe c : Thread nD τ)) (κ := K (pe c, none))
      (d := 0) (by rw [duties_bar]; exact Finset.mem_singleton_self _) ((amount_bar A B (pe c) 0).trans (by decide)) () (oweS c 4) rfl)
    $$ [HO Ht H0 H1 H2 H3]
  · isplitr; · iapply (recs_inv A B K (pe c, none)); iexact Hr
    isplitl [HO]; · iexact HO
    isplitl [Ht]; · iexact Ht
    isplitl [H0 H1 H2 H3]
    · rw [payload_bar]; unfold barPay; rw [pe_pe]
      isplitl [H0]; · iexact H0
      isplitl [H1]; · iexact H1
      isplitl [H2]; · iexact H2
      iexact H3
    · iapply (recs_reached A B K (pe c, none)); iexact Hr
  iintro HO
  iapply Hk
  iexists W
  iexact HO

/-- The wait for the peer's signal: the rows of the peer that this device writes come with it. -/
theorem step_barrier (c : Dev nD)
    {α : Type} {Q : α → sProp 𝕄} {k : PUnit → Prog (TpuEff nD τ sig (Elt F) Λ₀ .tc) α} :
    iprop(recs A B K ∗ oweX c (oweS c 4) ∗ atPos ER (barCell c) 0 ∅ 0 ∗ cred (tallyAt (barCell c) () 1))
      ⊢ iprop(((barPay (F := F) c ∗ semVal (barCell c) 0 ∗ oweX c (oweS c 4))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (1#32).toInt) k) Q) := by
  unfold oweX
  iintro ⟨#Hr, ⟨%W, HO⟩, Hat, Hc⟩ Hk
  iapply (Rounds.wp_wait_rest_token 𝒱₀ ER (rd A B) (c : Thread nD τ) none (κ := K (c, none))
      (wpE_semWait_eq 𝒱₀ (c : Thread nD τ) none Set.univ) (Set.mem_univ _) () (O := oweS c 4) (W := W) (R := 0) (m := 0) (T := ∅)
      (by rw [expect_bar]; decide)) $$ [Hc HO Hat]
  · isplitr; · iapply (recs_inv A B K (c, none)); iexact Hr
    isplitl [Hc]; · iexact Hc
    isplitl [HO]; · iexact HO
    isplitr; · iapply (mayWait_sends c (.reg barS) 4 (by rw [lv_bar]; decide)); iapply (recs_lev A B K); iexact Hr
    iexact Hat
  iintro ⟨HO, Hat, -, Hpay⟩
  imod (Rounds.cell_close ER (rd A B) (Set.mem_univ (K (c, none))) (fun h => h) (R := 0 + 1) (duties_later A B (barCell c))) $$ [Hat] with Hz
  · isplitr; · iapply (recs_inv A B K (c, none)); iexact Hr
    iexact Hat
  ihave Hp := (Entails.of_eq (rest_bar A B c)) $$ Hpay
  iapply Hk
  isplitl [Hp]; · iexact Hp
  isplitl [Hz]; · iexact Hz
  iexists _
  iexact HO

/-- The copy of exchange `i`: the part `r` of buffer `M`, read through a squeezed slice on both sides. -/
theorem step_send (c n : Dev nD) (i : Fin 4) (hn : n = pe c) {s s' : Shape} {e : EltTy} (M : Memref sig .tc .vmem s e) (r : Rect s)
    (v : r.shape.Idx → Elt F e) (hps : sendPay A B c i = seg M r c v) (hpr : recvPay A B (pe c) i = seg M r (pe c) v)
    {hs : _} {ht : _} {hq hq' : r.shape.Squeezes s'}
    (hN : ((M.slice r ht).squeeze s' hq').view.dmaCredit = N i)
    {hsc : ((M.slice r ht).squeeze s' hq' : Memref sig (Dev.tc n : Thread nD τ).2.kind .vmem s' e).view.ref.isScScratch = false}
    {hsrc : ((M.slice r hs).squeeze s' hq).view.WordExact} {hdst : ((M.slice r ht).squeeze s' hq').view.WordExact}
    {hsem : DmaTarget.Typed .vmem (.dma (rS i)) (.remote (Dev.tc n : Thread nD τ) ((M.slice r ht).squeeze s' hq') (.dma (sS i)) hsc)}
    {α : Type} {Q : α → sProp 𝕄} {k : PUnit → Prog (TpuEff nD τ sig (Elt F) Λ₀ .tc) α} :
    iprop(recs A B K ∗ seg M r c v ∗ segAny (F := F) M r (pe c) ∗ oweX c (oweS c (4 - i.val)) ∗ E0 c i)
      ⊢ iprop(((ES c i ∗ ER' c i ∗ oweX c (oweS c (3 - i.val)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((M.slice r hs).squeeze s' hq) (.remote (Dev.tc n : Thread nD τ) ((M.slice r ht).squeeze s' hq') (.dma (sS i)) hsc)
              (.dma (rS i)) hsrc hdst hsem) k) Q) := by
  subst hn
  unfold oweX E0 ES ER' segAny
  unfold seg at hps hpr ⊢
  iintro ⟨#Hr, ⟨%fs, %hfs, Hs⟩, ⟨%v', %fd, %hfd, Hd⟩, ⟨%W, HO⟩, HaS, HaR, HtS, HtR, Hc⟩ Hk
  iapply (Rounds.wp_send_pointsTo 𝒱₀ ER (rd A B) (c : Thread nD τ) none (κ₁ := K (c, some (false, i))) (κ₂ := K (pe c, some (true, i)))
    (c' := (Dev.tc (pe c) : Thread nD τ)) (src := (M.slice r hs).squeeze s' hq) (dst := (M.slice r ht).squeeze s' hq')
    (r₁ := 0) (r₂ := 0) (d₁ := 0) (d₂ := 0) (fs := fs) (fd := fd) (q := fullShare) (sS := .dma (sS i)) (sem := .dma (rS i)) (O₀ := oweS c (4 - i.val))
    (by rw [duties_send]; exact Finset.mem_singleton_self _) (by rw [duties_recv]; exact Finset.mem_singleton_self _)
    () () (N i) hN (amount_send A B c i 0) (amount_recv A B (pe c) i 0) (oweS c (3 - i.val))
    (by
      have h : 4 - i.val = (3 - i.val) + 1 := by omega
      have hi : ix (3 - i.val) = i := Fin.ext (by show 3 - (3 - i.val) = i.val; omega)
      rw [h]
      show oweS c (3 - i.val) + tallyAt (recvCell (pe c) (ix (3 - i.val))) () (N (ix (3 - i.val))) = _
      rw [hi]) (W := W)
    (by
      rw [payload_send, hps]
      rw [show ((M.slice r hs).squeeze s' hq).view.set = (M.access r).set from View.set_reshape _ _]
      iintro H; iexists fs
      isplitr; · (ipureintro; exact hfs)
      iexact H)
    (by
      rw [payload_recv, hpr]
      rw [show ((M.slice r ht).squeeze s' hq').view.set = (M.access r).set from View.set_reshape _ _]
      iintro H; iexists _
      isplitr
      swap
      · iexact H
      ipureintro
      exact (read_of_reshape (v := M.access r) (w := M.access r) hq.numel_eq (View.read_write_univ _ _)).trans hfs)) $$ [Hs Hd HO HtS HtR]
  · isplitr; · iapply (recs_inv A B K (c, some (false, i))); iexact Hr
    isplitr; · iapply (recs_inv A B K (pe c, some (true, i))); iexact Hr
    isplitl [Hs]
    · rw [show ((M.slice r hs).squeeze s' hq).view.set = (M.access r).set from View.set_reshape _ _]; iexact Hs
    isplitl [Hd]
    · rw [show ((M.slice r ht).squeeze s' hq').view.set = (M.access r).set from View.set_reshape _ _]; iexact Hd
    isplitl [HO]; · iexact HO
    isplitl [HtS]; · iexact HtS
    isplitr; · iapply (recs_reached A B K (c, some (false, i))); iexact Hr
    isplitl [HtR]; · iexact HtR
    iapply (recs_reached A B K (pe c, some (true, i))); iexact Hr
  iintro ⟨HcS, HO⟩
  iapply Hk
  isplitl [HaS HcS]
  · isplitl [HaS] <;> iassumption
  isplitl [HaR Hc]
  · isplitl [HaR] <;> iassumption
  iexists W
  iexact HO

/-- The wait on exchange `i`'s send semaphore: the quarter sent comes back. -/
theorem step_waitS (c : Dev nD) (i : Fin 4) (m : ℕ) (hm : m ≤ 4)
    {sp sp' : Space} {s s' : Shape} {e e' : EltTy} {src : Memref sig .tc sp' s' e'} {κ' : Kind} {dst : Memref sig κ' sp s e}
    (hN : dst.view.dmaCredit = N i) {hsrc : src.view.WordExact} {hdst : dst.view.WordExact}
    {α : Type} {Q : α → sProp 𝕄} {k : PUnit → Prog (TpuEff nD τ sig (Elt F) Λ₀ .tc) α} :
    iprop(recs A B K ∗ ES c i ∗ oweX c (oweS c m))
      ⊢ iprop(((sendPay A B c i ∗ semVal (sendCell c i) 0 ∗ oweX c (oweS c m))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sS i) src dst hsrc hdst) k) Q) := by
  unfold oweX ES
  iintro ⟨#Hr, ⟨Hat, Hc⟩, ⟨%W, HO⟩⟩ Hk
  iapply (Rounds.wp_wait_rest_token 𝒱₀ ER (rd A B) (c : Thread nD τ) none (κ := K (c, some (false, i)))
      (wpE_waitDma2_eq 𝒱₀ (c : Thread nD τ) none Set.univ) (Set.mem_univ _) () (O := oweS c m) (W := W) (R := 0) (m := 0) (T := ∅)
      (by rw [Nat.zero_add, expect_send]; exact hN)) $$ [Hc HO Hat]
  · isplitr; · iapply (recs_inv A B K (c, some (false, i))); iexact Hr
    isplitl [Hc]; · rw [hN]; iexact Hc
    isplitl [HO]; · iexact HO
    isplitr
    · iapply (mayWait_sends c (.dma (sS i)) m (by have h := lv_send c i (); rw [h]; omega)); iapply (recs_lev A B K); iexact Hr
    iexact Hat
  iintro ⟨HO, Hat, -, Hpay⟩
  imod (Rounds.cell_close ER (rd A B) (Set.mem_univ (K (c, some (false, i)))) (fun h => h) (R := 0 + 1) (duties_later A B (sendCell c i))) $$ [Hat] with Hz
  · isplitr; · iapply (recs_inv A B K (c, some (false, i))); iexact Hr
    iexact Hat
  ihave Hp := (Entails.of_eq (rest_send A B c i)) $$ Hpay
  iapply Hk
  isplitl [Hp]; · iexact Hp
  isplitl [Hz]; · iexact Hz
  iexists _
  iexact HO

/-- The wait on exchange `i`'s receive semaphore: the landing quarter, holding what the peer sent. -/
theorem step_waitR (c : Dev nD) (i : Fin 4) (m : ℕ) (hm : i.val + m < 4)
    {sp sp' : Space} {s s' : Shape} {e e' : EltTy} {src : Memref sig .tc sp' s' e'} {κ' : Kind} {dst : Memref sig κ' sp s e}
    (hN : dst.view.dmaCredit = N i) {hsrc : src.view.WordExact} {hdst : dst.view.WordExact}
    {α : Type} {Q : α → sProp 𝕄} {k : PUnit → Prog (TpuEff nD τ sig (Elt F) Λ₀ .tc) α} :
    iprop(recs A B K ∗ ER' c i ∗ oweX c (oweS c m))
      ⊢ iprop(((recvPay A B c i ∗ semVal (recvCell c i) 0 ∗ oweX c (oweS c m))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (rS i) src dst hsrc hdst) k) Q) := by
  unfold oweX ER'
  iintro ⟨#Hr, ⟨Hat, Hc⟩, ⟨%W, HO⟩⟩ Hk
  iapply (Rounds.wp_wait_rest_token 𝒱₀ ER (rd A B) (c : Thread nD τ) none (κ := K (c, some (true, i)))
      (wpE_waitDma2_eq 𝒱₀ (c : Thread nD τ) none Set.univ) (Set.mem_univ _) () (O := oweS c m) (W := W) (R := 0) (m := 0) (T := ∅)
      (by rw [Nat.zero_add, expect_recv]; exact hN)) $$ [Hc HO Hat]
  · isplitr; · iapply (recs_inv A B K (c, some (true, i))); iexact Hr
    isplitl [Hc]; · rw [hN]; iexact Hc
    isplitl [HO]; · iexact HO
    isplitr
    · iapply (mayWait_sends c (.dma (rS i)) m (by have h := lv_recv c i (); rw [h]; omega)); iapply (recs_lev A B K); iexact Hr
    iexact Hat
  iintro ⟨HO, Hat, -, Hpay⟩
  imod (Rounds.cell_close ER (rd A B) (Set.mem_univ (K (c, some (true, i)))) (fun h => h) (R := 0 + 1) (duties_later A B (recvCell c i))) $$ [Hat] with Hz
  · isplitr; · iapply (recs_inv A B K (c, some (true, i))); iexact Hr
    iexact Hat
  ihave Hp := (Entails.of_eq (rest_recv A B c i)) $$ Hpay
  iapply Hk
  isplitl [Hp]; · iexact Hp
  isplitl [Hz]; · iexact Hz
  iexists _
  iexact HO

/-! ## The loads of the two inputs -/

def ptA (c : Dev nD) : sProp 𝕄 := ((c : Thread nD τ).loc cc0_stg0_0) ↦{fullShare} A c
def ptB (c : Dev nD) : sProp 𝕄 := ((c : Thread nD τ).loc cc0_stg1_0) ↦{fullShare} B c

theorem hz : (![0, 0] : Fin 2 → Nat) = fun _ => 0 := funext fun a => by fin_cases a <;> rfl

theorem step_loadA (c : Dev nD) {hl : _}
    {α : Type} {Q : α → sProp 𝕄} {k : Vec F S1024x1024 .f32 → Prog (TpuEff nD τ sig (Elt F) Λ₀ .tc) α} :
    ptA A c ⊢ iprop((ptA A c -∗ wp frame (wpE (defs₀ (F := F)) 𝒱₀ (c : Thread nD τ) none) Set.univ (k (A c)) Q)
        -∗ wp frame (wpE (defs₀ (F := F)) 𝒱₀ (c : Thread nD τ) none) Set.univ
          (.op (.load (Memref.whole cc0_stg0_0) (Rect.unit (s := S1024x1024) ![0, 0] S1024x1024.size inb_S1024x1024_S1024x1024_0_0).toLoadRect hl) k) Q) := by
  unfold ptA
  iintro H Hk
  iapply (wp_load 𝒱₀ (c : Thread nD τ) none Set.univ (m := Memref.whole cc0_stg0_0) (Finset.subset_univ _)) $$ H
  iintro H
  rw [show (Memref.whole cc0_stg0_0).view.readAt (Elt F) (Rect.unit (s := S1024x1024) ![0, 0] S1024x1024.size inb_S1024x1024_S1024x1024_0_0).toLoadRect (A c) = A c from
    Memref.readAt_unit_zero (Elt F) cc0_stg0_0 hz _ _]
  iapply Hk
  iexact H

theorem step_loadB (c : Dev nD) {hl : _}
    {α : Type} {Q : α → sProp 𝕄} {k : Vec F S8x1024 .f32 → Prog (TpuEff nD τ sig (Elt F) Λ₀ .tc) α} :
    ptB B c ⊢ iprop((ptB B c -∗ wp frame (wpE (defs₀ (F := F)) 𝒱₀ (c : Thread nD τ) none) Set.univ (k (B c)) Q)
        -∗ wp frame (wpE (defs₀ (F := F)) 𝒱₀ (c : Thread nD τ) none) Set.univ
          (.op (.load (Memref.whole cc0_stg1_0) (Rect.unit (s := S8x1024) ![0, 0] S8x1024.size inb_S8x1024_S8x1024_0_0).toLoadRect hl) k) Q) := by
  unfold ptB
  iintro H Hk
  iapply (wp_load 𝒱₀ (c : Thread nD τ) none Set.univ (m := Memref.whole cc0_stg1_0) (Finset.subset_univ _)) $$ H
  iintro H
  rw [show (Memref.whole cc0_stg1_0).view.readAt (Elt F) (Rect.unit (s := S8x1024) ![0, 0] S8x1024.size inb_S8x1024_S8x1024_0_0).toLoadRect (B c) = B c from
    Memref.readAt_unit_zero (Elt F) cc0_stg1_0 hz _ _]
  iapply Hk
  iexact H

end Cert.GateIdeal.Gx

end
-- ==== Proof.GParts.lean ====
/-
The gate kernel: the printed parts of its body, one rule each.
-/
module

public import proofs.«01_k».proof.Proof.GSteps

@[expose] public section

set_option maxHeartbeats 4000000
set_option maxRecDepth 4000

noncomputable section

namespace Cert.GateIdeal.Gx

open Cert.GateIdeal Cert.GateIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1024x1024 .f32) (B : Dev nD → Vec F S8x1024 .f32) (K : Dev nD × CK → ℕ)

/-! ## The rows by the offsets the kernel computes -/

omit [FloatOps F] in
theorem off1x (c d : Dev nD) (v : S1x1024x1024.Idx → Elt F .bf16) :
    seg (F := F) xM (rwX (yc c)) d v = seg (F := F) xM (Rect.unit (s := S2x1024x1024) (k0_off1 c) S1x1024x1024.size (k0_off1_inb c)) d v :=
  seg_off xM (k0_off1_eq c).symm _ _ d v
omit [FloatOps F] in
theorem off1x' (c d : Dev nD) :
    segAny (F := F) xM (rwX (yc c)) d = segAny (F := F) xM (Rect.unit (s := S2x1024x1024) (k0_off1 c) S1x1024x1024.size (k0_off1_inb c)) d :=
  segAny_off xM (k0_off1_eq c).symm _ _ d
omit [FloatOps F] in
theorem off2x (c d : Dev nD) (v : S1x1024x1024.Idx → Elt F .bf16) :
    seg (F := F) xM (rwX (yc c)) d v = seg (F := F) xM (Rect.unit (s := S2x1024x1024) (k0_off2 c) S1x1024x1024.size (k0_off2_inb c)) d v :=
  seg_off xM (k0_off2_eq c).symm _ _ d v
omit [FloatOps F] in
theorem off2x' (c d : Dev nD) :
    segAny (F := F) xM (rwX (yc c)) d = segAny (F := F) xM (Rect.unit (s := S2x1024x1024) (k0_off2 c) S1x1024x1024.size (k0_off2_inb c)) d :=
  segAny_off xM (k0_off2_eq c).symm _ _ d
omit [FloatOps F] in
theorem off3r (c d : Dev nD) (v : S1x8x1024.Idx → Elt F .f32) :
    seg (F := F) rM (rwR (yc c)) d v = seg (F := F) rM (Rect.unit (s := S2x8x1024) (k0_off3 c) S1x8x1024.size (k0_off3_inb c)) d v :=
  seg_off rM (k0_off3_eq c).symm _ _ d v
omit [FloatOps F] in
theorem off3r' (c d : Dev nD) :
    segAny (F := F) rM (rwR (yc c)) d = segAny (F := F) rM (Rect.unit (s := S2x8x1024) (k0_off3 c) S1x8x1024.size (k0_off3_inb c)) d :=
  segAny_off rM (k0_off3_eq c).symm _ _ d
omit [FloatOps F] in
theorem off4r (c d : Dev nD) (v : S1x8x1024.Idx → Elt F .f32) :
    seg (F := F) rM (rwR (yc c)) d v = seg (F := F) rM (Rect.unit (s := S2x8x1024) (k0_off4 c) S1x8x1024.size (k0_off4_inb c)) d v :=
  seg_off rM (k0_off4_eq c).symm _ _ d v
omit [FloatOps F] in
theorem off4r' (c d : Dev nD) :
    segAny (F := F) rM (rwR (yc c)) d = segAny (F := F) rM (Rect.unit (s := S2x8x1024) (k0_off4 c) S1x8x1024.size (k0_off4_inb c)) d :=
  segAny_off rM (k0_off4_eq c).symm _ _ d
omit [FloatOps F] in
theorem off5i (c d : Dev nD) (v : S1x2x1024.Idx → Elt F .i32) :
    seg (F := F) iM (rwI (yc c)) d v = seg (F := F) iM (Rect.unit (s := S2x2x1024) (k0_off5 c) S1x2x1024.size (k0_off5_inb c)) d v :=
  seg_off iM (k0_off5_eq c).symm _ _ d v
omit [FloatOps F] in
theorem off5i' (c d : Dev nD) :
    segAny (F := F) iM (rwI (yc c)) d = segAny (F := F) iM (Rect.unit (s := S2x2x1024) (k0_off5 c) S1x2x1024.size (k0_off5_inb c)) d :=
  segAny_off iM (k0_off5_eq c).symm _ _ d
omit [FloatOps F] in
theorem off6i (c d : Dev nD) (v : S1x2x1024.Idx → Elt F .i32) :
    seg (F := F) iM (rwI (yc c)) d v = seg (F := F) iM (Rect.unit (s := S2x2x1024) (k0_off6 c) S1x2x1024.size (k0_off6_inb c)) d v :=
  seg_off iM (k0_off6_eq c).symm _ _ d v
omit [FloatOps F] in
theorem off6i' (c d : Dev nD) :
    segAny (F := F) iM (rwI (yc c)) d = segAny (F := F) iM (Rect.unit (s := S2x2x1024) (k0_off6 c) S1x2x1024.size (k0_off6_inb c)) d :=
  segAny_off iM (k0_off6_eq c).symm _ _ d
omit [FloatOps F] in
theorem off5w (c d : Dev nD) (v : S1x2x1024.Idx → Elt F .f32) :
    seg (F := F) wM (rwI (yc c)) d v = seg (F := F) wM (Rect.unit (s := S2x2x1024) (k0_off5 c) S1x2x1024.size (k0_off5_inb c)) d v :=
  seg_off wM (k0_off5_eq c).symm _ _ d v
omit [FloatOps F] in
theorem off5w' (c d : Dev nD) :
    segAny (F := F) wM (rwI (yc c)) d = segAny (F := F) wM (Rect.unit (s := S2x2x1024) (k0_off5 c) S1x2x1024.size (k0_off5_inb c)) d :=
  segAny_off wM (k0_off5_eq c).symm _ _ d
omit [FloatOps F] in
theorem off6w (c d : Dev nD) (v : S1x2x1024.Idx → Elt F .f32) :
    seg (F := F) wM (rwI (yc c)) d v = seg (F := F) wM (Rect.unit (s := S2x2x1024) (k0_off6 c) S1x2x1024.size (k0_off6_inb c)) d v :=
  seg_off wM (k0_off6_eq c).symm _ _ d v
omit [FloatOps F] in
theorem off6w' (c d : Dev nD) :
    segAny (F := F) wM (rwI (yc c)) d = segAny (F := F) wM (Rect.unit (s := S2x2x1024) (k0_off6 c) S1x2x1024.size (k0_off6_inb c)) d :=
  segAny_off wM (k0_off6_eq c).symm _ _ d
theorem Nw0 (c : Dev nD) : ((xM.slice (Rect.unit (s := S2x1024x1024) (k0_off2 c) S1x1024x1024.size (k0_off2_inb c)) (fun _ => rfl)).squeeze S1024x1024 squeezes_S1x1024x1024_S1024x1024).view.dmaCredit = N 0 := rfl
theorem Nw1 (c : Dev nD) : ((rM.slice (Rect.unit (s := S2x8x1024) (k0_off4 c) S1x8x1024.size (k0_off4_inb c)) (fun _ => rfl)).squeeze S8x1024 squeezes_S1x8x1024_S8x1024).view.dmaCredit = N 1 := rfl
theorem Nw2 (c : Dev nD) : ((iM.slice (Rect.unit (s := S2x2x1024) (k0_off6 c) S1x2x1024.size (k0_off6_inb c)) (fun _ => rfl)).squeeze S2x1024 squeezes_S1x2x1024_S2x1024).view.dmaCredit = N 2 := rfl
theorem Nw3 (c : Dev nD) : ((wM.slice (Rect.unit (s := S2x2x1024) (k0_off6 c) S1x2x1024.size (k0_off6_inb c)) (fun _ => rfl)).squeeze S2x1024 squeezes_S1x2x1024_S2x1024).view.dmaCredit = N 3 := rfl

theorem part1_wp (c : Dev nD) (Kt : (Σ' (d0 : Dev nD) (v2 : BitVec 32) (v5 : BitVec 32) (v9 : BitVec 32) (v12 : BitVec 32) (v29 : BitVec 32), BitVec 32) → sProp 𝕄) :
    iprop((recs A B K ∗ oweX c (owe0 c) ∗ dutyTok ER (barCell (pe c)) 0 (0 : Fin 3) ∗ segAny (F := F) xM (rwX (yc (pe c))) c ∗ segAny (F := F) rM (rwR (yc (pe c))) c ∗ segAny (F := F) iM (rwI (yc (pe c))) c ∗ segAny (F := F) wM (rwI (yc (pe c))) c ∗ atPos ER (barCell c) 0 ∅ 0 ∗ cred (tallyAt (barCell c) () 1) ∗ ptA A c ∗ segAny (F := F) xM (rwX (yc c)) c)
      ∗ (∀ w2 w5 w9 w12 w29, (barPay (F := F) c ∗ semVal (barCell c) 0 ∗ oweX c (oweS c 4) ∗ ptA A c ∗ seg xM (rwX (yc c)) c (xR A c)) -∗ Kt ⟨c, w2, w5, w9, w12, w29, 1#32⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 ) Kt := by
  simp only [k0_part1_eq_skeleton]; unfold k0_part1_skel
  simp only [semSignalWord, semWaitWord, Prog.lift, Prog.bind_op, Prog.bind_ret, Prog.pure_eq_ret, wp_deviceId]
  iintro ⟨⟨#Hr, Howe, Ht, Hox, Hor, Hoi, How, HatB, HcB, HA, Hx⟩, Hk⟩
  iapply (step_signal A B K c _ (dev1_eq c)) $$ [Howe Ht Hox Hor Hoi How]
  · isplitr; · iexact Hr
    isplitl [Howe]; · iexact Howe
    isplitl [Ht]; · iexact Ht
    isplitl [Hox]; · iexact Hox
    isplitl [Hor]; · iexact Hor
    isplitl [Hoi]; · iexact Hoi
    iexact How
  iintro Howe
  iapply (step_barrier A B K c) $$ [Howe HatB HcB]
  · isplitr; · iexact Hr
    isplitl [Howe]; · iexact Howe
    isplitl [HatB]; · iexact HatB
    iexact HcB
  iintro ⟨Hbar, HzB, Howe⟩
  iapply (step_loadA A c) $$ [HA]
  · iexact HA
  iintro HA
  ihave Hx := (segAny_elim _ _ _) $$ Hx
  icases Hx with ⟨%vHx, Hx⟩
  ihave Hx := (Entails.of_eq (off1x c c vHx)) $$ Hx
  iapply (wp_load_seg xM (Rect.unit (s := S2x1024x1024) (k0_off1 c) S1x1024x1024.size (k0_off1_inb c)) c vHx) $$ Hx
  iintro Hx
  iapply (wp_store_seg xM (Rect.unit (s := S2x1024x1024) (k0_off1 c) S1x1024x1024.size (k0_off1_inb c)) c vHx (xR A c)) $$ Hx
  iintro Hx
  ihave Hx := (Entails.of_eq (off1x c c (xR A c)).symm) $$ Hx
  rw [wp_ret]
  imodintro
  iapply Hk
  isplitl [Hbar]; · iexact Hbar
  isplitl [HzB]; · iexact HzB
  isplitl [Howe]; · iexact Howe
  isplitl [HA]; · iexact HA
  iexact Hx

theorem part2_wp (c : Dev nD) (w2 w5 w9 w12 w29 w0 : BitVec 32) (Kt : PUnit → sProp 𝕄) :
    iprop((recs A B K ∗ seg xM (rwX (yc c)) c (xR A c) ∗ segAny (F := F) xM (rwX (yc c)) (pe c) ∗ oweX c (oweS c 4) ∗ E0 (F := F) c 0 ∗ ptB B c ∗ segAny (F := F) rM (rwR (yc c)) c ∗ segAny (F := F) rM (rwR (yc c)) (pe c) ∗ E0 (F := F) c 1)
      ∗ ((ES (F := F) c 0 ∗ ER' (F := F) c 0 ∗ ES (F := F) c 1 ∗ ER' (F := F) c 1 ∗ oweX c (oweS c 2) ∗ ptB B c) -∗ Kt ⟨⟩))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 c w2 w5 w9 w12 w29 w0) Kt := by
  simp only [k0_part2_eq_skeleton]; unfold k0_part2_skel
  simp only [semSignalWord, semWaitWord, Prog.lift, Prog.bind_op, Prog.bind_ret, Prog.pure_eq_ret, wp_deviceId]
  iintro ⟨⟨#Hr, Hx, Hdx, Howe, HE0, HB, Hrr, Hdr, HE1⟩, Hk⟩
  ihave Hx := (Entails.of_eq (off2x c c (xR A c))) $$ Hx
  ihave Hdx := (Entails.of_eq (off2x' c (pe c))) $$ Hdx
  iapply (step_send A B K c _ 0 (dev2_eq c) xM (Rect.unit (s := S2x1024x1024) (k0_off2 c) S1x1024x1024.size (k0_off2_inb c)) (xR A c) (off2x c c _)
      ((show recvPay A B (pe c) 0 = rowPay A B c (pe c) 0 from by unfold recvPay; rw [pe_pe]).trans (off2x c (pe c) _)) rfl) $$ [Hx Hdx Howe HE0]
  · isplitr; · iexact Hr
    isplitl [Hx]; · iexact Hx
    isplitl [Hdx]; · iexact Hdx
    isplitl [Howe]; · iexact Howe
    iexact HE0
  iintro ⟨HES0, HER0, Howe⟩
  iapply (step_loadB B c) $$ [HB]
  · iexact HB
  iintro HB
  ihave Hrr := (segAny_elim _ _ _) $$ Hrr
  icases Hrr with ⟨%vHrr, Hrr⟩
  ihave Hrr := (Entails.of_eq (off3r c c vHrr)) $$ Hrr
  iapply (wp_load_seg rM (Rect.unit (s := S2x8x1024) (k0_off3 c) S1x8x1024.size (k0_off3_inb c)) c vHrr) $$ Hrr
  iintro Hrr
  iapply (wp_store_seg rM (Rect.unit (s := S2x8x1024) (k0_off3 c) S1x8x1024.size (k0_off3_inb c)) c vHrr (rR B c)) $$ Hrr
  iintro Hrr
  ihave Hrr := (Entails.of_eq (off3r c c (rR B c)).symm) $$ Hrr
  ihave Hrr := (Entails.of_eq (off4r c c (rR B c))) $$ Hrr
  ihave Hdr := (Entails.of_eq (off4r' c (pe c))) $$ Hdr
  iapply (step_send A B K c _ 1 (dev3_eq c) rM (Rect.unit (s := S2x8x1024) (k0_off4 c) S1x8x1024.size (k0_off4_inb c)) (rR B c) (off4r c c _)
      ((show recvPay A B (pe c) 1 = rowPay A B c (pe c) 1 from by unfold recvPay; rw [pe_pe]).trans (off4r c (pe c) _)) rfl) $$ [Hrr Hdr Howe HE1]
  · isplitr; · iexact Hr
    isplitl [Hrr]; · iexact Hrr
    isplitl [Hdr]; · iexact Hdr
    isplitl [Howe]; · iexact Howe
    iexact HE1
  iintro ⟨HES1, HER1, Howe⟩
  rw [wp_ret]
  imodintro
  iapply Hk
  isplitl [HES0]; · iexact HES0
  isplitl [HER0]; · iexact HER0
  isplitl [HES1]; · iexact HES1
  isplitl [HER1]; · iexact HER1
  isplitl [Howe]; · iexact Howe
  iexact HB

theorem rAt_own (c : Dev nD) : rAt B c (yc c) = rR B c := if_pos rfl
theorem rAt_peer (c : Dev nD) : rAt B c (yc (pe c)) = rR B (pe c) := if_neg (yc_ne c).symm

/-- The router's own row and the peer's are its two rows. -/
theorem rows_of (c : Dev nD) : iprop(sendPay A B c 1 ∗ recvPay A B c 1) ⊢ iprop(seg rM (rwR 0) c (rAt B c 0) ∗ seg rM (rwR 1) c (rAt B c 1)) := by
  refine BI.Entails.trans ?_ (rows_two (fun y => seg rM (rwR y) c (rAt B c y)) (yc_ne c))
  rw [rAt_own, rAt_peer]
  exact BI.Entails.refl _

theorem part3_wp (c : Dev nD) (w5 w9 w12 : BitVec 32) (Kt : (Σ' (v86 : FVec F S1024x16 .f32) (v87 : IVec S1024x16 32) (v88 : FVec F S1024 .f32) (v94 : IVec S1024 32), IVec S1024x16 1) → sProp 𝕄) :
    iprop((recs A B K ∗ ES (F := F) c 1 ∗ ER' (F := F) c 1 ∗ oweX c (oweS c 2) ∗ ptA A c)
      ∗ ((semVal (sendCell c 1) 0 ∗ semVal (recvCell c 1) 0 ∗ seg rM (rwR 0) c (rAt B c 0) ∗ seg rM (rwR 1) c (rAt B c 1) ∗ ptA A c ∗ oweX c (oweS c 2)) -∗ Kt ⟨k0_pay3 (rAt B c 0) (rAt B c 1) (A c), iota .tc S1024x16 32 [1] iota_S1024x16_d1_w32, k0_pay4 (rAt B c 0) (rAt B c 1) (A c), k0_pay5 (rAt B c 0) (rAt B c 1) (A c), k0_pay6 (rAt B c 0) (rAt B c 1) (A c)⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 c w5 w9 w12) Kt := by
  simp only [k0_part3_eq_skeleton]; unfold k0_part3_skel
  simp only [semSignalWord, semWaitWord, Prog.lift, Prog.bind_op, Prog.bind_ret, Prog.pure_eq_ret, wp_deviceId]
  iintro ⟨⟨#Hr, HES1, HER1, Howe, HA⟩, Hk⟩
  iapply (step_waitS A B K c 1 2 (by decide) (Nw1 c)) $$ [HES1 Howe]
  · isplitr; · iexact Hr
    isplitl [HES1]; · iexact HES1
    iexact Howe
  iintro ⟨HpS1, HzS1, Howe⟩
  iapply (step_waitR A B K c 1 2 (by decide) (Nw1 c)) $$ [HER1 Howe]
  · isplitr; · iexact Hr
    isplitl [HER1]; · iexact HER1
    iexact Howe
  iintro ⟨HpR1, HzR1, Howe⟩
  ihave Hrows := (rows_of A B c) $$ [HpS1 HpR1]
  · isplitl [HpS1] <;> iassumption
  icases Hrows with ⟨Hr0, Hr1⟩
  iapply (wp_load_seg rM (rwR 0) c (rAt B c 0)) $$ Hr0
  iintro Hr0
  iapply (wp_load_seg rM (rwR 1) c (rAt B c 1)) $$ Hr1
  iintro Hr1
  iapply (step_loadA A c) $$ [HA]
  · iexact HA
  iintro HA
  dsimp only
  rw [wp_ret]
  imodintro
  iapply Hk
  isplitl [HzS1]; · iexact HzS1
  isplitl [HzR1]; · iexact HzR1
  isplitl [Hr0]; · iexact Hr0
  isplitl [Hr1]; · iexact Hr1
  isplitl [HA]; · iexact HA
  iexact Howe

theorem part4_wp (c : Dev nD) (w2 w5 w9 w12 : BitVec 32) (Kt : PUnit → sProp 𝕄) :
    iprop((recs A B K ∗ segAny (F := F) iM (rwI (yc c)) c ∗ segAny (F := F) wM (rwI (yc c)) c)
      ∗ ((seg iM (rwI (yc c)) c (iR A B c) ∗ seg wM (rwI (yc c)) c (wR A B c)) -∗ Kt ⟨⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 c w2 w5 w9 w12 (k0_pay3 (rAt B c 0) (rAt B c 1) (A c)) (iota .tc S1024x16 32 [1] iota_S1024x16_d1_w32) (k0_pay4 (rAt B c 0) (rAt B c 1) (A c)) (k0_pay5 (rAt B c 0) (rAt B c 1) (A c)) (k0_pay6 (rAt B c 0) (rAt B c 1) (A c))) Kt := by
  simp only [k0_part4_eq_skeleton]; unfold k0_part4_skel
  simp only [semSignalWord, semWaitWord, Prog.lift, Prog.bind_op, Prog.bind_ret, Prog.pure_eq_ret, wp_deviceId]
  iintro ⟨⟨#Hr, Hi, Hw⟩, Hk⟩
  ihave Hi := (segAny_elim _ _ _) $$ Hi
  icases Hi with ⟨%vHi, Hi⟩
  ihave Hi := (Entails.of_eq (off5i c c vHi)) $$ Hi
  iapply (wp_load_seg iM (Rect.unit (s := S2x2x1024) (k0_off5 c) S1x2x1024.size (k0_off5_inb c)) c vHi) $$ Hi
  iintro Hi
  iapply (wp_store_seg iM (Rect.unit (s := S2x2x1024) (k0_off5 c) S1x2x1024.size (k0_off5_inb c)) c vHi (iR A B c)) $$ Hi
  iintro Hi
  ihave Hi := (Entails.of_eq (off5i c c (iR A B c)).symm) $$ Hi
  ihave Hw := (segAny_elim _ _ _) $$ Hw
  icases Hw with ⟨%vHw, Hw⟩
  ihave Hw := (Entails.of_eq (off5w c c vHw)) $$ Hw
  iapply (wp_load_seg wM (Rect.unit (s := S2x2x1024) (k0_off5 c) S1x2x1024.size (k0_off5_inb c)) c vHw) $$ Hw
  iintro Hw
  iapply (wp_store_seg wM (Rect.unit (s := S2x2x1024) (k0_off5 c) S1x2x1024.size (k0_off5_inb c)) c vHw (wR A B c)) $$ Hw
  iintro Hw
  ihave Hw := (Entails.of_eq (off5w c c (wR A B c)).symm) $$ Hw
  rw [wp_ret]
  imodintro
  iapply Hk
  isplitl [Hi]; · iexact Hi
  iexact Hw

theorem part5_wp (c : Dev nD) (w5 w9 w12 : BitVec 32) (Kt : PUnit → sProp 𝕄) :
    iprop((recs A B K ∗ seg iM (rwI (yc c)) c (iR A B c) ∗ segAny (F := F) iM (rwI (yc c)) (pe c) ∗ oweX c (oweS c 2) ∗ E0 (F := F) c 2 ∗ seg wM (rwI (yc c)) c (wR A B c) ∗ segAny (F := F) wM (rwI (yc c)) (pe c) ∗ E0 (F := F) c 3)
      ∗ ((ER' (F := F) c 2 ∗ ES (F := F) c 3 ∗ ER' (F := F) c 3 ∗ oweX c (oweS c 0) ∗ sendPay A B c 2 ∗ semVal (sendCell c 2) 0) -∗ Kt ⟨⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 c w5 w9 w12) Kt := by
  simp only [k0_part5_eq_skeleton]; unfold k0_part5_skel
  simp only [semSignalWord, semWaitWord, Prog.lift, Prog.bind_op, Prog.bind_ret, Prog.pure_eq_ret, wp_deviceId]
  iintro ⟨⟨#Hr, Hi, Hdi, Howe, HE2, Hw, Hdw, HE3⟩, Hk⟩
  ihave Hi := (Entails.of_eq (off6i c c (iR A B c))) $$ Hi
  ihave Hdi := (Entails.of_eq (off6i' c (pe c))) $$ Hdi
  iapply (step_send A B K c _ 2 (dev4_eq c) iM (Rect.unit (s := S2x2x1024) (k0_off6 c) S1x2x1024.size (k0_off6_inb c)) (iR A B c) (off6i c c _)
      ((show recvPay A B (pe c) 2 = rowPay A B c (pe c) 2 from by unfold recvPay; rw [pe_pe]).trans (off6i c (pe c) _)) rfl) $$ [Hi Hdi Howe HE2]
  · isplitr; · iexact Hr
    isplitl [Hi]; · iexact Hi
    isplitl [Hdi]; · iexact Hdi
    isplitl [Howe]; · iexact Howe
    iexact HE2
  iintro ⟨HES2, HER2, Howe⟩
  ihave Hw := (Entails.of_eq (off6w c c (wR A B c))) $$ Hw
  ihave Hdw := (Entails.of_eq (off6w' c (pe c))) $$ Hdw
  iapply (step_send A B K c _ 3 (dev5_eq c) wM (Rect.unit (s := S2x2x1024) (k0_off6 c) S1x2x1024.size (k0_off6_inb c)) (wR A B c) (off6w c c _)
      ((show recvPay A B (pe c) 3 = rowPay A B c (pe c) 3 from by unfold recvPay; rw [pe_pe]).trans (off6w c (pe c) _)) rfl) $$ [Hw Hdw Howe HE3]
  · isplitr; · iexact Hr
    isplitl [Hw]; · iexact Hw
    isplitl [Hdw]; · iexact Hdw
    isplitl [Howe]; · iexact Howe
    iexact HE3
  iintro ⟨HES3, HER3, Howe⟩
  iapply (step_waitS A B K c 2 0 (by decide) (Nw2 c)) $$ [HES2 Howe]
  · isplitr; · iexact Hr
    isplitl [HES2]; · iexact HES2
    iexact Howe
  iintro ⟨HpS2, HzS2, Howe⟩
  rw [wp_ret]
  imodintro
  iapply Hk
  isplitl [HER2]; · iexact HER2
  isplitl [HES3]; · iexact HES3
  isplitl [HER3]; · iexact HER3
  isplitl [Howe]; · iexact Howe
  isplitl [HpS2]; · iexact HpS2
  iexact HzS2

theorem part6_wp (c : Dev nD) (w5 w9 w12 : BitVec 32) (Kt : PUnit → sProp 𝕄) :
    iprop((recs A B K ∗ ER' (F := F) c 2 ∗ ES (F := F) c 3 ∗ ER' (F := F) c 3 ∗ ES (F := F) c 0 ∗ oweX c (oweS c 0))
      ∗ ((recvPay A B c 2 ∗ semVal (recvCell c 2) 0 ∗ sendPay A B c 3 ∗ semVal (sendCell c 3) 0 ∗ recvPay A B c 3 ∗ semVal (recvCell c 3) 0 ∗ sendPay A B c 0 ∗ semVal (sendCell c 0) 0 ∗ oweX c (oweS c 0)) -∗ Kt ⟨⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 c w5 w9 w12) Kt := by
  simp only [k0_part6_eq_skeleton]; unfold k0_part6_skel
  simp only [semSignalWord, semWaitWord, Prog.lift, Prog.bind_op, Prog.bind_ret, Prog.pure_eq_ret, wp_deviceId]
  iintro ⟨⟨#Hr, HER2, HES3, HER3, HES0, Howe⟩, Hk⟩
  iapply (step_waitR A B K c 2 0 (by decide) (Nw2 c)) $$ [HER2 Howe]
  · isplitr; · iexact Hr
    isplitl [HER2]; · iexact HER2
    iexact Howe
  iintro ⟨HpR2, HzR2, Howe⟩
  iapply (step_waitS A B K c 3 0 (by decide) (Nw3 c)) $$ [HES3 Howe]
  · isplitr; · iexact Hr
    isplitl [HES3]; · iexact HES3
    iexact Howe
  iintro ⟨HpS3, HzS3, Howe⟩
  iapply (step_waitR A B K c 3 0 (by decide) (Nw3 c)) $$ [HER3 Howe]
  · isplitr; · iexact Hr
    isplitl [HER3]; · iexact HER3
    iexact Howe
  iintro ⟨HpR3, HzR3, Howe⟩
  iapply (step_waitS A B K c 0 0 (by decide) (Nw0 c)) $$ [HES0 Howe]
  · isplitr; · iexact Hr
    isplitl [HES0]; · iexact HES0
    iexact Howe
  iintro ⟨HpS0, HzS0, Howe⟩
  rw [wp_ret]
  imodintro
  iapply Hk
  isplitl [HpR2]; · iexact HpR2
  isplitl [HzR2]; · iexact HzR2
  isplitl [HpS3]; · iexact HpS3
  isplitl [HzS3]; · iexact HzS3
  isplitl [HpR3]; · iexact HpR3
  isplitl [HzR3]; · iexact HzR3
  isplitl [HpS0]; · iexact HpS0
  isplitl [HzS0]; · iexact HzS0
  iexact Howe

end Cert.GateIdeal.Gx

end
-- ==== Proof.GBody.lean ====
/-
The gate kernel: its body from the four buffers whole to the four buffers whole.
-/
module

public import proofs.«01_k».proof.Proof.GParts

@[expose] public section

set_option maxHeartbeats 4000000
set_option maxRecDepth 4000

noncomputable section

namespace Cert.GateIdeal.Gx

open Cert.GateIdeal Cert.GateIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole buffer, its content unknown. -/
def scr {s : Shape} {e : EltTy} (M : Memref sig .tc .vmem s e) (c : Dev nD) : sProp 𝕄 :=
  iprop(∃ f, (M.view.loc (c : Thread nD τ) ↦[M.view.set]{fullShare} f))

variable (A : Dev nD → Vec F S1024x1024 .f32) (B : Dev nD → Vec F S8x1024 .f32) (K : Dev nD × CK → ℕ)

/-- The rows of the three results. -/
def xAt (c : Dev nD) (y : Fin 2) : Vec F S1x1024x1024 .bf16 := if y = yc c then xR A c else xR A (pe c)
def iAt (c : Dev nD) (y : Fin 2) : Vec F S1x2x1024 .i32 := if y = yc c then iR A B c else iR A B (pe c)
def wAt (c : Dev nD) (y : Fin 2) : Vec F S1x2x1024 .f32 := if y = yc c then wR A B c else wR A B (pe c)

theorem xAt_own (c : Dev nD) : xAt A c (yc c) = xR A c := if_pos rfl
theorem xAt_peer (c : Dev nD) : xAt A c (yc (pe c)) = xR A (pe c) := if_neg (yc_ne c).symm
theorem iAt_own (c : Dev nD) : iAt A B c (yc c) = iR A B c := if_pos rfl
theorem iAt_peer (c : Dev nD) : iAt A B c (yc (pe c)) = iR A B (pe c) := if_neg (yc_ne c).symm
theorem wAt_own (c : Dev nD) : wAt A B c (yc c) = wR A B c := if_pos rfl
theorem wAt_peer (c : Dev nD) : wAt A B c (yc (pe c)) = wR A B (pe c) := if_neg (yc_ne c).symm

/-- A result holds its rows. -/
def outP {s : Shape} {e : EltTy} (M : Memref sig .tc .vmem s e) (c : Dev nD) (R : Buf (Elt F) (M.view.loc (c : Thread nD τ)) → Prop) : sProp 𝕄 :=
  iprop(∃ f, ⌜R f⌝ ∗ (M.view.loc (c : Thread nD τ) ↦[M.view.set]{fullShare} f))

theorem joinX (c : Dev nD) : iprop(sendPay A B c 0 ∗ recvPay A B c 0) ⊢ outP xM c (fun f => ∀ q, (xM.access (rwX q)).read (Elt F) f = xAt A c q) := by
  refine BI.Entails.trans ?_ (whole_join xM c (xAt A c) (yc_ne c))
  rw [xAt_own, xAt_peer]
  exact BI.Entails.refl _

theorem joinI (c : Dev nD) : iprop(sendPay A B c 2 ∗ recvPay A B c 2) ⊢ outP iM c (fun f => ∀ q, (iM.access (rwI q)).read (Elt F) f = iAt A B c q) := by
  refine BI.Entails.trans ?_ (whole_join iM c (iAt A B c) (yc_ne c))
  rw [iAt_own, iAt_peer]
  exact BI.Entails.refl _

theorem joinW (c : Dev nD) : iprop(sendPay A B c 3 ∗ recvPay A B c 3) ⊢ outP wM c (fun f => ∀ q, (wM.access (rwI q)).read (Elt F) f = wAt A B c q) := by
  refine BI.Entails.trans ?_ (whole_join wM c (wAt A B c) (yc_ne c))
  rw [wAt_own, wAt_peer]
  exact BI.Entails.refl _

theorem joinR (c : Dev nD) : iprop(seg rM (rwR 0) c (rAt B c 0) ∗ seg rM (rwR 1) c (rAt B c 1)) ⊢ scr (F := F) rM c := by
  iintro H
  ihave H := (whole_join rM c (rAt B c) (show (0 : Fin 2) ≠ 1 by decide)) $$ H
  icases H with ⟨%f, -, H⟩
  unfold scr
  iexists f
  iexact H

/-- What the body starts from. -/
def bodyIn (c : Dev nD) : sProp 𝕄 :=
  iprop(recs A B K ∗ scr (F := F) xM c ∗ scr (F := F) rM c ∗ scr (F := F) iM c ∗ scr (F := F) wM c ∗ ptA A c ∗ ptB B c ∗ oweX c (owe0 c) ∗ dutyTok ER (barCell (pe c)) 0 (0 : Fin 3) ∗ atPos ER (barCell c) 0 ∅ 0 ∗ cred (tallyAt (barCell c) () 1) ∗ E0 (F := F) c 0 ∗ E0 (F := F) c 1 ∗ E0 (F := F) c 2 ∗ E0 (F := F) c 3)
/-- What it ends with. -/
def bodyOut (c : Dev nD) : sProp 𝕄 :=
  iprop(scr (F := F) rM c ∗ outP xM c (fun f => ∀ q, (xM.access (rwX q)).read (Elt F) f = xAt A c q) ∗ outP iM c (fun f => ∀ q, (iM.access (rwI q)).read (Elt F) f = iAt A B c q) ∗ outP wM c (fun f => ∀ q, (wM.access (rwI q)).read (Elt F) f = wAt A B c q) ∗ ptA A c ∗ ptB B c ∗ oweX c (oweS c 0) ∗ semVal (barCell c) 0 ∗ semVal (sendCell c 0) 0 ∗ semVal (sendCell c 1) 0 ∗ semVal (sendCell c 2) 0 ∗ semVal (sendCell c 3) 0 ∗ semVal (recvCell c 0) 0 ∗ semVal (recvCell c 1) 0 ∗ semVal (recvCell c 2) 0 ∗ semVal (recvCell c 3) 0)

theorem sound_body (c : Dev nD) (Kt : PUnit → sProp 𝕄) :
    bodyIn A B K c ⊢ iprop((bodyOut A B c -∗ Kt ⟨⟩) -∗ wp frame (wpE (defs₀ (F := F)) 𝒱₀ (c : Thread nD τ) none) Set.univ
      (cc0__gate_exch_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2) Kt) := by
  rw [cc0__gate_exch_body_eq_skeleton]
  unfold bodyIn bodyOut cc0__gate_exch_body_skel
  iintro ⟨#Hr, S0, S1, S2, S3, HA, HB, Howe, Ht, HatB, HcB, HE0, HE1, HE2, HE3⟩ Hk
  unfold scr
  icases S0 with ⟨%fS0, S0⟩
  ihave S0 := (whole_split xM c fS0 (yc_ne c)) $$ S0; icases S0 with ⟨Hx, Hox⟩
  icases S1 with ⟨%fS1, S1⟩
  ihave S1 := (whole_split rM c fS1 (yc_ne c)) $$ S1; icases S1 with ⟨Hrr, Hor⟩
  icases S2 with ⟨%fS2, S2⟩
  ihave S2 := (whole_split iM c fS2 (yc_ne c)) $$ S2; icases S2 with ⟨Hi, Hoi⟩
  icases S3 with ⟨%fS3, S3⟩
  ihave S3 := (whole_split wM c fS3 (yc_ne c)) $$ S3; icases S3 with ⟨Hw, How⟩
  rw [wp_bind]
  iapply (part1_wp A B K c)
  isplitl [Howe Ht Hox Hor Hoi How HatB HcB HA Hx]
  · isplitr; · iexact Hr
    isplitl [Howe]; · iexact Howe
    isplitl [Ht]; · iexact Ht
    isplitl [Hox]; · iexact Hox
    isplitl [Hor]; · iexact Hor
    isplitl [Hoi]; · iexact Hoi
    isplitl [How]; · iexact How
    isplitl [HatB]; · iexact HatB
    isplitl [HcB]; · iexact HcB
    isplitl [HA]; · iexact HA
    iexact Hx
  iintro %w2 %w5 %w9 %w12 %w29 ⟨Hbar, HzB, Howe, HA, Hx⟩
  unfold barPay
  icases Hbar with ⟨Hdx, Hdr, Hdi, Hdw⟩
  dsimp only
  rw [wp_bind]
  iapply (part2_wp A B K c _ _ _ _ _ _)
  isplitl [Hx Hdx Howe HE0 HB Hrr Hdr HE1]
  · isplitr; · iexact Hr
    isplitl [Hx]; · iexact Hx
    isplitl [Hdx]; · iexact Hdx
    isplitl [Howe]; · iexact Howe
    isplitl [HE0]; · iexact HE0
    isplitl [HB]; · iexact HB
    isplitl [Hrr]; · iexact Hrr
    isplitl [Hdr]; · iexact Hdr
    iexact HE1
  iintro ⟨HES0, HER0, HES1, HER1, Howe, HB⟩
  rw [wp_bind]
  iapply (part3_wp A B K c _ _ _)
  isplitl [HES1 HER1 Howe HA]
  · isplitr; · iexact Hr
    isplitl [HES1]; · iexact HES1
    isplitl [HER1]; · iexact HER1
    isplitl [Howe]; · iexact Howe
    iexact HA
  iintro ⟨HzS1, HzR1, Hr0, Hr1, HA, Howe⟩
  dsimp only
  rw [wp_bind]
  iapply (part4_wp A B K c _ _ _ _)
  isplitl [Hi Hw]
  · isplitr; · iexact Hr
    isplitl [Hi]; · iexact Hi
    iexact Hw
  iintro ⟨Hi, Hw⟩
  rw [wp_bind]
  iapply (part5_wp A B K c _ _ _)
  isplitl [Hi Hdi Howe HE2 Hw Hdw HE3]
  · isplitr; · iexact Hr
    isplitl [Hi]; · iexact Hi
    isplitl [Hdi]; · iexact Hdi
    isplitl [Howe]; · iexact Howe
    isplitl [HE2]; · iexact HE2
    isplitl [Hw]; · iexact Hw
    isplitl [Hdw]; · iexact Hdw
    iexact HE3
  iintro ⟨HER2, HES3, HER3, Howe, HpS2, HzS2⟩
  rw [wp_bind]
  iapply (part6_wp A B K c _ _ _)
  isplitl [HER2 HES3 HER3 HES0 Howe]
  · isplitr; · iexact Hr
    isplitl [HER2]; · iexact HER2
    isplitl [HES3]; · iexact HES3
    isplitl [HER3]; · iexact HER3
    isplitl [HES0]; · iexact HES0
    iexact Howe
  iintro ⟨HpR2, HzR2, HpS3, HzS3, HpR3, HzR3, HpS0, HzS0, Howe⟩
  simp only [Prog.lift, Prog.bind_op, Prog.bind_ret, Prog.pure_eq_ret]
  iapply (step_waitR A B K c 0 0 (by decide) (Nw0 c)) $$ [HER0 Howe]
  · isplitr; · iexact Hr
    isplitl [HER0]; · iexact HER0
    iexact Howe
  iintro ⟨HpR0, HzR0, Howe⟩
  rw [wp_ret]; imodintro
  ihave OX := (joinX A B c) $$ [HpS0 HpR0]
  · isplitl [HpS0] <;> iassumption
  ihave OI := (joinI A B c) $$ [HpS2 HpR2]
  · isplitl [HpS2] <;> iassumption
  ihave OW := (joinW A B c) $$ [HpS3 HpR3]
  · isplitl [HpS3] <;> iassumption
  ihave HR := (joinR B c) $$ [Hr0 Hr1]
  · isplitl [Hr0] <;> iassumption
  unfold scr
  iapply Hk
  isplitl [HR]; · iexact HR
  isplitl [OX]; · iexact OX
  isplitl [OI]; · iexact OI
  isplitl [OW]; · iexact OW
  isplitl [HA]; · iexact HA
  isplitl [HB]; · iexact HB
  isplitl [Howe]; · iexact Howe
  isplitl [HzB]; · iexact HzB
  isplitl [HzS0]; · iexact HzS0
  isplitl [HzS1]; · iexact HzS1
  isplitl [HzS2]; · iexact HzS2
  isplitl [HzS3]; · iexact HzS3
  isplitl [HzR0]; · iexact HzR0
  isplitl [HzR1]; · iexact HzR1
  isplitl [HzR2]; · iexact HzR2
  iexact HzR3

end Cert.GateIdeal.Gx

end
-- ==== Proof.GData.lean ====
/-
# The gate kernel: its proof data

What the one point of the pipeline starts from and leaves, as the library takes it.
-/
module

public import proofs.«01_k».proof.Proof.GBody
public import Idealize.ShloMosaic.Lib.Pipeline.CollectiveSegs

@[expose] public section

noncomputable section

namespace Cert.GateIdeal.Gx

open Cert.GateIdeal Cert.GateIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's activations, and its experts of the router. -/
def Av (c : Dev nD) : Vec F S1024x1024 .f32 := (win0_0.blk (0 : Fin 1)).view.read (Elt F) (m ((c : Thread nD τ).loc main_arg0))
def Bv (c : Dev nD) : Vec F S8x1024 .f32 := (win0_1.blk (0 : Fin 1)).view.read (Elt F) (m ((c : Thread nD τ).loc main_arg1))

/-- The place of an entry in its row. -/
def rix {a b : Nat} (i : (S2 a b).Idx) : (Sr a b).Idx := fun x => match x with
  | ⟨0, _⟩ => ⟨0, Nat.one_pos⟩
  | ⟨1, _⟩ => i 1
  | ⟨2, _⟩ => i 2

/-- Two rows as one array. -/
def rows {α : Type} {a b : Nat} (v : Fin 2 → (Sr a b).Idx → α) : (S2 a b).Idx → α := fun i => v (i 0) (rix i)

def outX (A : Dev nD → Vec F S1024x1024 .f32) (c : Dev nD) : Vec F S2x1024x1024 .bf16 := rows (xAt A c)
def outI (A : Dev nD → Vec F S1024x1024 .f32) (B : Dev nD → Vec F S8x1024 .f32) (c : Dev nD) : Vec F S2x2x1024 .i32 := rows (iAt A B c)
def outW (A : Dev nD → Vec F S1024x1024 .f32) (B : Dev nD → Vec F S8x1024 .f32) (c : Dev nD) : Vec F S2x2x1024 .f32 := rows (wAt A B c)

theorem outX_eq (A : Dev nD → Vec F S1024x1024 .f32) (B : Dev nD → Vec F S8x1024 .f32) (c : Dev nD)
    (f : Buf (Elt F) (xM.view.loc (c : Thread nD τ))) (h : ∀ q, (xM.access (rwX q)).read (Elt F) f = xAt A c q) :
    f = outX A c := by
  funext i
  have e := congrFun (h (i 0)) (rix i)
  refine Eq.trans ?_ e
  refine congrArg f (funext fun a => Fin.ext ?_)
  fin_cases a
  · show (i 0).val = (i 0).val + 1 * 0; omega
  · show (i 1).val = 0 + 1 * (i 1).val; omega
  · show (i 2).val = 0 + 1 * (i 2).val; omega

theorem outI_eq (A : Dev nD → Vec F S1024x1024 .f32) (B : Dev nD → Vec F S8x1024 .f32) (c : Dev nD)
    (f : Buf (Elt F) (iM.view.loc (c : Thread nD τ))) (h : ∀ q, (iM.access (rwI q)).read (Elt F) f = iAt A B c q) :
    f = outI A B c := by
  funext i
  have e := congrFun (h (i 0)) (rix i)
  refine Eq.trans ?_ e
  refine congrArg f (funext fun a => Fin.ext ?_)
  fin_cases a
  · show (i 0).val = (i 0).val + 1 * 0; omega
  · show (i 1).val = 0 + 1 * (i 1).val; omega
  · show (i 2).val = 0 + 1 * (i 2).val; omega

theorem outW_eq (A : Dev nD → Vec F S1024x1024 .f32) (B : Dev nD → Vec F S8x1024 .f32) (c : Dev nD)
    (f : Buf (Elt F) (wM.view.loc (c : Thread nD τ))) (h : ∀ q, (wM.access (rwI q)).read (Elt F) f = wAt A B c q) :
    f = outW A B c := by
  funext i
  have e := congrFun (h (i 0)) (rix i)
  refine Eq.trans ?_ e
  refine congrArg f (funext fun a => Fin.ext ?_)
  fin_cases a
  · show (i 0).val = (i 0).val + 1 * 0; omega
  · show (i 1).val = 0 + 1 * (i 1).val; omega
  · show (i 2).val = 0 + 1 * (i 2).val; omega

/-! ## The kernel's own semaphores and cells -/

abbrev osem : Bool × Fin 4 → SemLoc sig := fun x => match x with | (false, i) => .dma (sS i) | (true, i) => .dma (rS i)

theorem ownSemFacts : Pipeline.OwnSemFacts cfg0.spec osem := by decide

/-- The cells of a device by kind. -/
def ckEquiv : Unit ⊕ (Fin 4 ⊕ Fin 4) ≃ CK where
  toFun x := match x with | .inl _ => none | .inr (.inl i) => some (false, i) | .inr (.inr i) => some (true, i)
  invFun x := match x with | none => .inl () | some (false, i) => .inr (.inl i) | some (true, i) => .inr (.inr i)
  left_inv x := by rcases x with _ | _ | _ <;> rfl
  right_inv x := by rcases x with _ | ⟨_ | _, _⟩ <;> rfl

omit [FloatOps F] in
theorem bigSep_CK (Φ : CK → sProp 𝕄) : bigSep Finset.univ Φ
    = iprop(Φ none ∗ (bigSep Finset.univ fun i : Fin 4 => Φ (some (false, i))) ∗ (bigSep Finset.univ fun i : Fin 4 => Φ (some (true, i)))) := by
  rw [bigSep_univ_equiv ckEquiv, bigSep_univ_sum, bigSep_univ_sum, Finset.univ_unique, bigSep_singleton]
  rfl

omit [FloatOps F] in
theorem bigSep_fin4 (Φ : Fin 4 → sProp 𝕄) : bigSep Finset.univ Φ
    = iprop(Φ 0 ∗ Φ 1 ∗ Φ 2 ∗ Φ 3) :=
  bigSep_univ_eq_bigSepL [0, 1, 2, 3] (by decide) (by decide) Φ

/-! ## The proof data -/

section Data
variable (A : Dev nD → Vec F S1024x1024 .f32) (B : Dev nD → Vec F S8x1024 .f32)

def E0s (c : Dev nD) : sProp 𝕄 := bigSep Finset.univ fun i : Fin 4 => E0 (F := F) c i

/-- The exchanges' share of what device `c` starts from. -/
def start (c : Dev nD) : sProp 𝕄 :=
  iprop((∃ K, recs A B K)
    ∗ dutyTok ER (barCell (pe c)) 0 (0 : Fin 3)
    ∗ (atPos ER (barCell c) 0 ∅ 0 ∗ cred (tallyAt (barCell c) () 1)) ∗ E0s c)

def scrs (c : Dev nD) : sProp 𝕄 :=
  scr (F := F) rM c
def zeros (c : Dev nD) : sProp 𝕄 :=
  iprop((bigSep Finset.univ fun i : Fin 4 => semVal (sendCell c i) 0) ∗ (bigSep Finset.univ fun i : Fin 4 => semVal (recvCell c i) 0))

def Φ₀ (c : Dev nD) : sProp 𝕄 := iprop(start A B c ∗ scrs (F := F) c)
def Φ₁ (c : Dev nD) : sProp 𝕄 := iprop(scrs (F := F) c ∗ zeros (F := F) c ∗ semVal (barCell c) 0)

end Data

def dats (_ : Fin 1) (c : Dev nD) : Dat τ (Elt F) Unit ℕ UU ℕ cfg0 c where
  A w := m ((cfg0.win w).arr.view.loc (c : Thread nD τ))
  after w _ := match w with
    | ⟨0, _⟩ => Av m c
    | ⟨1, _⟩ => Bv m c
    | ⟨2, _⟩ => outX (Av m) c
    | ⟨3, _⟩ => outI (Av m) (Bv m) c
    | ⟨4, _⟩ => outW (Av m) (Bv m) c
  Φ t := match t with
    | ⟨0, _⟩ => Φ₀ (Av m) (Bv m) c
    | ⟨_ + 1, _⟩ => Φ₁ c
  q _ := fullShare
  owed t := match t with
    | ⟨0, _⟩ => owe0 c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer as the pipeline hands it over. -/
abbrev stg (c : Dev nD) (b : Ref sig .tc) (X : b.ty.Contents (Elt F)) : sProp 𝕄 :=
  owns (Ix := Unit) (Name := ℕ) (U := UU) (Lvl := ℕ) (c : Thread nD τ) (Memref.whole b) fullShare X

omit [FloatOps F] in
theorem scr_eq (b : Ref sig .tc) (c : Dev nD) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

set_option maxRecDepth 4000 in
def bodyPre' (c : Dev nD) : sProp 𝕄 :=
  iprop(Φ₀ (Av m) (Bv m) c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ c ∗ (dats m 0 c).owesAt () t0_0.succ ∗ stg c cc0_stg0_0 (Av m c) ∗ stg c cc0_stg1_0 (Bv m c) ∗ stg c cc0_stg2_0 (outX (Av m) c)
    ∗ stg c cc0_stg3_0 (outI (Av m) (Bv m) c) ∗ stg c cc0_stg4_0 (outW (Av m) (Bv m) c))

theorem before_0 (c : Dev nD) (d) : (dats m 0 c).before (0 : Fin 5) t0_0 d = Av m c := by
  unfold Dat.before; rw [if_pos (fetch0_0 t0_0)]; rfl
theorem before_1 (c : Dev nD) (d) : (dats m 0 c).before (1 : Fin 5) t0_0 d = Bv m c := by
  unfold Dat.before; rw [if_pos (fetch0_1 t0_0)]; rfl

end Cert.GateIdeal.Gx

end
-- ==== Proof.GRun.lean ====
/-
# The gate kernel: its run

The body's rule (`sound_body`) as the obligation of the pipeline's one point, the resources of the exchanges dealt
at launch (every cell's invariant allocated for all devices at once, each duty token handed to the device that pays
it), and the run of the program: every device ends with its result array at `finalA`, its arguments unchanged and
every semaphore at zero.
-/
module

public import proofs.«01_k».proof.Proof.GData
public import Idealize.ShloMosaic.Lib.Pipeline.CollectiveSegs

@[expose] public section

noncomputable section

namespace Cert.GateIdeal.Gx

open Cert.GateIdeal Cert.GateIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000 in
/-- The body at the pipeline's point. -/
theorem sound_point (c : Dev nD) : bodyPre' m c ⊢ wp frame (wpE (defs₀ (F := F)) 𝒱₀ (c : Thread nD τ) none) Set.univ
    (cc0__gate_exch_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2) (fun _ => bodyPost m c) := by
  unfold bodyPre' Φ₀ start scrs E0s
  rw [bigSep_fin4]
  simp only [before_0, before_1, owns_whole_eq]
  iintro ⟨⟨⟨⟨%K, #Hr⟩, Ht, Hb, He0, He1, He2, He3⟩, Hscr⟩, Ho, ⟨%d0, %g0, %hg0, HA⟩, ⟨%d1, %g1, %hg1, HB⟩, ⟨%d2, %g2, %hg2, HX⟩, ⟨%d3, %g3, %hg3, HI⟩, ⟨%d4, %g4, %hg4, HW⟩⟩
  subst hg0 hg1
  unfold Dat.owesAt Pipeline.owesWithin
  icases Ho with ⟨%W, %hW, Hw⟩
  icases Hb with ⟨Hb0, Hb1⟩
  iapply (sound_body (Av m) (Bv m) K c fun _ => bodyPost m c) $$ [Ht Hb0 Hb1 He0 He1 He2 He3 Hscr Hw HA HB HX HI HW]
  · unfold bodyIn
    isplitr; · iexact Hr
    isplitl [HX]; · unfold scr; iexists g2; iapply (Entails.of_eq (scr_eq cc0_stg2_0 c g2).symm); iexact HX
    isplitl [Hscr]; · iexact Hscr
    isplitl [HI]; · unfold scr; iexists g3; iapply (Entails.of_eq (scr_eq cc0_stg3_0 c g3).symm); iexact HI
    isplitl [HW]; · unfold scr; iexists g4; iapply (Entails.of_eq (scr_eq cc0_stg4_0 c g4).symm); iexact HW
    isplitl [HA]; · unfold ptA; iexact HA
    isplitl [HB]; · unfold ptB; iexact HB
    isplitl [Hw]; · unfold oweX; iexists W; iexact Hw
    isplitl [Ht]; · iexact Ht
    isplitl [Hb0]; · iexact Hb0
    isplitl [Hb1]; · iexact Hb1
    isplitl [He0]; · iexact He0
    isplitl [He1]; · iexact He1
    isplitl [He2]; · iexact He2
    iexact He3
  iintro H
  unfold bodyOut bodyPost Φ₁ scrs zeros Dat.owesAt Pipeline.owesWithin
  simp only [owns_whole_eq]
  rw [bigSep_fin4, bigSep_fin4]
  unfold outP
  icases H with ⟨Hr', ⟨%fx, %hx, HX⟩, ⟨%fi, %hi, HI⟩, ⟨%fw, %hw, HW⟩, HA, HB, Hw, HzB, A0, A1, A2, A3, B0, B1, B2, B3⟩
  unfold oweX
  icases Hw with ⟨%W', Hw⟩
  isplitl [Hr' HzB A0 A1 A2 A3 B0 B1 B2 B3]
  · isplitl [Hr']; · iexact Hr'
    isplitl [A0 A1 A2 A3 B0 B1 B2 B3]
    · isplitl [A0 A1 A2 A3]
      · isplitl [A0]; · iexact A0
        isplitl [A1]; · iexact A1
        isplitl [A2]; · iexact A2
        iexact A3
      · isplitl [B0]; · iexact B0
        isplitl [B1]; · iexact B1
        isplitl [B2]; · iexact B2
        iexact B3
    iexact HzB
  isplitl [Hw]
  · iexists W'
    isplitr; · ipureintro; exact fun _ _ => Or.inl trivial
    iexact Hw
  isplitl [HA]; · iexists _; isplitr; · (ipureintro; rfl)
                  unfold ptA; iexact HA
  isplitl [HB]; · iexists _; isplitr; · (ipureintro; rfl)
                  unfold ptB; iexact HB
  isplitl [HX]; · iexists fx; isplitr; · (ipureintro; exact outX_eq (Av m) (Bv m) c fx hx)
                  ihave H := (Entails.of_eq (scr_eq cc0_stg2_0 c fx)) $$ HX
                  iexact H
  isplitl [HI]; · iexists fi; isplitr; · (ipureintro; exact outI_eq _ _ c fi hi)
                  ihave H := (Entails.of_eq (scr_eq cc0_stg3_0 c fi)) $$ HI
                  iexact H
  iexists fw; isplitr; · (ipureintro; exact outW_eq _ _ c fw hw)
  ihave H := (Entails.of_eq (scr_eq cc0_stg4_0 c fw)) $$ HW
  iexact H

set_option maxRecDepth 20000 in
set_option maxHeartbeats 2000000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  exact sound_point m c

/-! ## The launch -/

theorem share_eq (c : Dev nD) (w : Fin cfg0.W) : (dats m 0 c).share w = fullShare := by unfold Dat.share; split <;> rfl

theorem csem_injective : Function.Injective csem := by
  intro k k' h
  rcases k with _ | ⟨_ | _, i⟩ <;> rcases k' with _ | ⟨_ | _, i'⟩
  · rfl
  · cases h
  · cases h
  · cases h
  · have := congrArg xOf h; simp only [csem, xOf_s] at this; rw [← this]
  · have := congrArg xOf h; simp only [csem, xOf_s, xOf_r] at this; cases this
  · cases h
  · have := congrArg xOf h; simp only [csem, xOf_s, xOf_r] at this; cases this
  · have := congrArg xOf h; simp only [csem, xOf_r] at this; rw [← this]

theorem kcell_injective : Function.Injective (kcell : Dev nD × CK → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def exCells : Finset (GSem nD τ sig) := Finset.univ.map ⟨kcell, kcell_injective⟩

/-- A device's own cells' duty tokens: its barrier's one, and every exchange cell's one. -/
abbrev TK : Type := Fin 1 ⊕ (Fin 4 ⊕ Fin 4)
def tokOf (cj : Dev nD × TK) : GSem nD τ sig × ℕ × Fin 3 := match cj.2 with
  | .inl _ => (barCell cj.1, 0, 0) | .inr (.inl i) => (sendCell cj.1 i, 0, 0) | .inr (.inr i) => (recvCell cj.1 i, 0, 0)
theorem tokOf_injective : Function.Injective tokOf := by
  rintro ⟨c, j⟩ ⟨c', j'⟩ h
  have hc : c = c' := by
    have := congrArg (fun x : GSem nD τ sig × ℕ × Fin 3 => x.1.1.1) h
    rcases j with _ | _ | _ <;> rcases j' with _ | _ | _ <;> exact this
  subst hc
  have hx := congrArg (fun x : GSem nD τ sig × ℕ × Fin 3 => xOf x.1.2) h
  have hd := congrArg (fun x : GSem nD τ sig × ℕ × Fin 3 => x.2.2) h
  rcases j with a | i | i <;> rcases j' with a' | i' | i' <;> simp only [tokOf, xOf_s, xOf_r, xOf_bar] at hx hd
  · rw [Subsingleton.elim a a']
  · cases hx
  · cases hx
  · cases hx
  · cases hx; rfl
  · cases hx
  · cases hx
  · cases hx
  · cases hx; rfl
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 (0 : Fin 3)
    ∗ (bigSep Finset.univ fun i : Fin 4 => dutyTok ER (sendCell c i) 0 (0 : Fin 3)) ∗ (bigSep Finset.univ fun i : Fin 4 => dutyTok ER (recvCell c i) 0 (0 : Fin 3)))
/-- The duty tokens device `c` pays with. -/
def payToks (c : Dev nD) : sProp 𝕄 :=
  iprop(dutyTok ER (barCell (pe c)) 0 (0 : Fin 3)
    ∗ (bigSep Finset.univ fun i : Fin 4 => dutyTok ER (sendCell c i) 0 (0 : Fin 3)) ∗ (bigSep Finset.univ fun i : Fin 4 => dutyTok ER (recvCell (pe c) i) 0 (0 : Fin 3)))

section Deal
variable (A : Dev nD → Vec F S1024x1024 .f32) (B : Dev nD → Vec F S8x1024 .f32)

/-- What the launch deals device `c`, and what the global step makes of it. -/
def G (c : Dev nD) : sProp 𝕄 :=
  iprop((bigSep Finset.univ fun k : CK => roundState ER (rd A B) (kcell (c, k)) 0)
    ∗ (bigSep Finset.univ fun k : CK => iprop(atPos ER (kcell (c, k)) 0 ∅ 0 ∗ reached ER (kcell (c, k)) 0)) ∗ toks (F := F) c)

def recs0 (K : Dev nD × CK → ℕ) : sProp 𝕄 :=
  iprop((bigSep Finset.univ fun ck : Dev nD × CK => cellInv ER (rd A B) (K ck) (kcell ck))
    ∗ (bigSep Finset.univ fun ck : Dev nD × CK => reached ER (kcell ck) 0))
instance recs0_persistent (K : Dev nD × CK → ℕ) : BI.Persistent (recs0 A B K) := by unfold recs0; infer_instance
def linear (c : Dev nD) : sProp 𝕄 := iprop((bigSep Finset.univ fun k : CK => atPos ER (kcell (c, k)) 0 ∅ 0) ∗ payToks (F := F) c)
def G' (c : Dev nD) : sProp 𝕄 := iprop((∃ K, recs0 A B K) ∗ linear (F := F) c)

theorem fund_ex : BI.own (ER (initOf exCells exToks)) ⊢ (|==> bigSep Finset.univ (G A B) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum, Finset.univ_unique, bigSep_singleton]; rfl
  iintro HX
  imod (Rounds.fund ER (rd A B) exCells exToks) $$ HX with ⟨Hst, Hr, Hat, Htok⟩
  imodintro
  ihave Hst' := (Entails.of_eq (hX fun g => roundState ER (rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros
  rw [bigSep_univ_prod, bigSep_univ_eq_bigSepL [false, true] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  unfold zeros
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (rd A B) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd A B) (kcell (c, k)) 0)
      ⊢ (|={Set.univ}=> bigSep Finset.univ fun k => iprop(∃ κ : ℕ, cellInv ER (rd A B) κ (kcell (c, k))) : sProp 𝕄) from by
        rw [← bigSep_sep']
        exact (bigSep_mono fun k _ => (Rounds.body_intro ER (rd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Each token to the device that pays it. -/
theorem toks_around : (bigSep Finset.univ fun c : Dev nD => (toks c : sProp 𝕄)) ⊢ bigSep Finset.univ fun c : Dev nD => payToks c := by
  have hB : (bigSep Finset.univ fun c : Dev nD => (dutyTok ER (barCell c) 0 (0 : Fin 3) : sProp 𝕄))
      = bigSep Finset.univ fun c : Dev nD => (dutyTok ER (barCell (pe c)) 0 (0 : Fin 3) : sProp 𝕄) :=
    bigSep_univ_equiv peEquiv (fun c : Dev nD => (dutyTok ER (barCell c) 0 (0 : Fin 3) : sProp 𝕄))
  have hR : (bigSep Finset.univ fun c : Dev nD => bigSep Finset.univ fun i : Fin 4 => (dutyTok ER (recvCell c i) 0 (0 : Fin 3) : sProp 𝕄))
      = bigSep Finset.univ fun c : Dev nD => bigSep Finset.univ fun i : Fin 4 => (dutyTok ER (recvCell (pe c) i) 0 (0 : Fin 3) : sProp 𝕄) := by
    rw [bigSep_univ_comm, bigSep_univ_comm (fun (c : Dev nD) (i : Fin 4) => (dutyTok ER (recvCell (pe c) i) 0 (0 : Fin 3) : sProp 𝕄))]
    exact bigSep_congr fun i _ => bigSep_univ_equiv (peEquiv) (fun c : Dev nD => (dutyTok ER (recvCell c i) 0 (0 : Fin 3) : sProp 𝕄))
  unfold toks payToks
  rw [bigSep_sep', bigSep_sep', bigSep_sep', bigSep_sep', hB, hR]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(recs0 A B K ∗ linear c) ⊢ G' A B c := by
  unfold G'
  iintro ⟨H, Hl⟩
  isplitl [H]; · iexists K; iexact H
  iexact Hl

theorem regroup :
    (bigSep Finset.univ fun c : Dev nD => iprop((bigSep Finset.univ fun k => iprop(∃ κ : ℕ, cellInv ER (rd A B) κ (kcell (c, k))))
          ∗ (bigSep Finset.univ fun k => iprop(atPos ER (kcell (c, k)) 0 ∅ 0 ∗ reached ER (kcell (c, k)) 0)) ∗ toks c) : sProp 𝕄)
      ⊢ bigSep Finset.univ (G' A B) := by
  rw [bigSep_sep', bigSep_sep', ← bigSep_univ_prod (fun ck : Dev nD × CK => iprop(∃ κ : ℕ, cellInv ER (rd A B) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd A B) κ (kcell ck) : sProp 𝕄))) $$ HI
  icases HK with ⟨%K, #HI⟩
  ihave Htk := (toks_around (F := F)) $$ Htok
  iapply (bigSep_with_persistent (R := recs0 A B K) fun c _ => ghost_intro A B K c)
  isplitr
  · unfold recs0; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end Deal

/-! ### The launch credit -/

/-- The devices' tallies on one kind of cell, each at its peer's, add up to one. -/
theorem sum_tally (f : Dev nD → GSem nD τ sig) (hf : Function.Injective f) (c : Dev nD) (n : ℕ) :
    (∑ d : Dev nD, (tallyAt (f (pe d)) () n : CellTallies nD τ sig Unit) (f c) ()) = n := by
  rw [Finset.sum_eq_single (pe c)]
  · rw [pe_pe, tallyAt_apply, if_pos ⟨rfl, rfl⟩]
  · intro d _ hd
    rw [tallyAt_apply, if_neg]
    rintro ⟨h, -⟩
    exact hd (by rw [hf h, pe_pe])
  · intro h; exact absurd (Finset.mem_univ _) h

theorem sum_tally_ne (f : Dev nD → GSem nD τ sig) (g : GSem nD τ sig) (hg : ∀ d, f d ≠ g) (n : ℕ) :
    (∑ d : Dev nD, (tallyAt (f d) () n : CellTallies nD τ sig Unit) g ()) = 0 :=
  Finset.sum_eq_zero fun d _ => by rw [tallyAt_apply, if_neg (fun h => hg d h.1.symm)]

theorem bar_inj : Function.Injective (fun c : Dev nD => barCell c) := fun a b h =>
  Fin.ext (congrArg (fun g : GSem nD τ sig => g.1.1.val) h)
theorem recv_inj (i : Fin 4) : Function.Injective (fun c : Dev nD => recvCell c i) := fun a b h =>
  Fin.ext (congrArg (fun g : GSem nD τ sig => g.1.1.val) h)
theorem recv_ne_bar' (c d : Dev nD) (i : Fin 4) : recvCell c i ≠ barCell d := fun h => recv_ne_bar i (congrArg Prod.snd h)
theorem recv_ne_recv (c d : Dev nD) {i j : Fin 4} (h : i ≠ j) : recvCell c i ≠ recvCell d j := fun e => by
  have := congrArg (fun g : GSem nD τ sig => xOf g.2) e
  simp only [xOf_r] at this
  exact h (by cases this; rfl)

theorem sumS_bar (c : Dev nD) (k : ℕ) : (∑ d : Dev nD, oweS d k (barCell c) ()) = 0 :=
  Finset.sum_eq_zero fun d _ => Nat.eq_zero_of_not_pos fun h => by
    obtain ⟨i, -, hg⟩ := oweS_pos h
    exact recv_ne_bar' _ _ _ hg.symm

theorem sumS_recv (c : Dev nD) (i : Fin 4) : ∀ k : ℕ, k ≤ 4 → (∑ d : Dev nD, oweS d k (recvCell c i) ()) = if 4 ≤ i.val + k then N i else 0
  | 0, _ => by
    rw [if_neg (by have := i.isLt; omega)]
    exact Finset.sum_eq_zero fun d _ => rfl
  | k + 1, hk => by
    have h : (∑ d : Dev nD, oweS d (k + 1) (recvCell c i) ())
        = (∑ d : Dev nD, oweS d k (recvCell c i) ()) + ∑ d : Dev nD, (tallyAt (recvCell (pe d) (ix k)) () (N (ix k)) : CellTallies nD τ sig Unit) (recvCell c i) () := by
      rw [← Finset.sum_add_distrib]; rfl
    rw [h, sumS_recv c i k (by omega)]
    by_cases e : ix k = i
    · rw [e, sum_tally (fun d => recvCell d i) (recv_inj i)]
      have : i.val = 3 - k := by rw [← e]; rfl
      rw [if_neg (by omega), if_pos (by omega), Nat.zero_add]
    · rw [sum_tally_ne (fun d => recvCell (pe d) (ix k)) _ (fun d => recv_ne_recv _ _ e), Nat.add_zero]
      have hi := i.isLt
      have : i.val ≠ 3 - k := fun h => e (Fin.ext h.symm)
      by_cases hh : 4 ≤ i.val + k
      · rw [if_pos hh, if_pos (by omega)]
      · rw [if_neg hh, if_neg (by omega)]

theorem sum0 (g : GSem nD τ sig) : (∑ d : Dev nD, owe0 d g ()) = (∑ d : Dev nD, oweS d 4 g ())
    + (∑ d : Dev nD, (tallyAt (barCell (pe d)) () 1 : CellTallies nD τ sig Unit) g ()) := by
  rw [← Finset.sum_add_distrib]; rfl

theorem launch_bar (c : Dev nD) :
    tallyOn (barCell c) (launchCredit (Pipeline.owing owe0) 0 (barCell c)) = (tallyAt (barCell c) () 1 : CellTallies nD τ sig Unit) := by
  unfold tallyAt; refine congrArg _ (Finsupp.ext fun u => ?_); cases u
  rw [Pipeline.launchCredit_owing, Finsupp.single_eq_same, sum0, sumS_bar, sum_tally _ bar_inj]

theorem launch_recv (c : Dev nD) (i : Fin 4) :
    tallyOn (recvCell c i) (launchCredit (Pipeline.owing owe0) 0 (recvCell c i)) = (tallyAt (recvCell c i) () (N i) : CellTallies nD τ sig Unit) := by
  unfold tallyAt; refine congrArg _ (Finsupp.ext fun u => ?_); cases u
  have hb : (∑ d : Dev nD, (tallyAt (barCell (pe d)) () 1 : CellTallies nD τ sig Unit) (recvCell c i) ()) = 0 :=
    sum_tally_ne _ _ (fun d h => recv_ne_bar' _ _ _ h.symm) 1
  rw [Pipeline.launchCredit_owing, Finsupp.single_eq_same, sum0, hb, sumS_recv c i 4 (Nat.le_refl _), if_pos (by omega), Nat.add_zero]

omit [FloatOps F] in
theorem creds (c : Dev nD) :
    (Pipeline.launchCred owe0 c : sProp 𝕄) ⊢ iprop(cred (tallyAt (barCell c) () 1) ∗ bigSep Finset.univ fun i : Fin 4 => cred (tallyAt (recvCell c i) () (N i))) := by
  have hinj : Function.Injective (fun i : Fin 4 => (SemLoc.dma (rS i) : SemLoc sig)) := fun i j h => by
    have := congrArg xOf h
    simp only [xOf_r] at this
    cases this; rfl
  have hsub : Finset.univ.map ⟨fun i : Fin 4 => (SemLoc.dma (rS i) : SemLoc sig), hinj⟩ ⊆ Finset.univ.erase (SemLoc.reg barS) := fun x hx => by
    obtain ⟨i, -, rfl⟩ := Finset.mem_map.mp hx
    exact Finset.mem_erase.mpr ⟨recv_ne_bar i, Finset.mem_univ _⟩
  unfold Pipeline.launchCred
  rw [bigSep_univ_at _ (SemLoc.reg barS), launch_bar]
  refine sep_mono_right ?_
  refine BI.Entails.trans (bigSep_subset hsub) ?_
  rw [bigSep_map]
  exact bigSep_mono fun i _ => show (_ : sProp 𝕄) ⊢ _ from Entails.of_eq (congrArg cred (launch_recv c i))

/-! ### The theorem's side conditions -/

theorem start_intro (A : Dev nD → Vec F S1024x1024 .f32) (B : Dev nD → Vec F S8x1024 .f32) (c : Dev nD) :
    iprop(levAts L lv ∗ Pipeline.launchCred owe0 c ∗ G' A B c) ⊢ (start A B c : sProp 𝕄) := by
  unfold start G' linear payToks E0s E0
  rw [bigSep_CK]
  simp only [bigSep_sep']
  iintro ⟨Hlev, Hcr, ⟨%K, HR⟩, ⟨HaB, HaS, HaR⟩, Ht, HtS, HtR⟩
  ihave Hc := (creds (F := F) c) $$ Hcr
  icases Hc with ⟨H1, HN⟩
  isplitl [HR Hlev]
  · iexists K
    unfold recs0 recs
    icases HR with ⟨HR1, HR2⟩
    isplitl [HR1]; · iexact HR1
    isplitl [HR2]; · iexact HR2
    iexact Hlev
  isplitl [Ht]; · iexact Ht
  isplitl [HaB H1]
  · isplitl [HaB]; · iexact HaB
    iexact H1
  isplitl [HaS]; · iexact HaS
  isplitl [HaR]; · iexact HaR
  isplitl [HtS]; · iexact HtS
  isplitl [HtR]; · iexact HtR
  iexact HN

theorem start_intro' (c : Dev nD) :
    iprop(Pipeline.unscopedRestP Pipeline.Prefetch.none cfg0.spec c (fun b => m ((c : Thread nD τ).loc b)) ∗ levAts L lv
        ∗ Pipeline.launchCred owe0 c ∗ prngReg c (ρ c) ∗ G' (Av m) (Bv m) c)
      ⊢ |={Set.univ}=> iprop(start (Av m) (Bv m) c ∗ emp) := by
  iintro ⟨-, Hlev, Hcr, -, HG⟩
  imodintro
  isplitl
  · iapply (start_intro (Av m) (Bv m) c)
    isplitl [Hlev]; · iexact Hlev
    isplitl [Hcr]; · iexact Hcr
    iexact HG
  · iempintro

omit [FloatOps F] in
theorem scr0_eq (c : Dev nD) : (scr (F := F) rM c : sProp 𝕄)
    = iprop(∃ f : Buf (Elt F) ((c : Thread nD τ).loc cc0_scratch0), ((c : Thread nD τ).loc cc0_scratch0) ↦{fullShare} f) := by
  unfold scr; simp only [Memref.view_whole, View.set_whole]
omit [FloatOps F] in
theorem scrs_eq (c : Dev nD) : (Pipeline.scopedRest (Ix := Unit) (Name := ℕ) (U := UU) (Lvl := ℕ) (Val := Elt F) spec0 c : sProp 𝕄) = scrs c := by
  rw [scopedRest0_eq]
  unfold scrs
  rw [scr0_eq]

theorem phi_zero (c : Dev nD) : (dats m 0 c).Φ 0 = Φ₀ (Av m) (Bv m) c := rfl
theorem phi_last (c : Dev nD) : (dats m 0 c).Φ (Fin.last cfg0.N) = Φ₁ c := rfl

theorem phi0_intro (c : Dev nD) :
    iprop(start (Av m) (Bv m) c ∗ Pipeline.prefHeld Pipeline.Prefetch.none c (fun _ => fullShare.right) (fun k => k.elim0) ∗ Pipeline.scopedRest cfg0.spec c)
      ⊢ (dats m 0 c).Φ 0 := by
  rw [phi_zero]
  unfold Φ₀
  iintro ⟨Hs, -, Hr⟩
  isplitl [Hs]; · iexact Hs
  ihave H := (Entails.of_eq (scrs_eq c)) $$ Hr
  iexact H

theorem phi1_exit (c : Dev nD) :
    (dats m 0 c).Φ (Fin.last cfg0.N) ⊢ iprop(unscopedSems0 c ∗ Pipeline.ownSems0 osem c ∗ Pipeline.scopedRest cfg0.spec c) := by
  rw [phi_last, ownSems0_eq, unscopedSems0_eq]
  unfold Φ₁
  iintro ⟨Hr, Hz, HzB⟩
  isplitl [HzB]; · iexact HzB
  isplitl [Hz]; · iexact Hz
  ihave H := (Entails.of_eq (scrs_eq c).symm) $$ Hr
  iexact H

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with zero counters: every weakly fair execution ends, with each device's
    result array at the computed contents, its arguments unchanged and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owe0) (howed₀ := fun _ => rfl) (howedN := fun _ => rfl)
    (L := L) (lv := lv) (hL := L_of_ne) (hwaits := waits m)
    (G := G (Av m) (Bv m)) (G' := G' (Av m) (Bv m)) (u₀ := u₀)
    (hu₀ := by
      unfold u₀
      iintro Hu
      ihave H := (ownU_pair _ _) $$ Hu
      icases H with ⟨HP, HX⟩
      imod (fund_ex (Av m) (Bv m)) $$ HX with HG
      imodintro
      isplitl [HP] <;> iassumption)
    (hglob := glob (Av m) (Bv m))
    (hA := fun _ _ => rfl) (hpf := fun _ k => k.elim0)
    (X := start (Av m) (Bv m)) (Y := fun c => unscopedSems0 c) (Z := fun _ => iprop(emp))
    (hX := start_intro' m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GateIdeal.Gx

end
-- ==== Proof.GTop.lean ====
/-
The two greatest of sixteen gates, in order, and how many gates are ahead of each.
-/
module

public import Idealize.ShloMosaic.Lib.Pointwise
public import Idealize.ShloMosaic.Lib.IndicatorCount
public import Idealize.ShloMosaic.PureOps.Ideal.Laws

@[expose] public section

noncomputable section

namespace Cert.Top2

open Idealize.ShloMosaic

/-- `p` is the first place of the greatest value. -/
def IsFirst (g : Fin 16 → EReal) (p : Fin 16) : Prop := (∀ e, g e ≤ g p) ∧ ∀ e, e < p → g e < g p

theorem exists_first (g : Fin 16 → EReal) : ∃ p, IsFirst g p := by
  classical
  obtain ⟨p0, -, h0⟩ := Finset.exists_max_image Finset.univ g ⟨0, Finset.mem_univ _⟩
  have hS : (Finset.univ.filter fun p : Fin 16 => ∀ e, g e ≤ g p).Nonempty :=
    ⟨p0, Finset.mem_filter.2 ⟨Finset.mem_univ _, fun e => h0 e (Finset.mem_univ _)⟩⟩
  have hm := Finset.min'_mem _ hS
  refine ⟨_, (Finset.mem_filter.1 hm).2, fun e he => ?_⟩
  by_contra hn
  refine absurd (Finset.min'_le _ e (Finset.mem_filter.2 ⟨Finset.mem_univ _, fun e' => ?_⟩)) (not_le.2 he)
  exact ((Finset.mem_filter.1 hm).2 e').trans (not_lt.1 hn)

theorem IsFirst.fold_max {g : Fin 16 → EReal} {p : Fin 16} (h : IsFirst g p) : Finset.univ.fold max ⊥ g = g p := by
  refine le_antisymm ((Finset.fold_max_le _).2 ⟨bot_le, fun e _ => h.1 e⟩) ?_
  exact (Finset.le_fold_max _).2 (Or.inr ⟨p, Finset.mem_univ _, le_refl _⟩)

/-- A number as a word, the greatest positive word if it is greater. -/
def word (n : ℕ) : BitVec 32 := BitVec.ofNat 32 (min n 2147483647)

theorem word_min (a b : ℕ) : IntOp.minsi (word a) (word b) = word (min a b) := by
  have hi (n : ℕ) : (word n).toInt = ((min n 2147483647 : ℕ) : ℤ) := by
    have h : min n 2147483647 ≤ 2147483647 := Nat.min_le_right _ _
    unfold word
    rw [BitVec.toInt_eq_toNat_of_lt (by rw [BitVec.toNat_ofNat, Nat.mod_eq_of_lt (by omega)]; omega), BitVec.toNat_ofNat, Nat.mod_eq_of_lt (by omega)]
  unfold IntOp.minsi
  simp only [BitVec.slt, hi]
  by_cases hl : min a 2147483647 < min b 2147483647
  · rw [if_pos (by simpa using hl)]
    rw [Nat.min_eq_left (show a ≤ b by omega)]
  · rw [if_neg (by simpa using hl)]
    unfold word
    congr 1
    omega

theorem IsFirst.fold_min {g : Fin 16 → EReal} {p : Fin 16} (h : IsFirst g p) :
    Finset.univ.fold IntOp.minsi (2147483647#32) (fun e : Fin 16 => if g e = g p then BitVec.ofNat 32 e.val else 16#32) = BitVec.ofNat 32 p.val := by
  have hp := p.isLt
  have e1 : (fun e : Fin 16 => if g e = g p then BitVec.ofNat 32 e.val else 16#32) = fun e => word (if g e = g p then e.val else 16) := by
    funext e
    have he := e.isLt
    unfold word
    split
    · rw [Nat.min_eq_left (by omega)]
    · rfl
  rw [e1, show (2147483647#32 : BitVec 32) = word 2147483647 from rfl, Finset.fold_hom (op := min) fun a b => (word_min a b).symm]
  have e2 : Finset.univ.fold min 2147483647 (fun e : Fin 16 => if g e = g p then e.val else 16) = p.val := by
    refine le_antisymm ?_ ?_
    · exact (Finset.fold_min_le _).2 (Or.inr ⟨p, Finset.mem_univ _, by rw [if_pos rfl]⟩)
    · refine (Finset.le_fold_min _).2 ⟨by omega, fun e _ => ?_⟩
      split
      · rename_i hg
        by_contra hn
        exact absurd hg (ne_of_lt (h.2 e (Fin.lt_def.2 (not_le.1 hn))))
      · omega
  rw [e2]
  unfold word
  rw [Nat.min_eq_left (by omega)]

/-- The gates without `p`. -/
def cut (g : Fin 16 → EReal) (p : Fin 16) : Fin 16 → EReal := fun e => if e = p then ⊥ else g e

section Rank
variable {g : Fin 16 → EReal} {p q : Fin 16} (hf : ∀ e, g e ≠ ⊥) (hp : IsFirst g p) (hq : IsFirst (cut g p) q)
include hp

theorem ahead_first (e : Fin 16) (h : e ≠ p) : g e < g p ∨ (g p = g e ∧ p < e) := by
  rcases lt_or_eq_of_le (hp.1 e) with hl | he
  · exact Or.inl hl
  · refine Or.inr ⟨he.symm, ?_⟩
    by_contra hn
    exact absurd he (ne_of_lt (hp.2 e (lt_of_le_of_ne (not_lt.1 hn) h)))

theorem not_ahead_first (x : Fin 16) : ¬(g p < g x ∨ (g x = g p ∧ x < p)) := by
  rintro (h | ⟨h, hl⟩)
  · exact absurd (hp.1 x) (not_le.2 h)
  · exact absurd h (ne_of_lt (hp.2 x hl))

omit hp in
include hf hq in
theorem second_ne : q ≠ p := by
  rintro rfl
  obtain ⟨e, he⟩ : ∃ e : Fin 16, e ≠ q := exists_ne q
  have := hq.1 e
  unfold cut at this
  rw [if_neg he, if_pos rfl, le_bot_iff] at this
  exact hf e this

omit hp in
include hf hq in
theorem cut_second : cut g p q = g q := if_neg (second_ne hf hq)

omit hp in
include hf hq in
theorem ahead_second (e : Fin 16) (h : e ≠ p) (h' : e ≠ q) : g e < g q ∨ (g q = g e ∧ q < e) := by
  have := ahead_first hq e h'
  rwa [cut_second hf hq, show cut g p e = g e from if_neg h] at this

include hf hq in
theorem ahead_of_second (x : Fin 16) : (g q < g x ∨ (g x = g q ∧ x < q)) ↔ x = p := by
  constructor
  · intro h
    by_contra hn
    have := not_ahead_first hq x
    rw [cut_second hf hq, show cut g p x = g x from if_neg hn] at this
    exact this h
  · rintro rfl
    exact ahead_first hp q (second_ne hf hq)

theorem card_zero (S : Finset (Fin 16)) (e : Fin 16) (hS : ∀ x, x ∈ S ↔ (g e < g x ∨ (g x = g e ∧ x < e))) : S.card = 0 ↔ e = p := by
  constructor
  · intro h
    by_contra hn
    have : p ∈ S := (hS p).2 (ahead_first hp e hn)
    rw [Finset.card_eq_zero.1 h] at this
    exact absurd this (Finset.notMem_empty _)
  · rintro rfl
    exact Finset.card_eq_zero.2 (Finset.eq_empty_of_forall_notMem fun x hx => not_ahead_first hp x ((hS x).1 hx))

include hf hq in
theorem card_one (S : Finset (Fin 16)) (e : Fin 16) (hS : ∀ x, x ∈ S ↔ (g e < g x ∨ (g x = g e ∧ x < e))) : S.card = 1 ↔ e = q := by
  constructor
  · intro h
    by_contra hn
    by_cases he : e = p
    · rw [(card_zero hp S e hS).2 he] at h
      exact absurd h (by decide)
    · have h1 : p ∈ S := (hS p).2 (ahead_first hp e he)
      have h2 : q ∈ S := (hS q).2 (ahead_second hf hq e he hn)
      have := Finset.one_lt_card.2 ⟨p, h1, q, h2, (second_ne hf hq).symm⟩
      omega
  · rintro rfl
    refine Finset.card_eq_one.2 ⟨p, Finset.ext fun x => ?_⟩
    rw [hS, ahead_of_second hf hp hq, Finset.mem_singleton]

/-- The bit that says whether `x` is ahead of `e`. -/
def bit (g : Fin 16 → EReal) (e x : Fin 16) : BitVec 1 :=
  IntOp.ori (BitVec.ofBool (decide (g e < g x))) (IntOp.andi (BitVec.ofBool (decide (g x = g e))) (IntOp.cmpi .slt (BitVec.ofNat 32 x.val) (BitVec.ofNat 32 e.val)))

omit hp in
theorem slt_iff (x e : Fin 16) : IntOp.cmpi .slt (BitVec.ofNat 32 x.val) (BitVec.ofNat 32 e.val) = BitVec.ofBool (decide (x < e)) := by
  revert x e; decide

omit hp in
theorem bit_iff (g : Fin 16 → EReal) (e x : Fin 16) : bit g e x = 1#1 ↔ (g e < g x ∨ (g x = g e ∧ x < e)) := by
  unfold bit
  rw [slt_iff]
  have tf (P Q T : Prop) [Decidable P] [Decidable Q] [Decidable T] :
      IntOp.ori (BitVec.ofBool (decide P)) (IntOp.andi (BitVec.ofBool (decide Q)) (BitVec.ofBool (decide T))) = 1#1 ↔ (P ∨ Q ∧ T) := by
    by_cases h1 : P <;> by_cases h2 : Q <;> by_cases h3 : T <;> simp [h1, h2, h3, IntOp.ori, IntOp.andi]
  exact tf _ _ _

/-- How many are ahead of `e`. -/
def rank (g : Fin 16 → EReal) (e : Fin 16) : BitVec 32 := Finset.univ.fold IntOp.addi (0#32) fun x => (bit g e x).setWidth 32

omit hp in
theorem rank_eq (g : Fin 16 → EReal) (e : Fin 16) : ∃ S : Finset (Fin 16), (∀ x, x ∈ S ↔ (g e < g x ∨ (g x = g e ∧ x < e))) ∧ rank g e = BitVec.ofNat 32 S.card :=
  ⟨Finset.univ.filter fun x => bit g e x = 1#1, fun x => by rw [Finset.mem_filter, bit_iff]; exact ⟨And.right, fun h => ⟨Finset.mem_univ _, h⟩⟩,
    IndicatorCount.fold_addi_setWidth_eq_card _ _⟩

omit hp in
theorem ofNat_card (S : Finset (Fin 16)) (k : ℕ) (hk : k < 17) : BitVec.ofNat 32 S.card = BitVec.ofNat 32 k ↔ S.card = k := by
  have h : S.card ≤ 16 := (Finset.card_le_univ S).trans (by simp)
  constructor
  · intro e
    have := congrArg BitVec.toNat e
    rw [BitVec.toNat_ofNat, BitVec.toNat_ofNat, Nat.mod_eq_of_lt (by omega), Nat.mod_eq_of_lt (by omega)] at this
    exact this
  · intro e; rw [e]

theorem rank_zero (e : Fin 16) : rank g e = 0#32 ↔ e = p := by
  obtain ⟨S, hS, h⟩ := rank_eq g e
  rw [h, ← card_zero hp S e hS]
  exact ofNat_card S 0 (by decide)
include hf hq in
theorem rank_one (e : Fin 16) : rank g e = 1#32 ↔ e = q := by
  obtain ⟨S, hS, h⟩ := rank_eq g e
  rw [h, ← card_one hf hp hq S e hS]
  exact ofNat_card S 1 (by decide)

end Rank

theorem fold_addi (S : Finset (Fin 16)) (p : Fin 16) (f : Fin 16 → BitVec 32) :
    S.fold IntOp.addi (0#32) (fun x => if x = p then f x else 0#32) = if p ∈ S then f p else 0#32 := by
  classical
  induction S using Finset.induction_on with
  | empty => rfl
  | insert a S ha ih =>
    rw [Finset.fold_insert ha, ih]
    by_cases h : a = p
    · subst h
      rw [if_pos rfl, if_neg ha, if_pos (Finset.mem_insert_self _ _)]
      exact BitVec.add_zero _
    · rw [if_neg h]
      have hm : p ∈ insert a S ↔ p ∈ S := ⟨fun hh => (Finset.mem_insert.1 hh).resolve_left (fun e => h e.symm), fun hh => Finset.mem_insert_of_mem hh⟩
      simp only [hm]
      exact BitVec.zero_add _

theorem select_eq {α : Type} (a b : BitVec 32) (x y : α) : Scalar.select (IntOp.cmpi .eq a b) x y = if a = b then x else y := by
  by_cases h : a = b
  · subst h; rw [if_pos rfl]; simp [IntOp.cmpi, Scalar.select]
  · have h' : (a == b) = false := by simpa using h
    rw [if_neg h]; simp [IntOp.cmpi, Scalar.select, h']

theorem pick_idx (r : Fin 16 → BitVec 32) (k : BitVec 32) (p : Fin 16) (h : ∀ e, r e = k ↔ e = p) :
    Finset.univ.fold IntOp.addi (0#32) (fun x : Fin 16 => Scalar.select (IntOp.cmpi .eq (r x) k) (BitVec.ofNat 32 x.val) 0#32) = BitVec.ofNat 32 p.val := by
  simp only [select_eq, h]
  rw [fold_addi Finset.univ p (fun x => BitVec.ofNat 32 x.val), if_pos (Finset.mem_univ _)]

theorem pick_val (g : Fin 16 → EReal) (r : Fin 16 → BitVec 32) (k : BitVec 32) (p : Fin 16) (h : ∀ e, r e = k ↔ e = p) :
    ∑ x : Fin 16, Scalar.select (IntOp.cmpi .eq (r x) k) (g x) (0 : EReal) = g p := by
  simp only [select_eq, h]
  rw [Finset.sum_eq_single p (fun b _ hb => if_neg hb) (fun hn => absurd (Finset.mem_univ _) hn), if_pos rfl]

/-! ## The weights -/

theorem weights (a b : ℝ) (h : b ≤ a) :
    Ideal.div (Ideal.exp ((a : EReal) - max (a : EReal) b)) (Ideal.exp ((a : EReal) - max (a : EReal) b) + Ideal.exp ((b : EReal) - max (a : EReal) b))
        = Ideal.div 1 (1 + Ideal.exp ((b : EReal) - a))
      ∧ Ideal.div (Ideal.exp ((b : EReal) - max (a : EReal) b)) (Ideal.exp ((a : EReal) - max (a : EReal) b) + Ideal.exp ((b : EReal) - max (a : EReal) b))
        = 1 - Ideal.div 1 (1 + Ideal.exp ((b : EReal) - a)) := by
  have hm : max (a : EReal) b = a := max_eq_left (EReal.coe_le_coe_iff.2 h)
  have h0 : Ideal.exp ((a : EReal) - a) = 1 := by
    rw [← EReal.coe_sub, Ideal.exp_coe, sub_self, Real.exp_zero]; rfl
  rw [hm, h0]
  refine ⟨rfl, ?_⟩
  have hs := Real.exp_pos (b - a)
  rw [← EReal.coe_sub, Ideal.exp_coe]
  generalize Real.exp (b - a) = s at hs
  have h1 : (1 : EReal) + (s : EReal) = ((1 + s : ℝ) : EReal) := by rw [EReal.coe_add]; rfl
  have hne : ((1 + s : ℝ) : EReal) ≠ 0 := by
    intro e
    have := EReal.coe_eq_zero.1 e
    linarith
  unfold Ideal.div
  rw [h1, if_neg hne, if_neg hne, one_mul, ← EReal.coe_inv, ← EReal.coe_mul, ← EReal.coe_one, ← EReal.coe_sub]
  congr 1
  have : (1 + s) ≠ 0 := by linarith
  field_simp
  ring

end Cert.Top2

end
-- ==== Proof.GVal.lean ====
/-
# The gate kernel: its results as functions of the gates

Of each token, the two greatest of its sixteen gates and the softmax of the two.
-/
module

public import proofs.«01_k».proof.Proof.GData
public import proofs.«01_k».proof.Proof.GTop

@[expose] public section

noncomputable section

namespace Cert.GateIdeal.Gx

open Cert.GateIdeal Cert.GateIdeal.Gen
open Idealize.ShloMosaic Idealize.ShloMosaic.TcCoe Idealize.SL.Sem
open Cert.Top2

theorem ninf : Ideal.ofBits .f32 4286578688#32 = ⊥ := by
  simp [Ideal.ofBits, Ideal.ieee]
theorem pinf : Ideal.ofBits .f32 0x7F800000#32 = ⊤ := by
  simp [Ideal.ofBits, Ideal.ieee]

section
variable (a b : Vec Ideal S1x8x1024 .f32) (x : Vec Ideal S1024x1024 .f32)

/-- The gates of a token. -/
def gk (t : Fin 1024) : Fin 16 → EReal := fun e => k0_pay3 a b x (ix2 t e)

theorem gk_eq (t : Fin 1024) (e : Fin 16) :
    gk a b x t e = ∑ k : Fin 1024, (x (ix2 t k) : EReal) * if h : e.val < 8 then a (ix3 0 ⟨e.val, h⟩ k) else b (ix3 0 ⟨e.val - 8, by omega⟩ k) := by
  unfold gk
  pointwise [k0_pay3]

theorem pay4_eq (t : Fin 1024) : (k0_pay4 a b x (ix1 t) : EReal) = Finset.univ.fold max ⊥ (gk a b x t) := by
  pointwise [k0_pay4]
  rw [ninf]
  rfl
theorem pay5_eq (t : Fin 1024) : k0_pay5 a b x (ix1 t) = Finset.univ.fold IntOp.minsi (2147483647#32)
    (fun e : Fin 16 => if gk a b x t e = k0_pay4 a b x (ix1 t) then BitVec.ofNat 32 e.val else 16#32) := by
  pointwise [k0_pay5]
  rfl
theorem pay6_eq (t : Fin 1024) (e : Fin 16) : k0_pay6 a b x (ix2 t e) = IntOp.cmpi .eq (BitVec.ofNat 32 e.val) (k0_pay5 a b x (ix1 t)) := by
  pointwise [k0_pay6]

theorem ofNat_inj (e p : Fin 16) : BitVec.ofNat 32 e.val = BitVec.ofNat 32 p.val ↔ e = p := by
  revert e p; decide

variable {a b x}

theorem pay5_first {t : Fin 1024} {p : Fin 16} (hp : IsFirst (gk a b x t) p) : k0_pay5 a b x (ix1 t) = BitVec.ofNat 32 p.val := by
  rw [pay5_eq, pay4_eq, hp.fold_max]
  exact hp.fold_min
theorem cut_eq {t : Fin 1024} {p : Fin 16} (hp : IsFirst (gk a b x t) p) (e : Fin 16) :
    Scalar.select (k0_pay6 a b x (ix2 t e)) (⊥ : EReal) (k0_pay3 a b x (ix2 t e)) = cut (gk a b x t) p e := by
  rw [pay6_eq, pay5_first hp, select_eq]
  unfold cut
  simp only [ofNat_inj]
  rfl

/-- The choices of a token. -/
theorem pay9_eq {t : Fin 1024} {p q : Fin 16} (hp : IsFirst (gk a b x t) p) (hq : IsFirst (cut (gk a b x t) p) q) (j : Fin 2) :
    k0_pay9 (k0_pay3 a b x) (iota .tc S1024x16 32 [1] iota_S1024x16_d1_w32) (k0_pay5 a b x) (k0_pay6 a b x) (ix3 0 j t)
      = if j.val < 1 then BitVec.ofNat 32 p.val else BitVec.ofNat 32 q.val := by
  have h : k0_pay9 (k0_pay3 a b x) (iota .tc S1024x16 32 [1] iota_S1024x16_d1_w32) (k0_pay5 a b x) (k0_pay6 a b x) (ix3 0 j t)
      = if j.val < 1 then k0_pay5 a b x (ix1 t) else Finset.univ.fold IntOp.minsi (2147483647#32) (fun e : Fin 16 =>
        if Scalar.select (k0_pay6 a b x (ix2 t e)) (⊥ : EReal) (k0_pay3 a b x (ix2 t e))
            = Finset.univ.fold max ⊥ (fun e : Fin 16 => Scalar.select (k0_pay6 a b x (ix2 t e)) (⊥ : EReal) (k0_pay3 a b x (ix2 t e)))
          then BitVec.ofNat 32 e.val else 16#32) := by
    pointwise [k0_pay9, k0_pay7, k0_pay8]
    rw [ninf]
    rfl
  rw [h]
  simp only [cut_eq hp]
  rw [pay5_first hp, show Finset.univ.fold max ⊥ (fun e : Fin 16 => cut (gk a b x t) p e) = _ from hq.fold_max, hq.fold_min]

/-- The weights of a token. -/
theorem pay10_eq {t : Fin 1024} {p q : Fin 16} (hp : IsFirst (gk a b x t) p) (hq : IsFirst (cut (gk a b x t) p) q) (j : Fin 2) :
    (k0_pay10 (k0_pay3 a b x) (k0_pay4 a b x) (k0_pay6 a b x) (ix3 0 j t) : EReal)
      = if j.val < 1 then Ideal.div 1 (1 + Ideal.exp (cut (gk a b x t) p q - gk a b x t p))
        else 1 - Ideal.div 1 (1 + Ideal.exp (cut (gk a b x t) p q - gk a b x t p)) := by
  have h : (k0_pay10 (k0_pay3 a b x) (k0_pay4 a b x) (k0_pay6 a b x) (ix3 0 j t) : EReal)
      = if j.val < 1 then Ideal.div 1 (1 + Ideal.exp
          (Finset.univ.fold max ⊥ (fun e : Fin 16 => Scalar.select (k0_pay6 a b x (ix2 t e)) (⊥ : EReal) (k0_pay3 a b x (ix2 t e))) - k0_pay4 a b x (ix1 t)))
        else 1 - Ideal.div 1 (1 + Ideal.exp
          (Finset.univ.fold max ⊥ (fun e : Fin 16 => Scalar.select (k0_pay6 a b x (ix2 t e)) (⊥ : EReal) (k0_pay3 a b x (ix2 t e))) - k0_pay4 a b x (ix1 t))) := by
    pointwise [k0_pay10, k0_pay7, k0_pay8]
    rw [ninf]
    rfl
  rw [h]
  simp only [cut_eq hp]
  rw [pay4_eq, hp.fold_max, show Finset.univ.fold max ⊥ (fun e : Fin 16 => cut (gk a b x t) p e) = _ from hq.fold_max]

/-- The activations, as the kernel hands them on. -/
theorem pay1_eq (t k : Fin 1024) : (k0_pay1 x (ix3 0 t k) : EReal) = x (ix2 t k) := by
  pointwise [k0_pay1]
theorem pay2_eq (w : Vec Ideal S8x1024 .f32) (e : Fin 8) (k : Fin 1024) : (k0_pay2 w (ix3 0 e k) : EReal) = w (ix2 e k) := by
  pointwise [k0_pay2]
end

section
variable {F : FTy → Type} [FloatOps F]
variable (m : (ℓ : Loc nD τ sig) → Buf (Elt F) ℓ)

theorem Av_eq (c : Dev nD) : Av m c = m ((c : Thread nD τ).loc main_arg0) := by
  unfold Av
  funext i
  show m ((c : Thread nD τ).loc main_arg0) _ = _
  refine congrArg (m ((c : Thread nD τ).loc main_arg0)) (funext fun a => Fin.ext ?_)
  match a with
  | ⟨0, _⟩ => show 0 * 1024 + 1 * (i 0).val = (i 0).val; omega
  | ⟨1, _⟩ => show 0 * 1024 + 1 * (i 1).val = (i 1).val; omega
theorem Bv_eq (c : Dev nD) : Bv m c = m ((c : Thread nD τ).loc main_arg1) := by
  unfold Bv
  funext i
  show m ((c : Thread nD τ).loc main_arg1) _ = _
  refine congrArg (m ((c : Thread nD τ).loc main_arg1)) (funext fun a => Fin.ext ?_)
  match a with
  | ⟨0, _⟩ => show 0 * 8 + 1 * (i 0).val = (i 0).val; omega
  | ⟨1, _⟩ => show 0 * 1024 + 1 * (i 1).val = (i 1).val; omega
end

end Cert.GateIdeal.Gx

end
-- ==== Proof.GRefVal.lean ====
/-
# The gate kernel's reference: its results as functions of the gates

How many gates are ahead of each, the experts that none and that one are ahead of, and the softmax of their gates.
-/
module

public import proofs.«01_k».proof.Proof.Gen.GateReferenceIdeal.Run
public import proofs.«01_k».proof.Proof.GTop
public import Idealize.ShloMosaic.Lib.Pointwise
public import Idealize.ShloMosaic.PureOps.Ideal.Laws

@[expose] public section
noncomputable section
namespace Cert.GateReferenceIdeal.RefVal

open Cert.GateReferenceIdeal Cert.GateReferenceIdeal.Gen Idealize.ShloMosaic Idealize.ShloMosaic.TcCoe Idealize.SL.Sem

/-- The gates of every token. -/
def gts (x : FVec Ideal S2048x1024 .f32) (rt : FVec Ideal S16x1024 .f32) : FVec Ideal S2048x16 .f32 :=
  Host.dotGeneral dot_S2048x1024_S1024x16_S2048x16_1_0_0_1_n_n none x (transpose S1024x16 [1, 0] rt transposes_S16x1024_S1024x16_1_0)

/-- How many experts are ahead of each. -/
def rnk (g : FVec Ideal S2048x16 .f32) : IVec S2048x16 32 :=
  Host.reduce IntOp.addi (extui 32 (ori
    (cmpf .ogt (broadcastInDim S2048x16x16 ![0, 1, 2] bcast_S2048x16x1_S2048x16x16_0_1_2 (broadcastInDim S2048x16x1 ![0, 1] bcast_S2048x16_S2048x16x1_0_1 g))
      (broadcastInDim S2048x16x16 ![0, 1, 2] bcast_S2048x1x16_S2048x16x16_0_1_2 (broadcastInDim S2048x1x16 ![0, 2] bcast_S2048x16_S2048x1x16_0_2 g)))
    (andi
      (cmpf .oeq (broadcastInDim S2048x16x16 ![0, 1, 2] bcast_S2048x16x1_S2048x16x16_0_1_2 (broadcastInDim S2048x16x1 ![0, 1] bcast_S2048x16_S2048x16x1_0_1 g))
        (broadcastInDim S2048x16x16 ![0, 1, 2] bcast_S2048x1x16_S2048x16x16_0_1_2 (broadcastInDim S2048x1x16 ![0, 2] bcast_S2048x16_S2048x1x16_0_2 g)))
      (broadcastInDim S2048x16x16 ![0, 1, 2] bcast_S1x16x16_S2048x16x16_0_1_2
        (cmpi .slt (broadcastInDim S1x16x16 ![0, 1, 2] bcast_S1x16x1_S1x16x16_0_1_2 (broadcastInDim S1x16x1 ![1] bcast_S16_S1x16x1_1 (iotaInDim S16 32 0)))
          (broadcastInDim S1x16x16 ![0, 1, 2] bcast_S1x1x16_S1x16x16_0_1_2 (broadcastInDim S1x1x16 ![2] bcast_S16_S1x1x16_2 (iotaInDim S16 32 0))))))) natLt_1_32)
    (constantI S_ 32 0#32) reducesTo_S2048x16x16_S2048x16_d1 h_S_

/-- The expert of rank `k`, and its gate. -/
def idxT (r : IVec S2048x16 32) (k : BitVec 32) : IVec S2048 32 :=
  Host.reduce IntOp.addi (select (cmpi .eq r (broadcastInDim S2048x16 ![] bcast_S_S2048x16 (constantI S_ 32 k)))
    (broadcastInDim S2048x16 ![0, 1] bcast_S1x16_S2048x16_0_1 (broadcastInDim S1x16 ![1] bcast_S16_S1x16_1 (iotaInDim S16 32 0)))
    (broadcastInDim S2048x16 ![] bcast_S_S2048x16 (id (constantI S_ 32 0#32)))) (constantI S_ 32 0#32) reducesTo_S2048x16_S2048_d1 h_S_
def valT (g : FVec Ideal S2048x16 .f32) (r : IVec S2048x16 32) (k : BitVec 32) : FVec Ideal S2048 .f32 :=
  Host.reduceAdd (select (cmpi .eq r (broadcastInDim S2048x16 ![] bcast_S_S2048x16 (constantI S_ 32 k))) g
    (broadcastInDim S2048x16 ![] bcast_S_S2048x16 (id (constant S_ .f32 0x00000000#32)))) (constant S_ .f32 0x00000000#32) reducesTo_S2048x16_S2048_d1 h_S_

def outI (r : IVec S2048x16 32) : IVec S2x2x1024 32 :=
  concatenate S2x2x1024 1 [⟨S2x1x1024, broadcastInDim S2x1x1024 ![0, 2] bcast_S2x1024_S2x1x1024_0_2 (shapeCast S2x1024 (idxT r 0#32) shapeCasts_S2048_S2x1024)⟩,
    ⟨S2x1x1024, broadcastInDim S2x1x1024 ![0, 2] bcast_S2x1024_S2x1x1024_0_2 (shapeCast S2x1024 (idxT r 1#32) shapeCasts_S2048_S2x1024)⟩] concatenates_S2x1x1024_S2x1x1024_S2x2x1024_d1

/-- The softmax of two gates. -/
def sm1 (a b : FVec Ideal S2048 .f32) : FVec Ideal S2048 .f32 :=
  Host.divf (Host.exp (subf a (maximumf a b))) (addf (Host.exp (subf a (maximumf a b))) (Host.exp (subf b (maximumf a b))))
def sm2 (a b : FVec Ideal S2048 .f32) : FVec Ideal S2048 .f32 :=
  Host.divf (Host.exp (subf b (maximumf a b))) (addf (Host.exp (subf a (maximumf a b))) (Host.exp (subf b (maximumf a b))))
def outW (a b : FVec Ideal S2048 .f32) : FVec Ideal S2x2x1024 .f32 :=
  concatenate S2x2x1024 1 [⟨S2x1x1024, broadcastInDim S2x1x1024 ![0, 2] bcast_S2x1024_S2x1x1024_0_2 (shapeCast S2x1024 (sm1 a b) shapeCasts_S2048_S2x1024)⟩,
    ⟨S2x1x1024, broadcastInDim S2x1x1024 ![0, 2] bcast_S2x1024_S2x1x1024_0_2 (shapeCast S2x1024 (sm2 a b) shapeCasts_S2048_S2x1024)⟩] concatenates_S2x1x1024_S2x1x1024_S2x2x1024_d1

theorem resI_eq (m : (ℓ : Loc nD τ sig) → Buf (Elt Ideal) ℓ) (c : Dev nD) : Value.res_main_v49 m c =
    outI (rnk (gts (m ((c.tc : Thread nD τ).loc main_arg0)) (m ((c.tc : Thread nD τ).loc main_arg1)))) := by
  unfold Value.res_main_v49 outI idxT rnk gts
  rfl
theorem resW_eq (m : (ℓ : Loc nD τ sig) → Buf (Elt Ideal) ℓ) (c : Dev nD) : Value.res_main_v58 m c =
    (fun g => outW (valT g (rnk g) 0#32) (valT g (rnk g) 1#32)) (gts (m ((c.tc : Thread nD τ).loc main_arg0)) (m ((c.tc : Thread nD τ).loc main_arg1))) := by
  unfold Value.res_main_v58 outW sm1 sm2 valT rnk gts
  rfl

open Cert.Top2

/-- The gates of a token. -/
def gr (x : FVec Ideal S2048x1024 .f32) (rt : FVec Ideal S16x1024 .f32) (t : Fin 2048) : Fin 16 → EReal := fun e => gts x rt (ix2 t e)

theorem gr_eq (x : FVec Ideal S2048x1024 .f32) (rt : FVec Ideal S16x1024 .f32) (t : Fin 2048) (e : Fin 16) :
    gr x rt t e = ∑ k : Fin 1024, (x (ix2 t k) : EReal) * rt (ix2 e k) := by
  unfold gr
  pointwise [gts]

theorem rnk_eq (g : FVec Ideal S2048x16 .f32) (t : Fin 2048) (e : Fin 16) : rnk g (ix2 t e) = rank (fun e => (g (ix2 t e) : EReal)) e := by
  pointwise [rnk]
  rfl
theorem idxT_eq (r : IVec S2048x16 32) (k : BitVec 32) (t : Fin 2048) : idxT r k (ix1 t)
    = Finset.univ.fold IntOp.addi (0#32) (fun e : Fin 16 => Scalar.select (IntOp.cmpi .eq (r (ix2 t e)) k) (BitVec.ofNat 32 e.val) 0#32) := by
  pointwise [idxT]
  rfl
theorem valT_eq (g : FVec Ideal S2048x16 .f32) (r : IVec S2048x16 32) (k : BitVec 32) (t : Fin 2048) : (valT g r k (ix1 t) : EReal)
    = ∑ e : Fin 16, Scalar.select (IntOp.cmpi .eq (r (ix2 t e)) k) (g (ix2 t e)) (0 : EReal) := by
  have h : (id (constant (F := Ideal) S_ .f32 0x00000000#32) ix0 : EReal) = 0 := Ideal.ofBits_zero_f32
  pointwise [valT]
  simp only [h]

/-- A token of a row, among all. -/
def tok (b : Fin 2) (t : Fin 1024) : Fin 2048 := ⟨b.val * 1024 + t.val, by omega⟩

theorem outI_eq (r : IVec S2048x16 32) (b j : Fin 2) (t : Fin 1024) : outI r (ix3 b j t)
    = if j.val < 1 then idxT r 0#32 (ix1 (tok b t)) else idxT r 1#32 (ix1 (tok b t)) := by
  pointwise [outI]
  rfl
theorem outW_eq (v w : FVec Ideal S2048 .f32) (b j : Fin 2) (t : Fin 1024) : (outW v w (ix3 b j t) : EReal)
    = if j.val < 1 then Ideal.div (Ideal.exp (v (ix1 (tok b t)) - max (v (ix1 (tok b t))) (w (ix1 (tok b t))))) (Ideal.exp (v (ix1 (tok b t)) - max (v (ix1 (tok b t))) (w (ix1 (tok b t)))) + Ideal.exp (w (ix1 (tok b t)) - max (v (ix1 (tok b t))) (w (ix1 (tok b t)))))
      else Ideal.div (Ideal.exp (w (ix1 (tok b t)) - max (v (ix1 (tok b t))) (w (ix1 (tok b t))))) (Ideal.exp (v (ix1 (tok b t)) - max (v (ix1 (tok b t))) (w (ix1 (tok b t)))) + Ideal.exp (w (ix1 (tok b t)) - max (v (ix1 (tok b t))) (w (ix1 (tok b t))))) := by
  pointwise [outW, sm1, sm2]
  rfl

section
variable (x : FVec Ideal S2048x1024 .f32) (rt : FVec Ideal S16x1024 .f32) {b : Fin 2} {t : Fin 1024} {p q : Fin 16}
  (hf : ∀ e, ∃ r : ℝ, gr x rt (tok b t) e = r) (hp : IsFirst (gr x rt (tok b t)) p) (hq : IsFirst (cut (gr x rt (tok b t)) p) q)
include hf hp hq

theorem bot_ne (e : Fin 16) : gr x rt (tok b t) e ≠ ⊥ := by
  obtain ⟨r, hr⟩ := hf e
  rw [hr]
  exact EReal.coe_ne_bot r

/-- The choices of a token. -/
theorem choice (j : Fin 2) : outI (rnk (gts x rt)) (ix3 b j t) = if j.val < 1 then BitVec.ofNat 32 p.val else BitVec.ofNat 32 q.val := by
  have hb := bot_ne x rt hf hp hq
  rw [outI_eq, idxT_eq, idxT_eq]
  simp only [rnk_eq]
  have e1 := pick_idx (rank (gr x rt (tok b t))) 0#32 p fun e => rank_zero hp e
  have e2 := pick_idx (rank (gr x rt (tok b t))) 1#32 q fun e => rank_one hb hp hq e
  unfold gr at e1 e2
  rw [e1, e2]

/-- The weights of a token. -/
theorem weight (j : Fin 2) : (outW (valT (gts x rt) (rnk (gts x rt)) 0#32) (valT (gts x rt) (rnk (gts x rt)) 1#32) (ix3 b j t) : EReal)
    = if j.val < 1 then Ideal.div 1 (1 + Ideal.exp (cut (gr x rt (tok b t)) p q - gr x rt (tok b t) p))
        else 1 - Ideal.div 1 (1 + Ideal.exp (cut (gr x rt (tok b t)) p q - gr x rt (tok b t) p)) := by
  have hb := bot_ne x rt hf hp hq
  rw [outW_eq, valT_eq, valT_eq]
  simp only [rnk_eq]
  have e1 := pick_val (gr x rt (tok b t)) (rank (gr x rt (tok b t))) 0#32 p fun e => rank_zero hp e
  have e2 := pick_val (gr x rt (tok b t)) (rank (gr x rt (tok b t))) 1#32 q fun e => rank_one hb hp hq e
  unfold gr at e1 e2
  rw [e1, e2]
  obtain ⟨u, hu⟩ := hf p
  obtain ⟨v, hv⟩ := hf q
  rw [cut_second hb hq]
  have hl := hp.1 q
  rw [hu, hv] at hl ⊢
  unfold gr at hu hv
  rw [hu, hv]
  obtain ⟨w1, w2⟩ := weights u v (EReal.coe_le_coe_iff.1 hl)
  rw [w1, w2]
end

/-- Finite entries have finite gates. -/
theorem real_sum (f g : Fin 1024 → EReal) (hf : ∀ k, ∃ r : ℝ, f k = r) (hg : ∀ k, ∃ r : ℝ, g k = r) : ∃ r : ℝ, ∑ k, f k * g k = (r : EReal) := by
  choose u hu using hf
  choose v hv using hg
  have h : ∀ S : Finset (Fin 1024), ∑ k ∈ S, f k * g k = ((∑ k ∈ S, u k * v k : ℝ) : EReal) := by
    classical
    intro S
    induction S using Finset.induction_on with
    | empty => rfl
    | insert a S ha ih => rw [Finset.sum_insert ha, Finset.sum_insert ha, ih, hu, hv, EReal.coe_add, EReal.coe_mul]
  exact ⟨_, h Finset.univ⟩

end Cert.GateReferenceIdeal.RefVal

end
-- ==== Proof.GAlg.lean ====
/-
# The gate kernel and its reference

Each device's rows are blocks of the whole arrays, so what it computes of its tokens, and what its peer computes of
the others, is what the reference computes of all.
-/
module

public import proofs.«01_k».proof.Proof.GRun
public import proofs.«01_k».proof.Proof.GVal
public import proofs.«01_k».proof.Proof.GRefVal

@[expose] public section

noncomputable section

namespace Cert.GateIdeal.Gx

open Cert.GateIdeal Cert.GateIdeal.Gen Idealize.ShloMosaic Idealize.ShloMosaic.TcCoe Idealize.SL.Sem
open Cert.Top2
open Cert.GateReferenceIdeal.RefVal (gr gr_eq gts rnk valT tok choice weight real_sum)

/-! ## The arrays of a device at the end -/

section
variable {F : FTy → Type} [FloatOps F]
variable (m : (ℓ : Loc nD τ sig) → Buf (Elt F) ℓ)

theorem embX (t : Fin cfg0.N) (i : S2x1024x1024.Idx) : ((cfg0.win 2).blk t).view.emb i = i := by
  refine funext fun a => Fin.ext ?_
  match a with
  | ⟨0, _⟩ => show 0 * 2 + 1 * (i 0).val = (i 0).val; omega
  | ⟨1, _⟩ => show 0 * 1024 + 1 * (i 1).val = (i 1).val; omega
  | ⟨2, _⟩ => show 0 * 1024 + 1 * (i 2).val = (i 2).val; omega
theorem embI (t : Fin cfg0.N) (i : S2x2x1024.Idx) : ((cfg0.win 3).blk t).view.emb i = i := by
  refine funext fun a => Fin.ext ?_
  match a with
  | ⟨0, _⟩ => show 0 * 2 + 1 * (i 0).val = (i 0).val; omega
  | ⟨1, _⟩ => show 0 * 2 + 1 * (i 1).val = (i 1).val; omega
  | ⟨2, _⟩ => show 0 * 1024 + 1 * (i 2).val = (i 2).val; omega
theorem embW (t : Fin cfg0.N) (i : S2x2x1024.Idx) : ((cfg0.win 4).blk t).view.emb i = i := by
  refine funext fun a => Fin.ext ?_
  match a with
  | ⟨0, _⟩ => show 0 * 2 + 1 * (i 0).val = (i 0).val; omega
  | ⟨1, _⟩ => show 0 * 2 + 1 * (i 1).val = (i 1).val; omega
  | ⟨2, _⟩ => show 0 * 1024 + 1 * (i 2).val = (i 2).val; omega

theorem finalA_in0 (c : Dev nD) : finalA m c 0 = m ((c : Thread nD τ).loc main_arg0) := (dats m 0 c).arrAt_in (0 : Fin 5) rfl _
theorem finalA_in1 (c : Dev nD) : finalA m c 1 = m ((c : Thread nD τ).loc main_arg1) := (dats m 0 c).arrAt_in (1 : Fin 5) rfl _
theorem finalA_x (c : Dev nD) : finalA m c 2 = outX (Av m) c := by
  refine (dats m 0 c).arrAt_eq_of_cover (2 : Fin 5) (outX (Av m) c) (fun t _ => ?_) (fun i => ?_)
  · funext i
    show outX (Av m) c i = outX (Av m) c (((cfg0.win 2).blk t).view.emb i)
    rw [embX]
  · refine ⟨⟨0, by decide⟩, rfl, ?_⟩
    have h := ((cfg0.win 2).blk ⟨0, by decide⟩).view.emb_mem_set i
    rw [embX] at h
    exact h
theorem finalA_i (c : Dev nD) : finalA m c 3 = outI (Av m) (Bv m) c := by
  refine (dats m 0 c).arrAt_eq_of_cover (3 : Fin 5) (outI (Av m) (Bv m) c) (fun t _ => ?_) (fun i => ?_)
  · funext i
    show outI (Av m) (Bv m) c i = outI (Av m) (Bv m) c (((cfg0.win 3).blk t).view.emb i)
    rw [embI]
  · refine ⟨⟨0, by decide⟩, rfl, ?_⟩
    have h := ((cfg0.win 3).blk ⟨0, by decide⟩).view.emb_mem_set i
    rw [embI] at h
    exact h
theorem finalA_w (c : Dev nD) : finalA m c 4 = outW (Av m) (Bv m) c := by
  refine (dats m 0 c).arrAt_eq_of_cover (4 : Fin 5) (outW (Av m) (Bv m) c) (fun t _ => ?_) (fun i => ?_)
  · funext i
    show outW (Av m) (Bv m) c i = outW (Av m) (Bv m) c (((cfg0.win 4).blk t).view.emb i)
    rw [embW]
  · refine ⟨⟨0, by decide⟩, rfl, ?_⟩
    have h := ((cfg0.win 4).blk ⟨0, by decide⟩).view.emb_mem_set i
    rw [embW] at h
    exact h

end

/-! ## The rows as blocks -/

/-- An expert of a row, among all. -/
def expert (y : Fin 2) (e : Fin 8) : Fin 16 := ⟨y.val * 8 + e.val, by omega⟩

theorem yc_pe (c : Dev nD) (y : Fin 2) (h : ¬y = yc c) : y = yc (pe c) := by
  revert c y; decide

theorem rix_ix3 {a b : Nat} (y : Fin 2) (i : Fin a) (j : Fin b) : rix (ix3 y i j) = ix3 0 i j := by
  funext x
  match x with
  | ⟨0, _⟩ => rfl
  | ⟨1, _⟩ => rfl
  | ⟨2, _⟩ => rfl

section
variable (A : Dev nD → Vec Ideal S1024x1024 .f32) (B : Dev nD → Vec Ideal S8x1024 .f32)
variable (X : Vec Ideal ⟨2, ![2048, 1024]⟩ .f32) (R : Vec Ideal ⟨2, ![16, 1024]⟩ .f32)
variable (hA : ∀ c t k, (A c (ix2 t k) : EReal) = X (ix2 (tok (yc c) t) k))
variable (hB : ∀ c (e : Fin 8) k, (B c (ix2 e k) : EReal) = R (ix2 (expert (yc c) e) k))
variable (fX : ∀ t k, ∃ r : ℝ, (X (ix2 t k) : EReal) = r) (fR : ∀ e k, ∃ r : ℝ, (R (ix2 e k) : EReal) = r)

include hB in
theorem rAt_apply (c : Dev nD) (y : Fin 2) (e : Fin 8) (k : Fin 1024) : (rAt B c y (ix3 0 e k) : EReal) = R (ix2 (expert y e) k) := by
  unfold rAt
  by_cases h : y = yc c
  · rw [if_pos h]
    refine (pay2_eq (B c) e k).trans ((hB c e k).trans ?_)
    subst h; rfl
  · rw [if_neg h]
    refine (pay2_eq (B (pe c)) e k).trans ((hB (pe c) e k).trans ?_)
    have h' := yc_pe c y h
    subst h'; rfl

include hA hB in
theorem gates_eq (c : Dev nD) (t : Fin 1024) : gk (rAt B c 0) (rAt B c 1) (A c) t = gr X R (tok (yc c) t) := by
  funext e
  rw [gk_eq, gr_eq]
  refine Finset.sum_congr rfl fun k _ => ?_
  rw [hA]
  refine congrArg (X (ix2 (tok (yc c) t) k) * ·) ?_
  by_cases h : e.val < 8
  · rw [dif_pos h]
    refine (rAt_apply B R hB c 0 ⟨e.val, h⟩ k).trans (congrArg (fun i => R (ix2 i k)) (Fin.ext ?_))
    show 0 * 8 + e.val = e.val; omega
  · rw [dif_neg h]
    refine (rAt_apply B R hB c 1 ⟨e.val - 8, by omega⟩ k).trans (congrArg (fun i => R (ix2 i k)) (Fin.ext ?_))
    show 1 * 8 + (e.val - 8) = e.val; omega

include fX fR in
theorem gates_real (t : Fin 2048) (e : Fin 16) : ∃ r : ℝ, gr X R t e = r := by
  rw [gr_eq]
  exact real_sum _ _ (fX t) (fR e)

include hA hB fX fR in
theorem iR_apply (c : Dev nD) (j : Fin 2) (t : Fin 1024) :
    iR A B c (ix3 0 j t) = Cert.GateReferenceIdeal.RefVal.outI (rnk (gts X R)) (ix3 (yc c) j t) := by
  obtain ⟨p, hp⟩ := exists_first (gr X R (tok (yc c) t))
  obtain ⟨q, hq⟩ := exists_first (cut (gr X R (tok (yc c) t)) p)
  rw [choice X R (gates_real X R fX fR _) hp hq]
  rw [← gates_eq A B X R hA hB] at hp hq
  exact pay9_eq hp hq j

include hA hB fX fR in
theorem wR_apply (c : Dev nD) (j : Fin 2) (t : Fin 1024) :
    (wR A B c (ix3 0 j t) : EReal) = Cert.GateReferenceIdeal.RefVal.outW (valT (gts X R) (rnk (gts X R)) 0#32) (valT (gts X R) (rnk (gts X R)) 1#32) (ix3 (yc c) j t) := by
  obtain ⟨p, hp⟩ := exists_first (gr X R (tok (yc c) t))
  obtain ⟨q, hq⟩ := exists_first (cut (gr X R (tok (yc c) t)) p)
  rw [weight X R (gates_real X R fX fR _) hp hq]
  rw [← gates_eq A B X R hA hB] at hp hq ⊢
  exact pay10_eq hp hq j

include hA in
theorem outX_apply (c : Dev nD) (b : Fin 2) (t k : Fin 1024) : (outX A c (ix3 b t k) : EReal) = X (ix2 (tok b t) k) := by
  show xAt A c b (rix (ix3 b t k)) = _
  rw [rix_ix3]
  unfold xAt
  by_cases h : b = yc c
  · rw [if_pos h, h]
    exact (pay1_eq t k).trans (hA c t k)
  · rw [if_neg h, yc_pe c b h]
    exact (pay1_eq t k).trans (hA (pe c) t k)

include hA hB fX fR in
theorem outI_apply (c : Dev nD) (b j : Fin 2) (t : Fin 1024) :
    outI A B c (ix3 b j t) = Cert.GateReferenceIdeal.RefVal.outI (rnk (gts X R)) (ix3 b j t) := by
  show iAt A B c b (rix (ix3 b j t)) = _
  rw [rix_ix3]
  unfold iAt
  by_cases h : b = yc c
  · rw [if_pos h, h]
    exact iR_apply A B X R hA hB fX fR c j t
  · rw [if_neg h, yc_pe c b h]
    exact iR_apply A B X R hA hB fX fR (pe c) j t

include hA hB fX fR in
theorem outW_apply (c : Dev nD) (b j : Fin 2) (t : Fin 1024) :
    (outW A B c (ix3 b j t) : EReal) = Cert.GateReferenceIdeal.RefVal.outW (valT (gts X R) (rnk (gts X R)) 0#32) (valT (gts X R) (rnk (gts X R)) 1#32) (ix3 b j t) := by
  show wAt A B c b (rix (ix3 b j t)) = _
  rw [rix_ix3]
  unfold wAt
  by_cases h : b = yc c
  · rw [if_pos h, h]
    exact wR_apply A B X R hA hB fX fR c j t
  · rw [if_neg h, yc_pe c b h]
    exact wR_apply A B X R hA hB fX fR (pe c) j t

end

/-- A value of magnitude below infinity is real. -/
theorem real_of_abs (v : EReal) (h : max v (-v) < ⊤) : ∃ r : ℝ, v = r := by
  induction v using EReal.rec with
  | bot => exact absurd h (by rw [EReal.neg_bot, max_eq_right bot_le]; exact lt_irrefl _)
  | coe r => exact ⟨r, rfl⟩
  | top => exact absurd h (by rw [max_eq_left le_top]; exact lt_irrefl _)

end Cert.GateIdeal.Gx

end
-- ==== Proof.XBody.lean ====
/-
# The expert kernel's body at one grid point

A grid point is an expert and a half of the device's slice of its hidden width. At the first half the body gathers the
expert's rows and their weights and starts the accumulator; at both it adds its half's product; at the second it
scales by the weights and writes the expert's block of the result.
-/
module

public import proofs.«01_k».proof.Proof.Gen.ExpertIdeal.Launch
public import proofs.«01_k».proof.Proof.Gen.ExpertIdeal.Regions
public import proofs.«01_k».proof.Proof.Gen.ExpertIdeal.Skeleton

@[expose] public section

noncomputable section

namespace Cert.ExpertIdeal.Fx

open Cert.ExpertIdeal Cert.ExpertIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: the pipeline's own round protocol. -/
abbrev UU : Type := UR sig nD τ

local notation "𝕄" => MT nD τ sig Unit (Elt F) ℕ UU ℕ

/-- Termination variants of the kernel body: nothing recurses, so there are none. -/
abbrev 𝒱₀ : Variants := Variants.none

/-- A memref held whole at contents `X`. -/
abbrev own (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare X

section Access
variable (c : Dev nD) {s : Shape} {e : EltTy} (M : Memref sig .tc .vmem s e)

/-- A load reads the held contents at the rectangle's places. -/
theorem wp_ld (r : Rect s) (X : s.Idx → Elt F e) {hl : _} {α : Type} {Q : α → sProp 𝕄}
    {k : (r.shape.Idx → Elt F e) → Prog (TpuEff nD τ sig (Elt F) Λ₀ .tc) α} :
    own c M X ⊢ iprop((own c M X -∗ wp frame (wpE (defs₀ (F := F)) 𝒱₀ (c : Thread nD τ) none) Set.univ (k fun j => X (r.emb j)) Q)
      -∗ wp frame (wpE (defs₀ (F := F)) 𝒱₀ (c : Thread nD τ) none) Set.univ (.op (.load M r.toLoadRect hl) k) Q) := by
  unfold own owns
  iintro ⟨%f, %hf, H⟩ Hk
  iapply (wp_load_rect 𝒱₀ (c : Thread nD τ) none Set.univ (m := M) (r := r) (View.set_slice_subset _ _)) $$ H
  iintro H
  rw [show (M.access r).read (Elt F) f = fun j => X (r.emb j) from by subst hf; rfl]
  iapply Hk
  iexists f
  isplitr; · (ipureintro; exact hf)
  iexact H

/-- The rectangle of everything. -/
theorem emb_full {o : Fin s.rank → ℕ} (ho : ∀ a, o a = 0) (inb : ∀ a, o a + s.size a ≤ s.size a) (j : s.Idx) :
    (Rect.unit (s := s) o s.size inb).emb j = j := by
  funext a; apply Fin.ext; rw [Rect.emb_apply]
  show o a + 1 * (j a).val = (j a).val
  rw [ho]; omega

/-- A load of everything reads the held contents. -/
theorem wp_ldw {o : Fin s.rank → ℕ} (ho : ∀ a, o a = 0) (inb : ∀ a, o a + s.size a ≤ s.size a) (X : s.Idx → Elt F e) {hl : _} {α : Type}
    {Q : α → sProp 𝕄} {k : (s.Idx → Elt F e) → Prog (TpuEff nD τ sig (Elt F) Λ₀ .tc) α} :
    own c M X ⊢ iprop((own c M X -∗ wp frame (wpE (defs₀ (F := F)) 𝒱₀ (c : Thread nD τ) none) Set.univ (k X) Q)
      -∗ wp frame (wpE (defs₀ (F := F)) 𝒱₀ (c : Thread nD τ) none) Set.univ (.op (.load M (Rect.unit (s := s) o s.size inb).toLoadRect hl) k) Q) := by
  have h := wp_ld (F := F) c M (Rect.unit (s := s) o s.size inb) X (hl := hl) (Q := Q) (k := k)
  rw [show (fun j => X ((Rect.unit (s := s) o s.size inb).emb j)) = X from funext fun j => congrArg X (emb_full ho inb j)] at h
  exact h

/-- A store of everything replaces the held contents. -/
theorem wp_stw {o : Fin s.rank → ℕ} (ho : ∀ a, o a = 0) (inb : ∀ a, o a + s.size a ≤ s.size a) (X w : s.Idx → Elt F e) {hx : _} {hm : _}
    {α : Type} {Q : α → sProp 𝕄} {k : PUnit → Prog (TpuEff nD τ sig (Elt F) Λ₀ .tc) α} :
    own c M X ⊢ iprop((own c M w -∗ wp frame (wpE (defs₀ (F := F)) 𝒱₀ (c : Thread nD τ) none) Set.univ (k ⟨⟩) Q)
      -∗ wp frame (wpE (defs₀ (F := F)) 𝒱₀ (c : Thread nD τ) none) Set.univ
          (.op (.store M (Rect.unit (s := s) o s.size inb) w Finset.univ hx hm) k) Q) := by
  unfold own owns
  iintro ⟨%f, %hf, H⟩ Hk
  iapply (wp_store 𝒱₀ (c : Thread nD τ) none Set.univ (m := M) (r := Rect.unit (s := s) o s.size inb) (Mk := Finset.univ)
    (S := M.view.set) (View.set_slice_subset _ _)) $$ H
  iintro H
  iapply Hk
  iexists _
  isplitr
  swap
  · iexact H
  ipureintro
  funext j
  have h := congrFun (View.read_write_univ (v := M.access (Rect.unit (s := s) o s.size inb)) (Val := Elt F) f w) j
  refine Eq.trans ?_ h
  show M.view.read (Elt F) _ j = M.view.read (Elt F) _ ((Rect.unit (s := s) o s.size inb).emb j)
  rw [emb_full ho inb j]

end Access

/-- Row `k` of a two-row array. -/
def row0 {e : EltTy} (X : Vec F S2x2048 e) : Vec F S1x2048 e := fun j => X ((Rect.unit (s := S2x2048) ![0, 0] S1x2048.size inb_S2x2048_S1x2048_0_0).emb j)
def row1 {e : EltTy} (X : Vec F S2x2048 e) : Vec F S1x2048 e := fun j => X ((Rect.unit (s := S2x2048) ![1, 0] S1x2048.size inb_S2x2048_S1x2048_1_0).emb j)

/-- A load of row 0 of a two-row array. -/
theorem wp_ld0 (c : Dev nD) {e : EltTy} (M : Memref sig .tc .vmem S2x2048 e) (X : Vec F S2x2048 e) {hl : _} {α : Type}
    {Q : α → sProp 𝕄} {k : Vec F S1x2048 e → Prog (TpuEff nD τ sig (Elt F) Λ₀ .tc) α} :
    own c M X ⊢ iprop((own c M X -∗ wp frame (wpE (defs₀ (F := F)) 𝒱₀ (c : Thread nD τ) none) Set.univ (k (row0 X)) Q)
      -∗ wp frame (wpE (defs₀ (F := F)) 𝒱₀ (c : Thread nD τ) none) Set.univ
          (.op (.load M (Rect.unit (s := S2x2048) ![0, 0] S1x2048.size inb_S2x2048_S1x2048_0_0).toLoadRect hl) k) Q) :=
  wp_ld (F := F) c M (Rect.unit (s := S2x2048) ![0, 0] S1x2048.size inb_S2x2048_S1x2048_0_0) X (hl := hl) (Q := Q) (k := k)

/-- A load of row 1 of a two-row array. -/
theorem wp_ld1 (c : Dev nD) {e : EltTy} (M : Memref sig .tc .vmem S2x2048 e) (X : Vec F S2x2048 e) {hl : _} {α : Type}
    {Q : α → sProp 𝕄} {k : Vec F S1x2048 e → Prog (TpuEff nD τ sig (Elt F) Λ₀ .tc) α} :
    own c M X ⊢ iprop((own c M X -∗ wp frame (wpE (defs₀ (F := F)) 𝒱₀ (c : Thread nD τ) none) Set.univ (k (row1 X)) Q)
      -∗ wp frame (wpE (defs₀ (F := F)) 𝒱₀ (c : Thread nD τ) none) Set.univ
          (.op (.load M (Rect.unit (s := S2x2048) ![1, 0] S1x2048.size inb_S2x2048_S1x2048_1_0).toLoadRect hl) k) Q) :=
  wp_ld (F := F) c M (Rect.unit (s := S2x2048) ![1, 0] S1x2048.size inb_S2x2048_S1x2048_1_0) X (hl := hl) (Q := Q) (k := k)

/-- Expert `e`'s gathered rows, from the tokens and the table of slots. -/
def xgOf (e : ℕ) (x : Vec F S2048x1024 .bf16) (s : Vec F S2x2048 .i32) : Vec F S320x1024 .bf16 :=
  k0_pay8 (BitVec.ofNat 32 e) (row0 s) (row1 s) x
/-- Expert `e`'s gathered weights. -/
def wgOf (e : ℕ) (s : Vec F S2x2048 .i32) (w : Vec F S2x2048 .f32) : Vec F S1x320 .f32 :=
  k0_pay1 (k0_pay9 (BitVec.ofNat 32 e) (row0 s) (row1 s) (row0 w) (row1 w))

variable (c : Dev nD) (i : grid0.Coords) (arg2 : Memref sig .tc .smem S1 .i32) (harg2 : arg2.IsWhole) (arg3 : Memref sig .tc .vmem S2048x1024 .bf16) (harg3 : arg3.IsWhole) (arg4 : Memref sig .tc .vmem S2x2048 .i32) (harg4 : arg4.IsWhole) (arg5 : Memref sig .tc .vmem S2x2048 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x320x1024 .bf16) (harg8 : arg8.IsWhole) (arg9 : Memref sig .tc .vmem S320x1024 .bf16) (harg9 : arg9.IsWhole) (arg10 : Memref sig .tc .vmem S320x1024 .f32) (harg10 : arg10.IsWhole) (arg11 : Memref sig .tc .vmem S1x320 .f32) (harg11 : arg11.IsWhole)
  (x : Vec F S2048x1024 .bf16) (s : Vec F S2x2048 .i32) (w : Vec F S2x2048 .f32) (b1 : Vec F S1x1024x512 .f32) (b2 : Vec F S1x512x1024 .f32)

theorem z2 : ∀ a, (![0, 0] : Fin 2 → ℕ) a = 0 := by decide
theorem z3 : ∀ a, (![0, 0, 0] : Fin 3 → ℕ) a = 0 := by decide

/-- The gathering at a first half. -/
theorem part1_wp (z9 : Vec F S320x1024 .bf16) (Q : FVec F S320x2048 .f32 → sProp 𝕄) :
    iprop((own c arg3 x ∗ own c arg4 s ∗ own c arg5 w ∗ own c arg9 z9)
      ∗ ((own c arg3 x ∗ own c arg4 s ∗ own c arg5 w ∗ own c arg9 (xgOf (i 0).val x s))
        -∗ Q (k0_pay9 (BitVec.ofNat 32 (i 0).val) (row0 s) (row1 s) (row0 w) (row1 w))))
    ⊢ wp frame (wpE (defs₀ (F := F)) 𝒱₀ (c : Thread nD τ) none) Set.univ
        (k0_part1 (F := F) i arg2 harg2 arg3 harg3 arg4 harg4 arg5 harg5 arg6 harg6 arg7 harg7 arg8 harg8 arg9 harg9 arg10 harg10 arg11 harg11 (BitVec.ofNat 32 (i 0).val)) Q := by
  rw [k0_part1_eq_skeleton]
  unfold k0_part1_skel
  simp only [Prog.lift, Prog.bind_op, Prog.bind_ret]
  iintro ⟨⟨H3, H4, H5, H9⟩, Hk⟩
  iapply (wp_ld0 c arg4 s) $$ H4; iintro H4
  iapply (wp_ld1 c arg4 s) $$ H4; iintro H4
  iapply (wp_ldw c arg3 z2 _ x) $$ H3; iintro H3
  iapply (wp_ldw c arg9 z2 _ z9) $$ H9; iintro H9
  iapply (wp_stw c arg9 z2 _ z9 (xgOf (i 0).val x s)) $$ H9; iintro H9
  iapply (wp_ld0 c arg5 w) $$ H5; iintro H5
  iapply (wp_ld1 c arg5 w) $$ H5; iintro H5
  iapply (le_wp_ret _ _ _ _ Q)
  iapply Hk
  isplitl [H3]; · iexact H3
  isplitl [H4]; · iexact H4
  isplitl [H5]; · iexact H5
  iexact H9

/-- What every point starts from, the result's buffer apart. -/
def ins : sProp 𝕄 := iprop(own c arg3 x ∗ own c arg4 s ∗ own c arg5 w ∗ own c arg6 b1 ∗ own c arg7 b2)

/-- The body at a first half. -/
theorem body_first (h0 : (i 1).val = 0) :
    iprop(ins c arg3 arg4 arg5 arg6 arg7 x s w b1 b2 ∗ (∃ z, own c arg9 z) ∗ (∃ z, own c arg10 z) ∗ (∃ z, own c arg11 z))
    ⊢ wp frame (wpE (defs₀ (F := F)) 𝒱₀ (c : Thread nD τ) none) Set.univ
        (cc0__ffn_body (F := F) i arg2 harg2 arg3 harg3 arg4 harg4 arg5 harg5 arg6 harg6 arg7 harg7 arg8 harg8 arg9 harg9 arg10 harg10 arg11 harg11)
        fun _ => iprop(ins c arg3 arg4 arg5 arg6 arg7 x s w b1 b2 ∗ own c arg9 (xgOf (i 0).val x s)
          ∗ own c arg10 (k0_pay3 (xgOf (i 0).val x s) b1 (k0_pay2 (F := F)) b2) ∗ own c arg11 (wgOf (i 0).val s w)) := by
  have c1 : Scalar.cmpi .ne (Scalar.extui (Scalar.cmpi .eq (BitVec.ofNat 32 (i 1).val) 0#32)) 0#32 = 1#1 := by rw [h0]; decide
  have c2 : ¬ k0_cond2 i = 1#1 := by unfold k0_cond2; simp only [h0]; decide
  rw [cc0__ffn_body_eq_skeleton]
  unfold cc0__ffn_body_skel ins
  simp only [dif_pos c1, dif_neg c2, Prog.lift, Prog.bind_op, Prog.bind_ret, Prog.bind_assoc]
  iintro ⟨⟨H3, H4, H5, H6, H7⟩, ⟨%z9, H9⟩, ⟨%z10, H10⟩, ⟨%z11, H11⟩⟩
  rw [wp_bind]
  iapply (part1_wp c i arg2 harg2 arg3 harg3 arg4 harg4 arg5 harg5 arg6 harg6 arg7 harg7 arg8 harg8 arg9 harg9 arg10 harg10 arg11 harg11 x s w z9)
  isplitl [H3 H4 H5 H9]
  · isplitl [H3]; · iexact H3
    isplitl [H4]; · iexact H4
    isplitl [H5]; · iexact H5
    iexact H9
  iintro ⟨H3, H4, H5, H9⟩
  dsimp only
  iapply (wp_ldw c arg11 z2 _ z11) $$ H11; iintro H11
  iapply (wp_stw c arg11 z2 _ z11 (wgOf (i 0).val s w)) $$ H11; iintro H11
  iapply (wp_ldw c arg10 z2 _ z10) $$ H10; iintro H10
  iapply (wp_stw c arg10 z2 _ z10 (k0_pay2 (F := F))) $$ H10; iintro H10
  iapply (wp_ldw c arg9 z2 _ _) $$ H9; iintro H9
  iapply (wp_ldw c arg6 z3 _ _) $$ H6; iintro H6
  iapply (wp_ldw c arg10 z2 _ _) $$ H10; iintro H10
  iapply (wp_ldw c arg7 z3 _ _) $$ H7; iintro H7
  iapply (wp_ldw c arg10 z2 _ _) $$ H10; iintro H10
  iapply (wp_stw c arg10 z2 _ _ (k0_pay3 (xgOf (i 0).val x s) b1 (k0_pay2 (F := F)) b2)) $$ H10; iintro H10
  iapply (le_wp_ret _ _ _ _ _)
  isplitl [H3 H4 H5 H6 H7]
  · isplitl [H3]; · iexact H3
    isplitl [H4]; · iexact H4
    isplitl [H5]; · iexact H5
    isplitl [H6]; · iexact H6
    iexact H7
  isplitl [H9]; · iexact H9
  isplitl [H10]; · iexact H10
  iexact H11

/-- The body at a second half. -/
theorem body_second (h1 : (i 1).val = 1) (y9 : Vec F S320x1024 .bf16) (y10 : Vec F S320x1024 .f32) (y11 : Vec F S1x320 .f32) :
    iprop(ins c arg3 arg4 arg5 arg6 arg7 x s w b1 b2 ∗ (∃ z, own c arg8 z) ∗ own c arg9 y9 ∗ own c arg10 y10 ∗ own c arg11 y11)
    ⊢ wp frame (wpE (defs₀ (F := F)) 𝒱₀ (c : Thread nD τ) none) Set.univ
        (cc0__ffn_body (F := F) i arg2 harg2 arg3 harg3 arg4 harg4 arg5 harg5 arg6 harg6 arg7 harg7 arg8 harg8 arg9 harg9 arg10 harg10 arg11 harg11)
        fun _ => iprop(ins c arg3 arg4 arg5 arg6 arg7 x s w b1 b2 ∗ own c arg8 (k0_pay4 (k0_pay3 y9 b1 y10 b2) y11)
          ∗ own c arg9 y9 ∗ own c arg10 (k0_pay3 y9 b1 y10 b2) ∗ own c arg11 y11) := by
  have c1 : ¬ Scalar.cmpi .ne (Scalar.extui (Scalar.cmpi .eq (BitVec.ofNat 32 (i 1).val) 0#32)) 0#32 = 1#1 := by rw [h1]; decide
  have c2 : k0_cond2 i = 1#1 := by unfold k0_cond2; simp only [h1]; decide
  rw [cc0__ffn_body_eq_skeleton]
  unfold cc0__ffn_body_skel ins
  simp only [dif_neg c1, dif_pos c2, Prog.lift, Prog.bind_op, Prog.bind_ret, Prog.bind_assoc]
  iintro ⟨⟨H3, H4, H5, H6, H7⟩, ⟨%z8, H8⟩, H9, H10, H11⟩
  iapply (wp_ldw c arg9 z2 _ _) $$ H9; iintro H9
  iapply (wp_ldw c arg6 z3 _ _) $$ H6; iintro H6
  iapply (wp_ldw c arg10 z2 _ _) $$ H10; iintro H10
  iapply (wp_ldw c arg7 z3 _ _) $$ H7; iintro H7
  iapply (wp_ldw c arg10 z2 _ _) $$ H10; iintro H10
  iapply (wp_stw c arg10 z2 _ _ (k0_pay3 y9 b1 y10 b2)) $$ H10; iintro H10
  iapply (wp_ldw c arg10 z2 _ _) $$ H10; iintro H10
  iapply (wp_ldw c arg11 z2 _ _) $$ H11; iintro H11
  iapply (wp_ldw c arg8 z3 _ _) $$ H8; iintro H8
  iapply (wp_stw c arg8 z3 _ _ (k0_pay4 (k0_pay3 y9 b1 y10 b2) y11)) $$ H8; iintro H8
  iapply (le_wp_ret _ _ _ _ _)
  isplitl [H3 H4 H5 H6 H7]
  · isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  iexact H11

end Cert.ExpertIdeal.Fx

end
-- ==== Proof.XData.lean ====
/-
# The expert kernel's pipeline data and its body obligation

Every device runs the same sixteen grid points: eight experts, two halves of its slice of the hidden width. Which slice
that is stands in a one-word table the host writes from the device's position in the mesh. Here: the table each device
runs at, what every staging buffer and scratch buffer holds at each point, and the body's triple at each point.
-/
module

public import proofs.«01_k».proof.Proof.XBody
public import Idealize.ShloMosaic.Lib.Pipeline.Frame
public import Idealize.ShloMosaic.Lib.Pipeline.FrameBody
public import Idealize.ShloMosaic.Lib.Pipeline.Quiescent

@[expose] public section

noncomputable section

namespace Cert.ExpertIdeal.Fx

open Cert.ExpertIdeal Cert.ExpertIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ UU ℕ

/-- Which quarter of the hidden width device `c` works on. -/
def fpOf (c : Dev nD) : ℕ := 2 * (c.val / 4) + c.val % 2

theorem fpOf_lt (c : Dev nD) : fpOf c < 4 := by
  have := c.isLt; unfold fpOf; simp only [nD] at this; omega

/-- The table device `c` runs at: the quarter it works on. -/
def pfc (c : Dev nD) : pre0.Contents (Elt F) := fun
  | 0 => fun _ => BitVec.ofNat 32 (fpOf c)
  | ⟨_ + 1, h⟩ => absurd h (Nat.not_lt.2 (Nat.le_add_left _ _))

theorem tr3_eq (c : Dev nD) (i : grid0.Coords) :
    cc0_transform_3 (F := F) inb_S1_S1_0 numel1_S1 (pfc c) i = ![(i 0).val, 0, fpOf c * 2 + (i 1).val] := by
  have h0 : (i 0).val < 8 := (i 0).isLt
  have h1 : (i 1).val < 2 := (i 1).isLt
  have hc := fpOf_lt c
  show ![(BitVec.ofNat 32 (i 0).val).toNat, (0#32).toNat, (BitVec.ofNat 32 (fpOf c) * 2#32 + BitVec.ofNat 32 (i 1).val).toNat] = _
  have e0 : (BitVec.ofNat 32 (i 0).val).toNat = (i 0).val := by rw [BitVec.toNat_ofNat]; omega
  have e2 : (BitVec.ofNat 32 (fpOf c) * 2#32 + BitVec.ofNat 32 (i 1).val).toNat = fpOf c * 2 + (i 1).val := by
    rw [BitVec.toNat_add, BitVec.toNat_mul, BitVec.toNat_ofNat, BitVec.toNat_ofNat, BitVec.toNat_ofNat]; omega
  rw [e0, e2]; rfl

theorem tr4_eq (c : Dev nD) (i : grid0.Coords) :
    cc0_transform_4 (F := F) inb_S1_S1_0 numel1_S1 (pfc c) i = ![(i 0).val, fpOf c * 2 + (i 1).val, 0] := by
  have h0 : (i 0).val < 8 := (i 0).isLt
  have h1 : (i 1).val < 2 := (i 1).isLt
  have hc := fpOf_lt c
  show ![(BitVec.ofNat 32 (i 0).val).toNat, (BitVec.ofNat 32 (fpOf c) * 2#32 + BitVec.ofNat 32 (i 1).val).toNat, (0#32).toNat] = _
  have e0 : (BitVec.ofNat 32 (i 0).val).toNat = (i 0).val := by rw [BitVec.toNat_ofNat]; omega
  have e2 : (BitVec.ofNat 32 (fpOf c) * 2#32 + BitVec.ofNat 32 (i 1).val).toNat = fpOf c * 2 + (i 1).val := by
    rw [BitVec.toNat_add, BitVec.toNat_mul, BitVec.toNat_ofNat, BitVec.toNat_ofNat, BitVec.toNat_ofNat]; omega
  rw [e0, e2]; rfl

theorem inb3 (c : Dev nD) (i : grid0.Coords) (a) :
    (cc0_transform_3 (F := F) inb_S1_S1_0 numel1_S1 (pfc c) i a + 1) * S1x1024x512.size a ≤ S8x1024x4096.size a := by
  have h0 : (i 0).val < 8 := (i 0).isLt
  have h1 : (i 1).val < 2 := (i 1).isLt
  have hc := fpOf_lt c
  rw [tr3_eq]
  match a with
  | ⟨0, _⟩ => show ((i 0).val + 1) * 1 ≤ 8; omega
  | ⟨1, _⟩ => show (0 + 1) * 1024 ≤ 1024; omega
  | ⟨2, _⟩ => show (fpOf c * 2 + (i 1).val + 1) * 512 ≤ 4096; omega

theorem inb4 (c : Dev nD) (i : grid0.Coords) (a) :
    (cc0_transform_4 (F := F) inb_S1_S1_0 numel1_S1 (pfc c) i a + 1) * S1x512x1024.size a ≤ S8x4096x1024.size a := by
  have h0 : (i 0).val < 8 := (i 0).isLt
  have h1 : (i 1).val < 2 := (i 1).isLt
  have hc := fpOf_lt c
  rw [tr4_eq]
  match a with
  | ⟨0, _⟩ => show ((i 0).val + 1) * 1 ≤ 8; omega
  | ⟨1, _⟩ => show (fpOf c * 2 + (i 1).val + 1) * 512 ≤ 4096; omega
  | ⟨2, _⟩ => show (0 + 1) * 1024 ≤ 1024; omega

/-- The table keeps every block inside its array. -/
theorem ok_pfc (c : Dev nD) : ok0 (F := F) (pfc c) :=
  ⟨fun i => ⟨inb3 c i, .inl rfl⟩, fun i => ⟨inb4 c i, .inl rfl⟩⟩

/-- The tables the pipeline runs at on device `c`. -/
def adm (c : Dev nD) (p : Fin 1) : (pcfgs (F := F) p).Adm := ⟨pfc c, ok_pfc c⟩

/-- The pipeline on device `c`. -/
abbrev cfgC (c : Dev nD) : Cfg sig Λ₀ := (pcfg0 (F := F)).at (adm c 0)

/-- The grid point of expert `e`'s half `f`. -/
def pt (e : Fin 8) (f : Fin 2) : grid0.Coords := fun
  | ⟨0, _⟩ => e
  | ⟨1, _⟩ => f

theorem coords_eq : ∀ t : Fin grid0.N, ∃ (e : Fin 8) (f : Fin 2), t.val = 2 * e.val + f.val ∧ grid0.coords t = pt e f := by
  decide +kernel

section Data
variable (m : (ℓ : Loc nD τ sig) → Buf (Elt F) ℓ)

/-- Device `c`'s token rows, slots, weights. -/
def Xa (c : Dev nD) : Vec F S2048x1024 .bf16 := V1 m c main_arg0
def Sa (c : Dev nD) : Vec F S2x2048 .i32 := V1 m c main_arg1
def Wa (c : Dev nD) : Vec F S2x2048 .f32 := V1 m c main_arg2
/-- The blocks of the two expert matrices at a grid point. -/
def B1 (c : Dev nD) (i : grid0.Coords) : Vec F S1x1024x512 .f32 :=
  fun j => (V1 m c main_arg3 : Vec F S8x1024x4096 .f32)
    ((Rect.block (s := S8x1024x4096) S1x1024x512.size (cc0_transform_3 (F := F) inb_S1_S1_0 numel1_S1 (pfc c) i) (inb3 c i)).emb j)
def B2 (c : Dev nD) (i : grid0.Coords) : Vec F S1x512x1024 .f32 :=
  fun j => (V1 m c main_arg4 : Vec F S8x4096x1024 .f32)
    ((Rect.block (s := S8x4096x1024) S1x512x1024.size (cc0_transform_4 (F := F) inb_S1_S1_0 numel1_S1 (pfc c) i) (inb4 c i)).emb j)

/-- Expert `e`'s rows and their weights. -/
def Xg (c : Dev nD) (e : ℕ) : Vec F S320x1024 .bf16 := xgOf e (Xa m c) (Sa m c)
def Wg (c : Dev nD) (e : ℕ) : Vec F S1x320 .f32 := wgOf e (Sa m c) (Wa m c)
/-- The accumulator after an expert's first half, and after both. -/
def acc0 (c : Dev nD) (e : Fin 8) : Vec F S320x1024 .f32 := k0_pay3 (Xg m c e.val) (B1 m c (pt e 0)) (k0_pay2 (F := F)) (B2 m c (pt e 0))
def acc1 (c : Dev nD) (e : Fin 8) : Vec F S320x1024 .f32 := k0_pay3 (Xg m c e.val) (B1 m c (pt e 1)) (acc0 m c e) (B2 m c (pt e 1))
/-- Expert `e`'s block of the result. -/
def outB (c : Dev nD) (e : Fin 8) : Vec F S1x320x1024 .bf16 := k0_pay4 (acc1 m c e) (Wg m c e.val)

/-- The scratch buffers before an expert's first half: anything. -/
def scrAny (c : Dev nD) : sProp 𝕄 :=
  iprop((∃ z, own c (Memref.whole cc0_scratch0) z) ∗ (∃ z, own c (Memref.whole cc0_scratch1) z) ∗ (∃ z, own c (Memref.whole cc0_scratch2) z))
/-- The scratch buffers between an expert's halves. -/
def scrAt (c : Dev nD) (e : Fin 8) : sProp 𝕄 :=
  iprop(own c (Memref.whole cc0_scratch0) (Xg m c e.val) ∗ own c (Memref.whole cc0_scratch1) (acc0 m c e) ∗ own c (Memref.whole cc0_scratch2) (Wg m c e.val))

theorem half_lt {n : ℕ} (h : n < grid0.N + 1) (h1 : n % 2 = 1) : n / 2 < 8 := by have := N_0; omega
theorem half_lt' {n : ℕ} (h : n < grid0.N) : n / 2 < 8 := by have := N_0; omega

def dats (p : Fin 1) (c : Dev nD) : Dat τ (Elt F) Unit ℕ UU ℕ (cfgC (F := F) c) c where
  A w := V1 m c (Pipeline.arrRef spec0 w)
  after w t := match w with
    | ⟨0, _⟩ => Xa m c
    | ⟨1, _⟩ => Sa m c
    | ⟨2, _⟩ => Wa m c
    | ⟨3, _⟩ => B1 m c (grid0.coords t)
    | ⟨4, _⟩ => B2 m c (grid0.coords t)
    | ⟨5, _⟩ => outB m c ⟨t.val / 2, half_lt' t.isLt⟩
  Φ t := if h : t.val % 2 = 1 then scrAt m c ⟨t.val / 2, half_lt t.isLt h⟩ else scrAny c
  q _ := fullShare
  owed _ := 0

/-- A whole-array block reads the array. -/
theorem block_full {s : Shape} {X : s.Idx → α} (ix : Fin s.rank → ℕ) (h0 : ∀ a, ix a = 0) (inb : ∀ a, (ix a + 1) * s.size a ≤ s.size a) :
    (fun j => X ((Rect.block (s := s) s.size ix inb).emb j)) = X := by
  funext j; congr 1; funext a; apply Fin.ext
  rw [Rect.emb_apply]
  show ix a * s.size a + 1 * (j a).val = (j a).val
  rw [h0]; omega

theorem t0z : ∀ (i : grid0.Coords) a, cc0_transform_0 i a = 0 := fun i => by
  intro a; match a with | ⟨0, _⟩ => rfl | ⟨1, _⟩ => rfl

theorem bef0 (c : Dev nD) (t : Fin grid0.N) (d) : (dats m 0 c).before (0 : Fin 6) t d = Xa m c :=
  ((dats m 0 c).before_in_eq_fetched (0 : Fin 6) rfl (fun _ => rfl) (fun _ _ _ => rfl)
    (fun t => (block_full (X := Xa m c) _ (t0z (grid0.coords t)) (hinb0_0 (grid0.coords t))).symm) t d).trans (block_full (X := Xa m c) _ (t0z (grid0.coords t)) (hinb0_0 (grid0.coords t)))
theorem bef1 (c : Dev nD) (t : Fin grid0.N) (d) : (dats m 0 c).before (1 : Fin 6) t d = Sa m c :=
  ((dats m 0 c).before_in_eq_fetched (1 : Fin 6) rfl (fun _ => rfl) (fun _ _ _ => rfl)
    (fun t => (block_full (X := Sa m c) _ (t0z (grid0.coords t)) (hinb0_1 (grid0.coords t))).symm) t d).trans (block_full (X := Sa m c) _ (t0z (grid0.coords t)) (hinb0_1 (grid0.coords t)))
theorem bef2 (c : Dev nD) (t : Fin grid0.N) (d) : (dats m 0 c).before (2 : Fin 6) t d = Wa m c :=
  ((dats m 0 c).before_in_eq_fetched (2 : Fin 6) rfl (fun _ => rfl) (fun _ _ _ => rfl)
    (fun t => (block_full (X := Wa m c) _ (t0z (grid0.coords t)) (hinb0_2 (grid0.coords t))).symm) t d).trans (block_full (X := Wa m c) _ (t0z (grid0.coords t)) (hinb0_2 (grid0.coords t)))
theorem bef3 (c : Dev nD) (t : Fin grid0.N) (d) : (dats m 0 c).before (3 : Fin 6) t d = B1 m c (grid0.coords t) :=
  ((dats m 0 c).before_in_eq_fetched (3 : Fin 6) rfl (fun _ => rfl) (fun _ _ _ => rfl) (fun t => rfl) t d).trans rfl
theorem bef4 (c : Dev nD) (t : Fin grid0.N) (d) : (dats m 0 c).before (4 : Fin 6) t d = B2 m c (grid0.coords t) :=
  ((dats m 0 c).before_in_eq_fetched (4 : Fin 6) rfl (fun _ => rfl) (fun _ _ _ => rfl) (fun t => rfl) t d).trans rfl

theorem idle5 (i : grid0.Coords) : (cfgC (F := F) c).idle (5 : Fin 6) i = !(k0_cond2 i == 1#1) := rfl

theorem idle_first : ∀ e : Fin 8, (!(k0_cond2 (pt e 0) == 1#1)) = true := by decide +kernel
theorem idle_second : ∀ e : Fin 8, (!(k0_cond2 (pt e 1) == 1#1)) = false := by decide +kernel

/-- The result's block is written back at an expert's second half only. -/
theorem flush5 (c : Dev nD) : ∀ t : Fin grid0.N, ((cfgC (F := F) c).win (5 : Fin 6)).flush t = decide (t.val % 2 = 1) :=
  (by decide +kernel : ∀ t : Fin grid0.N, Window.flushOf grid0 true cc0_transform_5 t = decide (t.val % 2 = 1))

/-- A staging buffer. -/
abbrev stB (c : Dev nD) (t : Fin grid0.N) (w : Fin 6) := ((cfgC (F := F) c).win w).stage ((cfgC (F := F) c).slots t w)

/-- What the body is handed at a point. -/
def bodyPre (c : Dev nD) (t : Fin grid0.N) : sProp 𝕄 :=
  iprop((dats m 0 c).Φ t.castSucc ∗ (dats m 0 c).owesAt () t.castSucc
    ∗ (∃ d, own c (stB (F := F) c t 0) ((dats m 0 c).before (0 : Fin 6) t d))
    ∗ (∃ d, own c (stB (F := F) c t 1) ((dats m 0 c).before (1 : Fin 6) t d))
    ∗ (∃ d, own c (stB (F := F) c t 2) ((dats m 0 c).before (2 : Fin 6) t d))
    ∗ (∃ d, own c (stB (F := F) c t 3) ((dats m 0 c).before (3 : Fin 6) t d))
    ∗ (∃ d, own c (stB (F := F) c t 4) ((dats m 0 c).before (4 : Fin 6) t d))
    ∗ (∃ d, own c (stB (F := F) c t 5) ((dats m 0 c).before (5 : Fin 6) t d)))

/-- What the body leaves in the result's staging buffer. -/
def post5 (c : Dev nD) (t : Fin grid0.N) : sProp 𝕄 :=
  match (cfgC (F := F) c).idle (5 : Fin 6) (grid0.coords t) with
  | true =>
    match ((cfgC (F := F) c).win (5 : Fin 6)).flush t with
    | false => iprop(∃ d, own c (stB (F := F) c t 5) ((dats m 0 c).before (5 : Fin 6) t d))
    | true => own c (stB (F := F) c t 5) ((dats m 0 c).after (5 : Fin 6) t)
  | false => own c (stB (F := F) c t 5) ((dats m 0 c).after (5 : Fin 6) t)

/-- What the body leaves at a point. -/
def bodyPost (c : Dev nD) (t : Fin grid0.N) : sProp 𝕄 :=
  iprop((dats m 0 c).Φ t.succ ∗ (dats m 0 c).owesAt () t.succ
    ∗ own c (stB (F := F) c t 0) (Xa m c) ∗ own c (stB (F := F) c t 1) (Sa m c) ∗ own c (stB (F := F) c t 2) (Wa m c)
    ∗ own c (stB (F := F) c t 3) (B1 m c (grid0.coords t)) ∗ own c (stB (F := F) c t 4) (B2 m c (grid0.coords t))
    ∗ post5 m c t)

/-- The body as the pipeline calls it. -/
def bodyC (c : Dev nD) (t : Fin grid0.N) : Prog (TpuEff nD τ sig (Elt F) Λ₀ .tc) PUnit :=
  defs₀ (F := F) .tc (cfgC (F := F) c).body ((cfgC (F := F) c).bodyArgs t ((cfgC (F := F) c).slots t))

theorem Φ_even (c : Dev nD) (n : Fin (grid0.N + 1)) (h : n.val % 2 = 0) : (dats m 0 c).Φ n = scrAny c := by
  dsimp only [dats]; rw [dif_neg (by omega)]
theorem Φ_odd (c : Dev nD) (n : Fin (grid0.N + 1)) (e : Fin 8) (h : n.val = 2 * e.val + 1) : (dats m 0 c).Φ n = scrAt m c e := by
  dsimp only [dats]; rw [dif_pos (by omega)]; congr 1; apply Fin.ext; show n.val / 2 = e.val; omega

theorem first_point (c : Dev nD) (t : Fin grid0.N) (e : Fin 8) (ht : t.val = 2 * e.val) (hi : grid0.coords t = pt e 0) :
    bodyPre m c t ⊢ wp frame (wpE (defs₀ (F := F)) 𝒱₀ (c : Thread nD τ) none) Set.univ (bodyC (F := F) c t) fun _ => bodyPost m c t := by
  have hp5 : post5 m c t = iprop(∃ d, own c (stB (F := F) c t 5) ((dats m 0 c).before (5 : Fin 6) t d)) := by
    unfold post5
    rw [show (cfgC (F := F) c).idle (5 : Fin 6) (grid0.coords t) = true from by rw [hi]; exact idle_first e,
      flush5 c t, show decide (t.val % 2 = 1) = false from decide_eq_false (by omega)]
  have e1 : (dats m 0 c).Φ t.castSucc = scrAny c := Φ_even m c _ (by show t.val % 2 = 0; omega)
  have e2 : (dats m 0 c).Φ t.succ = scrAt m c e := Φ_odd m c _ e (by show t.val + 1 = _; omega)
  unfold bodyPre bodyPost
  rw [hp5, e1, e2]
  simp only [bef0, bef1, bef2, bef3, bef4]
  have hb := body_first c (grid0.coords t) (Memref.whole main_v11) (Memref.isWhole_whole _)
    (stB (F := F) c t 0) (hstage0_0 _) (stB (F := F) c t 1) (hstage0_1 _) (stB (F := F) c t 2) (hstage0_2 _)
    (stB (F := F) c t 3) (hstage0_3 _) (stB (F := F) c t 4) (hstage0_4 _) (stB (F := F) c t 5) (hstage0_5 _)
    (Memref.whole cc0_scratch0) (Memref.isWhole_whole _) (Memref.whole cc0_scratch1) (Memref.isWhole_whole _)
    (Memref.whole cc0_scratch2) (Memref.isWhole_whole _) (Xa m c) (Sa m c) (Wa m c) (B1 m c (grid0.coords t)) (B2 m c (grid0.coords t))
    (by rw [hi]; rfl)
  rw [show ((grid0.coords t) 0).val = e.val from by rw [hi]; rfl] at hb
  have hXg : Xg m c e.val = xgOf e.val (Xa m c) (Sa m c) := rfl
  have hWg : Wg m c e.val = wgOf e.val (Sa m c) (Wa m c) := rfl
  have hac : acc0 m c e = k0_pay3 (xgOf e.val (Xa m c) (Sa m c)) (B1 m c (grid0.coords t)) (k0_pay2 (F := F)) (B2 m c (grid0.coords t)) := by
    rw [hi]; rfl
  show _ ⊢ wp frame (wpE (defs₀ (F := F)) 𝒱₀ (c : Thread nD τ) none) Set.univ (cc0__ffn_body (F := F) (grid0.coords t) (Memref.whole main_v11) (Memref.isWhole_whole _)
    (stB (F := F) c t 0) (hstage0_0 _) (stB (F := F) c t 1) (hstage0_1 _) (stB (F := F) c t 2) (hstage0_2 _)
    (stB (F := F) c t 3) (hstage0_3 _) (stB (F := F) c t 4) (hstage0_4 _) (stB (F := F) c t 5) (hstage0_5 _)
    (Memref.whole cc0_scratch0) (Memref.isWhole_whole _) (Memref.whole cc0_scratch1) (Memref.isWhole_whole _)
    (Memref.whole cc0_scratch2) (Memref.isWhole_whole _)) _
  unfold scrAny
  iintro ⟨⟨H9, H10, H11⟩, Ho, ⟨%d0, H0⟩, ⟨%d1, H1⟩, ⟨%d2, H2⟩, ⟨%d3, H3⟩, ⟨%d4, H4⟩, H5⟩
  iapply wp_wand $$ [H0 H1 H2 H3 H4 H9 H10 H11]
  · iapply hb
    unfold ins
    isplitl [H0 H1 H2 H3 H4]
    · isplitl [H0]; · iexact H0
      isplitl [H1]; · iexact H1
      isplitl [H2]; · iexact H2
      isplitl [H3]; · iexact H3
      iexact H4
    isplitl [H9]; · iexact H9
    isplitl [H10]; · iexact H10
    iexact H11
  · iintro %_
    unfold ins scrAt
    iintro ⟨⟨H0, H1, H2, H3, H4⟩, H9, H10, H11⟩
    isplitl [H9 H10 H11]
    · isplitl [H9]; · rw [hXg]; iexact H9
      isplitl [H10]; · rw [hac]; iexact H10
      rw [hWg]; iexact H11
    isplitl [Ho]; · iexact Ho
    isplitl [H0]; · iexact H0
    isplitl [H1]; · iexact H1
    isplitl [H2]; · iexact H2
    isplitl [H3]; · iexact H3
    isplitl [H4]; · iexact H4
    iexact H5

theorem second_point (c : Dev nD) (t : Fin grid0.N) (e : Fin 8) (ht : t.val = 2 * e.val + 1) (hi : grid0.coords t = pt e 1) :
    bodyPre m c t ⊢ wp frame (wpE (defs₀ (F := F)) 𝒱₀ (c : Thread nD τ) none) Set.univ (bodyC (F := F) c t) fun _ => bodyPost m c t := by
  have hp5 : post5 m c t = own c (stB (F := F) c t 5) (outB m c e) := by
    unfold post5
    rw [show (cfgC (F := F) c).idle (5 : Fin 6) (grid0.coords t) = false from by rw [hi]; exact idle_second e]
    show own c (stB (F := F) c t 5) (outB m c ⟨t.val / 2, half_lt' t.isLt⟩) = _
    rw [show (⟨t.val / 2, half_lt' t.isLt⟩ : Fin 8) = e from Fin.ext (by show t.val / 2 = e.val; omega)]
  have e1 : (dats m 0 c).Φ t.castSucc = scrAt m c e := Φ_odd m c _ e (by show t.val = _; omega)
  have e2 : (dats m 0 c).Φ t.succ = scrAny c := Φ_even m c _ (by show (t.val + 1) % 2 = 0; omega)
  unfold bodyPre bodyPost
  rw [hp5, e1, e2]
  simp only [bef0, bef1, bef2, bef3, bef4]
  have hb := body_second c (grid0.coords t) (Memref.whole main_v11) (Memref.isWhole_whole _)
    (stB (F := F) c t 0) (hstage0_0 _) (stB (F := F) c t 1) (hstage0_1 _) (stB (F := F) c t 2) (hstage0_2 _)
    (stB (F := F) c t 3) (hstage0_3 _) (stB (F := F) c t 4) (hstage0_4 _) (stB (F := F) c t 5) (hstage0_5 _)
    (Memref.whole cc0_scratch0) (Memref.isWhole_whole _) (Memref.whole cc0_scratch1) (Memref.isWhole_whole _)
    (Memref.whole cc0_scratch2) (Memref.isWhole_whole _) (Xa m c) (Sa m c) (Wa m c) (B1 m c (grid0.coords t)) (B2 m c (grid0.coords t))
    (by rw [hi]; rfl) (Xg m c e.val) (acc0 m c e) (Wg m c e.val)
  have hout : k0_pay4 (k0_pay3 (Xg m c e.val) (B1 m c (grid0.coords t)) (acc0 m c e) (B2 m c (grid0.coords t))) (Wg m c e.val) = outB m c e := by
    rw [hi]; rfl
  rw [hout] at hb
  show _ ⊢ wp frame (wpE (defs₀ (F := F)) 𝒱₀ (c : Thread nD τ) none) Set.univ (cc0__ffn_body (F := F) (grid0.coords t) (Memref.whole main_v11) (Memref.isWhole_whole _)
    (stB (F := F) c t 0) (hstage0_0 _) (stB (F := F) c t 1) (hstage0_1 _) (stB (F := F) c t 2) (hstage0_2 _)
    (stB (F := F) c t 3) (hstage0_3 _) (stB (F := F) c t 4) (hstage0_4 _) (stB (F := F) c t 5) (hstage0_5 _)
    (Memref.whole cc0_scratch0) (Memref.isWhole_whole _) (Memref.whole cc0_scratch1) (Memref.isWhole_whole _)
    (Memref.whole cc0_scratch2) (Memref.isWhole_whole _)) _
  unfold scrAt
  iintro ⟨⟨H9, H10, H11⟩, Ho, ⟨%d0, H0⟩, ⟨%d1, H1⟩, ⟨%d2, H2⟩, ⟨%d3, H3⟩, ⟨%d4, H4⟩, ⟨%d5, H5⟩⟩
  iapply wp_wand $$ [H0 H1 H2 H3 H4 H5 H9 H10 H11]
  · iapply hb
    unfold ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H9]; · iexact H9
    isplitl [H10]; · iexact H10
    iexact H11
  · iintro %_
    unfold ins scrAny
    iintro ⟨⟨H0, H1, H2, H3, H4⟩, H5, H9, H10, H11⟩
    isplitl [H9 H10 H11]
    · isplitl [H9]; · iexists _; iexact H9
      isplitl [H10]; · iexists _; iexact H10
      iexists _; iexact H11
    isplitl [Ho]; · iexact Ho
    isplitl [H0]; · iexact H0
    isplitl [H1]; · iexact H1
    isplitl [H2]; · iexact H2
    isplitl [H3]; · iexact H3
    isplitl [H4]; · iexact H4
    iexact H5

/-- The body's triple at every point. -/
theorem body_obligation (c : Dev nD) : BodyObligationLoose (dats m 0 c) (defs₀ (F := F)) 𝒱₀ () Set.univ := fun t => by
  rw [bigSep_W0, bigSep_W0]
  show bodyPre m c t ⊢ wp frame (wpE (defs₀ (F := F)) 𝒱₀ (c : Thread nD τ) none) Set.univ (bodyC (F := F) c t) fun _ => bodyPost m c t
  obtain ⟨e, f, ht, hi⟩ := coords_eq t
  match f, ht, hi with
  | 0, ht, hi => exact first_point m c t e ht hi
  | 1, ht, hi => exact second_point m c t e ht hi

end Data

end Cert.ExpertIdeal.Fx

end
-- ==== Proof.XRun.lean ====
/-
# The expert kernel's run

The host writes each device's table, the pipeline runs at it, and the result's array is put together from the blocks the
body leaves at each expert's second half. The devices' tables differ; the library's launch theorem takes one per device.
-/
module

public import proofs.«01_k».proof.Proof.XData
public import Idealize.ShloMosaic.Lib.StableHlo.Run
public import Idealize.ShloMosaic.Lib.Pipeline.Value
public import Idealize.ShloMosaic.Lib.Pointwise

@[expose] public section

noncomputable section

namespace Cert.ExpertIdeal.Fx

open Cert.ExpertIdeal Cert.ExpertIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ UU ℕ

/-- The pipeline's own protocol among the ghosts. -/
abbrev EP : Emb (UR sig nD τ) (MT nD τ sig Unit (Elt F) ℕ UU ℕ) := emb₁

/-- The staging semaphores of all devices are distinct cells. -/
theorem cellInj : Function.Injective (Pipeline.PerCore.cellOf (nD := nD) (τ := τ) (Pipeline.pinD (pcfgs (F := F)) adm)) :=
  Pipeline.PerCore.cellOf_injective (Pipeline.pinD (pcfgs (F := F)) adm) (fun c p => Pipeline.specSemsDistinct_of_nodup _ (show (semTab 0).Nodup from semsDistinct 0))
    (fun c p p' h => absurd (Subsingleton.elim p p') h)

variable (m : (ℓ : Loc nD τ sig) → Buf (Elt F) ℓ) (ρ : Dev nD → PrngReg)

-- a rule stated for any thread is met at the TensorCore's own thread
set_option backward.isDefEq.respectTransparency.types false in
/-- The host's operations run, and the pipeline is entered with what they leave. -/
theorem main_run (c : Dev nD) (Q : PUnit → sProp 𝕄) :
    iprop((iprop(boundary (c : Thread nD τ) ∗ unscopedBufs c (fun b => V1 m c b))
            -∗ wp frame (wpE (defs (F := F)) (Variants.lift 𝒱₀) (c : Thread nD τ) none) Set.univ
                (.op (.customCall (Pipeline.entry (0 : Fin 1)) ()) fun _ => .ret ⟨⟩) Q)
        ∗ boundary (c : Thread nD τ) ∗ unscopedBufs c (fun b => m ((c : Thread nD τ).loc b)))
      ⊢ wp frame (wpE defs (Variants.lift 𝒱₀) (c : Thread nD τ) none) Set.univ (main c) Q := by
  rw [main_chain c, show unscopedBufs c (fun b => V1 m c b) = StableHlo.held (c : Thread nD τ) (Pipeline.ucRefs τ sig) (V1 m c)
      from Pipeline.unscopedBufs_held c (V1 m c),
    show unscopedBufs c (fun b => m ((c : Thread nD τ).loc b)) = StableHlo.held (c : Thread nD τ) (Pipeline.ucRefs τ sig) (V0 m c)
      from Pipeline.unscopedBufs_held c (V0 m c), Pipeline.chain_cons]
  iintro ⟨Hk, Hb⟩
  iapply (StableHlo.wp_seq (𝒱 := Variants.lift 𝒱₀) (bd := none) (E := Set.univ) c (Pipeline.ucRefs τ sig) _ (hostOps0 c)
    (fun op h => Pipeline.sub_ucRefs op ((List.forall_iff_forall_mem.mp (hostOps0_sub c)) op h))
    (fun op h => (List.forall_iff_forall_mem.mp (hostOps0_fresh c)) op h) (V0 m c)) $$ Hb
  iintro Hb
  iapply Hk; iexact Hb

/-- The word the host computes for device `c`. -/
theorem fp_word : ∀ c : Dev nD, IntOp.addi (IntOp.muli (IntOp.remui .host (IntOp.divui .host (Dev.word c) 4#32) 2#32) 2#32) (IntOp.remui .host (IntOp.divui .host (Dev.word c) 1#32) 2#32) = BitVec.ofNat 32 (fpOf c) := by
  decide +kernel

/-- The table the host leaves is the one the pipeline runs at. -/
theorem V1_tab (c : Dev nD) (k : Fin 1) : V1 m c (pre0.ref k) = (adm (F := F) c 0).1 k := by
  match k with
  | 0 =>
    funext x
    exact fp_word c

omit [FloatOps F] in
theorem own_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem own_of (c : Dev nD) (b : Ref sig .tc) :
    iprop(∃ f : Buf (Elt F) (((c : Dev nD) : Thread nD τ).loc b), (((c : Thread nD τ).loc b) ↦{fullShare} f : sProp 𝕄))
      ⊢ iprop(∃ X, owns (Ix := Unit) (Name := ℕ) (U := UU) (Lvl := ℕ) (c : Thread nD τ) (Memref.whole b) fullShare X) := by
  simp only [own_whole]
  iintro ⟨%f, H⟩
  iexists f; iexists f
  isplitr; · (ipureintro; rfl)
  iexact H

omit [FloatOps F] in
theorem of_own (c : Dev nD) (b : Ref sig .tc) :
    iprop(∃ X, owns (Ix := Unit) (Name := ℕ) (U := UU) (Lvl := ℕ) (c : Thread nD τ) (Memref.whole b) fullShare X)
      ⊢ iprop(∃ f : Buf (Elt F) (((c : Dev nD) : Thread nD τ).loc b), (((c : Thread nD τ).loc b) ↦{fullShare} f : sProp 𝕄)) := by
  simp only [own_whole]
  iintro ⟨%X, %f, -, H⟩
  iexists f; iexact H

/-- The scratch buffers at the pipeline's start and end. -/
theorem scr_in (c : Dev nD) : (Pipeline.scopedRest (Ix := Unit) (Name := ℕ) (U := UU) (Lvl := ℕ) (Val := Elt F) spec0 c : sProp 𝕄) ⊢ scrAny c := by
  rw [scopedRest0_eq]
  unfold scrAny
  exact BIClass.sep_mono (own_of c cc0_scratch0) (BIClass.sep_mono (own_of c cc0_scratch1) (own_of c cc0_scratch2))
theorem scr_out (c : Dev nD) : scrAny (F := F) c ⊢ (Pipeline.scopedRest (Ix := Unit) (Name := ℕ) (U := UU) (Lvl := ℕ) (Val := Elt F) spec0 c : sProp 𝕄) := by
  rw [scopedRest0_eq]
  unfold scrAny
  exact BIClass.sep_mono (of_own c cc0_scratch0) (BIClass.sep_mono (of_own c cc0_scratch1) (of_own c cc0_scratch2))

theorem split_arr (c : Dev nD) :
    (Pipeline.arrBufs (Ix := Unit) (Name := ℕ) (U := UU) (Lvl := ℕ) spec0 c (fun b => V1 m c b) : sProp 𝕄) ⊢ (dats m 0 c).arrays ((dats m 0 c).arrAt · 0) :=
  Pipeline.PerCore.arrays_split (Pipeline.pinD (pcfgs (F := F)) adm) (dats m) (0 : Fin 1) c (launch0 (F := F)).win.arr_inj
    (launch0 (F := F)).arr_whole ((dats m 0 c).share_full fun _ => rfl) (fun b => V1 m c b) _ fun _ => rfl

theorem rest_split (c : Dev nD) :
    (Pipeline.unscopedRestP (Ix := Unit) (Name := ℕ) (U := UU) (Lvl := ℕ) pre0 spec0 c (fun b => V1 m c b) : sProp 𝕄) ⊢ iprop(BI.emp ∗ BI.emp) := by
  iintro -
  isplitr
  · iempintro
  iempintro

theorem phi_in (c : Dev nD) :
    iprop(BI.emp ∗ Pipeline.prefHeld pre0 c (fun _ => fullShare.right) (adm (F := F) c 0).1
      ∗ (Pipeline.scopedRest (Ix := Unit) (Name := ℕ) (U := UU) (Lvl := ℕ) (Val := Elt F) spec0 c : sProp 𝕄)) ⊢ (dats m 0 c).Φ 0 := by
  refine BIBase.Entails.trans ?_ (BIBase.Entails.trans (scr_in c) (Entails.of_eq (Φ_even m c 0 rfl).symm))
  iintro ⟨-, -, H⟩; iexact H

theorem phi_out (c : Dev nD) :
    (dats m 0 c).Φ (Fin.last grid0.N) ⊢ iprop(BI.emp ∗ (Pipeline.scopedRest (Ix := Unit) (Name := ℕ) (U := UU) (Lvl := ℕ) (Val := Elt F) spec0 c : sProp 𝕄)) := by
  refine (Entails.of_eq (Φ_even m c (Fin.last grid0.N) (by decide))).trans ((scr_out c).trans ?_)
  iintro H; isplitr; · iempintro
  iexact H

theorem read_out (s' : Phys nD τ sig (Elt F)) :
    iprop(BI.emp ∗ BI.emp ∗ (SI s' : sProp 𝕄)) ⊢ |={Set.univ}=> iprop(⌜True⌝ ∗ SI s') := by
  iintro ⟨-, -, H⟩; imodintro
  isplitr; · (ipureintro; trivial)
  iexact H

set_option backward.isDefEq.respectTransparency.types false in
/-- Every weakly fair execution ends, every array of the kernel at what the pipeline leaves in it, every counter at zero. -/
theorem run_arr : θ_run defs (onTc (τ := τ) (main (F := F))) ⟨m, fun _ => 0, ρ⟩ (fun r =>
    (∀ c : Dev nD, ∀ w : Fin 6, r.2.mem ((spec0 w).arr.view.loc (c : Thread nD τ)) = (dats m 0 c).arrAt w grid0.N) ∧ r.2.sem = fun _ => 0) :=
by
  refine Pipeline.PerCore.θ_run_region_noSem_pf_quiescent (P := Fin 1) pcfgs adm (dats m) () cellInj (0 : Fin 1) ?_ ?_
    EP defs₀ 𝒱₀ m ρ main ?_ ?_ ?_ ?_ ?_
    (initOf (Pipeline.PerCore.cells (Pipeline.pinD (pcfgs (F := F)) adm) cellInj) (Pipeline.PerCore.launchToks (Pipeline.pinD (pcfgs (F := F)) adm) cellInj)) ?_
    (fun c b => V1 m c b) ?_ ?_ ?_ (fun _ => BI.emp) (fun _ => BI.emp) (fun _ => BI.emp) ?_ ?_ ?_ (fun _ _ => True) ?_ ?_
  · exact (launch0 (F := F)).win.to₀
  · exact (launch0 (F := F)).pre
  · exact body_obligation m
  · exact (launch0 (F := F)).block_pos
  · exact (launch0 (F := F)).arr_whole
  · exact (launch0 (F := F)).stage_whole
  · exact fun _ _ => rfl
  · exact Entails.of_eq (ownU_emb₁ _)
  · exact main_run m
  · exact split_arr m
  · exact V1_tab m
  · exact rest_split m
  · exact phi_in m
  · exact phi_out m
  · exact fun _ s' => read_out s'
  · exact fun s h hz => ⟨fun c w => (h c).1 w, hz⟩

/-! ## What the arrays hold at the end -/

theorem end0 (c : Dev nD) : (dats m 0 c).arrAt (0 : Fin 6) grid0.N = m ((c : Thread nD τ).loc main_arg0) := by
  rw [(dats m 0 c).arrAt_in (0 : Fin 6) rfl]; exact V1_of m c main_arg0 (by decide)
theorem end1 (c : Dev nD) : (dats m 0 c).arrAt (1 : Fin 6) grid0.N = m ((c : Thread nD τ).loc main_arg1) := by
  rw [(dats m 0 c).arrAt_in (1 : Fin 6) rfl]; exact V1_of m c main_arg1 (by decide)
theorem end2 (c : Dev nD) : (dats m 0 c).arrAt (2 : Fin 6) grid0.N = m ((c : Thread nD τ).loc main_arg2) := by
  rw [(dats m 0 c).arrAt_in (2 : Fin 6) rfl]; exact V1_of m c main_arg2 (by decide)
theorem end3 (c : Dev nD) : (dats m 0 c).arrAt (3 : Fin 6) grid0.N = m ((c : Thread nD τ).loc main_arg3) := by
  rw [(dats m 0 c).arrAt_in (3 : Fin 6) rfl]; exact V1_of m c main_arg3 (by decide)
theorem end4 (c : Dev nD) : (dats m 0 c).arrAt (4 : Fin 6) grid0.N = m ((c : Thread nD τ).loc main_arg4) := by
  rw [(dats m 0 c).arrAt_in (4 : Fin 6) rfl]; exact V1_of m c main_arg4 (by decide)

/-- The result on device `c`: each expert's block. -/
def outA (c : Dev nD) : Vec F S8x320x1024 .bf16 := fun i => outB m c (i 0) (ix3 (0 : Fin 1) (i 1) (i 2))

theorem tr5_eq : ∀ t : Fin grid0.N, t.val % 2 = 1 → cc0_transform_5 (grid0.coords t) = ![t.val / 2, 0, 0] := by
  decide +kernel

theorem emb5 (t : Fin grid0.N) (ht : t.val % 2 = 1) (y : S1x320x1024.Idx) :
    (Rect.block (s := S8x320x1024) S1x320x1024.size (cc0_transform_5 (grid0.coords t)) (hinb0_5 (grid0.coords t))).emb y
      = ix3 (⟨t.val / 2, half_lt' t.isLt⟩ : Fin 8) (y 1) (y 2) := by
  have hx := tr5_eq t ht
  funext a
  apply Fin.ext
  rw [Rect.emb_apply]
  match a with
  | ⟨0, _⟩ =>
    show cc0_transform_5 (grid0.coords t) 0 * 1 + 1 * (y 0).val = _
    rw [hx]; have : (y 0).val < 1 := (y 0).isLt
    show t.val / 2 * 1 + 1 * (y 0).val = t.val / 2; omega
  | ⟨1, _⟩ =>
    show cc0_transform_5 (grid0.coords t) 1 * 320 + 1 * (y 1).val = _
    rw [hx]; show 0 * 320 + 1 * (y 1).val = (y 1).val; omega
  | ⟨2, _⟩ =>
    show cc0_transform_5 (grid0.coords t) 2 * 1024 + 1 * (y 2).val = _
    rw [hx]; show 0 * 1024 + 1 * (y 2).val = (y 2).val; omega

theorem end5 (c : Dev nD) : (dats m 0 c).arrAt (5 : Fin 6) grid0.N = outA m c := by
  refine (dats m 0 c).arrAt_eq_of_cover (5 : Fin 6) (outA m c) (fun t hf => ?_) (fun i => ?_)
  · have ht : t.val % 2 = 1 := of_decide_eq_true ((flush5 c t).symm.trans hf)
    funext y
    show outB m c ⟨t.val / 2, half_lt' t.isLt⟩ y = outA m c ((Rect.block (s := S8x320x1024) S1x320x1024.size (cc0_transform_5 (grid0.coords t)) (hinb0_5 (grid0.coords t))).emb y)
    rw [emb5 t ht y]
    show _ = outB m c ⟨t.val / 2, half_lt' t.isLt⟩ (ix3 (0 : Fin 1) (y 1) (y 2))
    congr 1
    funext a
    match a with
    | ⟨0, _⟩ => exact Subsingleton.elim (α := Fin 1) _ _
    | ⟨1, _⟩ => rfl
    | ⟨2, _⟩ => rfl
  · have hi0 : (i 0).val < 8 := (i 0).isLt
    have hN := N_0
    have hlt : 2 * (i 0).val + 1 < grid0.N := by omega
    have ho : (2 * (i 0).val + 1) % 2 = 1 := by omega
    refine ⟨⟨2 * (i 0).val + 1, hlt⟩, (flush5 c ⟨2 * (i 0).val + 1, hlt⟩).trans (decide_eq_true ho), ?_⟩
    refine Finset.mem_map.mpr ⟨(ix3 (0 : Fin 1) (i 1) (i 2) : S1x320x1024.Idx), Finset.mem_univ _, ?_⟩
    refine (emb5 ⟨2 * (i 0).val + 1, hlt⟩ ho (ix3 (0 : Fin 1) (i 1) (i 2))).trans ?_
    funext a
    match a with
    | ⟨0, _⟩ => exact Fin.ext (by show (2 * (i 0).val + 1) / 2 = (i 0).val; omega)
    | ⟨1, _⟩ => rfl
    | ⟨2, _⟩ => rfl

end Cert.ExpertIdeal.Fx

end
-- ==== Proof.XTop.lean ====
/-
# One device's share of an expert's result

What a row of an expert receives from one quarter of the hidden units, on plain functions.
-/
module

public import Idealize.ShloMosaic.PureOps.Ideal.Laws

@[expose] public section
noncomputable section
namespace Cert.Share

open Idealize.ShloMosaic

/-- The value of a token that lies in slot `p`, else nothing. -/
def pick (s p : BitVec 32) (v : EReal) : EReal := if s = p then v else 0

theorem pick_eq (s p : BitVec 32) (v : EReal) : Scalar.select (IntOp.cmpi .eq s p) v (0 : EReal) = pick s p v := by
  unfold pick
  by_cases h : s = p
  · simp [h, IntOp.cmpi, Scalar.select]
  · have : (s == p) = false := by simpa using h
    simp [h, this, IntOp.cmpi, Scalar.select]

theorem pick_eq' (s p : BitVec 32) (v : EReal) : Scalar.select (IntOp.cmpi .eq p s) v (0 : EReal) = pick s p v := by
  rw [← pick_eq]
  by_cases h : s = p
  · rw [h]
  · have h1 : (s == p) = false := by simpa using h
    have h2 : (p == s) = false := by simpa using fun e => h e.symm
    simp [h1, h2, IntOp.cmpi, Scalar.select]

/-- A comparison's outcome as a number. -/
theorem count_eq (a b : BitVec 32) :
    (FloatOps.sitofp (F := Ideal) .f32 (BitVec.setWidth 32 (IntOp.cmpi CmpIPredicate.eq a b)) : EReal) = if a = b then 1 else 0 := by
  show (((BitVec.setWidth 32 (IntOp.cmpi CmpIPredicate.eq a b)).toInt : ℝ) : EReal) = _
  by_cases h : a = b
  · subst h
    simp [IntOp.cmpi]
  · have : (a == b) = false := by simpa using h
    simp [IntOp.cmpi, h, this]

/-- What a slot gathers: the values of the tokens whose first choice it is, and of those whose second. -/
def gather (s t : Fin 2048 → BitVec 32) (p : BitVec 32) (u v : Fin 2048 → EReal) : EReal := (∑ n, pick (s n) p (u n)) + ∑ n, pick (t n) p (v n)

/-- The share of the hidden units `j` in the result at slot `p`, scaled by the slot's weight. -/
def share (s t : Fin 2048 → BitVec 32) (p : BitVec 32) (x : Fin 2048 → Fin 1024 → EReal) (u v : Fin 2048 → EReal)
    (W1 : Fin 1024 → Fin 1024 → EReal) (W2 : Fin 1024 → EReal) : EReal :=
  (∑ j, max (∑ k, gather s t p (fun n => x n k) (fun n => x n k) * W1 k j) 0 * W2 j) * gather s t p u v

/-- Shares of equal data are equal. -/
theorem share_congr {s s' t t' : Fin 2048 → BitVec 32} {p p' : BitVec 32} {x x' : Fin 2048 → Fin 1024 → EReal} {u u' v v' : Fin 2048 → EReal}
    {W1 W1' : Fin 1024 → Fin 1024 → EReal} {W2 W2' : Fin 1024 → EReal} (hs : ∀ n, s n = s' n) (ht : ∀ n, t n = t' n) (hp : p = p')
    (hx : ∀ n k, x n k = x' n k) (hu : ∀ n, u n = u' n) (hv : ∀ n, v n = v' n) (h1 : ∀ k j, W1 k j = W1' k j) (h2 : ∀ j, W2 j = W2' j) :
    share s t p x u v W1 W2 = share s' t' p' x' u' v' W1' W2' := by
  obtain rfl : s = s' := funext hs
  obtain rfl : t = t' := funext ht
  obtain rfl : p = p' := hp
  obtain rfl : x = x' := funext fun n => funext (hx n)
  obtain rfl : u = u' := funext hu
  obtain rfl : v = v' := funext hv
  obtain rfl : W1 = W1' := funext fun k => funext (h1 k)
  obtain rfl : W2 = W2' := funext h2
  rfl

/-- A sum over the units of a quarter, by halves. -/
theorem sum_halves (f : Fin 1024 → EReal) :
    ∑ j, f j = (∑ j : Fin 512, f ⟨j.val, by omega⟩) + ∑ j : Fin 512, f ⟨512 + j.val, by omega⟩ :=
  Fin.sum_univ_add (a := 512) (b := 512) f

/-- Counting how often a token lies in slot `p` gathers it once for each choice. -/
theorem gather_counts (s t : Fin 2048 → BitVec 32) (p : BitVec 32) (u : Fin 2048 → EReal) :
    ∑ n, ((if p = s n then (1 : EReal) else 0) + (if p = t n then (1 : EReal) else 0)) * u n = gather s t p u u := by
  unfold gather
  rw [← Finset.sum_add_distrib]
  refine Finset.sum_congr rfl fun n _ => ?_
  rw [EReal.right_distrib_of_nonneg (by split <;> simp) (by split <;> simp)]
  unfold pick
  simp only [eq_comm (a := p), ite_mul, one_mul, zero_mul]

end Cert.Share
-- ==== Proof.XVal.lean ====
/-
# The expert kernel's values

The gathered tokens and weights of an expert, and its share of the hidden layer, as sums over the tokens and the hidden units.
-/
module

public import proofs.«01_k».proof.Proof.XRun
public import proofs.«01_k».proof.Proof.XTop
public import Idealize.ShloMosaic.Lib.Pointwise
public import Idealize.ShloMosaic.PureOps.Ideal.Laws

@[expose] public section
noncomputable section
namespace Cert.ExpertIdeal.Fx

open Cert.ExpertIdeal Cert.ExpertIdeal.Gen Idealize.ShloMosaic Idealize.ShloMosaic.TcCoe Idealize.SL.Sem Cert.Share

/-- The slot of an expert's row. -/
def slotOf (e r : ℕ) : BitVec 32 := BitVec.ofNat 32 (e * 320 + r)

theorem slot_eq (e r : ℕ) : IntOp.addi (BitVec.ofNat 32 r) (Scalar.muli (BitVec.ofNat 32 e) 320#32) = slotOf e r := by
  show BitVec.ofNat 32 r + BitVec.ofNat 32 e * BitVec.ofNat 32 320 = _
  rw [← BitVec.ofNat_mul, ← BitVec.ofNat_add, Nat.add_comm]; rfl

theorem pay6_eq (e : ℕ) (s : IVec S1x2048 32) (r : Fin 320) (n : Fin 2048) :
    k0_pay6 (F := Ideal) (BitVec.ofNat 32 e) s (ix2 r n) = IntOp.cmpi .eq (slotOf e r.val) (s (ix2 0 n)) := by
  rw [← slot_eq]
  pointwise [k0_pay6, k0_pay5]
theorem pay7_eq (e : ℕ) (s : IVec S1x2048 32) (r : Fin 320) (n : Fin 2048) :
    k0_pay7 (F := Ideal) (BitVec.ofNat 32 e) s (ix2 r n) = IntOp.cmpi .eq (slotOf e r.val) (s (ix2 0 n)) := by
  rw [← slot_eq]
  pointwise [k0_pay7, k0_pay5]
theorem pay8_eq (e : ℕ) (s t : IVec S1x2048 32) (x : FVec Ideal S2048x1024 .bf16) (r : Fin 320) (k : Fin 1024) :
    (k0_pay8 (F := Ideal) (BitVec.ofNat 32 e) s t x (ix2 r k) : EReal)
      = gather (fun n => s (ix2 0 n)) (fun n => t (ix2 0 n)) (slotOf e r.val) (fun n => x (ix2 n k)) (fun n => x (ix2 n k)) := by
  rw [← gather_counts]
  pointwise [k0_pay8]
  simp only [pay6_eq, pay7_eq, count_eq]
theorem pay9_eq (e : ℕ) (s t : IVec S1x2048 32) (u v : FVec Ideal S1x2048 .f32) (r : Fin 320) (n : Fin 2048) :
    (k0_pay9 (F := Ideal) (BitVec.ofNat 32 e) s t u v (ix2 r n) : EReal)
      = pick (s (ix2 0 n)) (slotOf e r.val) (u (ix2 0 n)) + pick (t (ix2 0 n)) (slotOf e r.val) (v (ix2 0 n)) := by
  pointwise [k0_pay9]
  simp only [pay6_eq, pay7_eq, pick_eq']
theorem pay1_eq (v : FVec Ideal S320x2048 .f32) (r : Fin 320) :
    (k0_pay1 (F := Ideal) v (ix2 0 r) : EReal) = ∑ n : Fin 2048, (v (ix2 r n) : EReal) := by
  pointwise [k0_pay1]
theorem pay3_eq (g : FVec Ideal S320x1024 .bf16) (w : FVec Ideal S1x1024x512 .f32) (a : FVec Ideal S320x1024 .f32) (v : FVec Ideal S1x512x1024 .f32) (r : Fin 320) (d : Fin 1024) :
    (k0_pay3 (F := Ideal) g w a v (ix2 r d) : EReal) = a (ix2 r d) + ∑ j : Fin 512, max (∑ k : Fin 1024, (g (ix2 r k) : EReal) * w (ix3 0 k j)) 0 * v (ix3 0 j d) := by
  pointwise [k0_pay3]
theorem pay4_eq (a : FVec Ideal S320x1024 .f32) (w : FVec Ideal S1x320 .f32) (r : Fin 320) (d : Fin 1024) :
    (k0_pay4 (F := Ideal) a w (ix3 0 r d) : EReal) = a (ix2 r d) * w (ix2 0 r) := by
  pointwise [k0_pay4]
theorem pay2_eq (r : Fin 320) (d : Fin 1024) : (k0_pay2 (F := Ideal) (ix2 r d) : EReal) = 0 := by
  pointwise [k0_pay2]

section
variable (m : (ℓ : Loc nD τ sig) → Buf (Elt Ideal) ℓ) (c : Dev nD)

/-- The rows of a two-row array. -/
theorem row0_eq {e : EltTy} (X : Vec Ideal S2x2048 e) (n : Fin 2048) : row0 X (ix2 0 n) = X (ix2 0 n) := by
  unfold row0
  refine congrArg X (funext fun a => Fin.ext ?_)
  rw [Rect.emb_apply]
  match a with
  | ⟨0, _⟩ => rfl
  | ⟨1, _⟩ => show 0 + 1 * n.val = n.val; omega
theorem row1_eq {e : EltTy} (X : Vec Ideal S2x2048 e) (n : Fin 2048) : row1 X (ix2 0 n) = X (ix2 1 n) := by
  unfold row1
  refine congrArg X (funext fun a => Fin.ext ?_)
  rw [Rect.emb_apply]
  match a with
  | ⟨0, _⟩ => rfl
  | ⟨1, _⟩ => show 0 + 1 * n.val = n.val; omega

/-- Unit `j` of half `f` of a device's quarter. -/
theorem unit_lt (f : Fin 2) (j : Fin 512) : (fpOf c * 2 + f.val) * 512 + j.val < 4096 := by
  have := fpOf_lt c; omega

theorem B1_eq (e : Fin 8) (f : Fin 2) (k : Fin 1024) (j : Fin 512) :
    B1 m c (pt e f) (ix3 0 k j) = m ((c : Thread nD τ).loc main_arg3) (ix3 e k (⟨(fpOf c * 2 + f.val) * 512 + j.val, unit_lt c f j⟩ : Fin 4096)) := by
  unfold B1
  rw [show V1 m c main_arg3 = m ((c : Thread nD τ).loc main_arg3) from V1_of m c main_arg3 (by decide)]
  refine congrArg (m ((c : Thread nD τ).loc main_arg3)) (funext fun a => Fin.ext ?_)
  rw [Rect.emb_apply]
  show cc0_transform_3 (F := Ideal) inb_S1_S1_0 numel1_S1 (pfc c) (pt e f) a * S1x1024x512.size a + 1 * _ = _
  rw [congrFun (tr3_eq c (pt e f)) a]
  match a with
  | ⟨0, _⟩ => show e.val * 1 + 1 * 0 = e.val; omega
  | ⟨1, _⟩ => show 0 * 1024 + 1 * k.val = k.val; omega
  | ⟨2, _⟩ => show (fpOf c * 2 + f.val) * 512 + 1 * j.val = (fpOf c * 2 + f.val) * 512 + j.val; omega
theorem B2_eq (e : Fin 8) (f : Fin 2) (j : Fin 512) (d : Fin 1024) :
    B2 m c (pt e f) (ix3 0 j d) = m ((c : Thread nD τ).loc main_arg4) (ix3 e (⟨(fpOf c * 2 + f.val) * 512 + j.val, unit_lt c f j⟩ : Fin 4096) d) := by
  unfold B2
  rw [show V1 m c main_arg4 = m ((c : Thread nD τ).loc main_arg4) from V1_of m c main_arg4 (by decide)]
  refine congrArg (m ((c : Thread nD τ).loc main_arg4)) (funext fun a => Fin.ext ?_)
  rw [Rect.emb_apply]
  show cc0_transform_4 (F := Ideal) inb_S1_S1_0 numel1_S1 (pfc c) (pt e f) a * S1x512x1024.size a + 1 * _ = _
  rw [congrFun (tr4_eq c (pt e f)) a]
  match a with
  | ⟨0, _⟩ => show e.val * 1 + 1 * 0 = e.val; omega
  | ⟨1, _⟩ => show (fpOf c * 2 + f.val) * 512 + 1 * j.val = (fpOf c * 2 + f.val) * 512 + j.val; omega
  | ⟨2, _⟩ => show 0 * 1024 + 1 * d.val = d.val; omega

theorem Xg_eq (e : ℕ) (r : Fin 320) (k : Fin 1024) : (Xg m c e (ix2 r k) : EReal)
    = gather (fun n => m ((c : Thread nD τ).loc main_arg1) (ix2 0 n)) (fun n => m ((c : Thread nD τ).loc main_arg1) (ix2 1 n)) (slotOf e r.val)
        (fun n => m ((c : Thread nD τ).loc main_arg0) (ix2 n k)) (fun n => m ((c : Thread nD τ).loc main_arg0) (ix2 n k)) := by
  unfold Xg xgOf
  rw [pay8_eq, show Xa m c = m ((c : Thread nD τ).loc main_arg0) from V1_of m c main_arg0 (by decide),
    show Sa m c = m ((c : Thread nD τ).loc main_arg1) from V1_of m c main_arg1 (by decide)]
  simp only [row0_eq, row1_eq]
theorem Wg_eq (e : ℕ) (r : Fin 320) : (Wg m c e (ix2 0 r) : EReal)
    = gather (fun n => m ((c : Thread nD τ).loc main_arg1) (ix2 0 n)) (fun n => m ((c : Thread nD τ).loc main_arg1) (ix2 1 n)) (slotOf e r.val)
        (fun n => m ((c : Thread nD τ).loc main_arg2) (ix2 0 n)) (fun n => m ((c : Thread nD τ).loc main_arg2) (ix2 1 n)) := by
  unfold Wg wgOf gather
  rw [pay1_eq, show Wa m c = m ((c : Thread nD τ).loc main_arg2) from V1_of m c main_arg2 (by decide),
    show Sa m c = m ((c : Thread nD τ).loc main_arg1) from V1_of m c main_arg1 (by decide)]
  simp only [pay9_eq, row0_eq, row1_eq, Finset.sum_add_distrib]

/-- The result of a device, at row `r` of its expert `e`. -/
theorem out_eq (e : Fin 8) (r : Fin 320) (d : Fin 1024) : (outA m c (ix3 e r d) : EReal)
    = share (fun n => m ((c : Thread nD τ).loc main_arg1) (ix2 0 n)) (fun n => m ((c : Thread nD τ).loc main_arg1) (ix2 1 n)) (slotOf e.val r.val)
        (fun n k => m ((c : Thread nD τ).loc main_arg0) (ix2 n k))
        (fun n => m ((c : Thread nD τ).loc main_arg2) (ix2 0 n)) (fun n => m ((c : Thread nD τ).loc main_arg2) (ix2 1 n))
        (fun k j => m ((c : Thread nD τ).loc main_arg3) (ix3 e k (⟨fpOf c * 1024 + j.val, by have := fpOf_lt c; omega⟩ : Fin 4096)))
        (fun j => m ((c : Thread nD τ).loc main_arg4) (ix3 e (⟨fpOf c * 1024 + j.val, by have := fpOf_lt c; omega⟩ : Fin 4096) d)) := by
  show (k0_pay4 (acc1 m c e) (Wg m c e.val) (ix3 0 r d) : EReal) = _
  unfold share
  rw [pay4_eq, Wg_eq, sum_halves]
  unfold acc1
  rw [pay3_eq]
  unfold acc0
  rw [pay3_eq, pay2_eq, zero_add]
  simp only [Xg_eq, B1_eq, B2_eq]
  have u0 : ∀ j : Fin 512, (⟨(fpOf c * 2 + (0 : Fin 2).val) * 512 + j.val, unit_lt c 0 j⟩ : Fin 4096) = ⟨fpOf c * 1024 + j.val, by have := fpOf_lt c; omega⟩ :=
    fun j => Fin.ext (by show (fpOf c * 2 + 0) * 512 + j.val = fpOf c * 1024 + j.val; omega)
  have u1 : ∀ j : Fin 512, (⟨(fpOf c * 2 + (1 : Fin 2).val) * 512 + j.val, unit_lt c 1 j⟩ : Fin 4096) = ⟨fpOf c * 1024 + (512 + j.val), by have := fpOf_lt c; omega⟩ :=
    fun j => Fin.ext (by show (fpOf c * 2 + 1) * 512 + j.val = fpOf c * 1024 + (512 + j.val); omega)
  simp only [u0, u1]
end
end Cert.ExpertIdeal.Fx
-- ==== Proof.XSame.lean ====
/-
# The expert kernel at machine floats

No operation was rewritten, so the program read at machine floats is the one read at the ideal instance.
-/
module

public import proofs.«01_k».proof.Proof.XRun
public import proofs.«01_k».proof.Proof.Gen.Expert

@[expose] public section
noncomputable section
namespace Cert.Proof

open Idealize.ShloMosaic Idealize.ShloMosaic.TcCoe Idealize.SL.Sem

theorem expert_defs₀ : Expert.defs₀ (F := Bits) = ExpertIdeal.defs₀ (F := Bits) := by
  unfold Expert.defs₀ ExpertIdeal.defs₀
  congr 1
  funext l a
  match l, a with
  | 0, (t, s) => rfl
theorem expert_defs : Expert.defs (F := Bits) = ExpertIdeal.defs (F := Bits) := congrArg (Pipeline.defs Expert.pcfgs) expert_defs₀

set_option maxHeartbeats 4000000 in
theorem expert_main : Expert.main (F := Bits) = ExpertIdeal.main (F := Bits) := rfl

/-- The expert kernel ends with its arguments unchanged and every semaphore at zero. -/
theorem expert_ends {F : FTy → Type} [FloatOps F] (m : (ℓ : Loc ExpertIdeal.nD ExpertIdeal.τ ExpertIdeal.sig) → Buf (Elt F) ℓ) (g : Dev ExpertIdeal.nD → PrngReg) :
    θ_run (ExpertIdeal.defs (F := F)) (onTc (τ := ExpertIdeal.τ) (ExpertIdeal.main (F := F))) ⟨m, fun _ => 0, g⟩ (fun r =>
      (∀ c : Dev ExpertIdeal.nD,
        r.2.mem ((c.tc : Thread ExpertIdeal.nD ExpertIdeal.τ).loc ExpertIdeal.main_arg0) = m ((c.tc : Thread ExpertIdeal.nD ExpertIdeal.τ).loc ExpertIdeal.main_arg0)
        ∧ r.2.mem ((c.tc : Thread ExpertIdeal.nD ExpertIdeal.τ).loc ExpertIdeal.main_arg1) = m ((c.tc : Thread ExpertIdeal.nD ExpertIdeal.τ).loc ExpertIdeal.main_arg1)
        ∧ r.2.mem ((c.tc : Thread ExpertIdeal.nD ExpertIdeal.τ).loc ExpertIdeal.main_arg2) = m ((c.tc : Thread ExpertIdeal.nD ExpertIdeal.τ).loc ExpertIdeal.main_arg2)
        ∧ r.2.mem ((c.tc : Thread ExpertIdeal.nD ExpertIdeal.τ).loc ExpertIdeal.main_arg3) = m ((c.tc : Thread ExpertIdeal.nD ExpertIdeal.τ).loc ExpertIdeal.main_arg3)
        ∧ r.2.mem ((c.tc : Thread ExpertIdeal.nD ExpertIdeal.τ).loc ExpertIdeal.main_arg4) = m ((c.tc : Thread ExpertIdeal.nD ExpertIdeal.τ).loc ExpertIdeal.main_arg4))
      ∧ r.2.sem = fun _ => 0) := by
  refine (θ_run _ _ _).mono (fun r h => ⟨fun c => ⟨?_, ?_, ?_, ?_, ?_⟩, h.2⟩) (ExpertIdeal.Fx.run_arr m g)
  · exact (h.1 c 0).trans (ExpertIdeal.Fx.end0 m c)
  · exact (h.1 c 1).trans (ExpertIdeal.Fx.end1 m c)
  · exact (h.1 c 2).trans (ExpertIdeal.Fx.end2 m c)
  · exact (h.1 c 3).trans (ExpertIdeal.Fx.end3 m c)
  · exact (h.1 c 4).trans (ExpertIdeal.Fx.end4 m c)

end Cert.Proof

end
-- ==== Proof.XRef.lean ====
/-
# The expert kernel's reference: its result as sums

The tokens and the weights of every slot, the hidden layer, and a quarter of its units' share of the result.
-/
module

public import proofs.«01_k».proof.Proof.Gen.ExpertReferenceIdeal.Run
public import proofs.«01_k».proof.Proof.XTop
public import Idealize.ShloMosaic.Lib.Pointwise
public import Idealize.ShloMosaic.PureOps.Ideal.Laws

@[expose] public section
noncomputable section
namespace Cert.ExpertReferenceIdeal.RefVal

open Cert.ExpertReferenceIdeal Cert.ExpertReferenceIdeal.Gen Idealize.ShloMosaic Idealize.ShloMosaic.TcCoe Idealize.SL.Sem Cert.Share

/-- The slots of the first and of the second choice of every token. -/
def sl0 (s : IVec S4x2048 32) : IVec S2x2048 32 :=
  shapeCast _ (extractStridedSlice S2x1x2048 ![0, 0, 0] (shapeCast _ s shapeCasts_S4x2048_S2x2x2048) slices_S2x2x2048_S2x1x2048_0_0_0) shapeCasts_S2x1x2048_S2x2048
def sl1 (s : IVec S4x2048 32) : IVec S2x2048 32 :=
  shapeCast _ (extractStridedSlice S2x1x2048 ![0, 1, 0] (shapeCast _ s shapeCasts_S4x2048_S2x2x2048) slices_S2x2x2048_S2x1x2048_0_1_0) shapeCasts_S2x1x2048_S2x2048
/-- Whether a token lies in a slot. -/
def hit (s : IVec S2x2048 32) : IVec S2x2048x2560 1 :=
  cmpi .eq (broadcastInDim S2x2048x2560 ![0, 1, 2] bcast_S2x2048x1_S2x2048x2560_0_1_2 (broadcastInDim S2x2048x1 ![0, 1] bcast_S2x2048_S2x2048x1_0_1 s))
    (broadcastInDim S2x2048x2560 ![0, 1, 2] bcast_S1x1x2560_S2x2048x2560_0_1_2 (broadcastInDim S1x1x2560 ![2] bcast_S2560_S1x1x2560_2 (iotaInDim S2560 32 0)))
/-- The sum of the tokens of each slot, for one choice. -/
def pickX (x : FVec Ideal S2048x1024 .bf16) (s : IVec S2x2048 32) : FVec Ideal S2x2560x1024 .f32 :=
  Host.reduceAdd (select (broadcastInDim S2x2048x2560x1024 ![0, 1, 2, 3] bcast_S2x2048x2560x1_S2x2048x2560x1024_0_1_2_3 (broadcastInDim S2x2048x2560x1 ![0, 1, 2] bcast_S2x2048x2560_S2x2048x2560x1_0_1_2 (hit s)))
    (broadcastInDim S2x2048x2560x1024 ![0, 1, 2, 3] bcast_S1x2048x1x1024_S2x2048x2560x1024_0_1_2_3 (broadcastInDim S1x2048x1x1024 ![1, 3] bcast_S2048x1024_S1x2048x1x1024_1_3 (extf .f32 x bitsLt_bf16_f32)))
    (broadcastInDim S2x2048x2560x1024 ![] bcast_S_S2x2048x2560x1024 (id (constant S_ .f32 0x00000000#32)))) (constant S_ .f32 0x00000000#32) reducesTo_S2x2048x2560x1024_S2x2560x1024_d1 h_S_
def wr0 (w : FVec Ideal S2x2048 .f32) : FVec Ideal S2048 .f32 :=
  shapeCast _ (extractStridedSlice S1x2048 ![0, 0] w slices_S2x2048_S1x2048_0_0) shapeCasts_S1x2048_S2048
def wr1 (w : FVec Ideal S2x2048 .f32) : FVec Ideal S2048 .f32 :=
  shapeCast _ (extractStridedSlice S1x2048 ![1, 0] w slices_S2x2048_S1x2048_1_0) shapeCasts_S1x2048_S2048
/-- The sum of the weights of each slot, for one choice. -/
def pickW (w : FVec Ideal S2048 .f32) (s : IVec S2x2048 32) : FVec Ideal S2x2560 .f32 :=
  Host.reduceAdd (select (hit s)
    (broadcastInDim S2x2048x2560 ![0, 1, 2] bcast_S1x2048x1_S2x2048x2560_0_1_2 (broadcastInDim S1x2048x1 ![1] bcast_S2048_S1x2048x1_1 w))
    (broadcastInDim S2x2048x2560 ![] bcast_S_S2x2048x2560 (id (constant S_ .f32 0x00000000#32)))) (constant S_ .f32 0x00000000#32) reducesTo_S2x2048x2560_S2x2560_d1 h_S_
def xs (x : FVec Ideal S2048x1024 .bf16) (s : IVec S4x2048 32) : FVec Ideal S2x2560x1024 .f32 :=
  addf (addf (broadcastInDim S2x2560x1024 ![] bcast_S_S2x2560x1024 (constant S_ .f32 0x00000000#32)) (pickX x (sl0 s))) (pickX x (sl1 s))
def ws (w : FVec Ideal S2x2048 .f32) (s : IVec S4x2048 32) : FVec Ideal S2x2560 .f32 :=
  addf (addf (broadcastInDim S2x2560 ![] bcast_S_S2x2560 (constant S_ .f32 0x00000000#32)) (pickW (wr0 w) (sl0 s))) (pickW (wr1 w) (sl1 s))
/-- The hidden layer of every expert. -/
def hid (g : FVec Ideal S2x2560x1024 .f32) (W1 : FVec Ideal S16x1024x4096 .f32) : FVec Ideal S16x320x4096 .f32 :=
  maximumf (Host.dotGeneral dot_S16x320x1024_S16x1024x4096_S16x320x4096_2_1_1_2_0_0 none (shapeCast _ g shapeCasts_S2x2560x1024_S16x320x1024) W1)
    (broadcastInDim S16x320x4096 ![] bcast_S_S16x320x4096 (constant S_ .f32 0x00000000#32))
/-- The shares of each quarter of the hidden units. -/
def parts (h : FVec Ideal S16x320x4096 .f32) (W2 : FVec Ideal S16x4096x1024 .f32) (w : FVec Ideal S2x2560 .f32) : FVec Ideal S16x4x320x1024 .f32 :=
  mulf (Host.dotGeneral dot_S16x4x320x1024_S16x4x1024x1024_S16x4x320x1024_3_2_2_3_01_01 none (transpose S16x4x320x1024 [0, 2, 1, 3] (shapeCast _ h shapeCasts_S16x320x4096_S16x320x4x1024) transposes_S16x320x4x1024_S16x4x320x1024_0_2_1_3) (shapeCast _ W2 shapeCasts_S16x4096x1024_S16x4x1024x1024))
    (broadcastInDim S16x4x320x1024 ![0, 1, 2, 3] bcast_S16x1x320x1_S16x4x320x1024_0_1_2_3 (shapeCast _ w shapeCasts_S2x2560_S16x1x320x1))
def ord (p : FVec Ideal S16x4x320x1024 .f32) : FVec Ideal S64x320x1024 .bf16 :=
  truncf .bf16 (shapeCast _ (transpose S2x2x2x8x320x1024 [2, 0, 3, 1, 4, 5] (shapeCast _ p shapeCasts_S16x4x320x1024_S2x8x2x2x320x1024) transposes_S2x8x2x2x320x1024_S2x2x2x8x320x1024_2_0_3_1_4_5) shapeCasts_S2x2x2x8x320x1024_S64x320x1024) bitsLt_bf16_f32

theorem res_eq (m : (ℓ : Loc nD τ sig) → Buf (Elt Ideal) ℓ) (c : Dev nD) : Value.res_main_v55 m c =
    ord (parts (hid (xs (m ((c.tc : Thread nD τ).loc main_arg0)) (m ((c.tc : Thread nD τ).loc main_arg1))) (m ((c.tc : Thread nD τ).loc main_arg3)))
      (m ((c.tc : Thread nD τ).loc main_arg4)) (ws (m ((c.tc : Thread nD τ).loc main_arg2)) (m ((c.tc : Thread nD τ).loc main_arg1)))) := by
  unfold Value.res_main_v55 ord parts hid ws xs pickW wr1 wr0 pickX hit sl1 sl0
  rfl

theorem sl0_eq (s : IVec S4x2048 32) (b : Fin 2) (n : Fin 2048) : sl0 s (ix2 b n) = s (ix2 (⟨b.val * 2, by omega⟩ : Fin 4) n) := by
  pointwise [sl0]
theorem sl1_eq (s : IVec S4x2048 32) (b : Fin 2) (n : Fin 2048) : sl1 s (ix2 b n) = s (ix2 (⟨b.val * 2 + 1, by omega⟩ : Fin 4) n) := by
  pointwise [sl1]
theorem hit_eq (s : IVec S2x2048 32) (b : Fin 2) (n : Fin 2048) (p : Fin 2560) : hit s (ix3 b n p) = IntOp.cmpi .eq (s (ix2 b n)) (BitVec.ofNat 32 p.val) := by
  pointwise [hit]
theorem pickX_eq (x : FVec Ideal S2048x1024 .bf16) (s : IVec S2x2048 32) (b : Fin 2) (p : Fin 2560) (k : Fin 1024) : (pickX x s (ix3 b p k) : EReal)
    = ∑ n : Fin 2048, Scalar.select (IntOp.cmpi .eq (s (ix2 b n)) (BitVec.ofNat 32 p.val)) (x (ix2 n k) : EReal) (0 : EReal) := by
  have h : (id (constant (F := Ideal) S_ .f32 0x00000000#32) ix0 : EReal) = 0 := Ideal.ofBits_zero_f32
  pointwise [pickX, hit]
  simp only [h]
theorem pickW_eq (w : FVec Ideal S2048 .f32) (s : IVec S2x2048 32) (b : Fin 2) (p : Fin 2560) : (pickW w s (ix2 b p) : EReal)
    = ∑ n : Fin 2048, Scalar.select (IntOp.cmpi .eq (s (ix2 b n)) (BitVec.ofNat 32 p.val)) (w (ix1 n) : EReal) (0 : EReal) := by
  have h : (id (constant (F := Ideal) S_ .f32 0x00000000#32) ix0 : EReal) = 0 := Ideal.ofBits_zero_f32
  pointwise [pickW, hit]
  simp only [h]
theorem wr0_eq (w : FVec Ideal S2x2048 .f32) (n : Fin 2048) : (wr0 w (ix1 n) : EReal) = w (ix2 0 n) := by
  pointwise [wr0]
theorem wr1_eq (w : FVec Ideal S2x2048 .f32) (n : Fin 2048) : (wr1 w (ix1 n) : EReal) = w (ix2 1 n) := by
  pointwise [wr1]
theorem xs_eq (x : FVec Ideal S2048x1024 .bf16) (s : IVec S4x2048 32) (b : Fin 2) (p : Fin 2560) (k : Fin 1024) :
    (xs x s (ix3 b p k) : EReal) = (0 + pickX x (sl0 s) (ix3 b p k)) + pickX x (sl1 s) (ix3 b p k) := by
  pointwise [xs]
theorem ws_eq (w : FVec Ideal S2x2048 .f32) (s : IVec S4x2048 32) (b : Fin 2) (p : Fin 2560) :
    (ws w s (ix2 b p) : EReal) = (0 + pickW (wr0 w) (sl0 s) (ix2 b p)) + pickW (wr1 w) (sl1 s) (ix2 b p) := by
  pointwise [ws]

/-- The half an expert belongs to, the slot of its row `r`, and unit `j` of quarter `q`. -/
def half (e : Fin 16) : Fin 2 := ⟨e.val / 8, by omega⟩
def slot (e : Fin 16) (r : Fin 320) : Fin 2560 := ⟨e.val % 8 * 320 + r.val, by omega⟩
def unit (q : Fin 4) (j : Fin 1024) : Fin 4096 := ⟨q.val * 1024 + j.val, by omega⟩

theorem hid_eq (g : FVec Ideal S2x2560x1024 .f32) (W1 : FVec Ideal S16x1024x4096 .f32) (e : Fin 16) (r : Fin 320) (j : Fin 4096) :
    (hid g W1 (ix3 e r j) : EReal) = max (∑ k : Fin 1024, (g (ix3 (half e) (slot e r) k) : EReal) * W1 (ix3 e k j)) 0 := by
  pointwise [hid]
  rfl
theorem parts_eq (h : FVec Ideal S16x320x4096 .f32) (W2 : FVec Ideal S16x4096x1024 .f32) (w : FVec Ideal S2x2560 .f32) (e : Fin 16) (q : Fin 4) (r : Fin 320) (d : Fin 1024) :
    (parts h W2 w (ix4 e q r d) : EReal) = (∑ j : Fin 1024, (h (ix3 e r (unit q j)) : EReal) * W2 (ix3 e (unit q j) d)) * w (ix2 (half e) (slot e r)) := by
  pointwise [parts]
  rfl
theorem ord_eq (p : FVec Ideal S16x4x320x1024 .f32) (x b z : Fin 2) (e : Fin 8) (r : Fin 320) (d : Fin 1024) :
    (ord p (ix3 (⟨32 * x.val + 16 * b.val + 8 * z.val + e.val, by omega⟩ : Fin 64) r d) : EReal)
      = p (ix4 (⟨b.val * 8 + e.val, by omega⟩ : Fin 16) (⟨x.val * 2 + z.val, by omega⟩ : Fin 4) r d) := by
  pointwise [ord]

/-- The reference's result. -/
theorem out_eq (m : (ℓ : Loc nD τ sig) → Buf (Elt Ideal) ℓ) (c : Dev nD) (x b z : Fin 2) (e : Fin 8) (r : Fin 320) (d : Fin 1024) :
    (Value.res_main_v55 m c (ix3 (⟨32 * x.val + 16 * b.val + 8 * z.val + e.val, by omega⟩ : Fin 64) r d) : EReal)
      = share (fun n => m ((c.tc : Thread nD τ).loc main_arg1) (ix2 (⟨b.val * 2, by omega⟩ : Fin 4) n))
          (fun n => m ((c.tc : Thread nD τ).loc main_arg1) (ix2 (⟨b.val * 2 + 1, by omega⟩ : Fin 4) n)) (BitVec.ofNat 32 (e.val * 320 + r.val))
          (fun n k => m ((c.tc : Thread nD τ).loc main_arg0) (ix2 n k))
          (fun n => m ((c.tc : Thread nD τ).loc main_arg2) (ix2 0 n)) (fun n => m ((c.tc : Thread nD τ).loc main_arg2) (ix2 1 n))
          (fun k j => m ((c.tc : Thread nD τ).loc main_arg3) (ix3 (⟨b.val * 8 + e.val, by omega⟩ : Fin 16) k (unit ⟨x.val * 2 + z.val, by omega⟩ j)))
          (fun j => m ((c.tc : Thread nD τ).loc main_arg4) (ix3 (⟨b.val * 8 + e.val, by omega⟩ : Fin 16) (unit ⟨x.val * 2 + z.val, by omega⟩ j) d)) := by
  have hh : half (⟨b.val * 8 + e.val, by omega⟩ : Fin 16) = b := Fin.ext (by show (b.val * 8 + e.val) / 8 = b.val; omega)
  have hs : slot (⟨b.val * 8 + e.val, by omega⟩ : Fin 16) r = ⟨e.val * 320 + r.val, by omega⟩ :=
    Fin.ext (by show (b.val * 8 + e.val) % 8 * 320 + r.val = e.val * 320 + r.val; omega)
  rw [res_eq, ord_eq, parts_eq, ws_eq, pickW_eq, pickW_eq]
  simp only [hid_eq, xs_eq, pickX_eq, hh, hs, sl0_eq, sl1_eq, wr0_eq, wr1_eq, pick_eq, zero_add]
  rfl
end Cert.ExpertReferenceIdeal.RefVal
-- ==== Proof.lean ====
/-
# The router's gates, the experts and the reduce-scatter of their outputs: the claims

Each kernel's run (`Run.lean`, `GRun.lean`, `XRun.lean`), proved for any float values, gives its frames: no operation was rewritten,
so the program read at machine floats is the one read at the ideal instance (`kernel_defs`, `gate_defs`,
`expert_defs`). At the ideal instance, each device's result of the reduce-scatter is the sum over the mesh of the rows that its tokens' slots
name (`Val.lean`), which is the block of the reference's result (`RefVal.lean`, `Alg.lean`); and each device's results
of the gate kernel are, of every token, the two greatest gates' experts and the softmax of the two (`GVal.lean`), which
is what the reference makes of the ranks of the gates (`GTop.lean`, `GRefVal.lean`, `GAlg.lean`). Of the expert kernel,
a device's row of an expert is its quarter of the hidden units' share in the gathered token's result, times the gathered
weight (`XVal.lean`), which the reference reads off the whole arrays (`XRef.lean`, in the terms of `XTop.lean`).
-/
module

public import proofs.«01_k».proof.Defs
public import proofs.«01_k».proof.Proof.Run
public import proofs.«01_k».proof.Proof.Alg
public import proofs.«01_k».proof.Proof.Gen.Kernel
public import proofs.«01_k».proof.Proof.Gen.ReferenceIdeal.Run
public import proofs.«01_k».proof.Proof.GAlg
public import proofs.«01_k».proof.Proof.Gen.Gate
public import proofs.«01_k».proof.Proof.Gen.GateReferenceIdeal.Run
public import proofs.«01_k».proof.Proof.Gen.Pre_gate_finite_GateIdeal
public import proofs.«01_k».proof.Proof.Gen.Pre_gate_finite_GateReferenceIdeal
public import proofs.«01_k».proof.Proof.XVal
public import proofs.«01_k».proof.Proof.XSame
public import proofs.«01_k».proof.Proof.XRef
public import proofs.«01_k».proof.Proof.Gen.Expert
public import proofs.«01_k».proof.Proof.Gen.ExpertReferenceIdeal.Run
public import Idealize.ShloMosaic.Lib.ReduceAll

@[expose] public section

noncomputable section

namespace Cert.Proof

open Idealize.ShloMosaic Idealize.ShloMosaic.TcCoe Idealize.SL.Sem
open Cert.KernelIdeal.Comb (outAt Yv Tv yc out_lt outAt_apply)

theorem kernel_defs₀ : Kernel.defs₀ (F := Bits) = KernelIdeal.defs₀ (F := Bits) := by
  unfold Kernel.defs₀ KernelIdeal.defs₀
  congr 1
  funext l a
  match l, a with
  | 0, (t, s) => rfl
theorem kernel_defs : Kernel.defs (F := Bits) = KernelIdeal.defs (F := Bits) := congrArg (Pipeline.defs Kernel.pcfgs) kernel_defs₀

theorem frame_kernel : quiescent_Kernel := by
  intro m g _
  rw [kernel_defs]
  exact (θ_run (KernelIdeal.defs (F := Bits)) (onTc (τ := KernelIdeal.τ) (KernelIdeal.main (F := Bits))) _).mono
    (fun r h => ⟨fun c => ⟨(h.1 c 0).trans (KernelIdeal.Comb.finalA_in0 m c), (h.1 c 1).trans (KernelIdeal.Comb.finalA_in1 m c)⟩, h.2⟩)
    (KernelIdeal.Comb.run_main (F := Bits) m g)

theorem frame_ideal : quiescent_KernelIdeal := by
  intro m g _
  refine (θ_run _ _ _).mono (fun r h => ⟨fun c => ⟨?_, ?_⟩, h.2⟩) (KernelIdeal.Comb.run_main (F := Ideal) m g)
  · exact (h.1 c 0).trans (KernelIdeal.Comb.finalA_in0 m c)
  · exact (h.1 c 1).trans (KernelIdeal.Comb.finalA_in1 m c)

theorem frame_reference : quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

theorem algebraic : algebraic_KernelIdeal_ReferenceIdeal := by
  intro m g m' g' _ hargs
  refine ⟨ReferenceIdeal.Value.res_out0 m' 0, ?_, ?_⟩
  · refine (θ_run _ _ _).mono (fun r h c => ⟨?_, ?_, ?_⟩) (KernelIdeal.Comb.run_main (F := Ideal) m g)
    · refine (h.1 c 2).trans ((KernelIdeal.Comb.finalA_out m c).trans ?_)
      funext i
      obtain ⟨n, d, rfl⟩ : ∃ (n : Fin 1024) (d : Fin 1024), i = ix2 n d := ⟨i 0, i 1, by
        funext a; match a with | ⟨0, _⟩ => rfl | ⟨1, _⟩ => rfl⟩
      refine (outAt_apply (Yv m) (Tv m) c n d).trans ?_
      refine (ReferenceIdeal.RefVal.res_apply m' 0 (Yv m) (Tv m) ?_ ?_ _ d).symm.trans ?_
      · intro e s d
        rw [KernelIdeal.Comb.Yv_eq]
        refine (congrFun (hargs e).1 (ix2 s d)).trans ?_
        refine congrArg (m' _) (funext fun a => Fin.ext ?_)
        match a with
        | ⟨0, _⟩ => show e.val * 2560 + s.val = 2560 * e.val + s.val; omega
        | ⟨1, _⟩ => rfl
      · intro e k n
        rw [KernelIdeal.Comb.Tv_eq]
        refine (congrFun (hargs e).2 (ix2 k n)).trans ?_
        refine congrArg (m' _) (funext fun a => Fin.ext ?_)
        match a with
        | ⟨0, _⟩ => show (e.val / 2 % 2 * 1 + 0) * 2 + k.val = 2 * (e.val / 2 % 2) + k.val; omega
        | ⟨1, _⟩ => show 0 * 2048 + n.val = n.val; omega
      · refine congrArg (ReferenceIdeal.Value.res_out0 m' 0) (funext fun a => Fin.ext ?_)
        match a with
        | ⟨0, _⟩ => show 1024 * (c.val / 2 % 2) + n.val = (c.val / 2 % 2 * 1 + 0) * 1024 + n.val; omega
        | ⟨1, _⟩ => show d.val = 0 * 1024 + d.val; omega
    · exact (h.1 c 0).trans (KernelIdeal.Comb.finalA_in0 m c)
    · exact (h.1 c 1).trans (KernelIdeal.Comb.finalA_in1 m c)
  · exact (θ_run _ _ _).mono (fun r h => h 0) (ReferenceIdeal.Value.run m' g')

/-! ## The gate kernel -/

theorem gate_defs₀ : Gate.defs₀ (F := Bits) = GateIdeal.defs₀ (F := Bits) := by
  unfold Gate.defs₀ GateIdeal.defs₀
  congr 1
  funext l a
  match l, a with
  | 0, (t, s) => rfl
theorem gate_defs : Gate.defs (F := Bits) = GateIdeal.defs (F := Bits) := congrArg (Pipeline.defs Gate.pcfgs) gate_defs₀

theorem frame_gate : quiescent_Gate := by
  intro m g _
  rw [gate_defs]
  exact (θ_run (GateIdeal.defs (F := Bits)) (onTc (τ := GateIdeal.τ) (GateIdeal.main (F := Bits))) _).mono
    (fun r h => ⟨fun c => ⟨(h.1 c 0).trans (GateIdeal.Gx.finalA_in0 m c), (h.1 c 1).trans (GateIdeal.Gx.finalA_in1 m c)⟩, h.2⟩)
    (GateIdeal.Gx.run_main (F := Bits) m g)

theorem frame_gate_ideal : quiescent_GateIdeal := by
  intro m g _
  refine (θ_run _ _ _).mono (fun r h => ⟨fun c => ⟨?_, ?_⟩, h.2⟩) (GateIdeal.Gx.run_main (F := Ideal) m g)
  · exact (h.1 c 0).trans (GateIdeal.Gx.finalA_in0 m c)
  · exact (h.1 c 1).trans (GateIdeal.Gx.finalA_in1 m c)

theorem frame_gate_reference : quiescent_GateReferenceIdeal := fun m ρ _ =>
  (θ_run GateReferenceIdeal.defs _ _).mono (fun r h => ⟨fun c => ⟨(h c).2.2.2.1, (h c).2.2.2.2⟩, sem_eq_zero_of_no_sems (by decide) r.2⟩)
    (GateReferenceIdeal.Value.run (F := Ideal) m ρ)

section Finite
open Cert.Pre_gate_finite_GateIdeal

instance : Subsingleton S_.Idx := ⟨fun a b => funext fun x => x.elim0⟩

/-- The precondition, read back: every entry is real. -/
theorem entries_real (x : FVec Ideal S1024x1024 .f32) (w : FVec Ideal S8x1024 .f32) (h : fn x w = fun _ => 1#1) :
    (∀ i, ∃ r : ℝ, (x i : EReal) = r) ∧ ∀ i, ∃ r : ℝ, (w i : EReal) = r := by
  have h0 := congrFun h ix0
  dsimp only [fn] at h0
  obtain ⟨h1, h2⟩ := IntOp.andi_eq_one.1 h0
  have rd (v : EReal) (hv : Ideal.cmp .olt (max v (-v)) (Ideal.ofBits .f32 0x7F800000#32) = 1#1) : ∃ r : ℝ, v = r := by
    refine GateIdeal.Gx.real_of_abs v ?_
    rw [GateIdeal.Gx.pinf] at hv
    by_contra hn
    have : Ideal.cmp .olt (max v (-v)) ⊤ = BitVec.ofBool (decide (max v (-v) < ⊤)) := rfl
    rw [this, decide_eq_false hn] at hv
    exact absurd hv (by decide)
  exact ⟨fun i => rd (x i) (Host.reduce_andi_all _ _ _ _ _ h1 i), fun i => rd (w i) (Host.reduce_andi_all _ _ _ _ _ h2 i)⟩
end Finite

open Cert.GateIdeal.Gx (Av Bv outX_apply outI_apply outW_apply)
open Cert.GateReferenceIdeal.RefVal (tok)

/-- The reference's copy of the activations. -/
theorem ref_x (X : FVec Ideal GateReferenceIdeal.S2048x1024 .f32) (b : Fin 2) (t k : Fin 1024) :
    (shapeCast GateReferenceIdeal.S2x1024x1024 (truncf .bf16 X GateReferenceIdeal.Gen.bitsLt_bf16_f32) GateReferenceIdeal.Gen.shapeCasts_S2048x1024_S2x1024x1024 (ix3 b t k) : EReal) = X (ix2 (tok b t) k) := by
  pointwise []
  rfl

theorem algebraic_gate : algebraic_GateIdeal_GateReferenceIdeal_pre_gate_finite_GateIdeal := by
  intro m g m' g' hpre hargs
  have hA : ∀ (c : Dev GateIdeal.nD) (t k : Fin 1024), (Av m c (ix2 t k) : EReal) = m' (((0 : Dev GateReferenceIdeal.nD).tc : Thread GateReferenceIdeal.nD GateReferenceIdeal.τ).loc GateReferenceIdeal.main_arg0) (ix2 (tok (GateIdeal.Gx.yc c) t) k) := by
    intro c t k
    rw [GateIdeal.Gx.Av_eq]
    refine (congrFun (hargs c).1 (ix2 t k)).trans ?_
    refine congrArg (m' _) (funext fun a => Fin.ext ?_)
    match a with
    | ⟨0, _⟩ => show (c.val / 2 % 2 * 1 + 0) * 1024 + t.val = c.val / 2 % 2 * 1024 + t.val; omega
    | ⟨1, _⟩ => show 0 * 1024 + k.val = k.val; omega
  have hB : ∀ (c : Dev GateIdeal.nD) (e : Fin 8) (k : Fin 1024), (Bv m c (ix2 e k) : EReal) = m' (((0 : Dev GateReferenceIdeal.nD).tc : Thread GateReferenceIdeal.nD GateReferenceIdeal.τ).loc GateReferenceIdeal.main_arg1) (ix2 (GateIdeal.Gx.expert (GateIdeal.Gx.yc c) e) k) := by
    intro c e k
    rw [GateIdeal.Gx.Bv_eq]
    refine (congrFun (hargs c).2 (ix2 e k)).trans ?_
    refine congrArg (m' _) (funext fun a => Fin.ext ?_)
    match a with
    | ⟨0, _⟩ => show (c.val / 2 % 2 * 1 + 0) * 8 + e.val = c.val / 2 % 2 * 8 + e.val; omega
    | ⟨1, _⟩ => show 0 * 1024 + k.val = k.val; omega
  have hr (c : Dev GateIdeal.nD) := entries_real _ _ (hpre c)
  have fX : ∀ (t : Fin 2048) (k : Fin 1024), ∃ r : ℝ, (m' (((0 : Dev GateReferenceIdeal.nD).tc : Thread GateReferenceIdeal.nD GateReferenceIdeal.τ).loc GateReferenceIdeal.main_arg0) (ix2 t k) : EReal) = (r : EReal) := by
    intro t k
    obtain ⟨r, h⟩ := (hr ⟨2 * (t.val / 1024), by have := t.isLt; show 2 * (t.val / 1024) < 8; omega⟩).1 (ix2 ⟨t.val % 1024, by omega⟩ k)
    refine ⟨r, Eq.trans ?_ h⟩
    refine Eq.trans ?_ ((hA _ _ _).symm.trans (congrFun (GateIdeal.Gx.Av_eq m _) _))
    refine congrArg (m' _) (funext fun a => Fin.ext ?_)
    match a with
    | ⟨0, _⟩ => show t.val = 2 * (t.val / 1024) / 2 % 2 * 1024 + t.val % 1024; have := t.isLt; omega
    | ⟨1, _⟩ => rfl
  have fR : ∀ (e : Fin 16) (k : Fin 1024), ∃ r : ℝ, (m' (((0 : Dev GateReferenceIdeal.nD).tc : Thread GateReferenceIdeal.nD GateReferenceIdeal.τ).loc GateReferenceIdeal.main_arg1) (ix2 e k) : EReal) = (r : EReal) := by
    intro e k
    obtain ⟨r, h⟩ := (hr ⟨2 * (e.val / 8), by have := e.isLt; show 2 * (e.val / 8) < 8; omega⟩).2 (ix2 ⟨e.val % 8, by omega⟩ k)
    refine ⟨r, Eq.trans ?_ h⟩
    refine Eq.trans ?_ ((hB _ _ _).symm.trans (congrFun (GateIdeal.Gx.Bv_eq m _) _))
    refine congrArg (m' _) (funext fun a => Fin.ext ?_)
    match a with
    | ⟨0, _⟩ => show e.val = 2 * (e.val / 8) / 2 % 2 * 8 + e.val % 8; have := e.isLt; omega
    | ⟨1, _⟩ => rfl
  refine ⟨_, _, _, ?_, (θ_run _ _ _).mono (fun r h => h 0) (GateReferenceIdeal.Value.run m' g')⟩
  refine (θ_run _ _ _).mono (fun r h c => ⟨?_, ?_, ?_, ?_, ?_⟩) (GateIdeal.Gx.run_main (F := Ideal) m g)
  · refine (h.1 c 2).trans ((GateIdeal.Gx.finalA_x m c).trans ?_)
    funext i
    obtain ⟨b, t, k, rfl⟩ : ∃ (b : Fin 2) (t k : Fin 1024), i = ix3 b t k := ⟨i 0, i 1, i 2, by
      funext a; match a with | ⟨0, _⟩ => rfl | ⟨1, _⟩ => rfl | ⟨2, _⟩ => rfl⟩
    exact (outX_apply (Av m) _ hA c b t k).trans (ref_x _ b t k).symm
  · refine (h.1 c 3).trans ((GateIdeal.Gx.finalA_i m c).trans ?_)
    rw [GateReferenceIdeal.RefVal.resI_eq]
    funext i
    obtain ⟨b, j, t, rfl⟩ : ∃ (b j : Fin 2) (t : Fin 1024), i = ix3 b j t := ⟨i 0, i 1, i 2, by
      funext a; match a with | ⟨0, _⟩ => rfl | ⟨1, _⟩ => rfl | ⟨2, _⟩ => rfl⟩
    exact outI_apply (Av m) (Bv m) _ _ hA hB fX fR c b j t
  · refine (h.1 c 4).trans ((GateIdeal.Gx.finalA_w m c).trans ?_)
    rw [GateReferenceIdeal.RefVal.resW_eq]
    funext i
    obtain ⟨b, j, t, rfl⟩ : ∃ (b j : Fin 2) (t : Fin 1024), i = ix3 b j t := ⟨i 0, i 1, i 2, by
      funext a; match a with | ⟨0, _⟩ => rfl | ⟨1, _⟩ => rfl | ⟨2, _⟩ => rfl⟩
    exact outW_apply (Av m) (Bv m) _ _ hA hB fX fR c b j t
  · exact (h.1 c 0).trans (GateIdeal.Gx.finalA_in0 m c)
  · exact (h.1 c 1).trans (GateIdeal.Gx.finalA_in1 m c)

/-! ## The expert kernel -/

theorem frame_expert : quiescent_Expert := by
  intro m g _
  rw [expert_defs, expert_main]
  exact expert_ends (F := Bits) m g

theorem frame_expert_ideal : quiescent_ExpertIdeal := fun m g _ => expert_ends (F := Ideal) m g

theorem frame_expert_reference : quiescent_ExpertReferenceIdeal := fun m ρ _ =>
  (θ_run ExpertReferenceIdeal.defs _ _).mono (fun r h => ⟨fun c => (h c).2, sem_eq_zero_of_no_sems (by decide) r.2⟩)
    (ExpertReferenceIdeal.Value.run (F := Ideal) m ρ)

theorem algebraic_expert : algebraic_ExpertIdeal_ExpertReferenceIdeal := by
  intro m g m' g' _ hargs
  refine ⟨ExpertReferenceIdeal.Value.res_out0 m' 0, ?_, (θ_run _ _ _).mono (fun r h => h 0) (ExpertReferenceIdeal.Value.run m' g')⟩
  refine (θ_run _ _ _).mono (fun r h c => ⟨?_, ?_, ?_, ?_, ?_, ?_⟩) (ExpertIdeal.Fx.run_arr (F := Ideal) m g)
  · refine (h.1 c 5).trans ((ExpertIdeal.Fx.end5 m c).trans ?_)
    funext i
    obtain ⟨e, r, d, rfl⟩ : ∃ (e : Fin 8) (r : Fin 320) (d : Fin 1024), i = ix3 e r d := ⟨i 0, i 1, i 2, by
      funext a; match a with | ⟨0, _⟩ => rfl | ⟨1, _⟩ => rfl | ⟨2, _⟩ => rfl⟩
    have hc : c.val < 8 := c.isLt
    refine (ExpertIdeal.Fx.out_eq m c e r d).trans (Eq.trans ?_ ((ExpertReferenceIdeal.RefVal.out_eq m' 0 (⟨c.val / 4, by omega⟩ : Fin 2)
      (⟨c.val / 2 % 2, by omega⟩ : Fin 2) (⟨c.val % 2, by omega⟩ : Fin 2) e r d).symm.trans ?_))
    · refine Share.share_congr (fun n => ?_) (fun n => ?_) rfl (fun n k => ?_) (fun n => ?_) (fun n => ?_) (fun k j => ?_) (fun j => ?_)
      · refine (congrFun (hargs c).2.1 (ix2 0 n)).trans ?_
        refine congrArg (m' _) (funext fun a => Fin.ext ?_)
        match a with
        | ⟨0, _⟩ => show (c.val / 2 % 2 * 1 + 0) * 2 + 0 = c.val / 2 % 2 * 2; omega
        | ⟨1, _⟩ => show 0 * 2048 + n.val = n.val; omega
      · refine (congrFun (hargs c).2.1 (ix2 1 n)).trans ?_
        refine congrArg (m' _) (funext fun a => Fin.ext ?_)
        match a with
        | ⟨0, _⟩ => show (c.val / 2 % 2 * 1 + 0) * 2 + 1 = c.val / 2 % 2 * 2 + 1; omega
        | ⟨1, _⟩ => show 0 * 2048 + n.val = n.val; omega
      · exact congrFun (hargs c).1 (ix2 n k)
      · exact congrFun (hargs c).2.2.1 (ix2 0 n)
      · exact congrFun (hargs c).2.2.1 (ix2 1 n)
      · refine (congrFun (hargs c).2.2.2.1 _).trans ?_
        refine congrArg (m' _) (funext fun a => Fin.ext ?_)
        match a with
        | ⟨0, _⟩ => show (c.val / 2 % 2 * 1 + 0) * 8 + e.val = c.val / 2 % 2 * 8 + e.val; omega
        | ⟨1, _⟩ => show 0 * 1024 + k.val = k.val; omega
        | ⟨2, _⟩ => show 0 * 4096 + ((2 * (c.val / 4) + c.val % 2) * 1024 + j.val) = (c.val / 4 * 2 + c.val % 2) * 1024 + j.val; omega
      · refine (congrFun (hargs c).2.2.2.2 _).trans ?_
        refine congrArg (m' _) (funext fun a => Fin.ext ?_)
        match a with
        | ⟨0, _⟩ => show (c.val / 2 % 2 * 1 + 0) * 8 + e.val = c.val / 2 % 2 * 8 + e.val; omega
        | ⟨1, _⟩ => show 0 * 4096 + ((2 * (c.val / 4) + c.val % 2) * 1024 + j.val) = (c.val / 4 * 2 + c.val % 2) * 1024 + j.val; omega
        | ⟨2, _⟩ => show 0 * 1024 + d.val = d.val; omega
    · refine congrArg (ExpertReferenceIdeal.Value.res_out0 m' 0) (funext fun a => Fin.ext ?_)
      match a with
      | ⟨0, _⟩ => show 32 * (c.val / 4) + 16 * (c.val / 2 % 2) + 8 * (c.val % 2) + e.val = c.val * 8 + e.val; omega
      | ⟨1, _⟩ => rfl
      | ⟨2, _⟩ => rfl
  · exact (h.1 c 0).trans (ExpertIdeal.Fx.end0 m c)
  · exact (h.1 c 1).trans (ExpertIdeal.Fx.end1 m c)
  · exact (h.1 c 2).trans (ExpertIdeal.Fx.end2 m c)
  · exact (h.1 c 3).trans (ExpertIdeal.Fx.end3 m c)
  · exact (h.1 c 4).trans (ExpertIdeal.Fx.end4 m c)

theorem claim : Cert.Claim :=
  ⟨Kernel.Gen.facts, KernelIdeal.Gen.facts, ReferenceIdeal.Gen.facts, Gate.Gen.facts, GateIdeal.Gen.facts, GateReferenceIdeal.Gen.facts,
    Expert.Gen.facts, ExpertIdeal.Gen.facts, ExpertReferenceIdeal.Gen.facts,
    Pre_gate_finite_GateIdeal.Gen.facts, Pre_gate_finite_GateReferenceIdeal.Gen.facts,
    frame_kernel, frame_ideal, frame_reference, frame_gate, frame_gate_ideal, fun m g _ => frame_gate_ideal m g trivial,
    frame_gate_reference, fun m g _ => frame_gate_reference m g trivial, frame_expert, frame_expert_ideal, frame_expert_reference,
    trivial, algebraic, trivial, algebraic_gate, trivial, algebraic_expert⟩

end Cert.Proof

end
